-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_KernelIdeal [hPre_few_KernelIdeal : Cert.Pre_few_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_few_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_ReferenceIdeal [hPre_few_ReferenceIdeal : Cert.Pre_few_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_few_KernelIdeal [hKernelIdeal : Cert.KernelIdeal.Facts] [hPre_few_KernelIdeal : Cert.Pre_few_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_few_ReferenceIdeal [hReferenceIdeal : Cert.ReferenceIdeal.Facts] [hPre_few_ReferenceIdeal : Cert.Pre_few_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_few_KernelIdeal [hKernelIdeal : Cert.KernelIdeal.Facts] [hReferenceIdeal : Cert.ReferenceIdeal.Facts] [hPre_few_KernelIdeal : Cert.Pre_few_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![4096]⟩ ⟨1, ![8192]⟩ (Layout.meshBlock [2, 2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 2048, 4096]⟩ ⟨3, ![8, 2048, 4096]⟩ (Layout.meshBlock [2, 2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 4096, 2048]⟩ ⟨3, ![8, 4096, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = Layout.blockN ⟨2, ![4096, 2048]⟩ ⟨2, ![8192, 2048]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_few_KernelIdeal : Cert.Pre_few_KernelIdeal.Facts) (hPre_few_ReferenceIdeal : Cert.Pre_few_ReferenceIdeal.Facts),
    quiescent_Kernel (hKernel := hKernel)
    ∧ quiescent_KernelIdeal (hKernelIdeal := hKernelIdeal)
    ∧ quiescent_KernelIdeal_pre_few_KernelIdeal (hKernelIdeal := hKernelIdeal) (hPre_few_KernelIdeal := hPre_few_KernelIdeal)
    ∧ quiescent_ReferenceIdeal (hReferenceIdeal := hReferenceIdeal)
    ∧ quiescent_ReferenceIdeal_pre_few_ReferenceIdeal (hReferenceIdeal := hReferenceIdeal) (hPre_few_ReferenceIdeal := hPre_few_ReferenceIdeal)
    ∧ preserves_Kernel_KernelIdeal
    ∧ algebraic_KernelIdeal_ReferenceIdeal_pre_few_KernelIdeal (hKernelIdeal := hKernelIdeal) (hReferenceIdeal := hReferenceIdeal) (hPre_few_KernelIdeal := hPre_few_KernelIdeal)
-- ==== Pre_few_KernelIdeal.lean ====
abbrev S4096x2048 : Shape := ⟨2, ![4096, 2048]⟩
abbrev S4096 : Shape := ⟨1, ![4096]⟩
abbrev S4x2048x4096 : Shape := ⟨3, ![4, 2048, 4096]⟩
abbrev S4x4096x2048 : Shape := ⟨3, ![4, 4096, 2048]⟩
abbrev S1x4096 : Shape := ⟨2, ![1, 4096]⟩
abbrev S8 : Shape := ⟨1, ![8]⟩
abbrev S8x1 : Shape := ⟨2, ![8, 1]⟩
abbrev S8x4096 : Shape := ⟨2, ![8, 4096]⟩
abbrev S_ : Shape := ⟨0, ![]⟩

class Facts : Prop where
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  natLt_1_32 : 1 < 32
  reducesTo_S8x4096_S8_d1 : S8x4096.ReducesTo [1] S8
  h_S_ : 0 < S_.numel
  bcast_S_S8 : S_.BroadcastsInDim S8 (![] : Fin 0 → Fin S8.rank)

variable [Facts]

def fn {F : FTy → Type} [FloatOps F] (main_arg0 : FVec F S4096x2048 .f32) (main_arg1 : IVec S4096 32) (main_arg2 : FVec F S4x2048x4096 .f32) (main_arg3 : FVec F S4x4096x2048 .f32) : IVec S8 1 :=
  let main_v0 : IVec S1x4096 32 := broadcastInDim S1x4096 ![1] bcast_S4096_S1x4096_1 main_arg1
  let main_v1 : IVec S8 32 := iotaInDim S8 32 0
  let main_v2 : IVec S8x1 32 := broadcastInDim S8x1 ![0] bcast_S8_S8x1_0 main_v1
  let main_v3 : IVec S8x4096 32 := broadcastInDim S8x4096 ![0, 1] bcast_S1x4096_S8x4096_0_1 main_v0
  let main_v4 : IVec S8x4096 32 := broadcastInDim S8x4096 ![0, 1] bcast_S8x1_S8x4096_0_1 main_v2
  let main_v5 : IVec S8x4096 1 := cmpi .eq main_v3 main_v4
  let main_v6 : IVec S8x4096 32 := (extui 32 · natLt_1_32) main_v5
  let main_c : IVec S_ 32 := constantI S_ 32 0#32
  let main_v7 : IVec S8 32 := (fun x v => Host.reduce IntOp.addi x v reducesTo_S8x4096_S8_d1 h_S_) main_v6 main_c
  let main_c_0 : IVec S_ 32 := constantI S_ 32 640#32
  let main_v8 : IVec S8 32 := broadcastInDim S8 ![] bcast_S_S8 main_c_0
  let main_v9 : IVec S8 1 := cmpi .sle main_v7 main_v8
  main_v9
-- ==== Pre_few_ReferenceIdeal.lean ====
abbrev S8192x2048 : Shape := ⟨2, ![8192, 2048]⟩
abbrev S8192 : Shape := ⟨1, ![8192]⟩
abbrev S8x2048x4096 : Shape := ⟨3, ![8, 2048, 4096]⟩
abbrev S8x4096x2048 : Shape := ⟨3, ![8, 4096, 2048]⟩
abbrev S1x8192 : Shape := ⟨2, ![1, 8192]⟩
abbrev S8 : Shape := ⟨1, ![8]⟩
abbrev S8x1 : Shape := ⟨2, ![8, 1]⟩
abbrev S8x8192 : Shape := ⟨2, ![8, 8192]⟩
abbrev S_ : Shape := ⟨0, ![]⟩

class Facts : Prop where
  bcast_S8192_S1x8192_1 : S8192.BroadcastsInDim S1x8192 (![1] : Fin 1 → Fin S1x8192.rank)
  bcast_S8_S8x1_0 : S8.BroadcastsInDim S8x1 (![0] : Fin 1 → Fin S8x1.rank)
  bcast_S1x8192_S8x8192_0_1 : S1x8192.BroadcastsInDim S8x8192 (![0, 1] : Fin 2 → Fin S8x8192.rank)
  bcast_S8x1_S8x8192_0_1 : S8x1.BroadcastsInDim S8x8192 (![0, 1] : Fin 2 → Fin S8x8192.rank)
  natLt_1_32 : 1 < 32
  reducesTo_S8x8192_S8_d1 : S8x8192.ReducesTo [1] S8
  h_S_ : 0 < S_.numel
  bcast_S_S8 : S_.BroadcastsInDim S8 (![] : Fin 0 → Fin S8.rank)

variable [Facts]

def fn {F : FTy → Type} [FloatOps F] (main_arg0 : FVec F S8192x2048 .f32) (main_arg1 : IVec S8192 32) (main_arg2 : FVec F S8x2048x4096 .f32) (main_arg3 : FVec F S8x4096x2048 .f32) : IVec S8 1 :=
  let main_v0 : IVec S1x8192 32 := broadcastInDim S1x8192 ![1] bcast_S8192_S1x8192_1 main_arg1
  let main_v1 : IVec S8 32 := iotaInDim S8 32 0
  let main_v2 : IVec S8x1 32 := broadcastInDim S8x1 ![0] bcast_S8_S8x1_0 main_v1
  let main_v3 : IVec S8x8192 32 := broadcastInDim S8x8192 ![0, 1] bcast_S1x8192_S8x8192_0_1 main_v0
  let main_v4 : IVec S8x8192 32 := broadcastInDim S8x8192 ![0, 1] bcast_S8x1_S8x8192_0_1 main_v2
  let main_v5 : IVec S8x8192 1 := cmpi .eq main_v3 main_v4
  let main_v6 : IVec S8x8192 32 := (extui 32 · natLt_1_32) main_v5
  let main_c : IVec S_ 32 := constantI S_ 32 0#32
  let main_v7 : IVec S8 32 := (fun x v => Host.reduce IntOp.addi x v reducesTo_S8x8192_S8_d1 h_S_) main_v6 main_c
  let main_c_0 : IVec S_ 32 := constantI S_ 32 640#32
  let main_v8 : IVec S8 32 := broadcastInDim S8 ![] bcast_S_S8 main_c_0
  let main_v9 : IVec S8 1 := cmpi .sle main_v7 main_v8
  main_v9
-- ==== Kernel.lean ====
abbrev S4096x2048 : Shape := ⟨2, ![4096, 2048]⟩
abbrev S4096 : Shape := ⟨1, ![4096]⟩
abbrev S4x2048x4096 : Shape := ⟨3, ![4, 2048, 4096]⟩
abbrev S4x4096x2048 : Shape := ⟨3, ![4, 4096, 2048]⟩
abbrev S_ : Shape := ⟨0, ![]⟩
abbrev S1x4096 : Shape := ⟨2, ![1, 4096]⟩
abbrev S2x4096x2048 : Shape := ⟨3, ![2, 4096, 2048]⟩
abbrev S2x1x4096 : Shape := ⟨3, ![2, 1, 4096]⟩
abbrev S2 : Shape := ⟨1, ![2]⟩
abbrev S1 : Shape := ⟨1, ![1]⟩
abbrev S1x4096x2048 : Shape := ⟨3, ![1, 4096, 2048]⟩
abbrev S1x1x4096 : Shape := ⟨3, ![1, 1, 4096]⟩
abbrev S8192x2048 : Shape := ⟨2, ![8192, 2048]⟩
abbrev S8192 : Shape := ⟨1, ![8192]⟩
abbrev S8192x1 : Shape := ⟨2, ![8192, 1]⟩
abbrev S5 : Shape := ⟨1, ![5]⟩
abbrev S5121 : Shape := ⟨1, ![5121]⟩
abbrev S5120 : Shape := ⟨1, ![5120]⟩
abbrev S5120x2048 : Shape := ⟨2, ![5120, 2048]⟩
abbrev S1x2048x512 : Shape := ⟨3, ![1, 2048, 512]⟩
abbrev S1x512x2048 : Shape := ⟨3, ![1, 512, 2048]⟩
abbrev S256x2048 : Shape := ⟨2, ![256, 2048]⟩
abbrev S8 : Shape := ⟨1, ![8]⟩
abbrev S1x2048 : Shape := ⟨2, ![1, 2048]⟩
abbrev S2048x512 : Shape := ⟨2, ![2048, 512]⟩
abbrev S256x512 : Shape := ⟨2, ![256, 512]⟩
abbrev S512x2048 : Shape := ⟨2, ![512, 2048]⟩
abbrev S8193x2048 : Shape := ⟨2, ![8193, 2048]⟩
abbrev S5120x1 : Shape := ⟨2, ![5120, 1]⟩

abbrev nBuf : Space → Nat
  | .hbm => 140
  | .vmem => 10
  | .smem => 1
  | _ => 0

abbrev hbmTy0_0 (i : Nat) : BufTy := match i % 128 with
  | 0 => ⟨S4096x2048, .f32⟩
  | 1 => ⟨S4096, .i32⟩
  | 2 => ⟨S4x2048x4096, .f32⟩
  | 3 => ⟨S4x4096x2048, .f32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S1x4096, .i32⟩
  | 11 => ⟨S2x4096x2048, .f32⟩
  | 12 => ⟨S2x1x4096, .i32⟩
  | 13 => ⟨S8192x2048, .f32⟩
  | 14 => ⟨S1x4096, .i32⟩
  | 15 => ⟨S2x1x4096, .i32⟩
  | 16 => ⟨S8192, .i32⟩
  | 17 => ⟨S_, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i1⟩
  | 24 => ⟨S_, .i32⟩
  | 25 => ⟨S8192, .i32⟩
  | 26 => ⟨S8192, .i1⟩
  | 27 => ⟨S8192, .i1⟩
  | 28 => ⟨S_, .i32⟩
  | 29 => ⟨S_, .i32⟩
  | 30 => ⟨S8192, .i32⟩
  | 31 => ⟨S8192, .i32⟩
  | 32 => ⟨S8192, .i32⟩
  | 33 => ⟨S8192, .i32⟩
  | 34 => ⟨S8192, .i32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192, .i32⟩
  | 44 => ⟨S_, .i32⟩
  | 45 => ⟨S5, .i32⟩
  | 46 => ⟨S_, .i32⟩
  | 47 => ⟨S_, .i32⟩
  | 48 => ⟨S8192, .i32⟩
  | 49 => ⟨S8192, .i32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S_, .i32⟩
  | 59 => ⟨S8192, .i32⟩
  | 60 => ⟨S5, .i32⟩
  | 61 => ⟨S_, .i32⟩
  | 62 => ⟨S_, .i32⟩
  | 63 => ⟨S5, .i32⟩
  | 64 => ⟨S5, .i32⟩
  | 65 => ⟨S8192, .i32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S8192, .i32⟩
  | 75 => ⟨S8192, .i32⟩
  | 76 => ⟨S_, .i32⟩
  | 77 => ⟨S8192, .i32⟩
  | 78 => ⟨S8192, .i1⟩
  | 79 => ⟨S_, .i32⟩
  | 80 => ⟨S8192, .i32⟩
  | 81 => ⟨S8192, .i1⟩
  | 82 => ⟨S8192, .i1⟩
  | 83 => ⟨S_, .i32⟩
  | 84 => ⟨S8192, .i32⟩
  | 85 => ⟨S8192, .i32⟩
  | 86 => ⟨S8192, .i32⟩
  | 87 => ⟨S_, .i32⟩
  | 88 => ⟨S_, .i32⟩
  | 89 => ⟨S8192, .i32⟩
  | 90 => ⟨S8192, .i32⟩
  | 91 => ⟨S_, .i32⟩
  | 92 => ⟨S5121, .i32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S5121, .i32⟩
  | 102 => ⟨S5120, .i32⟩
  | 103 => ⟨S_, .i32⟩
  | 104 => ⟨S5120, .i32⟩
  | 105 => ⟨S5120x2048, .f32⟩
  | 106 => ⟨S_, .f32⟩
  | 107 => ⟨S8193x2048, .f32⟩
  | 108 => ⟨S_, .i32⟩
  | 109 => ⟨S5120, .i32⟩
  | 110 => ⟨S5120, .i1⟩
  | 111 => ⟨S_, .i32⟩
  | 112 => ⟨S5120, .i32⟩
  | 113 => ⟨S5120, .i32⟩
  | 114 => ⟨S5120, .i32⟩
  | 115 => ⟨S5120x1, .i32⟩
  | 116 => ⟨S8193x2048, .f32⟩
  | 117 => ⟨S8192x2048, .f32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S4096x2048, .f32⟩
  | 127 => ⟨S_, .i32⟩
  | _ => ⟨S4096x2048, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S4096x2048, .f32⟩
  | 10 => ⟨S4096x2048, .f32⟩
  | 11 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S2x1x4096, .i32⟩
  | .local _ .vmem, ⟨1, _⟩ => ⟨S1x4096, .i32⟩
  | .local _ .vmem, ⟨2, _⟩ => ⟨S2x1x4096, .i32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .smem, ⟨0, _⟩ => ⟨S5120, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 2 25 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_call1_v0 : Ref sig .tc := ⟨.hbm, 32, rfl⟩
abbrev main_call1_v1_0 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_c_8 : Ref sig .tc := ⟨.hbm, 46, rfl⟩
abbrev main_call2_v0 : Ref sig .tc := ⟨.hbm, 47, rfl⟩
abbrev main_call2_v1 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_c_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_11 : Ref sig .tc := ⟨.hbm, 58, rfl⟩
abbrev main_v36 : Ref sig .tc := ⟨.hbm, 59, rfl⟩
abbrev main_v37 : Ref sig .tc := ⟨.hbm, 60, rfl⟩
abbrev main_call3_call0_c : Ref sig .tc := ⟨.hbm, 61, rfl⟩
abbrev main_call3_call0_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_12 : Ref sig .tc := ⟨.hbm, 66, rfl⟩
abbrev main_v41 : Ref sig .tc := ⟨.hbm, 67, rfl⟩
abbrev main_v42 : Ref sig .tc := ⟨.hbm, 68, rfl⟩
abbrev main_c_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_c_15 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_16 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_17 : Ref sig .tc := ⟨.hbm, 87, rfl⟩
abbrev main_call4_v0 : Ref sig .tc := ⟨.hbm, 88, rfl⟩
abbrev main_call4_v1 : Ref sig .tc := ⟨.hbm, 89, rfl⟩
abbrev main_v57 : Ref sig .tc := ⟨.hbm, 90, rfl⟩
abbrev main_c_18 : Ref sig .tc := ⟨.hbm, 91, rfl⟩
abbrev main_v58 : Ref sig .tc := ⟨.hbm, 92, rfl⟩
abbrev main_c_19 : Ref sig .tc := ⟨.hbm, 93, rfl⟩
abbrev main_v59 : Ref sig .tc := ⟨.hbm, 94, rfl⟩
abbrev main_v60 : Ref sig .tc := ⟨.hbm, 95, rfl⟩
abbrev main_c_20 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_21 : Ref sig .tc := ⟨.hbm, 103, rfl⟩
abbrev main_v67 : Ref sig .tc := ⟨.hbm, 104, rfl⟩
abbrev main_v69 : Ref sig .tc := ⟨.hbm, 105, rfl⟩
abbrev main_cst : Ref sig .tc := ⟨.hbm, 106, rfl⟩
abbrev main_v70 : Ref sig .tc := ⟨.hbm, 107, rfl⟩
abbrev main_c_22 : Ref sig .tc := ⟨.hbm, 108, rfl⟩
abbrev main_v71 : Ref sig .tc := ⟨.hbm, 109, rfl⟩
abbrev main_v72 : Ref sig .tc := ⟨.hbm, 110, rfl⟩
abbrev main_c_23 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_24 : Ref sig .tc := ⟨.hbm, 118, rfl⟩
abbrev main_v79 : Ref sig .tc := ⟨.hbm, 119, rfl⟩
abbrev main_c_25 : Ref sig .tc := ⟨.hbm, 120, rfl⟩
abbrev main_v80 : Ref sig .tc := ⟨.hbm, 121, rfl⟩
abbrev main_c_26 : Ref sig .tc := ⟨.hbm, 122, rfl⟩
abbrev main_v81 : Ref sig .tc := ⟨.hbm, 123, rfl⟩
abbrev main_v82 : Ref sig .tc := ⟨.hbm, 124, rfl⟩
abbrev main_c_27 : Ref sig .tc := ⟨.hbm, 125, rfl⟩
abbrev main_v83 : Ref sig .tc := ⟨.hbm, 126, rfl⟩
abbrev main_c_28 : Ref sig .tc := ⟨.hbm, 127, rfl⟩
abbrev main_v84 : Ref sig .tc := ⟨.hbm, 128, rfl⟩
abbrev main_c_29 : Ref sig .tc := ⟨.hbm, 129, rfl⟩
abbrev main_v85 : Ref sig .tc := ⟨.hbm, 130, rfl⟩
abbrev main_c_30 : Ref sig .tc := ⟨.hbm, 131, rfl⟩
abbrev main_v86 : Ref sig .tc := ⟨.hbm, 132, rfl⟩
abbrev main_c_31 : Ref sig .tc := ⟨.hbm, 133, rfl⟩
abbrev main_v87 : Ref sig .tc := ⟨.hbm, 134, rfl⟩
abbrev main_v88 : Ref sig .tc := ⟨.hbm, 135, rfl⟩
abbrev main_c_32 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v68 : Ref sig .tc := ⟨.smem, 0, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg2_1 : Ref sig .tc := ⟨.vmem, 8, rfl⟩
abbrev cc2_scratch0 : Ref sig .tc := ⟨.vmem, 9, rfl⟩
abbrev cc1_sem0_0 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev barrier0 : Sem sig := 0
abbrev barrier1 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 3 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_10 : BitVec 32 := 0#32
  let c0_i32_11 : BitVec 32 := 0#32
  ![v5.toNat, 0, 0]
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v21 : BitVec 32 := Scalar.muli v2 c4_i32_14
  let v22 : BitVec 32 := Scalar.addi c0_i32_15 v21
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_16 : BitVec 32 := 2#32
  let v23 : BitVec 32 := Scalar.muli v9 c2_i32_16
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v25 : BitVec 32 := Scalar.muli v8 c1_i32_17
  let v26 : BitVec 32 := Scalar.addi v24 v25
  v26.toNat
def k0_off2 (d0 : Dev nD) : Fin 3 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_26 : BitVec 32 := 0#32
  let c0_i32_27 : BitVec 32 := 0#32
  ![v5.toNat, 0, 0]
def k0_dev3 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v33 : BitVec 32 := Scalar.muli v2 c4_i32_22
  let v34 : BitVec 32 := Scalar.addi c0_i32_23 v33
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_24 : BitVec 32 := 2#32
  let v35 : BitVec 32 := Scalar.muli v9 c2_i32_24
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v37 : BitVec 32 := Scalar.muli v8 c1_i32_25
  let v38 : BitVec 32 := Scalar.addi v36 v37
  v38.toNat
abbrev grid1 : Pipeline.Grid := .none

def k1_off1 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : Index := Scalar.indexCast v2
  let c0_8 : Index := 0#32
  let c0_9 : Index := 0#32
  ![v8.toNat, 0, 0]
abbrev stage1_0 : Fin 1 → Memref sig .tc .vmem S2x1x4096 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x4096 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x1x4096 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨3, ![4, 5, 8], ![false, false, false]⟩

abbrev pre2 : Pipeline.Prefetch sig := ⟨1, ![main_v68.idx], fun | 0 => main_v68.names | ⟨_ + 1, h⟩ => absurd h (Nat.not_lt.2 (Nat.le_add_left _ _)), fun | 0 => rfl | ⟨_ + 1, h⟩ => absurd h (Nat.not_lt.2 (Nat.le_add_left _ _))⟩

def k2_cond1 (i : grid2.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_0 : BitVec 32 := 0#32
  let v5 : BitVec 1 := Scalar.cmpi .ne v4 c0_i32_0
  v5

def k2_off1 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c0_i32_14 : BitVec 32 := 0#32
  let v21 : BitVec 32 := Scalar.addi v2 c0_i32_14
  let v22 : Index := Scalar.indexCast v21
  ![v22.toNat]
def k2_off2 (v23 : BitVec 32) : Fin 2 → Nat :=
  let c0_i32_18 : BitVec 32 := 0#32
  ![v23.toNat, 0]

def k2_chk1 (i : grid2.Coords) (v23 : BitVec 32) : Prop :=
  (∀ (k2_h1 : k2_cond1 i = 1#1), ∀ a, (k2_off2 v23) a + S1x2048.size a ≤ S8192x2048.size a)
theorem k2_off2_inb : ∀ (i : grid2.Coords) (v23 : BitVec 32) (k2_hw1 : k2_chk1 i v23), ∀ (k2_h1 : k2_cond1 i = 1#1), ∀ a, (k2_off2 v23) a + S1x2048.size a ≤ S8192x2048.size a := fun i v23 k2_hw1 k2_h1 => k2_hw1 k2_h1

def k2_off3 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c1_i32 : BitVec 32 := 1#32
  let v28 : BitVec 32 := Scalar.addi v2 c1_i32
  let v29 : Index := Scalar.indexCast v28
  ![v29.toNat]
def k2_off4 (v30 : BitVec 32) : Fin 2 → Nat :=
  let c0_i32_22 : BitVec 32 := 0#32
  ![v30.toNat, 0]

def k2_chk2 (i : grid2.Coords) (v30 : BitVec 32) : Prop :=
  (∀ (k2_h1 : k2_cond1 i = 1#1), ∀ a, (k2_off4 v30) a + S1x2048.size a ≤ S8192x2048.size a)
theorem k2_off4_inb : ∀ (i : grid2.Coords) (v30 : BitVec 32) (k2_hw2 : k2_chk2 i v30), ∀ (k2_h1 : k2_cond1 i = 1#1), ∀ a, (k2_off4 v30) a + S1x2048.size a ≤ S8192x2048.size a := fun i v30 k2_hw2 k2_h1 => k2_hw2 k2_h1

def k2_off5 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c2_i32 : BitVec 32 := 2#32
  let v35 : BitVec 32 := Scalar.addi v2 c2_i32
  let v36 : Index := Scalar.indexCast v35
  ![v36.toNat]
def k2_off6 (v37 : BitVec 32) : Fin 2 → Nat :=
  let c0_i32_26 : BitVec 32 := 0#32
  ![v37.toNat, 0]

def k2_chk3 (i : grid2.Coords) (v37 : BitVec 32) : Prop :=
  (∀ (k2_h1 : k2_cond1 i = 1#1), ∀ a, (k2_off6 v37) a + S1x2048.size a ≤ S8192x2048.size a)
theorem k2_off6_inb : ∀ (i : grid2.Coords) (v37 : BitVec 32) (k2_hw3 : k2_chk3 i v37), ∀ (k2_h1 : k2_cond1 i = 1#1), ∀ a, (k2_off6 v37) a + S1x2048.size a ≤ S8192x2048.size a := fun i v37 k2_hw3 k2_h1 => k2_hw3 k2_h1

def k2_off7 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c3_i32 : BitVec 32 := 3#32
  let v42 : BitVec 32 := Scalar.addi v2 c3_i32
  let v43 : Index := Scalar.indexCast v42
  ![v43.toNat]
def k2_off8 (v44 : BitVec 32) : Fin 2 → Nat :=
  let c0_i32_30 : BitVec 32 := 0#32
  ![v44.toNat, 0]

def k2_chk4 (i : grid2.Coords) (v44 : BitVec 32) : Prop :=
  (∀ (k2_h1 : k2_cond1 i = 1#1), ∀ a, (k2_off8 v44) a + S1x2048.size a ≤ S8192x2048.size a)
theorem k2_off8_inb : ∀ (i : grid2.Coords) (v44 : BitVec 32) (k2_hw4 : k2_chk4 i v44), ∀ (k2_h1 : k2_cond1 i = 1#1), ∀ a, (k2_off8 v44) a + S1x2048.size a ≤ S8192x2048.size a := fun i v44 k2_hw4 k2_h1 => k2_hw4 k2_h1

def k2_off9 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c4_i32 : BitVec 32 := 4#32
  let v49 : BitVec 32 := Scalar.addi v2 c4_i32
  let v50 : Index := Scalar.indexCast v49
  ![v50.toNat]
def k2_off10 (v51 : BitVec 32) : Fin 2 → Nat :=
  let c0_i32_34 : BitVec 32 := 0#32
  ![v51.toNat, 0]

def k2_chk5 (i : grid2.Coords) (v51 : BitVec 32) : Prop :=
  (∀ (k2_h1 : k2_cond1 i = 1#1), ∀ a, (k2_off10 v51) a + S1x2048.size a ≤ S8192x2048.size a)
theorem k2_off10_inb : ∀ (i : grid2.Coords) (v51 : BitVec 32) (k2_hw5 : k2_chk5 i v51), ∀ (k2_h1 : k2_cond1 i = 1#1), ∀ a, (k2_off10 v51) a + S1x2048.size a ≤ S8192x2048.size a := fun i v51 k2_hw5 k2_h1 => k2_hw5 k2_h1

def k2_off11 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c5_i32_35 : BitVec 32 := 5#32
  let v56 : BitVec 32 := Scalar.addi v2 c5_i32_35
  let v57 : Index := Scalar.indexCast v56
  ![v57.toNat]
def k2_off12 (v58 : BitVec 32) : Fin 2 → Nat :=
  let c0_i32_39 : BitVec 32 := 0#32
  ![v58.toNat, 0]

def k2_chk6 (i : grid2.Coords) (v58 : BitVec 32) : Prop :=
  (∀ (k2_h1 : k2_cond1 i = 1#1), ∀ a, (k2_off12 v58) a + S1x2048.size a ≤ S8192x2048.size a)
theorem k2_off12_inb : ∀ (i : grid2.Coords) (v58 : BitVec 32) (k2_hw6 : k2_chk6 i v58), ∀ (k2_h1 : k2_cond1 i = 1#1), ∀ a, (k2_off12 v58) a + S1x2048.size a ≤ S8192x2048.size a := fun i v58 k2_hw6 k2_h1 => k2_hw6 k2_h1

def k2_off13 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c6_i32 : BitVec 32 := 6#32
  let v63 : BitVec 32 := Scalar.addi v2 c6_i32
  let v64 : Index := Scalar.indexCast v63
  ![v64.toNat]
def k2_off14 (v65 : BitVec 32) : Fin 2 → Nat :=
  let c0_i32_43 : BitVec 32 := 0#32
  ![v65.toNat, 0]

def k2_chk7 (i : grid2.Coords) (v65 : BitVec 32) : Prop :=
  (∀ (k2_h1 : k2_cond1 i = 1#1), ∀ a, (k2_off14 v65) a + S1x2048.size a ≤ S8192x2048.size a)
theorem k2_off14_inb : ∀ (i : grid2.Coords) (v65 : BitVec 32) (k2_hw7 : k2_chk7 i v65), ∀ (k2_h1 : k2_cond1 i = 1#1), ∀ a, (k2_off14 v65) a + S1x2048.size a ≤ S8192x2048.size a := fun i v65 k2_hw7 k2_h1 => k2_hw7 k2_h1

def k2_off15 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c7_i32 : BitVec 32 := 7#32
  let v70 : BitVec 32 := Scalar.addi v2 c7_i32
  let v71 : Index := Scalar.indexCast v70
  ![v71.toNat]
def k2_off16 (v72 : BitVec 32) : Fin 2 → Nat :=
  let c0_i32_47 : BitVec 32 := 0#32
  ![v72.toNat, 0]

def k2_chk8 (i : grid2.Coords) (v72 : BitVec 32) : Prop :=
  (∀ (k2_h1 : k2_cond1 i = 1#1), ∀ a, (k2_off16 v72) a + S1x2048.size a ≤ S8192x2048.size a)
theorem k2_off16_inb : ∀ (i : grid2.Coords) (v72 : BitVec 32) (k2_hw8 : k2_chk8 i v72), ∀ (k2_h1 : k2_cond1 i = 1#1), ∀ a, (k2_off16 v72) a + S1x2048.size a ≤ S8192x2048.size a := fun i v72 k2_hw8 k2_h1 => k2_hw8 k2_h1

def k2_off17 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c8_i32 : BitVec 32 := 8#32
  let v77 : BitVec 32 := Scalar.addi v2 c8_i32
  let v78 : Index := Scalar.indexCast v77
  ![v78.toNat]
def k2_off18 (v79 : BitVec 32) : Fin 2 → Nat :=
  let c0_i32_51 : BitVec 32 := 0#32
  ![v79.toNat, 0]

def k2_chk9 (i : grid2.Coords) (v79 : BitVec 32) : Prop :=
  (∀ (k2_h1 : k2_cond1 i = 1#1), ∀ a, (k2_off18 v79) a + S1x2048.size a ≤ S8192x2048.size a)
theorem k2_off18_inb : ∀ (i : grid2.Coords) (v79 : BitVec 32) (k2_hw9 : k2_chk9 i v79), ∀ (k2_h1 : k2_cond1 i = 1#1), ∀ a, (k2_off18 v79) a + S1x2048.size a ≤ S8192x2048.size a := fun i v79 k2_hw9 k2_h1 => k2_hw9 k2_h1

def k2_off19 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c9_i32 : BitVec 32 := 9#32
  let v84 : BitVec 32 := Scalar.addi v2 c9_i32
  let v85 : Index := Scalar.indexCast v84
  ![v85.toNat]
def k2_off20 (v86 : BitVec 32) : Fin 2 → Nat :=
  let c0_i32_55 : BitVec 32 := 0#32
  ![v86.toNat, 0]

def k2_chk10 (i : grid2.Coords) (v86 : BitVec 32) : Prop :=
  (∀ (k2_h1 : k2_cond1 i = 1#1), ∀ a, (k2_off20 v86) a + S1x2048.size a ≤ S8192x2048.size a)
theorem k2_off20_inb : ∀ (i : grid2.Coords) (v86 : BitVec 32) (k2_hw10 : k2_chk10 i v86), ∀ (k2_h1 : k2_cond1 i = 1#1), ∀ a, (k2_off20 v86) a + S1x2048.size a ≤ S8192x2048.size a := fun i v86 k2_hw10 k2_h1 => k2_hw10 k2_h1

def k2_off21 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c10_i32 : BitVec 32 := 10#32
  let v91 : BitVec 32 := Scalar.addi v2 c10_i32
  let v92 : Index := Scalar.indexCast v91
  ![v92.toNat]
def k2_off22 (v93 : BitVec 32) : Fin 2 → Nat :=
  let c0_i32_59 : BitVec 32 := 0#32
  ![v93.toNat, 0]

def k2_chk11 (i : grid2.Coords) (v93 : BitVec 32) : Prop :=
  (∀ (k2_h1 : k2_cond1 i = 1#1), ∀ a, (k2_off22 v93) a + S1x2048.size a ≤ S8192x2048.size a)
theorem k2_off22_inb : ∀ (i : grid2.Coords) (v93 : BitVec 32) (k2_hw11 : k2_chk11 i v93), ∀ (k2_h1 : k2_cond1 i = 1#1), ∀ a, (k2_off22 v93) a + S1x2048.size a ≤ S8192x2048.size a := fun i v93 k2_hw11 k2_h1 => k2_hw11 k2_h1

def k2_off23 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c11_i32 : BitVec 32 := 11#32
  let v98 : BitVec 32 := Scalar.addi v2 c11_i32
  let v99 : Index := Scalar.indexCast v98
  ![v99.toNat]
def k2_off24 (v100 : BitVec 32) : Fin 2 → Nat :=
  let c0_i32_63 : BitVec 32 := 0#32
  ![v100.toNat, 0]

def k2_chk12 (i : grid2.Coords) (v100 : BitVec 32) : Prop :=
  (∀ (k2_h1 : k2_cond1 i = 1#1), ∀ a, (k2_off24 v100) a + S1x2048.size a ≤ S8192x2048.size a)
theorem k2_off24_inb : ∀ (i : grid2.Coords) (v100 : BitVec 32) (k2_hw12 : k2_chk12 i v100), ∀ (k2_h1 : k2_cond1 i = 1#1), ∀ a, (k2_off24 v100) a + S1x2048.size a ≤ S8192x2048.size a := fun i v100 k2_hw12 k2_h1 => k2_hw12 k2_h1

def k2_off25 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c12_i32 : BitVec 32 := 12#32
  let v105 : BitVec 32 := Scalar.addi v2 c12_i32
  let v106 : Index := Scalar.indexCast v105
  ![v106.toNat]
def k2_off26 (v107 : BitVec 32) : Fin 2 → Nat :=
  let c0_i32_67 : BitVec 32 := 0#32
  ![v107.toNat, 0]

def k2_chk13 (i : grid2.Coords) (v107 : BitVec 32) : Prop :=
  (∀ (k2_h1 : k2_cond1 i = 1#1), ∀ a, (k2_off26 v107) a + S1x2048.size a ≤ S8192x2048.size a)
theorem k2_off26_inb : ∀ (i : grid2.Coords) (v107 : BitVec 32) (k2_hw13 : k2_chk13 i v107), ∀ (k2_h1 : k2_cond1 i = 1#1), ∀ a, (k2_off26 v107) a + S1x2048.size a ≤ S8192x2048.size a := fun i v107 k2_hw13 k2_h1 => k2_hw13 k2_h1

def k2_off27 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c13_i32 : BitVec 32 := 13#32
  let v112 : BitVec 32 := Scalar.addi v2 c13_i32
  let v113 : Index := Scalar.indexCast v112
  ![v113.toNat]
def k2_off28 (v114 : BitVec 32) : Fin 2 → Nat :=
  let c0_i32_71 : BitVec 32 := 0#32
  ![v114.toNat, 0]

def k2_chk14 (i : grid2.Coords) (v114 : BitVec 32) : Prop :=
  (∀ (k2_h1 : k2_cond1 i = 1#1), ∀ a, (k2_off28 v114) a + S1x2048.size a ≤ S8192x2048.size a)
theorem k2_off28_inb : ∀ (i : grid2.Coords) (v114 : BitVec 32) (k2_hw14 : k2_chk14 i v114), ∀ (k2_h1 : k2_cond1 i = 1#1), ∀ a, (k2_off28 v114) a + S1x2048.size a ≤ S8192x2048.size a := fun i v114 k2_hw14 k2_h1 => k2_hw14 k2_h1

def k2_off29 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c14_i32 : BitVec 32 := 14#32
  let v119 : BitVec 32 := Scalar.addi v2 c14_i32
  let v120 : Index := Scalar.indexCast v119
  ![v120.toNat]
def k2_off30 (v121 : BitVec 32) : Fin 2 → Nat :=
  let c0_i32_75 : BitVec 32 := 0#32
  ![v121.toNat, 0]

def k2_chk15 (i : grid2.Coords) (v121 : BitVec 32) : Prop :=
  (∀ (k2_h1 : k2_cond1 i = 1#1), ∀ a, (k2_off30 v121) a + S1x2048.size a ≤ S8192x2048.size a)
theorem k2_off30_inb : ∀ (i : grid2.Coords) (v121 : BitVec 32) (k2_hw15 : k2_chk15 i v121), ∀ (k2_h1 : k2_cond1 i = 1#1), ∀ a, (k2_off30 v121) a + S1x2048.size a ≤ S8192x2048.size a := fun i v121 k2_hw15 k2_h1 => k2_hw15 k2_h1

def k2_off31 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c15_i32 : BitVec 32 := 15#32
  let v126 : BitVec 32 := Scalar.addi v2 c15_i32
  let v127 : Index := Scalar.indexCast v126
  ![v127.toNat]
def k2_off32 (v128 : BitVec 32) : Fin 2 → Nat :=
  let c0_i32_79 : BitVec 32 := 0#32
  ![v128.toNat, 0]

def k2_chk16 (i : grid2.Coords) (v128 : BitVec 32) : Prop :=
  (∀ (k2_h1 : k2_cond1 i = 1#1), ∀ a, (k2_off32 v128) a + S1x2048.size a ≤ S8192x2048.size a)
theorem k2_off32_inb : ∀ (i : grid2.Coords) (v128 : BitVec 32) (k2_hw16 : k2_chk16 i v128), ∀ (k2_h1 : k2_cond1 i = 1#1), ∀ a, (k2_off32 v128) a + S1x2048.size a ≤ S8192x2048.size a := fun i v128 k2_hw16 k2_h1 => k2_hw16 k2_h1

def k2_off33 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c16_i32 : BitVec 32 := 16#32
  let v133 : BitVec 32 := Scalar.addi v2 c16_i32
  let v134 : Index := Scalar.indexCast v133
  ![v134.toNat]
def k2_off34 (v135 : BitVec 32) : Fin 2 → Nat :=
  let c0_i32_83 : BitVec 32 := 0#32
  ![v135.toNat, 0]

def k2_chk17 (i : grid2.Coords) (v135 : BitVec 32) : Prop :=
  (∀ (k2_h1 : k2_cond1 i = 1#1), ∀ a, (k2_off34 v135) a + S1x2048.size a ≤ S8192x2048.size a)
theorem k2_off34_inb : ∀ (i : grid2.Coords) (v135 : BitVec 32) (k2_hw17 : k2_chk17 i v135), ∀ (k2_h1 : k2_cond1 i = 1#1), ∀ a, (k2_off34 v135) a + S1x2048.size a ≤ S8192x2048.size a := fun i v135 k2_hw17 k2_h1 => k2_hw17 k2_h1

def k2_off35 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c17_i32 : BitVec 32 := 17#32
  let v140 : BitVec 32 := Scalar.addi v2 c17_i32
  let v141 : Index := Scalar.indexCast v140
  ![v141.toNat]
def k2_off36 (v142 : BitVec 32) : Fin 2 → Nat :=
  let c0_i32_87 : BitVec 32 := 0#32
  ![v142.toNat, 0]

def k2_chk18 (i : grid2.Coords) (v142 : BitVec 32) : Prop :=
  (∀ (k2_h1 : k2_cond1 i = 1#1), ∀ a, (k2_off36 v142) a + S1x2048.size a ≤ S8192x2048.size a)
theorem k2_off36_inb : ∀ (i : grid2.Coords) (v142 : BitVec 32) (k2_hw18 : k2_chk18 i v142), ∀ (k2_h1 : k2_cond1 i = 1#1), ∀ a, (k2_off36 v142) a + S1x2048.size a ≤ S8192x2048.size a := fun i v142 k2_hw18 k2_h1 => k2_hw18 k2_h1

def k2_off37 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c18_i32 : BitVec 32 := 18#32
  let v147 : BitVec 32 := Scalar.addi v2 c18_i32
  let v148 : Index := Scalar.indexCast v147
  ![v148.toNat]
def k2_off38 (v149 : BitVec 32) : Fin 2 → Nat :=
  let c0_i32_91 : BitVec 32 := 0#32
  ![v149.toNat, 0]

def k2_chk19 (i : grid2.Coords) (v149 : BitVec 32) : Prop :=
  (∀ (k2_h1 : k2_cond1 i = 1#1), ∀ a, (k2_off38 v149) a + S1x2048.size a ≤ S8192x2048.size a)
theorem k2_off38_inb : ∀ (i : grid2.Coords) (v149 : BitVec 32) (k2_hw19 : k2_chk19 i v149), ∀ (k2_h1 : k2_cond1 i = 1#1), ∀ a, (k2_off38 v149) a + S1x2048.size a ≤ S8192x2048.size a := fun i v149 k2_hw19 k2_h1 => k2_hw19 k2_h1

def k2_off39 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c19_i32 : BitVec 32 := 19#32
  let v154 : BitVec 32 := Scalar.addi v2 c19_i32
  let v155 : Index := Scalar.indexCast v154
  ![v155.toNat]
def k2_off40 (v156 : BitVec 32) : Fin 2 → Nat :=
  let c0_i32_95 : BitVec 32 := 0#32
  ![v156.toNat, 0]

def k2_chk20 (i : grid2.Coords) (v156 : BitVec 32) : Prop :=
  (∀ (k2_h1 : k2_cond1 i = 1#1), ∀ a, (k2_off40 v156) a + S1x2048.size a ≤ S8192x2048.size a)
theorem k2_off40_inb : ∀ (i : grid2.Coords) (v156 : BitVec 32) (k2_hw20 : k2_chk20 i v156), ∀ (k2_h1 : k2_cond1 i = 1#1), ∀ a, (k2_off40 v156) a + S1x2048.size a ≤ S8192x2048.size a := fun i v156 k2_hw20 k2_h1 => k2_hw20 k2_h1

def k2_off41 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c20_i32 : BitVec 32 := 20#32
  let v161 : BitVec 32 := Scalar.addi v2 c20_i32
  let v162 : Index := Scalar.indexCast v161
  ![v162.toNat]
def k2_off42 (v163 : BitVec 32) : Fin 2 → Nat :=
  let c0_i32_99 : BitVec 32 := 0#32
  ![v163.toNat, 0]

def k2_chk21 (i : grid2.Coords) (v163 : BitVec 32) : Prop :=
  (∀ (k2_h1 : k2_cond1 i = 1#1), ∀ a, (k2_off42 v163) a + S1x2048.size a ≤ S8192x2048.size a)
theorem k2_off42_inb : ∀ (i : grid2.Coords) (v163 : BitVec 32) (k2_hw21 : k2_chk21 i v163), ∀ (k2_h1 : k2_cond1 i = 1#1), ∀ a, (k2_off42 v163) a + S1x2048.size a ≤ S8192x2048.size a := fun i v163 k2_hw21 k2_h1 => k2_hw21 k2_h1

def k2_off43 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c21_i32 : BitVec 32 := 21#32
  let v168 : BitVec 32 := Scalar.addi v2 c21_i32
  let v169 : Index := Scalar.indexCast v168
  ![v169.toNat]
def k2_off44 (v170 : BitVec 32) : Fin 2 → Nat :=
  let c0_i32_103 : BitVec 32 := 0#32
  ![v170.toNat, 0]

def k2_chk22 (i : grid2.Coords) (v170 : BitVec 32) : Prop :=
  (∀ (k2_h1 : k2_cond1 i = 1#1), ∀ a, (k2_off44 v170) a + S1x2048.size a ≤ S8192x2048.size a)
theorem k2_off44_inb : ∀ (i : grid2.Coords) (v170 : BitVec 32) (k2_hw22 : k2_chk22 i v170), ∀ (k2_h1 : k2_cond1 i = 1#1), ∀ a, (k2_off44 v170) a + S1x2048.size a ≤ S8192x2048.size a := fun i v170 k2_hw22 k2_h1 => k2_hw22 k2_h1

def k2_off45 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c22_i32 : BitVec 32 := 22#32
  let v175 : BitVec 32 := Scalar.addi v2 c22_i32
  let v176 : Index := Scalar.indexCast v175
  ![v176.toNat]
def k2_off46 (v177 : BitVec 32) : Fin 2 → Nat :=
  let c0_i32_107 : BitVec 32 := 0#32
  ![v177.toNat, 0]

def k2_chk23 (i : grid2.Coords) (v177 : BitVec 32) : Prop :=
  (∀ (k2_h1 : k2_cond1 i = 1#1), ∀ a, (k2_off46 v177) a + S1x2048.size a ≤ S8192x2048.size a)
theorem k2_off46_inb : ∀ (i : grid2.Coords) (v177 : BitVec 32) (k2_hw23 : k2_chk23 i v177), ∀ (k2_h1 : k2_cond1 i = 1#1), ∀ a, (k2_off46 v177) a + S1x2048.size a ≤ S8192x2048.size a := fun i v177 k2_hw23 k2_h1 => k2_hw23 k2_h1

def k2_off47 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c23_i32 : BitVec 32 := 23#32
  let v182 : BitVec 32 := Scalar.addi v2 c23_i32
  let v183 : Index := Scalar.indexCast v182
  ![v183.toNat]
def k2_off48 (v184 : BitVec 32) : Fin 2 → Nat :=
  let c0_i32_111 : BitVec 32 := 0#32
  ![v184.toNat, 0]

def k2_chk24 (i : grid2.Coords) (v184 : BitVec 32) : Prop :=
  (∀ (k2_h1 : k2_cond1 i = 1#1), ∀ a, (k2_off48 v184) a + S1x2048.size a ≤ S8192x2048.size a)
theorem k2_off48_inb : ∀ (i : grid2.Coords) (v184 : BitVec 32) (k2_hw24 : k2_chk24 i v184), ∀ (k2_h1 : k2_cond1 i = 1#1), ∀ a, (k2_off48 v184) a + S1x2048.size a ≤ S8192x2048.size a := fun i v184 k2_hw24 k2_h1 => k2_hw24 k2_h1

def k2_off49 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c24_i32 : BitVec 32 := 24#32
  let v189 : BitVec 32 := Scalar.addi v2 c24_i32
  let v190 : Index := Scalar.indexCast v189
  ![v190.toNat]
def k2_off50 (v191 : BitVec 32) : Fin 2 → Nat :=
  let c0_i32_115 : BitVec 32 := 0#32
  ![v191.toNat, 0]

def k2_chk25 (i : grid2.Coords) (v191 : BitVec 32) : Prop :=
  (∀ (k2_h1 : k2_cond1 i = 1#1), ∀ a, (k2_off50 v191) a + S1x2048.size a ≤ S8192x2048.size a)
theorem k2_off50_inb : ∀ (i : grid2.Coords) (v191 : BitVec 32) (k2_hw25 : k2_chk25 i v191), ∀ (k2_h1 : k2_cond1 i = 1#1), ∀ a, (k2_off50 v191) a + S1x2048.size a ≤ S8192x2048.size a := fun i v191 k2_hw25 k2_h1 => k2_hw25 k2_h1

def k2_off51 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c25_i32 : BitVec 32 := 25#32
  let v196 : BitVec 32 := Scalar.addi v2 c25_i32
  let v197 : Index := Scalar.indexCast v196
  ![v197.toNat]
def k2_off52 (v198 : BitVec 32) : Fin 2 → Nat :=
  let c0_i32_119 : BitVec 32 := 0#32
  ![v198.toNat, 0]

def k2_chk26 (i : grid2.Coords) (v198 : BitVec 32) : Prop :=
  (∀ (k2_h1 : k2_cond1 i = 1#1), ∀ a, (k2_off52 v198) a + S1x2048.size a ≤ S8192x2048.size a)
theorem k2_off52_inb : ∀ (i : grid2.Coords) (v198 : BitVec 32) (k2_hw26 : k2_chk26 i v198), ∀ (k2_h1 : k2_cond1 i = 1#1), ∀ a, (k2_off52 v198) a + S1x2048.size a ≤ S8192x2048.size a := fun i v198 k2_hw26 k2_h1 => k2_hw26 k2_h1

def k2_off53 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c26_i32 : BitVec 32 := 26#32
  let v203 : BitVec 32 := Scalar.addi v2 c26_i32
  let v204 : Index := Scalar.indexCast v203
  ![v204.toNat]
def k2_off54 (v205 : BitVec 32) : Fin 2 → Nat :=
  let c0_i32_123 : BitVec 32 := 0#32
  ![v205.toNat, 0]

def k2_chk27 (i : grid2.Coords) (v205 : BitVec 32) : Prop :=
  (∀ (k2_h1 : k2_cond1 i = 1#1), ∀ a, (k2_off54 v205) a + S1x2048.size a ≤ S8192x2048.size a)
theorem k2_off54_inb : ∀ (i : grid2.Coords) (v205 : BitVec 32) (k2_hw27 : k2_chk27 i v205), ∀ (k2_h1 : k2_cond1 i = 1#1), ∀ a, (k2_off54 v205) a + S1x2048.size a ≤ S8192x2048.size a := fun i v205 k2_hw27 k2_h1 => k2_hw27 k2_h1

def k2_off55 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c27_i32 : BitVec 32 := 27#32
  let v210 : BitVec 32 := Scalar.addi v2 c27_i32
  let v211 : Index := Scalar.indexCast v210
  ![v211.toNat]
def k2_off56 (v212 : BitVec 32) : Fin 2 → Nat :=
  let c0_i32_127 : BitVec 32 := 0#32
  ![v212.toNat, 0]

def k2_chk28 (i : grid2.Coords) (v212 : BitVec 32) : Prop :=
  (∀ (k2_h1 : k2_cond1 i = 1#1), ∀ a, (k2_off56 v212) a + S1x2048.size a ≤ S8192x2048.size a)
theorem k2_off56_inb : ∀ (i : grid2.Coords) (v212 : BitVec 32) (k2_hw28 : k2_chk28 i v212), ∀ (k2_h1 : k2_cond1 i = 1#1), ∀ a, (k2_off56 v212) a + S1x2048.size a ≤ S8192x2048.size a := fun i v212 k2_hw28 k2_h1 => k2_hw28 k2_h1

def k2_off57 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c28_i32 : BitVec 32 := 28#32
  let v217 : BitVec 32 := Scalar.addi v2 c28_i32
  let v218 : Index := Scalar.indexCast v217
  ![v218.toNat]
def k2_off58 (v219 : BitVec 32) : Fin 2 → Nat :=
  let c0_i32_131 : BitVec 32 := 0#32
  ![v219.toNat, 0]

def k2_chk29 (i : grid2.Coords) (v219 : BitVec 32) : Prop :=
  (∀ (k2_h1 : k2_cond1 i = 1#1), ∀ a, (k2_off58 v219) a + S1x2048.size a ≤ S8192x2048.size a)
theorem k2_off58_inb : ∀ (i : grid2.Coords) (v219 : BitVec 32) (k2_hw29 : k2_chk29 i v219), ∀ (k2_h1 : k2_cond1 i = 1#1), ∀ a, (k2_off58 v219) a + S1x2048.size a ≤ S8192x2048.size a := fun i v219 k2_hw29 k2_h1 => k2_hw29 k2_h1

def k2_off59 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c29_i32 : BitVec 32 := 29#32
  let v224 : BitVec 32 := Scalar.addi v2 c29_i32
  let v225 : Index := Scalar.indexCast v224
  ![v225.toNat]
def k2_off60 (v226 : BitVec 32) : Fin 2 → Nat :=
  let c0_i32_135 : BitVec 32 := 0#32
  ![v226.toNat, 0]

def k2_chk30 (i : grid2.Coords) (v226 : BitVec 32) : Prop :=
  (∀ (k2_h1 : k2_cond1 i = 1#1), ∀ a, (k2_off60 v226) a + S1x2048.size a ≤ S8192x2048.size a)
theorem k2_off60_inb : ∀ (i : grid2.Coords) (v226 : BitVec 32) (k2_hw30 : k2_chk30 i v226), ∀ (k2_h1 : k2_cond1 i = 1#1), ∀ a, (k2_off60 v226) a + S1x2048.size a ≤ S8192x2048.size a := fun i v226 k2_hw30 k2_h1 => k2_hw30 k2_h1

def k2_off61 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c30_i32 : BitVec 32 := 30#32
  let v231 : BitVec 32 := Scalar.addi v2 c30_i32
  let v232 : Index := Scalar.indexCast v231
  ![v232.toNat]
def k2_off62 (v233 : BitVec 32) : Fin 2 → Nat :=
  let c0_i32_139 : BitVec 32 := 0#32
  ![v233.toNat, 0]

def k2_chk31 (i : grid2.Coords) (v233 : BitVec 32) : Prop :=
  (∀ (k2_h1 : k2_cond1 i = 1#1), ∀ a, (k2_off62 v233) a + S1x2048.size a ≤ S8192x2048.size a)
theorem k2_off62_inb : ∀ (i : grid2.Coords) (v233 : BitVec 32) (k2_hw31 : k2_chk31 i v233), ∀ (k2_h1 : k2_cond1 i = 1#1), ∀ a, (k2_off62 v233) a + S1x2048.size a ≤ S8192x2048.size a := fun i v233 k2_hw31 k2_h1 => k2_hw31 k2_h1

def k2_off63 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c31_i32 : BitVec 32 := 31#32
  let v238 : BitVec 32 := Scalar.addi v2 c31_i32
  let v239 : Index := Scalar.indexCast v238
  ![v239.toNat]
def k2_off64 (v240 : BitVec 32) : Fin 2 → Nat :=
  let c0_i32_143 : BitVec 32 := 0#32
  ![v240.toNat, 0]

def k2_chk32 (i : grid2.Coords) (v240 : BitVec 32) : Prop :=
  (∀ (k2_h1 : k2_cond1 i = 1#1), ∀ a, (k2_off64 v240) a + S1x2048.size a ≤ S8192x2048.size a)
theorem k2_off64_inb : ∀ (i : grid2.Coords) (v240 : BitVec 32) (k2_hw32 : k2_chk32 i v240), ∀ (k2_h1 : k2_cond1 i = 1#1), ∀ a, (k2_off64 v240) a + S1x2048.size a ≤ S8192x2048.size a := fun i v240 k2_hw32 k2_h1 => k2_hw32 k2_h1

def k2_off65 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c32_i32 : BitVec 32 := 32#32
  let v245 : BitVec 32 := Scalar.addi v2 c32_i32
  let v246 : Index := Scalar.indexCast v245
  ![v246.toNat]
def k2_off66 (v247 : BitVec 32) : Fin 2 → Nat :=
  let c0_i32_147 : BitVec 32 := 0#32
  ![v247.toNat, 0]

def k2_chk33 (i : grid2.Coords) (v247 : BitVec 32) : Prop :=
  (∀ (k2_h1 : k2_cond1 i = 1#1), ∀ a, (k2_off66 v247) a + S1x2048.size a ≤ S8192x2048.size a)
theorem k2_off66_inb : ∀ (i : grid2.Coords) (v247 : BitVec 32) (k2_hw33 : k2_chk33 i v247), ∀ (k2_h1 : k2_cond1 i = 1#1), ∀ a, (k2_off66 v247) a + S1x2048.size a ≤ S8192x2048.size a := fun i v247 k2_hw33 k2_h1 => k2_hw33 k2_h1

def k2_off67 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c33_i32 : BitVec 32 := 33#32
  let v252 : BitVec 32 := Scalar.addi v2 c33_i32
  let v253 : Index := Scalar.indexCast v252
  ![v253.toNat]
def k2_off68 (v254 : BitVec 32) : Fin 2 → Nat :=
  let c0_i32_151 : BitVec 32 := 0#32
  ![v254.toNat, 0]

def k2_chk34 (i : grid2.Coords) (v254 : BitVec 32) : Prop :=
  (∀ (k2_h1 : k2_cond1 i = 1#1), ∀ a, (k2_off68 v254) a + S1x2048.size a ≤ S8192x2048.size a)
theorem k2_off68_inb : ∀ (i : grid2.Coords) (v254 : BitVec 32) (k2_hw34 : k2_chk34 i v254), ∀ (k2_h1 : k2_cond1 i = 1#1), ∀ a, (k2_off68 v254) a + S1x2048.size a ≤ S8192x2048.size a := fun i v254 k2_hw34 k2_h1 => k2_hw34 k2_h1

def k2_off69 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c34_i32 : BitVec 32 := 34#32
  let v259 : BitVec 32 := Scalar.addi v2 c34_i32
  let v260 : Index := Scalar.indexCast v259
  ![v260.toNat]
def k2_off70 (v261 : BitVec 32) : Fin 2 → Nat :=
  let c0_i32_155 : BitVec 32 := 0#32
  ![v261.toNat, 0]

def k2_chk35 (i : grid2.Coords) (v261 : BitVec 32) : Prop :=
  (∀ (k2_h1 : k2_cond1 i = 1#1), ∀ a, (k2_off70 v261) a + S1x2048.size a ≤ S8192x2048.size a)
theorem k2_off70_inb : ∀ (i : grid2.Coords) (v261 : BitVec 32) (k2_hw35 : k2_chk35 i v261), ∀ (k2_h1 : k2_cond1 i = 1#1), ∀ a, (k2_off70 v261) a + S1x2048.size a ≤ S8192x2048.size a := fun i v261 k2_hw35 k2_h1 => k2_hw35 k2_h1

def k2_off71 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c35_i32 : BitVec 32 := 35#32
  let v266 : BitVec 32 := Scalar.addi v2 c35_i32
  let v267 : Index := Scalar.indexCast v266
  ![v267.toNat]
def k2_off72 (v268 : BitVec 32) : Fin 2 → Nat :=
  let c0_i32_159 : BitVec 32 := 0#32
  ![v268.toNat, 0]

def k2_chk36 (i : grid2.Coords) (v268 : BitVec 32) : Prop :=
  (∀ (k2_h1 : k2_cond1 i = 1#1), ∀ a, (k2_off72 v268) a + S1x2048.size a ≤ S8192x2048.size a)
theorem k2_off72_inb : ∀ (i : grid2.Coords) (v268 : BitVec 32) (k2_hw36 : k2_chk36 i v268), ∀ (k2_h1 : k2_cond1 i = 1#1), ∀ a, (k2_off72 v268) a + S1x2048.size a ≤ S8192x2048.size a := fun i v268 k2_hw36 k2_h1 => k2_hw36 k2_h1

def k2_off73 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c36_i32 : BitVec 32 := 36#32
  let v273 : BitVec 32 := Scalar.addi v2 c36_i32
  let v274 : Index := Scalar.indexCast v273
  ![v274.toNat]
def k2_off74 (v275 : BitVec 32) : Fin 2 → Nat :=
  let c0_i32_163 : BitVec 32 := 0#32
  ![v275.toNat, 0]

def k2_chk37 (i : grid2.Coords) (v275 : BitVec 32) : Prop :=
  (∀ (k2_h1 : k2_cond1 i = 1#1), ∀ a, (k2_off74 v275) a + S1x2048.size a ≤ S8192x2048.size a)
theorem k2_off74_inb : ∀ (i : grid2.Coords) (v275 : BitVec 32) (k2_hw37 : k2_chk37 i v275), ∀ (k2_h1 : k2_cond1 i = 1#1), ∀ a, (k2_off74 v275) a + S1x2048.size a ≤ S8192x2048.size a := fun i v275 k2_hw37 k2_h1 => k2_hw37 k2_h1

def k2_off75 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c37_i32 : BitVec 32 := 37#32
  let v280 : BitVec 32 := Scalar.addi v2 c37_i32
  let v281 : Index := Scalar.indexCast v280
  ![v281.toNat]
def k2_off76 (v282 : BitVec 32) : Fin 2 → Nat :=
  let c0_i32_167 : BitVec 32 := 0#32
  ![v282.toNat, 0]

def k2_chk38 (i : grid2.Coords) (v282 : BitVec 32) : Prop :=
  (∀ (k2_h1 : k2_cond1 i = 1#1), ∀ a, (k2_off76 v282) a + S1x2048.size a ≤ S8192x2048.size a)
theorem k2_off76_inb : ∀ (i : grid2.Coords) (v282 : BitVec 32) (k2_hw38 : k2_chk38 i v282), ∀ (k2_h1 : k2_cond1 i = 1#1), ∀ a, (k2_off76 v282) a + S1x2048.size a ≤ S8192x2048.size a := fun i v282 k2_hw38 k2_h1 => k2_hw38 k2_h1

def k2_off77 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c38_i32 : BitVec 32 := 38#32
  let v287 : BitVec 32 := Scalar.addi v2 c38_i32
  let v288 : Index := Scalar.indexCast v287
  ![v288.toNat]
def k2_off78 (v289 : BitVec 32) : Fin 2 → Nat :=
  let c0_i32_171 : BitVec 32 := 0#32
  ![v289.toNat, 0]

def k2_chk39 (i : grid2.Coords) (v289 : BitVec 32) : Prop :=
  (∀ (k2_h1 : k2_cond1 i = 1#1), ∀ a, (k2_off78 v289) a + S1x2048.size a ≤ S8192x2048.size a)
theorem k2_off78_inb : ∀ (i : grid2.Coords) (v289 : BitVec 32) (k2_hw39 : k2_chk39 i v289), ∀ (k2_h1 : k2_cond1 i = 1#1), ∀ a, (k2_off78 v289) a + S1x2048.size a ≤ S8192x2048.size a := fun i v289 k2_hw39 k2_h1 => k2_hw39 k2_h1

def k2_off79 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c39_i32 : BitVec 32 := 39#32
  let v294 : BitVec 32 := Scalar.addi v2 c39_i32
  let v295 : Index := Scalar.indexCast v294
  ![v295.toNat]
def k2_off80 (v296 : BitVec 32) : Fin 2 → Nat :=
  let c0_i32_175 : BitVec 32 := 0#32
  ![v296.toNat, 0]

def k2_chk40 (i : grid2.Coords) (v296 : BitVec 32) : Prop :=
  (∀ (k2_h1 : k2_cond1 i = 1#1), ∀ a, (k2_off80 v296) a + S1x2048.size a ≤ S8192x2048.size a)
theorem k2_off80_inb : ∀ (i : grid2.Coords) (v296 : BitVec 32) (k2_hw40 : k2_chk40 i v296), ∀ (k2_h1 : k2_cond1 i = 1#1), ∀ a, (k2_off80 v296) a + S1x2048.size a ≤ S8192x2048.size a := fun i v296 k2_hw40 k2_h1 => k2_hw40 k2_h1

def k2_off81 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c40_i32 : BitVec 32 := 40#32
  let v301 : BitVec 32 := Scalar.addi v2 c40_i32
  let v302 : Index := Scalar.indexCast v301
  ![v302.toNat]
def k2_off82 (v303 : BitVec 32) : Fin 2 → Nat :=
  let c0_i32_179 : BitVec 32 := 0#32
  ![v303.toNat, 0]

def k2_chk41 (i : grid2.Coords) (v303 : BitVec 32) : Prop :=
  (∀ (k2_h1 : k2_cond1 i = 1#1), ∀ a, (k2_off82 v303) a + S1x2048.size a ≤ S8192x2048.size a)
theorem k2_off82_inb : ∀ (i : grid2.Coords) (v303 : BitVec 32) (k2_hw41 : k2_chk41 i v303), ∀ (k2_h1 : k2_cond1 i = 1#1), ∀ a, (k2_off82 v303) a + S1x2048.size a ≤ S8192x2048.size a := fun i v303 k2_hw41 k2_h1 => k2_hw41 k2_h1

def k2_off83 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c41_i32 : BitVec 32 := 41#32
  let v308 : BitVec 32 := Scalar.addi v2 c41_i32
  let v309 : Index := Scalar.indexCast v308
  ![v309.toNat]
def k2_off84 (v310 : BitVec 32) : Fin 2 → Nat :=
  let c0_i32_183 : BitVec 32 := 0#32
  ![v310.toNat, 0]

def k2_chk42 (i : grid2.Coords) (v310 : BitVec 32) : Prop :=
  (∀ (k2_h1 : k2_cond1 i = 1#1), ∀ a, (k2_off84 v310) a + S1x2048.size a ≤ S8192x2048.size a)
theorem k2_off84_inb : ∀ (i : grid2.Coords) (v310 : BitVec 32) (k2_hw42 : k2_chk42 i v310), ∀ (k2_h1 : k2_cond1 i = 1#1), ∀ a, (k2_off84 v310) a + S1x2048.size a ≤ S8192x2048.size a := fun i v310 k2_hw42 k2_h1 => k2_hw42 k2_h1

def k2_off85 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c42_i32 : BitVec 32 := 42#32
  let v315 : BitVec 32 := Scalar.addi v2 c42_i32
  let v316 : Index := Scalar.indexCast v315
  ![v316.toNat]
def k2_off86 (v317 : BitVec 32) : Fin 2 → Nat :=
  let c0_i32_187 : BitVec 32 := 0#32
  ![v317.toNat, 0]

def k2_chk43 (i : grid2.Coords) (v317 : BitVec 32) : Prop :=
  (∀ (k2_h1 : k2_cond1 i = 1#1), ∀ a, (k2_off86 v317) a + S1x2048.size a ≤ S8192x2048.size a)
theorem k2_off86_inb : ∀ (i : grid2.Coords) (v317 : BitVec 32) (k2_hw43 : k2_chk43 i v317), ∀ (k2_h1 : k2_cond1 i = 1#1), ∀ a, (k2_off86 v317) a + S1x2048.size a ≤ S8192x2048.size a := fun i v317 k2_hw43 k2_h1 => k2_hw43 k2_h1

def k2_off87 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c43_i32 : BitVec 32 := 43#32
  let v322 : BitVec 32 := Scalar.addi v2 c43_i32
  let v323 : Index := Scalar.indexCast v322
  ![v323.toNat]
def k2_off88 (v324 : BitVec 32) : Fin 2 → Nat :=
  let c0_i32_191 : BitVec 32 := 0#32
  ![v324.toNat, 0]

def k2_chk44 (i : grid2.Coords) (v324 : BitVec 32) : Prop :=
  (∀ (k2_h1 : k2_cond1 i = 1#1), ∀ a, (k2_off88 v324) a + S1x2048.size a ≤ S8192x2048.size a)
theorem k2_off88_inb : ∀ (i : grid2.Coords) (v324 : BitVec 32) (k2_hw44 : k2_chk44 i v324), ∀ (k2_h1 : k2_cond1 i = 1#1), ∀ a, (k2_off88 v324) a + S1x2048.size a ≤ S8192x2048.size a := fun i v324 k2_hw44 k2_h1 => k2_hw44 k2_h1

def k2_off89 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c44_i32 : BitVec 32 := 44#32
  let v329 : BitVec 32 := Scalar.addi v2 c44_i32
  let v330 : Index := Scalar.indexCast v329
  ![v330.toNat]
def k2_off90 (v331 : BitVec 32) : Fin 2 → Nat :=
  let c0_i32_195 : BitVec 32 := 0#32
  ![v331.toNat, 0]

def k2_chk45 (i : grid2.Coords) (v331 : BitVec 32) : Prop :=
  (∀ (k2_h1 : k2_cond1 i = 1#1), ∀ a, (k2_off90 v331) a + S1x2048.size a ≤ S8192x2048.size a)
theorem k2_off90_inb : ∀ (i : grid2.Coords) (v331 : BitVec 32) (k2_hw45 : k2_chk45 i v331), ∀ (k2_h1 : k2_cond1 i = 1#1), ∀ a, (k2_off90 v331) a + S1x2048.size a ≤ S8192x2048.size a := fun i v331 k2_hw45 k2_h1 => k2_hw45 k2_h1

def k2_off91 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c45_i32 : BitVec 32 := 45#32
  let v336 : BitVec 32 := Scalar.addi v2 c45_i32
  let v337 : Index := Scalar.indexCast v336
  ![v337.toNat]
def k2_off92 (v338 : BitVec 32) : Fin 2 → Nat :=
  let c0_i32_199 : BitVec 32 := 0#32
  ![v338.toNat, 0]

def k2_chk46 (i : grid2.Coords) (v338 : BitVec 32) : Prop :=
  (∀ (k2_h1 : k2_cond1 i = 1#1), ∀ a, (k2_off92 v338) a + S1x2048.size a ≤ S8192x2048.size a)
theorem k2_off92_inb : ∀ (i : grid2.Coords) (v338 : BitVec 32) (k2_hw46 : k2_chk46 i v338), ∀ (k2_h1 : k2_cond1 i = 1#1), ∀ a, (k2_off92 v338) a + S1x2048.size a ≤ S8192x2048.size a := fun i v338 k2_hw46 k2_h1 => k2_hw46 k2_h1

def k2_off93 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c46_i32 : BitVec 32 := 46#32
  let v343 : BitVec 32 := Scalar.addi v2 c46_i32
  let v344 : Index := Scalar.indexCast v343
  ![v344.toNat]
def k2_off94 (v345 : BitVec 32) : Fin 2 → Nat :=
  let c0_i32_203 : BitVec 32 := 0#32
  ![v345.toNat, 0]

def k2_chk47 (i : grid2.Coords) (v345 : BitVec 32) : Prop :=
  (∀ (k2_h1 : k2_cond1 i = 1#1), ∀ a, (k2_off94 v345) a + S1x2048.size a ≤ S8192x2048.size a)
theorem k2_off94_inb : ∀ (i : grid2.Coords) (v345 : BitVec 32) (k2_hw47 : k2_chk47 i v345), ∀ (k2_h1 : k2_cond1 i = 1#1), ∀ a, (k2_off94 v345) a + S1x2048.size a ≤ S8192x2048.size a := fun i v345 k2_hw47 k2_h1 => k2_hw47 k2_h1

def k2_off95 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c47_i32 : BitVec 32 := 47#32
  let v350 : BitVec 32 := Scalar.addi v2 c47_i32
  let v351 : Index := Scalar.indexCast v350
  ![v351.toNat]
def k2_off96 (v352 : BitVec 32) : Fin 2 → Nat :=
  let c0_i32_207 : BitVec 32 := 0#32
  ![v352.toNat, 0]

def k2_chk48 (i : grid2.Coords) (v352 : BitVec 32) : Prop :=
  (∀ (k2_h1 : k2_cond1 i = 1#1), ∀ a, (k2_off96 v352) a + S1x2048.size a ≤ S8192x2048.size a)
theorem k2_off96_inb : ∀ (i : grid2.Coords) (v352 : BitVec 32) (k2_hw48 : k2_chk48 i v352), ∀ (k2_h1 : k2_cond1 i = 1#1), ∀ a, (k2_off96 v352) a + S1x2048.size a ≤ S8192x2048.size a := fun i v352 k2_hw48 k2_h1 => k2_hw48 k2_h1

def k2_off97 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c48_i32 : BitVec 32 := 48#32
  let v357 : BitVec 32 := Scalar.addi v2 c48_i32
  let v358 : Index := Scalar.indexCast v357
  ![v358.toNat]
def k2_off98 (v359 : BitVec 32) : Fin 2 → Nat :=
  let c0_i32_211 : BitVec 32 := 0#32
  ![v359.toNat, 0]

def k2_chk49 (i : grid2.Coords) (v359 : BitVec 32) : Prop :=
  (∀ (k2_h1 : k2_cond1 i = 1#1), ∀ a, (k2_off98 v359) a + S1x2048.size a ≤ S8192x2048.size a)
theorem k2_off98_inb : ∀ (i : grid2.Coords) (v359 : BitVec 32) (k2_hw49 : k2_chk49 i v359), ∀ (k2_h1 : k2_cond1 i = 1#1), ∀ a, (k2_off98 v359) a + S1x2048.size a ≤ S8192x2048.size a := fun i v359 k2_hw49 k2_h1 => k2_hw49 k2_h1

def k2_off99 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c49_i32 : BitVec 32 := 49#32
  let v364 : BitVec 32 := Scalar.addi v2 c49_i32
  let v365 : Index := Scalar.indexCast v364
  ![v365.toNat]
def k2_off100 (v366 : BitVec 32) : Fin 2 → Nat :=
  let c0_i32_215 : BitVec 32 := 0#32
  ![v366.toNat, 0]

def k2_chk50 (i : grid2.Coords) (v366 : BitVec 32) : Prop :=
  (∀ (k2_h1 : k2_cond1 i = 1#1), ∀ a, (k2_off100 v366) a + S1x2048.size a ≤ S8192x2048.size a)
theorem k2_off100_inb : ∀ (i : grid2.Coords) (v366 : BitVec 32) (k2_hw50 : k2_chk50 i v366), ∀ (k2_h1 : k2_cond1 i = 1#1), ∀ a, (k2_off100 v366) a + S1x2048.size a ≤ S8192x2048.size a := fun i v366 k2_hw50 k2_h1 => k2_hw50 k2_h1

def k2_off101 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c50_i32 : BitVec 32 := 50#32
  let v371 : BitVec 32 := Scalar.addi v2 c50_i32
  let v372 : Index := Scalar.indexCast v371
  ![v372.toNat]
def k2_off102 (v373 : BitVec 32) : Fin 2 → Nat :=
  let c0_i32_219 : BitVec 32 := 0#32
  ![v373.toNat, 0]

def k2_chk51 (i : grid2.Coords) (v373 : BitVec 32) : Prop :=
  (∀ (k2_h1 : k2_cond1 i = 1#1), ∀ a, (k2_off102 v373) a + S1x2048.size a ≤ S8192x2048.size a)
theorem k2_off102_inb : ∀ (i : grid2.Coords) (v373 : BitVec 32) (k2_hw51 : k2_chk51 i v373), ∀ (k2_h1 : k2_cond1 i = 1#1), ∀ a, (k2_off102 v373) a + S1x2048.size a ≤ S8192x2048.size a := fun i v373 k2_hw51 k2_h1 => k2_hw51 k2_h1

def k2_off103 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c51_i32 : BitVec 32 := 51#32
  let v378 : BitVec 32 := Scalar.addi v2 c51_i32
  let v379 : Index := Scalar.indexCast v378
  ![v379.toNat]
def k2_off104 (v380 : BitVec 32) : Fin 2 → Nat :=
  let c0_i32_223 : BitVec 32 := 0#32
  ![v380.toNat, 0]

def k2_chk52 (i : grid2.Coords) (v380 : BitVec 32) : Prop :=
  (∀ (k2_h1 : k2_cond1 i = 1#1), ∀ a, (k2_off104 v380) a + S1x2048.size a ≤ S8192x2048.size a)
theorem k2_off104_inb : ∀ (i : grid2.Coords) (v380 : BitVec 32) (k2_hw52 : k2_chk52 i v380), ∀ (k2_h1 : k2_cond1 i = 1#1), ∀ a, (k2_off104 v380) a + S1x2048.size a ≤ S8192x2048.size a := fun i v380 k2_hw52 k2_h1 => k2_hw52 k2_h1

def k2_off105 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c52_i32 : BitVec 32 := 52#32
  let v385 : BitVec 32 := Scalar.addi v2 c52_i32
  let v386 : Index := Scalar.indexCast v385
  ![v386.toNat]
def k2_off106 (v387 : BitVec 32) : Fin 2 → Nat :=
  let c0_i32_227 : BitVec 32 := 0#32
  ![v387.toNat, 0]

def k2_chk53 (i : grid2.Coords) (v387 : BitVec 32) : Prop :=
  (∀ (k2_h1 : k2_cond1 i = 1#1), ∀ a, (k2_off106 v387) a + S1x2048.size a ≤ S8192x2048.size a)
theorem k2_off106_inb : ∀ (i : grid2.Coords) (v387 : BitVec 32) (k2_hw53 : k2_chk53 i v387), ∀ (k2_h1 : k2_cond1 i = 1#1), ∀ a, (k2_off106 v387) a + S1x2048.size a ≤ S8192x2048.size a := fun i v387 k2_hw53 k2_h1 => k2_hw53 k2_h1

def k2_off107 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c53_i32 : BitVec 32 := 53#32
  let v392 : BitVec 32 := Scalar.addi v2 c53_i32
  let v393 : Index := Scalar.indexCast v392
  ![v393.toNat]
def k2_off108 (v394 : BitVec 32) : Fin 2 → Nat :=
  let c0_i32_231 : BitVec 32 := 0#32
  ![v394.toNat, 0]

def k2_chk54 (i : grid2.Coords) (v394 : BitVec 32) : Prop :=
  (∀ (k2_h1 : k2_cond1 i = 1#1), ∀ a, (k2_off108 v394) a + S1x2048.size a ≤ S8192x2048.size a)
theorem k2_off108_inb : ∀ (i : grid2.Coords) (v394 : BitVec 32) (k2_hw54 : k2_chk54 i v394), ∀ (k2_h1 : k2_cond1 i = 1#1), ∀ a, (k2_off108 v394) a + S1x2048.size a ≤ S8192x2048.size a := fun i v394 k2_hw54 k2_h1 => k2_hw54 k2_h1

def k2_off109 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c54_i32 : BitVec 32 := 54#32
  let v399 : BitVec 32 := Scalar.addi v2 c54_i32
  let v400 : Index := Scalar.indexCast v399
  ![v400.toNat]
def k2_off110 (v401 : BitVec 32) : Fin 2 → Nat :=
  let c0_i32_235 : BitVec 32 := 0#32
  ![v401.toNat, 0]

def k2_chk55 (i : grid2.Coords) (v401 : BitVec 32) : Prop :=
  (∀ (k2_h1 : k2_cond1 i = 1#1), ∀ a, (k2_off110 v401) a + S1x2048.size a ≤ S8192x2048.size a)
theorem k2_off110_inb : ∀ (i : grid2.Coords) (v401 : BitVec 32) (k2_hw55 : k2_chk55 i v401), ∀ (k2_h1 : k2_cond1 i = 1#1), ∀ a, (k2_off110 v401) a + S1x2048.size a ≤ S8192x2048.size a := fun i v401 k2_hw55 k2_h1 => k2_hw55 k2_h1

def k2_off111 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c55_i32 : BitVec 32 := 55#32
  let v406 : BitVec 32 := Scalar.addi v2 c55_i32
  let v407 : Index := Scalar.indexCast v406
  ![v407.toNat]
def k2_off112 (v408 : BitVec 32) : Fin 2 → Nat :=
  let c0_i32_239 : BitVec 32 := 0#32
  ![v408.toNat, 0]

def k2_chk56 (i : grid2.Coords) (v408 : BitVec 32) : Prop :=
  (∀ (k2_h1 : k2_cond1 i = 1#1), ∀ a, (k2_off112 v408) a + S1x2048.size a ≤ S8192x2048.size a)
theorem k2_off112_inb : ∀ (i : grid2.Coords) (v408 : BitVec 32) (k2_hw56 : k2_chk56 i v408), ∀ (k2_h1 : k2_cond1 i = 1#1), ∀ a, (k2_off112 v408) a + S1x2048.size a ≤ S8192x2048.size a := fun i v408 k2_hw56 k2_h1 => k2_hw56 k2_h1

def k2_off113 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c56_i32 : BitVec 32 := 56#32
  let v413 : BitVec 32 := Scalar.addi v2 c56_i32
  let v414 : Index := Scalar.indexCast v413
  ![v414.toNat]
def k2_off114 (v415 : BitVec 32) : Fin 2 → Nat :=
  let c0_i32_243 : BitVec 32 := 0#32
  ![v415.toNat, 0]

def k2_chk57 (i : grid2.Coords) (v415 : BitVec 32) : Prop :=
  (∀ (k2_h1 : k2_cond1 i = 1#1), ∀ a, (k2_off114 v415) a + S1x2048.size a ≤ S8192x2048.size a)
theorem k2_off114_inb : ∀ (i : grid2.Coords) (v415 : BitVec 32) (k2_hw57 : k2_chk57 i v415), ∀ (k2_h1 : k2_cond1 i = 1#1), ∀ a, (k2_off114 v415) a + S1x2048.size a ≤ S8192x2048.size a := fun i v415 k2_hw57 k2_h1 => k2_hw57 k2_h1

def k2_off115 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c57_i32 : BitVec 32 := 57#32
  let v420 : BitVec 32 := Scalar.addi v2 c57_i32
  let v421 : Index := Scalar.indexCast v420
  ![v421.toNat]
def k2_off116 (v422 : BitVec 32) : Fin 2 → Nat :=
  let c0_i32_247 : BitVec 32 := 0#32
  ![v422.toNat, 0]

def k2_chk58 (i : grid2.Coords) (v422 : BitVec 32) : Prop :=
  (∀ (k2_h1 : k2_cond1 i = 1#1), ∀ a, (k2_off116 v422) a + S1x2048.size a ≤ S8192x2048.size a)
theorem k2_off116_inb : ∀ (i : grid2.Coords) (v422 : BitVec 32) (k2_hw58 : k2_chk58 i v422), ∀ (k2_h1 : k2_cond1 i = 1#1), ∀ a, (k2_off116 v422) a + S1x2048.size a ≤ S8192x2048.size a := fun i v422 k2_hw58 k2_h1 => k2_hw58 k2_h1

def k2_off117 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c58_i32 : BitVec 32 := 58#32
  let v427 : BitVec 32 := Scalar.addi v2 c58_i32
  let v428 : Index := Scalar.indexCast v427
  ![v428.toNat]
def k2_off118 (v429 : BitVec 32) : Fin 2 → Nat :=
  let c0_i32_251 : BitVec 32 := 0#32
  ![v429.toNat, 0]

def k2_chk59 (i : grid2.Coords) (v429 : BitVec 32) : Prop :=
  (∀ (k2_h1 : k2_cond1 i = 1#1), ∀ a, (k2_off118 v429) a + S1x2048.size a ≤ S8192x2048.size a)
theorem k2_off118_inb : ∀ (i : grid2.Coords) (v429 : BitVec 32) (k2_hw59 : k2_chk59 i v429), ∀ (k2_h1 : k2_cond1 i = 1#1), ∀ a, (k2_off118 v429) a + S1x2048.size a ≤ S8192x2048.size a := fun i v429 k2_hw59 k2_h1 => k2_hw59 k2_h1

def k2_off119 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c59_i32 : BitVec 32 := 59#32
  let v434 : BitVec 32 := Scalar.addi v2 c59_i32
  let v435 : Index := Scalar.indexCast v434
  ![v435.toNat]
def k2_off120 (v436 : BitVec 32) : Fin 2 → Nat :=
  let c0_i32_255 : BitVec 32 := 0#32
  ![v436.toNat, 0]

def k2_chk60 (i : grid2.Coords) (v436 : BitVec 32) : Prop :=
  (∀ (k2_h1 : k2_cond1 i = 1#1), ∀ a, (k2_off120 v436) a + S1x2048.size a ≤ S8192x2048.size a)
theorem k2_off120_inb : ∀ (i : grid2.Coords) (v436 : BitVec 32) (k2_hw60 : k2_chk60 i v436), ∀ (k2_h1 : k2_cond1 i = 1#1), ∀ a, (k2_off120 v436) a + S1x2048.size a ≤ S8192x2048.size a := fun i v436 k2_hw60 k2_h1 => k2_hw60 k2_h1

def k2_off121 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c60_i32 : BitVec 32 := 60#32
  let v441 : BitVec 32 := Scalar.addi v2 c60_i32
  let v442 : Index := Scalar.indexCast v441
  ![v442.toNat]
def k2_off122 (v443 : BitVec 32) : Fin 2 → Nat :=
  let c0_i32_259 : BitVec 32 := 0#32
  ![v443.toNat, 0]

def k2_chk61 (i : grid2.Coords) (v443 : BitVec 32) : Prop :=
  (∀ (k2_h1 : k2_cond1 i = 1#1), ∀ a, (k2_off122 v443) a + S1x2048.size a ≤ S8192x2048.size a)
theorem k2_off122_inb : ∀ (i : grid2.Coords) (v443 : BitVec 32) (k2_hw61 : k2_chk61 i v443), ∀ (k2_h1 : k2_cond1 i = 1#1), ∀ a, (k2_off122 v443) a + S1x2048.size a ≤ S8192x2048.size a := fun i v443 k2_hw61 k2_h1 => k2_hw61 k2_h1

def k2_off123 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c61_i32 : BitVec 32 := 61#32
  let v448 : BitVec 32 := Scalar.addi v2 c61_i32
  let v449 : Index := Scalar.indexCast v448
  ![v449.toNat]
def k2_off124 (v450 : BitVec 32) : Fin 2 → Nat :=
  let c0_i32_263 : BitVec 32 := 0#32
  ![v450.toNat, 0]

def k2_chk62 (i : grid2.Coords) (v450 : BitVec 32) : Prop :=
  (∀ (k2_h1 : k2_cond1 i = 1#1), ∀ a, (k2_off124 v450) a + S1x2048.size a ≤ S8192x2048.size a)
theorem k2_off124_inb : ∀ (i : grid2.Coords) (v450 : BitVec 32) (k2_hw62 : k2_chk62 i v450), ∀ (k2_h1 : k2_cond1 i = 1#1), ∀ a, (k2_off124 v450) a + S1x2048.size a ≤ S8192x2048.size a := fun i v450 k2_hw62 k2_h1 => k2_hw62 k2_h1

def k2_off125 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c62_i32 : BitVec 32 := 62#32
  let v455 : BitVec 32 := Scalar.addi v2 c62_i32
  let v456 : Index := Scalar.indexCast v455
  ![v456.toNat]
def k2_off126 (v457 : BitVec 32) : Fin 2 → Nat :=
  let c0_i32_267 : BitVec 32 := 0#32
  ![v457.toNat, 0]

def k2_chk63 (i : grid2.Coords) (v457 : BitVec 32) : Prop :=
  (∀ (k2_h1 : k2_cond1 i = 1#1), ∀ a, (k2_off126 v457) a + S1x2048.size a ≤ S8192x2048.size a)
theorem k2_off126_inb : ∀ (i : grid2.Coords) (v457 : BitVec 32) (k2_hw63 : k2_chk63 i v457), ∀ (k2_h1 : k2_cond1 i = 1#1), ∀ a, (k2_off126 v457) a + S1x2048.size a ≤ S8192x2048.size a := fun i v457 k2_hw63 k2_h1 => k2_hw63 k2_h1

def k2_off127 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c63_i32 : BitVec 32 := 63#32
  let v462 : BitVec 32 := Scalar.addi v2 c63_i32
  let v463 : Index := Scalar.indexCast v462
  ![v463.toNat]
def k2_off128 (v464 : BitVec 32) : Fin 2 → Nat :=
  let c0_i32_271 : BitVec 32 := 0#32
  ![v464.toNat, 0]

def k2_chk64 (i : grid2.Coords) (v464 : BitVec 32) : Prop :=
  (∀ (k2_h1 : k2_cond1 i = 1#1), ∀ a, (k2_off128 v464) a + S1x2048.size a ≤ S8192x2048.size a)
theorem k2_off128_inb : ∀ (i : grid2.Coords) (v464 : BitVec 32) (k2_hw64 : k2_chk64 i v464), ∀ (k2_h1 : k2_cond1 i = 1#1), ∀ a, (k2_off128 v464) a + S1x2048.size a ≤ S8192x2048.size a := fun i v464 k2_hw64 k2_h1 => k2_hw64 k2_h1

def k2_off129 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c64_i32 : BitVec 32 := 64#32
  let v469 : BitVec 32 := Scalar.addi v2 c64_i32
  let v470 : Index := Scalar.indexCast v469
  ![v470.toNat]
def k2_off130 (v471 : BitVec 32) : Fin 2 → Nat :=
  let c0_i32_275 : BitVec 32 := 0#32
  ![v471.toNat, 0]

def k2_chk65 (i : grid2.Coords) (v471 : BitVec 32) : Prop :=
  (∀ (k2_h1 : k2_cond1 i = 1#1), ∀ a, (k2_off130 v471) a + S1x2048.size a ≤ S8192x2048.size a)
theorem k2_off130_inb : ∀ (i : grid2.Coords) (v471 : BitVec 32) (k2_hw65 : k2_chk65 i v471), ∀ (k2_h1 : k2_cond1 i = 1#1), ∀ a, (k2_off130 v471) a + S1x2048.size a ≤ S8192x2048.size a := fun i v471 k2_hw65 k2_h1 => k2_hw65 k2_h1

def k2_off131 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c65_i32 : BitVec 32 := 65#32
  let v476 : BitVec 32 := Scalar.addi v2 c65_i32
  let v477 : Index := Scalar.indexCast v476
  ![v477.toNat]
def k2_off132 (v478 : BitVec 32) : Fin 2 → Nat :=
  let c0_i32_279 : BitVec 32 := 0#32
  ![v478.toNat, 0]

def k2_chk66 (i : grid2.Coords) (v478 : BitVec 32) : Prop :=
  (∀ (k2_h1 : k2_cond1 i = 1#1), ∀ a, (k2_off132 v478) a + S1x2048.size a ≤ S8192x2048.size a)
theorem k2_off132_inb : ∀ (i : grid2.Coords) (v478 : BitVec 32) (k2_hw66 : k2_chk66 i v478), ∀ (k2_h1 : k2_cond1 i = 1#1), ∀ a, (k2_off132 v478) a + S1x2048.size a ≤ S8192x2048.size a := fun i v478 k2_hw66 k2_h1 => k2_hw66 k2_h1

def k2_off133 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c66_i32 : BitVec 32 := 66#32
  let v483 : BitVec 32 := Scalar.addi v2 c66_i32
  let v484 : Index := Scalar.indexCast v483
  ![v484.toNat]
def k2_off134 (v485 : BitVec 32) : Fin 2 → Nat :=
  let c0_i32_283 : BitVec 32 := 0#32
  ![v485.toNat, 0]

def k2_chk67 (i : grid2.Coords) (v485 : BitVec 32) : Prop :=
  (∀ (k2_h1 : k2_cond1 i = 1#1), ∀ a, (k2_off134 v485) a + S1x2048.size a ≤ S8192x2048.size a)
theorem k2_off134_inb : ∀ (i : grid2.Coords) (v485 : BitVec 32) (k2_hw67 : k2_chk67 i v485), ∀ (k2_h1 : k2_cond1 i = 1#1), ∀ a, (k2_off134 v485) a + S1x2048.size a ≤ S8192x2048.size a := fun i v485 k2_hw67 k2_h1 => k2_hw67 k2_h1

def k2_off135 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c67_i32 : BitVec 32 := 67#32
  let v490 : BitVec 32 := Scalar.addi v2 c67_i32
  let v491 : Index := Scalar.indexCast v490
  ![v491.toNat]
def k2_off136 (v492 : BitVec 32) : Fin 2 → Nat :=
  let c0_i32_287 : BitVec 32 := 0#32
  ![v492.toNat, 0]

def k2_chk68 (i : grid2.Coords) (v492 : BitVec 32) : Prop :=
  (∀ (k2_h1 : k2_cond1 i = 1#1), ∀ a, (k2_off136 v492) a + S1x2048.size a ≤ S8192x2048.size a)
theorem k2_off136_inb : ∀ (i : grid2.Coords) (v492 : BitVec 32) (k2_hw68 : k2_chk68 i v492), ∀ (k2_h1 : k2_cond1 i = 1#1), ∀ a, (k2_off136 v492) a + S1x2048.size a ≤ S8192x2048.size a := fun i v492 k2_hw68 k2_h1 => k2_hw68 k2_h1

def k2_off137 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c68_i32 : BitVec 32 := 68#32
  let v497 : BitVec 32 := Scalar.addi v2 c68_i32
  let v498 : Index := Scalar.indexCast v497
  ![v498.toNat]
def k2_off138 (v499 : BitVec 32) : Fin 2 → Nat :=
  let c0_i32_291 : BitVec 32 := 0#32
  ![v499.toNat, 0]

def k2_chk69 (i : grid2.Coords) (v499 : BitVec 32) : Prop :=
  (∀ (k2_h1 : k2_cond1 i = 1#1), ∀ a, (k2_off138 v499) a + S1x2048.size a ≤ S8192x2048.size a)
theorem k2_off138_inb : ∀ (i : grid2.Coords) (v499 : BitVec 32) (k2_hw69 : k2_chk69 i v499), ∀ (k2_h1 : k2_cond1 i = 1#1), ∀ a, (k2_off138 v499) a + S1x2048.size a ≤ S8192x2048.size a := fun i v499 k2_hw69 k2_h1 => k2_hw69 k2_h1

def k2_off139 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c69_i32 : BitVec 32 := 69#32
  let v504 : BitVec 32 := Scalar.addi v2 c69_i32
  let v505 : Index := Scalar.indexCast v504
  ![v505.toNat]
def k2_off140 (v506 : BitVec 32) : Fin 2 → Nat :=
  let c0_i32_295 : BitVec 32 := 0#32
  ![v506.toNat, 0]

def k2_chk70 (i : grid2.Coords) (v506 : BitVec 32) : Prop :=
  (∀ (k2_h1 : k2_cond1 i = 1#1), ∀ a, (k2_off140 v506) a + S1x2048.size a ≤ S8192x2048.size a)
theorem k2_off140_inb : ∀ (i : grid2.Coords) (v506 : BitVec 32) (k2_hw70 : k2_chk70 i v506), ∀ (k2_h1 : k2_cond1 i = 1#1), ∀ a, (k2_off140 v506) a + S1x2048.size a ≤ S8192x2048.size a := fun i v506 k2_hw70 k2_h1 => k2_hw70 k2_h1

def k2_off141 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c70_i32 : BitVec 32 := 70#32
  let v511 : BitVec 32 := Scalar.addi v2 c70_i32
  let v512 : Index := Scalar.indexCast v511
  ![v512.toNat]
def k2_off142 (v513 : BitVec 32) : Fin 2 → Nat :=
  let c0_i32_299 : BitVec 32 := 0#32
  ![v513.toNat, 0]

def k2_chk71 (i : grid2.Coords) (v513 : BitVec 32) : Prop :=
  (∀ (k2_h1 : k2_cond1 i = 1#1), ∀ a, (k2_off142 v513) a + S1x2048.size a ≤ S8192x2048.size a)
theorem k2_off142_inb : ∀ (i : grid2.Coords) (v513 : BitVec 32) (k2_hw71 : k2_chk71 i v513), ∀ (k2_h1 : k2_cond1 i = 1#1), ∀ a, (k2_off142 v513) a + S1x2048.size a ≤ S8192x2048.size a := fun i v513 k2_hw71 k2_h1 => k2_hw71 k2_h1

def k2_off143 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c71_i32 : BitVec 32 := 71#32
  let v518 : BitVec 32 := Scalar.addi v2 c71_i32
  let v519 : Index := Scalar.indexCast v518
  ![v519.toNat]
def k2_off144 (v520 : BitVec 32) : Fin 2 → Nat :=
  let c0_i32_303 : BitVec 32 := 0#32
  ![v520.toNat, 0]

def k2_chk72 (i : grid2.Coords) (v520 : BitVec 32) : Prop :=
  (∀ (k2_h1 : k2_cond1 i = 1#1), ∀ a, (k2_off144 v520) a + S1x2048.size a ≤ S8192x2048.size a)
theorem k2_off144_inb : ∀ (i : grid2.Coords) (v520 : BitVec 32) (k2_hw72 : k2_chk72 i v520), ∀ (k2_h1 : k2_cond1 i = 1#1), ∀ a, (k2_off144 v520) a + S1x2048.size a ≤ S8192x2048.size a := fun i v520 k2_hw72 k2_h1 => k2_hw72 k2_h1

def k2_off145 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c72_i32 : BitVec 32 := 72#32
  let v525 : BitVec 32 := Scalar.addi v2 c72_i32
  let v526 : Index := Scalar.indexCast v525
  ![v526.toNat]
def k2_off146 (v527 : BitVec 32) : Fin 2 → Nat :=
  let c0_i32_307 : BitVec 32 := 0#32
  ![v527.toNat, 0]

def k2_chk73 (i : grid2.Coords) (v527 : BitVec 32) : Prop :=
  (∀ (k2_h1 : k2_cond1 i = 1#1), ∀ a, (k2_off146 v527) a + S1x2048.size a ≤ S8192x2048.size a)
theorem k2_off146_inb : ∀ (i : grid2.Coords) (v527 : BitVec 32) (k2_hw73 : k2_chk73 i v527), ∀ (k2_h1 : k2_cond1 i = 1#1), ∀ a, (k2_off146 v527) a + S1x2048.size a ≤ S8192x2048.size a := fun i v527 k2_hw73 k2_h1 => k2_hw73 k2_h1

def k2_off147 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c73_i32 : BitVec 32 := 73#32
  let v532 : BitVec 32 := Scalar.addi v2 c73_i32
  let v533 : Index := Scalar.indexCast v532
  ![v533.toNat]
def k2_off148 (v534 : BitVec 32) : Fin 2 → Nat :=
  let c0_i32_311 : BitVec 32 := 0#32
  ![v534.toNat, 0]

def k2_chk74 (i : grid2.Coords) (v534 : BitVec 32) : Prop :=
  (∀ (k2_h1 : k2_cond1 i = 1#1), ∀ a, (k2_off148 v534) a + S1x2048.size a ≤ S8192x2048.size a)
theorem k2_off148_inb : ∀ (i : grid2.Coords) (v534 : BitVec 32) (k2_hw74 : k2_chk74 i v534), ∀ (k2_h1 : k2_cond1 i = 1#1), ∀ a, (k2_off148 v534) a + S1x2048.size a ≤ S8192x2048.size a := fun i v534 k2_hw74 k2_h1 => k2_hw74 k2_h1

def k2_off149 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c74_i32 : BitVec 32 := 74#32
  let v539 : BitVec 32 := Scalar.addi v2 c74_i32
  let v540 : Index := Scalar.indexCast v539
  ![v540.toNat]
def k2_off150 (v541 : BitVec 32) : Fin 2 → Nat :=
  let c0_i32_315 : BitVec 32 := 0#32
  ![v541.toNat, 0]

def k2_chk75 (i : grid2.Coords) (v541 : BitVec 32) : Prop :=
  (∀ (k2_h1 : k2_cond1 i = 1#1), ∀ a, (k2_off150 v541) a + S1x2048.size a ≤ S8192x2048.size a)
theorem k2_off150_inb : ∀ (i : grid2.Coords) (v541 : BitVec 32) (k2_hw75 : k2_chk75 i v541), ∀ (k2_h1 : k2_cond1 i = 1#1), ∀ a, (k2_off150 v541) a + S1x2048.size a ≤ S8192x2048.size a := fun i v541 k2_hw75 k2_h1 => k2_hw75 k2_h1

def k2_off151 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c75_i32 : BitVec 32 := 75#32
  let v546 : BitVec 32 := Scalar.addi v2 c75_i32
  let v547 : Index := Scalar.indexCast v546
  ![v547.toNat]
def k2_off152 (v548 : BitVec 32) : Fin 2 → Nat :=
  let c0_i32_319 : BitVec 32 := 0#32
  ![v548.toNat, 0]

def k2_chk76 (i : grid2.Coords) (v548 : BitVec 32) : Prop :=
  (∀ (k2_h1 : k2_cond1 i = 1#1), ∀ a, (k2_off152 v548) a + S1x2048.size a ≤ S8192x2048.size a)
theorem k2_off152_inb : ∀ (i : grid2.Coords) (v548 : BitVec 32) (k2_hw76 : k2_chk76 i v548), ∀ (k2_h1 : k2_cond1 i = 1#1), ∀ a, (k2_off152 v548) a + S1x2048.size a ≤ S8192x2048.size a := fun i v548 k2_hw76 k2_h1 => k2_hw76 k2_h1

def k2_off153 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c76_i32 : BitVec 32 := 76#32
  let v553 : BitVec 32 := Scalar.addi v2 c76_i32
  let v554 : Index := Scalar.indexCast v553
  ![v554.toNat]
def k2_off154 (v555 : BitVec 32) : Fin 2 → Nat :=
  let c0_i32_323 : BitVec 32 := 0#32
  ![v555.toNat, 0]

def k2_chk77 (i : grid2.Coords) (v555 : BitVec 32) : Prop :=
  (∀ (k2_h1 : k2_cond1 i = 1#1), ∀ a, (k2_off154 v555) a + S1x2048.size a ≤ S8192x2048.size a)
theorem k2_off154_inb : ∀ (i : grid2.Coords) (v555 : BitVec 32) (k2_hw77 : k2_chk77 i v555), ∀ (k2_h1 : k2_cond1 i = 1#1), ∀ a, (k2_off154 v555) a + S1x2048.size a ≤ S8192x2048.size a := fun i v555 k2_hw77 k2_h1 => k2_hw77 k2_h1

def k2_off155 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c77_i32 : BitVec 32 := 77#32
  let v560 : BitVec 32 := Scalar.addi v2 c77_i32
  let v561 : Index := Scalar.indexCast v560
  ![v561.toNat]
def k2_off156 (v562 : BitVec 32) : Fin 2 → Nat :=
  let c0_i32_327 : BitVec 32 := 0#32
  ![v562.toNat, 0]

def k2_chk78 (i : grid2.Coords) (v562 : BitVec 32) : Prop :=
  (∀ (k2_h1 : k2_cond1 i = 1#1), ∀ a, (k2_off156 v562) a + S1x2048.size a ≤ S8192x2048.size a)
theorem k2_off156_inb : ∀ (i : grid2.Coords) (v562 : BitVec 32) (k2_hw78 : k2_chk78 i v562), ∀ (k2_h1 : k2_cond1 i = 1#1), ∀ a, (k2_off156 v562) a + S1x2048.size a ≤ S8192x2048.size a := fun i v562 k2_hw78 k2_h1 => k2_hw78 k2_h1

def k2_off157 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c78_i32 : BitVec 32 := 78#32
  let v567 : BitVec 32 := Scalar.addi v2 c78_i32
  let v568 : Index := Scalar.indexCast v567
  ![v568.toNat]
def k2_off158 (v569 : BitVec 32) : Fin 2 → Nat :=
  let c0_i32_331 : BitVec 32 := 0#32
  ![v569.toNat, 0]

def k2_chk79 (i : grid2.Coords) (v569 : BitVec 32) : Prop :=
  (∀ (k2_h1 : k2_cond1 i = 1#1), ∀ a, (k2_off158 v569) a + S1x2048.size a ≤ S8192x2048.size a)
theorem k2_off158_inb : ∀ (i : grid2.Coords) (v569 : BitVec 32) (k2_hw79 : k2_chk79 i v569), ∀ (k2_h1 : k2_cond1 i = 1#1), ∀ a, (k2_off158 v569) a + S1x2048.size a ≤ S8192x2048.size a := fun i v569 k2_hw79 k2_h1 => k2_hw79 k2_h1

def k2_off159 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c79_i32 : BitVec 32 := 79#32
  let v574 : BitVec 32 := Scalar.addi v2 c79_i32
  let v575 : Index := Scalar.indexCast v574
  ![v575.toNat]
def k2_off160 (v576 : BitVec 32) : Fin 2 → Nat :=
  let c0_i32_335 : BitVec 32 := 0#32
  ![v576.toNat, 0]

def k2_chk80 (i : grid2.Coords) (v576 : BitVec 32) : Prop :=
  (∀ (k2_h1 : k2_cond1 i = 1#1), ∀ a, (k2_off160 v576) a + S1x2048.size a ≤ S8192x2048.size a)
theorem k2_off160_inb : ∀ (i : grid2.Coords) (v576 : BitVec 32) (k2_hw80 : k2_chk80 i v576), ∀ (k2_h1 : k2_cond1 i = 1#1), ∀ a, (k2_off160 v576) a + S1x2048.size a ≤ S8192x2048.size a := fun i v576 k2_hw80 k2_h1 => k2_hw80 k2_h1

def k2_off161 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c80_i32 : BitVec 32 := 80#32
  let v581 : BitVec 32 := Scalar.addi v2 c80_i32
  let v582 : Index := Scalar.indexCast v581
  ![v582.toNat]
def k2_off162 (v583 : BitVec 32) : Fin 2 → Nat :=
  let c0_i32_339 : BitVec 32 := 0#32
  ![v583.toNat, 0]

def k2_chk81 (i : grid2.Coords) (v583 : BitVec 32) : Prop :=
  (∀ (k2_h1 : k2_cond1 i = 1#1), ∀ a, (k2_off162 v583) a + S1x2048.size a ≤ S8192x2048.size a)
theorem k2_off162_inb : ∀ (i : grid2.Coords) (v583 : BitVec 32) (k2_hw81 : k2_chk81 i v583), ∀ (k2_h1 : k2_cond1 i = 1#1), ∀ a, (k2_off162 v583) a + S1x2048.size a ≤ S8192x2048.size a := fun i v583 k2_hw81 k2_h1 => k2_hw81 k2_h1

def k2_off163 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c81_i32 : BitVec 32 := 81#32
  let v588 : BitVec 32 := Scalar.addi v2 c81_i32
  let v589 : Index := Scalar.indexCast v588
  ![v589.toNat]
def k2_off164 (v590 : BitVec 32) : Fin 2 → Nat :=
  let c0_i32_343 : BitVec 32 := 0#32
  ![v590.toNat, 0]

def k2_chk82 (i : grid2.Coords) (v590 : BitVec 32) : Prop :=
  (∀ (k2_h1 : k2_cond1 i = 1#1), ∀ a, (k2_off164 v590) a + S1x2048.size a ≤ S8192x2048.size a)
theorem k2_off164_inb : ∀ (i : grid2.Coords) (v590 : BitVec 32) (k2_hw82 : k2_chk82 i v590), ∀ (k2_h1 : k2_cond1 i = 1#1), ∀ a, (k2_off164 v590) a + S1x2048.size a ≤ S8192x2048.size a := fun i v590 k2_hw82 k2_h1 => k2_hw82 k2_h1

def k2_off165 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c82_i32 : BitVec 32 := 82#32
  let v595 : BitVec 32 := Scalar.addi v2 c82_i32
  let v596 : Index := Scalar.indexCast v595
  ![v596.toNat]
def k2_off166 (v597 : BitVec 32) : Fin 2 → Nat :=
  let c0_i32_347 : BitVec 32 := 0#32
  ![v597.toNat, 0]

def k2_chk83 (i : grid2.Coords) (v597 : BitVec 32) : Prop :=
  (∀ (k2_h1 : k2_cond1 i = 1#1), ∀ a, (k2_off166 v597) a + S1x2048.size a ≤ S8192x2048.size a)
theorem k2_off166_inb : ∀ (i : grid2.Coords) (v597 : BitVec 32) (k2_hw83 : k2_chk83 i v597), ∀ (k2_h1 : k2_cond1 i = 1#1), ∀ a, (k2_off166 v597) a + S1x2048.size a ≤ S8192x2048.size a := fun i v597 k2_hw83 k2_h1 => k2_hw83 k2_h1

def k2_off167 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c83_i32 : BitVec 32 := 83#32
  let v602 : BitVec 32 := Scalar.addi v2 c83_i32
  let v603 : Index := Scalar.indexCast v602
  ![v603.toNat]
def k2_off168 (v604 : BitVec 32) : Fin 2 → Nat :=
  let c0_i32_351 : BitVec 32 := 0#32
  ![v604.toNat, 0]

def k2_chk84 (i : grid2.Coords) (v604 : BitVec 32) : Prop :=
  (∀ (k2_h1 : k2_cond1 i = 1#1), ∀ a, (k2_off168 v604) a + S1x2048.size a ≤ S8192x2048.size a)
theorem k2_off168_inb : ∀ (i : grid2.Coords) (v604 : BitVec 32) (k2_hw84 : k2_chk84 i v604), ∀ (k2_h1 : k2_cond1 i = 1#1), ∀ a, (k2_off168 v604) a + S1x2048.size a ≤ S8192x2048.size a := fun i v604 k2_hw84 k2_h1 => k2_hw84 k2_h1

def k2_off169 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c84_i32 : BitVec 32 := 84#32
  let v609 : BitVec 32 := Scalar.addi v2 c84_i32
  let v610 : Index := Scalar.indexCast v609
  ![v610.toNat]
def k2_off170 (v611 : BitVec 32) : Fin 2 → Nat :=
  let c0_i32_355 : BitVec 32 := 0#32
  ![v611.toNat, 0]

def k2_chk85 (i : grid2.Coords) (v611 : BitVec 32) : Prop :=
  (∀ (k2_h1 : k2_cond1 i = 1#1), ∀ a, (k2_off170 v611) a + S1x2048.size a ≤ S8192x2048.size a)
theorem k2_off170_inb : ∀ (i : grid2.Coords) (v611 : BitVec 32) (k2_hw85 : k2_chk85 i v611), ∀ (k2_h1 : k2_cond1 i = 1#1), ∀ a, (k2_off170 v611) a + S1x2048.size a ≤ S8192x2048.size a := fun i v611 k2_hw85 k2_h1 => k2_hw85 k2_h1

def k2_off171 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c85_i32 : BitVec 32 := 85#32
  let v616 : BitVec 32 := Scalar.addi v2 c85_i32
  let v617 : Index := Scalar.indexCast v616
  ![v617.toNat]
def k2_off172 (v618 : BitVec 32) : Fin 2 → Nat :=
  let c0_i32_359 : BitVec 32 := 0#32
  ![v618.toNat, 0]

def k2_chk86 (i : grid2.Coords) (v618 : BitVec 32) : Prop :=
  (∀ (k2_h1 : k2_cond1 i = 1#1), ∀ a, (k2_off172 v618) a + S1x2048.size a ≤ S8192x2048.size a)
theorem k2_off172_inb : ∀ (i : grid2.Coords) (v618 : BitVec 32) (k2_hw86 : k2_chk86 i v618), ∀ (k2_h1 : k2_cond1 i = 1#1), ∀ a, (k2_off172 v618) a + S1x2048.size a ≤ S8192x2048.size a := fun i v618 k2_hw86 k2_h1 => k2_hw86 k2_h1

def k2_off173 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c86_i32 : BitVec 32 := 86#32
  let v623 : BitVec 32 := Scalar.addi v2 c86_i32
  let v624 : Index := Scalar.indexCast v623
  ![v624.toNat]
def k2_off174 (v625 : BitVec 32) : Fin 2 → Nat :=
  let c0_i32_363 : BitVec 32 := 0#32
  ![v625.toNat, 0]

def k2_chk87 (i : grid2.Coords) (v625 : BitVec 32) : Prop :=
  (∀ (k2_h1 : k2_cond1 i = 1#1), ∀ a, (k2_off174 v625) a + S1x2048.size a ≤ S8192x2048.size a)
theorem k2_off174_inb : ∀ (i : grid2.Coords) (v625 : BitVec 32) (k2_hw87 : k2_chk87 i v625), ∀ (k2_h1 : k2_cond1 i = 1#1), ∀ a, (k2_off174 v625) a + S1x2048.size a ≤ S8192x2048.size a := fun i v625 k2_hw87 k2_h1 => k2_hw87 k2_h1

def k2_off175 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c87_i32 : BitVec 32 := 87#32
  let v630 : BitVec 32 := Scalar.addi v2 c87_i32
  let v631 : Index := Scalar.indexCast v630
  ![v631.toNat]
def k2_off176 (v632 : BitVec 32) : Fin 2 → Nat :=
  let c0_i32_367 : BitVec 32 := 0#32
  ![v632.toNat, 0]

def k2_chk88 (i : grid2.Coords) (v632 : BitVec 32) : Prop :=
  (∀ (k2_h1 : k2_cond1 i = 1#1), ∀ a, (k2_off176 v632) a + S1x2048.size a ≤ S8192x2048.size a)
theorem k2_off176_inb : ∀ (i : grid2.Coords) (v632 : BitVec 32) (k2_hw88 : k2_chk88 i v632), ∀ (k2_h1 : k2_cond1 i = 1#1), ∀ a, (k2_off176 v632) a + S1x2048.size a ≤ S8192x2048.size a := fun i v632 k2_hw88 k2_h1 => k2_hw88 k2_h1

def k2_off177 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c88_i32 : BitVec 32 := 88#32
  let v637 : BitVec 32 := Scalar.addi v2 c88_i32
  let v638 : Index := Scalar.indexCast v637
  ![v638.toNat]
def k2_off178 (v639 : BitVec 32) : Fin 2 → Nat :=
  let c0_i32_371 : BitVec 32 := 0#32
  ![v639.toNat, 0]

def k2_chk89 (i : grid2.Coords) (v639 : BitVec 32) : Prop :=
  (∀ (k2_h1 : k2_cond1 i = 1#1), ∀ a, (k2_off178 v639) a + S1x2048.size a ≤ S8192x2048.size a)
theorem k2_off178_inb : ∀ (i : grid2.Coords) (v639 : BitVec 32) (k2_hw89 : k2_chk89 i v639), ∀ (k2_h1 : k2_cond1 i = 1#1), ∀ a, (k2_off178 v639) a + S1x2048.size a ≤ S8192x2048.size a := fun i v639 k2_hw89 k2_h1 => k2_hw89 k2_h1

def k2_off179 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c89_i32 : BitVec 32 := 89#32
  let v644 : BitVec 32 := Scalar.addi v2 c89_i32
  let v645 : Index := Scalar.indexCast v644
  ![v645.toNat]
def k2_off180 (v646 : BitVec 32) : Fin 2 → Nat :=
  let c0_i32_375 : BitVec 32 := 0#32
  ![v646.toNat, 0]

def k2_chk90 (i : grid2.Coords) (v646 : BitVec 32) : Prop :=
  (∀ (k2_h1 : k2_cond1 i = 1#1), ∀ a, (k2_off180 v646) a + S1x2048.size a ≤ S8192x2048.size a)
theorem k2_off180_inb : ∀ (i : grid2.Coords) (v646 : BitVec 32) (k2_hw90 : k2_chk90 i v646), ∀ (k2_h1 : k2_cond1 i = 1#1), ∀ a, (k2_off180 v646) a + S1x2048.size a ≤ S8192x2048.size a := fun i v646 k2_hw90 k2_h1 => k2_hw90 k2_h1

def k2_off181 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c90_i32 : BitVec 32 := 90#32
  let v651 : BitVec 32 := Scalar.addi v2 c90_i32
  let v652 : Index := Scalar.indexCast v651
  ![v652.toNat]
def k2_off182 (v653 : BitVec 32) : Fin 2 → Nat :=
  let c0_i32_379 : BitVec 32 := 0#32
  ![v653.toNat, 0]

def k2_chk91 (i : grid2.Coords) (v653 : BitVec 32) : Prop :=
  (∀ (k2_h1 : k2_cond1 i = 1#1), ∀ a, (k2_off182 v653) a + S1x2048.size a ≤ S8192x2048.size a)
theorem k2_off182_inb : ∀ (i : grid2.Coords) (v653 : BitVec 32) (k2_hw91 : k2_chk91 i v653), ∀ (k2_h1 : k2_cond1 i = 1#1), ∀ a, (k2_off182 v653) a + S1x2048.size a ≤ S8192x2048.size a := fun i v653 k2_hw91 k2_h1 => k2_hw91 k2_h1

def k2_off183 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c91_i32 : BitVec 32 := 91#32
  let v658 : BitVec 32 := Scalar.addi v2 c91_i32
  let v659 : Index := Scalar.indexCast v658
  ![v659.toNat]
def k2_off184 (v660 : BitVec 32) : Fin 2 → Nat :=
  let c0_i32_383 : BitVec 32 := 0#32
  ![v660.toNat, 0]

def k2_chk92 (i : grid2.Coords) (v660 : BitVec 32) : Prop :=
  (∀ (k2_h1 : k2_cond1 i = 1#1), ∀ a, (k2_off184 v660) a + S1x2048.size a ≤ S8192x2048.size a)
theorem k2_off184_inb : ∀ (i : grid2.Coords) (v660 : BitVec 32) (k2_hw92 : k2_chk92 i v660), ∀ (k2_h1 : k2_cond1 i = 1#1), ∀ a, (k2_off184 v660) a + S1x2048.size a ≤ S8192x2048.size a := fun i v660 k2_hw92 k2_h1 => k2_hw92 k2_h1

def k2_off185 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c92_i32 : BitVec 32 := 92#32
  let v665 : BitVec 32 := Scalar.addi v2 c92_i32
  let v666 : Index := Scalar.indexCast v665
  ![v666.toNat]
def k2_off186 (v667 : BitVec 32) : Fin 2 → Nat :=
  let c0_i32_387 : BitVec 32 := 0#32
  ![v667.toNat, 0]

def k2_chk93 (i : grid2.Coords) (v667 : BitVec 32) : Prop :=
  (∀ (k2_h1 : k2_cond1 i = 1#1), ∀ a, (k2_off186 v667) a + S1x2048.size a ≤ S8192x2048.size a)
theorem k2_off186_inb : ∀ (i : grid2.Coords) (v667 : BitVec 32) (k2_hw93 : k2_chk93 i v667), ∀ (k2_h1 : k2_cond1 i = 1#1), ∀ a, (k2_off186 v667) a + S1x2048.size a ≤ S8192x2048.size a := fun i v667 k2_hw93 k2_h1 => k2_hw93 k2_h1

def k2_off187 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c93_i32 : BitVec 32 := 93#32
  let v672 : BitVec 32 := Scalar.addi v2 c93_i32
  let v673 : Index := Scalar.indexCast v672
  ![v673.toNat]
def k2_off188 (v674 : BitVec 32) : Fin 2 → Nat :=
  let c0_i32_391 : BitVec 32 := 0#32
  ![v674.toNat, 0]

def k2_chk94 (i : grid2.Coords) (v674 : BitVec 32) : Prop :=
  (∀ (k2_h1 : k2_cond1 i = 1#1), ∀ a, (k2_off188 v674) a + S1x2048.size a ≤ S8192x2048.size a)
theorem k2_off188_inb : ∀ (i : grid2.Coords) (v674 : BitVec 32) (k2_hw94 : k2_chk94 i v674), ∀ (k2_h1 : k2_cond1 i = 1#1), ∀ a, (k2_off188 v674) a + S1x2048.size a ≤ S8192x2048.size a := fun i v674 k2_hw94 k2_h1 => k2_hw94 k2_h1

def k2_off189 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c94_i32 : BitVec 32 := 94#32
  let v679 : BitVec 32 := Scalar.addi v2 c94_i32
  let v680 : Index := Scalar.indexCast v679
  ![v680.toNat]
def k2_off190 (v681 : BitVec 32) : Fin 2 → Nat :=
  let c0_i32_395 : BitVec 32 := 0#32
  ![v681.toNat, 0]

def k2_chk95 (i : grid2.Coords) (v681 : BitVec 32) : Prop :=
  (∀ (k2_h1 : k2_cond1 i = 1#1), ∀ a, (k2_off190 v681) a + S1x2048.size a ≤ S8192x2048.size a)
theorem k2_off190_inb : ∀ (i : grid2.Coords) (v681 : BitVec 32) (k2_hw95 : k2_chk95 i v681), ∀ (k2_h1 : k2_cond1 i = 1#1), ∀ a, (k2_off190 v681) a + S1x2048.size a ≤ S8192x2048.size a := fun i v681 k2_hw95 k2_h1 => k2_hw95 k2_h1

def k2_off191 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c95_i32 : BitVec 32 := 95#32
  let v686 : BitVec 32 := Scalar.addi v2 c95_i32
  let v687 : Index := Scalar.indexCast v686
  ![v687.toNat]
def k2_off192 (v688 : BitVec 32) : Fin 2 → Nat :=
  let c0_i32_399 : BitVec 32 := 0#32
  ![v688.toNat, 0]

def k2_chk96 (i : grid2.Coords) (v688 : BitVec 32) : Prop :=
  (∀ (k2_h1 : k2_cond1 i = 1#1), ∀ a, (k2_off192 v688) a + S1x2048.size a ≤ S8192x2048.size a)
theorem k2_off192_inb : ∀ (i : grid2.Coords) (v688 : BitVec 32) (k2_hw96 : k2_chk96 i v688), ∀ (k2_h1 : k2_cond1 i = 1#1), ∀ a, (k2_off192 v688) a + S1x2048.size a ≤ S8192x2048.size a := fun i v688 k2_hw96 k2_h1 => k2_hw96 k2_h1

def k2_off193 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c96_i32 : BitVec 32 := 96#32
  let v693 : BitVec 32 := Scalar.addi v2 c96_i32
  let v694 : Index := Scalar.indexCast v693
  ![v694.toNat]
def k2_off194 (v695 : BitVec 32) : Fin 2 → Nat :=
  let c0_i32_403 : BitVec 32 := 0#32
  ![v695.toNat, 0]

def k2_chk97 (i : grid2.Coords) (v695 : BitVec 32) : Prop :=
  (∀ (k2_h1 : k2_cond1 i = 1#1), ∀ a, (k2_off194 v695) a + S1x2048.size a ≤ S8192x2048.size a)
theorem k2_off194_inb : ∀ (i : grid2.Coords) (v695 : BitVec 32) (k2_hw97 : k2_chk97 i v695), ∀ (k2_h1 : k2_cond1 i = 1#1), ∀ a, (k2_off194 v695) a + S1x2048.size a ≤ S8192x2048.size a := fun i v695 k2_hw97 k2_h1 => k2_hw97 k2_h1

def k2_off195 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c97_i32 : BitVec 32 := 97#32
  let v700 : BitVec 32 := Scalar.addi v2 c97_i32
  let v701 : Index := Scalar.indexCast v700
  ![v701.toNat]
def k2_off196 (v702 : BitVec 32) : Fin 2 → Nat :=
  let c0_i32_407 : BitVec 32 := 0#32
  ![v702.toNat, 0]

def k2_chk98 (i : grid2.Coords) (v702 : BitVec 32) : Prop :=
  (∀ (k2_h1 : k2_cond1 i = 1#1), ∀ a, (k2_off196 v702) a + S1x2048.size a ≤ S8192x2048.size a)
theorem k2_off196_inb : ∀ (i : grid2.Coords) (v702 : BitVec 32) (k2_hw98 : k2_chk98 i v702), ∀ (k2_h1 : k2_cond1 i = 1#1), ∀ a, (k2_off196 v702) a + S1x2048.size a ≤ S8192x2048.size a := fun i v702 k2_hw98 k2_h1 => k2_hw98 k2_h1

def k2_off197 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c98_i32 : BitVec 32 := 98#32
  let v707 : BitVec 32 := Scalar.addi v2 c98_i32
  let v708 : Index := Scalar.indexCast v707
  ![v708.toNat]
def k2_off198 (v709 : BitVec 32) : Fin 2 → Nat :=
  let c0_i32_411 : BitVec 32 := 0#32
  ![v709.toNat, 0]

def k2_chk99 (i : grid2.Coords) (v709 : BitVec 32) : Prop :=
  (∀ (k2_h1 : k2_cond1 i = 1#1), ∀ a, (k2_off198 v709) a + S1x2048.size a ≤ S8192x2048.size a)
theorem k2_off198_inb : ∀ (i : grid2.Coords) (v709 : BitVec 32) (k2_hw99 : k2_chk99 i v709), ∀ (k2_h1 : k2_cond1 i = 1#1), ∀ a, (k2_off198 v709) a + S1x2048.size a ≤ S8192x2048.size a := fun i v709 k2_hw99 k2_h1 => k2_hw99 k2_h1

def k2_off199 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c99_i32 : BitVec 32 := 99#32
  let v714 : BitVec 32 := Scalar.addi v2 c99_i32
  let v715 : Index := Scalar.indexCast v714
  ![v715.toNat]
def k2_off200 (v716 : BitVec 32) : Fin 2 → Nat :=
  let c0_i32_415 : BitVec 32 := 0#32
  ![v716.toNat, 0]

def k2_chk100 (i : grid2.Coords) (v716 : BitVec 32) : Prop :=
  (∀ (k2_h1 : k2_cond1 i = 1#1), ∀ a, (k2_off200 v716) a + S1x2048.size a ≤ S8192x2048.size a)
theorem k2_off200_inb : ∀ (i : grid2.Coords) (v716 : BitVec 32) (k2_hw100 : k2_chk100 i v716), ∀ (k2_h1 : k2_cond1 i = 1#1), ∀ a, (k2_off200 v716) a + S1x2048.size a ≤ S8192x2048.size a := fun i v716 k2_hw100 k2_h1 => k2_hw100 k2_h1

def k2_off201 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c100_i32 : BitVec 32 := 100#32
  let v721 : BitVec 32 := Scalar.addi v2 c100_i32
  let v722 : Index := Scalar.indexCast v721
  ![v722.toNat]
def k2_off202 (v723 : BitVec 32) : Fin 2 → Nat :=
  let c0_i32_419 : BitVec 32 := 0#32
  ![v723.toNat, 0]

def k2_chk101 (i : grid2.Coords) (v723 : BitVec 32) : Prop :=
  (∀ (k2_h1 : k2_cond1 i = 1#1), ∀ a, (k2_off202 v723) a + S1x2048.size a ≤ S8192x2048.size a)
theorem k2_off202_inb : ∀ (i : grid2.Coords) (v723 : BitVec 32) (k2_hw101 : k2_chk101 i v723), ∀ (k2_h1 : k2_cond1 i = 1#1), ∀ a, (k2_off202 v723) a + S1x2048.size a ≤ S8192x2048.size a := fun i v723 k2_hw101 k2_h1 => k2_hw101 k2_h1

def k2_off203 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c101_i32 : BitVec 32 := 101#32
  let v728 : BitVec 32 := Scalar.addi v2 c101_i32
  let v729 : Index := Scalar.indexCast v728
  ![v729.toNat]
def k2_off204 (v730 : BitVec 32) : Fin 2 → Nat :=
  let c0_i32_423 : BitVec 32 := 0#32
  ![v730.toNat, 0]

def k2_chk102 (i : grid2.Coords) (v730 : BitVec 32) : Prop :=
  (∀ (k2_h1 : k2_cond1 i = 1#1), ∀ a, (k2_off204 v730) a + S1x2048.size a ≤ S8192x2048.size a)
theorem k2_off204_inb : ∀ (i : grid2.Coords) (v730 : BitVec 32) (k2_hw102 : k2_chk102 i v730), ∀ (k2_h1 : k2_cond1 i = 1#1), ∀ a, (k2_off204 v730) a + S1x2048.size a ≤ S8192x2048.size a := fun i v730 k2_hw102 k2_h1 => k2_hw102 k2_h1

def k2_off205 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c102_i32 : BitVec 32 := 102#32
  let v735 : BitVec 32 := Scalar.addi v2 c102_i32
  let v736 : Index := Scalar.indexCast v735
  ![v736.toNat]
def k2_off206 (v737 : BitVec 32) : Fin 2 → Nat :=
  let c0_i32_427 : BitVec 32 := 0#32
  ![v737.toNat, 0]

def k2_chk103 (i : grid2.Coords) (v737 : BitVec 32) : Prop :=
  (∀ (k2_h1 : k2_cond1 i = 1#1), ∀ a, (k2_off206 v737) a + S1x2048.size a ≤ S8192x2048.size a)
theorem k2_off206_inb : ∀ (i : grid2.Coords) (v737 : BitVec 32) (k2_hw103 : k2_chk103 i v737), ∀ (k2_h1 : k2_cond1 i = 1#1), ∀ a, (k2_off206 v737) a + S1x2048.size a ≤ S8192x2048.size a := fun i v737 k2_hw103 k2_h1 => k2_hw103 k2_h1

def k2_off207 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c103_i32 : BitVec 32 := 103#32
  let v742 : BitVec 32 := Scalar.addi v2 c103_i32
  let v743 : Index := Scalar.indexCast v742
  ![v743.toNat]
def k2_off208 (v744 : BitVec 32) : Fin 2 → Nat :=
  let c0_i32_431 : BitVec 32 := 0#32
  ![v744.toNat, 0]

def k2_chk104 (i : grid2.Coords) (v744 : BitVec 32) : Prop :=
  (∀ (k2_h1 : k2_cond1 i = 1#1), ∀ a, (k2_off208 v744) a + S1x2048.size a ≤ S8192x2048.size a)
theorem k2_off208_inb : ∀ (i : grid2.Coords) (v744 : BitVec 32) (k2_hw104 : k2_chk104 i v744), ∀ (k2_h1 : k2_cond1 i = 1#1), ∀ a, (k2_off208 v744) a + S1x2048.size a ≤ S8192x2048.size a := fun i v744 k2_hw104 k2_h1 => k2_hw104 k2_h1

def k2_off209 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c104_i32 : BitVec 32 := 104#32
  let v749 : BitVec 32 := Scalar.addi v2 c104_i32
  let v750 : Index := Scalar.indexCast v749
  ![v750.toNat]
def k2_off210 (v751 : BitVec 32) : Fin 2 → Nat :=
  let c0_i32_435 : BitVec 32 := 0#32
  ![v751.toNat, 0]

def k2_chk105 (i : grid2.Coords) (v751 : BitVec 32) : Prop :=
  (∀ (k2_h1 : k2_cond1 i = 1#1), ∀ a, (k2_off210 v751) a + S1x2048.size a ≤ S8192x2048.size a)
theorem k2_off210_inb : ∀ (i : grid2.Coords) (v751 : BitVec 32) (k2_hw105 : k2_chk105 i v751), ∀ (k2_h1 : k2_cond1 i = 1#1), ∀ a, (k2_off210 v751) a + S1x2048.size a ≤ S8192x2048.size a := fun i v751 k2_hw105 k2_h1 => k2_hw105 k2_h1

def k2_off211 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c105_i32 : BitVec 32 := 105#32
  let v756 : BitVec 32 := Scalar.addi v2 c105_i32
  let v757 : Index := Scalar.indexCast v756
  ![v757.toNat]
def k2_off212 (v758 : BitVec 32) : Fin 2 → Nat :=
  let c0_i32_439 : BitVec 32 := 0#32
  ![v758.toNat, 0]

def k2_chk106 (i : grid2.Coords) (v758 : BitVec 32) : Prop :=
  (∀ (k2_h1 : k2_cond1 i = 1#1), ∀ a, (k2_off212 v758) a + S1x2048.size a ≤ S8192x2048.size a)
theorem k2_off212_inb : ∀ (i : grid2.Coords) (v758 : BitVec 32) (k2_hw106 : k2_chk106 i v758), ∀ (k2_h1 : k2_cond1 i = 1#1), ∀ a, (k2_off212 v758) a + S1x2048.size a ≤ S8192x2048.size a := fun i v758 k2_hw106 k2_h1 => k2_hw106 k2_h1

def k2_off213 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c106_i32 : BitVec 32 := 106#32
  let v763 : BitVec 32 := Scalar.addi v2 c106_i32
  let v764 : Index := Scalar.indexCast v763
  ![v764.toNat]
def k2_off214 (v765 : BitVec 32) : Fin 2 → Nat :=
  let c0_i32_443 : BitVec 32 := 0#32
  ![v765.toNat, 0]

def k2_chk107 (i : grid2.Coords) (v765 : BitVec 32) : Prop :=
  (∀ (k2_h1 : k2_cond1 i = 1#1), ∀ a, (k2_off214 v765) a + S1x2048.size a ≤ S8192x2048.size a)
theorem k2_off214_inb : ∀ (i : grid2.Coords) (v765 : BitVec 32) (k2_hw107 : k2_chk107 i v765), ∀ (k2_h1 : k2_cond1 i = 1#1), ∀ a, (k2_off214 v765) a + S1x2048.size a ≤ S8192x2048.size a := fun i v765 k2_hw107 k2_h1 => k2_hw107 k2_h1

def k2_off215 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c107_i32 : BitVec 32 := 107#32
  let v770 : BitVec 32 := Scalar.addi v2 c107_i32
  let v771 : Index := Scalar.indexCast v770
  ![v771.toNat]
def k2_off216 (v772 : BitVec 32) : Fin 2 → Nat :=
  let c0_i32_447 : BitVec 32 := 0#32
  ![v772.toNat, 0]

def k2_chk108 (i : grid2.Coords) (v772 : BitVec 32) : Prop :=
  (∀ (k2_h1 : k2_cond1 i = 1#1), ∀ a, (k2_off216 v772) a + S1x2048.size a ≤ S8192x2048.size a)
theorem k2_off216_inb : ∀ (i : grid2.Coords) (v772 : BitVec 32) (k2_hw108 : k2_chk108 i v772), ∀ (k2_h1 : k2_cond1 i = 1#1), ∀ a, (k2_off216 v772) a + S1x2048.size a ≤ S8192x2048.size a := fun i v772 k2_hw108 k2_h1 => k2_hw108 k2_h1

def k2_off217 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c108_i32 : BitVec 32 := 108#32
  let v777 : BitVec 32 := Scalar.addi v2 c108_i32
  let v778 : Index := Scalar.indexCast v777
  ![v778.toNat]
def k2_off218 (v779 : BitVec 32) : Fin 2 → Nat :=
  let c0_i32_451 : BitVec 32 := 0#32
  ![v779.toNat, 0]

def k2_chk109 (i : grid2.Coords) (v779 : BitVec 32) : Prop :=
  (∀ (k2_h1 : k2_cond1 i = 1#1), ∀ a, (k2_off218 v779) a + S1x2048.size a ≤ S8192x2048.size a)
theorem k2_off218_inb : ∀ (i : grid2.Coords) (v779 : BitVec 32) (k2_hw109 : k2_chk109 i v779), ∀ (k2_h1 : k2_cond1 i = 1#1), ∀ a, (k2_off218 v779) a + S1x2048.size a ≤ S8192x2048.size a := fun i v779 k2_hw109 k2_h1 => k2_hw109 k2_h1

def k2_off219 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c109_i32 : BitVec 32 := 109#32
  let v784 : BitVec 32 := Scalar.addi v2 c109_i32
  let v785 : Index := Scalar.indexCast v784
  ![v785.toNat]
def k2_off220 (v786 : BitVec 32) : Fin 2 → Nat :=
  let c0_i32_455 : BitVec 32 := 0#32
  ![v786.toNat, 0]

def k2_chk110 (i : grid2.Coords) (v786 : BitVec 32) : Prop :=
  (∀ (k2_h1 : k2_cond1 i = 1#1), ∀ a, (k2_off220 v786) a + S1x2048.size a ≤ S8192x2048.size a)
theorem k2_off220_inb : ∀ (i : grid2.Coords) (v786 : BitVec 32) (k2_hw110 : k2_chk110 i v786), ∀ (k2_h1 : k2_cond1 i = 1#1), ∀ a, (k2_off220 v786) a + S1x2048.size a ≤ S8192x2048.size a := fun i v786 k2_hw110 k2_h1 => k2_hw110 k2_h1

def k2_off221 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c110_i32 : BitVec 32 := 110#32
  let v791 : BitVec 32 := Scalar.addi v2 c110_i32
  let v792 : Index := Scalar.indexCast v791
  ![v792.toNat]
def k2_off222 (v793 : BitVec 32) : Fin 2 → Nat :=
  let c0_i32_459 : BitVec 32 := 0#32
  ![v793.toNat, 0]

def k2_chk111 (i : grid2.Coords) (v793 : BitVec 32) : Prop :=
  (∀ (k2_h1 : k2_cond1 i = 1#1), ∀ a, (k2_off222 v793) a + S1x2048.size a ≤ S8192x2048.size a)
theorem k2_off222_inb : ∀ (i : grid2.Coords) (v793 : BitVec 32) (k2_hw111 : k2_chk111 i v793), ∀ (k2_h1 : k2_cond1 i = 1#1), ∀ a, (k2_off222 v793) a + S1x2048.size a ≤ S8192x2048.size a := fun i v793 k2_hw111 k2_h1 => k2_hw111 k2_h1

def k2_off223 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c111_i32 : BitVec 32 := 111#32
  let v798 : BitVec 32 := Scalar.addi v2 c111_i32
  let v799 : Index := Scalar.indexCast v798
  ![v799.toNat]
def k2_off224 (v800 : BitVec 32) : Fin 2 → Nat :=
  let c0_i32_463 : BitVec 32 := 0#32
  ![v800.toNat, 0]

def k2_chk112 (i : grid2.Coords) (v800 : BitVec 32) : Prop :=
  (∀ (k2_h1 : k2_cond1 i = 1#1), ∀ a, (k2_off224 v800) a + S1x2048.size a ≤ S8192x2048.size a)
theorem k2_off224_inb : ∀ (i : grid2.Coords) (v800 : BitVec 32) (k2_hw112 : k2_chk112 i v800), ∀ (k2_h1 : k2_cond1 i = 1#1), ∀ a, (k2_off224 v800) a + S1x2048.size a ≤ S8192x2048.size a := fun i v800 k2_hw112 k2_h1 => k2_hw112 k2_h1

def k2_off225 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c112_i32 : BitVec 32 := 112#32
  let v805 : BitVec 32 := Scalar.addi v2 c112_i32
  let v806 : Index := Scalar.indexCast v805
  ![v806.toNat]
def k2_off226 (v807 : BitVec 32) : Fin 2 → Nat :=
  let c0_i32_467 : BitVec 32 := 0#32
  ![v807.toNat, 0]

def k2_chk113 (i : grid2.Coords) (v807 : BitVec 32) : Prop :=
  (∀ (k2_h1 : k2_cond1 i = 1#1), ∀ a, (k2_off226 v807) a + S1x2048.size a ≤ S8192x2048.size a)
theorem k2_off226_inb : ∀ (i : grid2.Coords) (v807 : BitVec 32) (k2_hw113 : k2_chk113 i v807), ∀ (k2_h1 : k2_cond1 i = 1#1), ∀ a, (k2_off226 v807) a + S1x2048.size a ≤ S8192x2048.size a := fun i v807 k2_hw113 k2_h1 => k2_hw113 k2_h1

def k2_off227 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c113_i32 : BitVec 32 := 113#32
  let v812 : BitVec 32 := Scalar.addi v2 c113_i32
  let v813 : Index := Scalar.indexCast v812
  ![v813.toNat]
def k2_off228 (v814 : BitVec 32) : Fin 2 → Nat :=
  let c0_i32_471 : BitVec 32 := 0#32
  ![v814.toNat, 0]

def k2_chk114 (i : grid2.Coords) (v814 : BitVec 32) : Prop :=
  (∀ (k2_h1 : k2_cond1 i = 1#1), ∀ a, (k2_off228 v814) a + S1x2048.size a ≤ S8192x2048.size a)
theorem k2_off228_inb : ∀ (i : grid2.Coords) (v814 : BitVec 32) (k2_hw114 : k2_chk114 i v814), ∀ (k2_h1 : k2_cond1 i = 1#1), ∀ a, (k2_off228 v814) a + S1x2048.size a ≤ S8192x2048.size a := fun i v814 k2_hw114 k2_h1 => k2_hw114 k2_h1

def k2_off229 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c114_i32 : BitVec 32 := 114#32
  let v819 : BitVec 32 := Scalar.addi v2 c114_i32
  let v820 : Index := Scalar.indexCast v819
  ![v820.toNat]
def k2_off230 (v821 : BitVec 32) : Fin 2 → Nat :=
  let c0_i32_475 : BitVec 32 := 0#32
  ![v821.toNat, 0]

def k2_chk115 (i : grid2.Coords) (v821 : BitVec 32) : Prop :=
  (∀ (k2_h1 : k2_cond1 i = 1#1), ∀ a, (k2_off230 v821) a + S1x2048.size a ≤ S8192x2048.size a)
theorem k2_off230_inb : ∀ (i : grid2.Coords) (v821 : BitVec 32) (k2_hw115 : k2_chk115 i v821), ∀ (k2_h1 : k2_cond1 i = 1#1), ∀ a, (k2_off230 v821) a + S1x2048.size a ≤ S8192x2048.size a := fun i v821 k2_hw115 k2_h1 => k2_hw115 k2_h1

def k2_off231 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c115_i32 : BitVec 32 := 115#32
  let v826 : BitVec 32 := Scalar.addi v2 c115_i32
  let v827 : Index := Scalar.indexCast v826
  ![v827.toNat]
def k2_off232 (v828 : BitVec 32) : Fin 2 → Nat :=
  let c0_i32_479 : BitVec 32 := 0#32
  ![v828.toNat, 0]

def k2_chk116 (i : grid2.Coords) (v828 : BitVec 32) : Prop :=
  (∀ (k2_h1 : k2_cond1 i = 1#1), ∀ a, (k2_off232 v828) a + S1x2048.size a ≤ S8192x2048.size a)
theorem k2_off232_inb : ∀ (i : grid2.Coords) (v828 : BitVec 32) (k2_hw116 : k2_chk116 i v828), ∀ (k2_h1 : k2_cond1 i = 1#1), ∀ a, (k2_off232 v828) a + S1x2048.size a ≤ S8192x2048.size a := fun i v828 k2_hw116 k2_h1 => k2_hw116 k2_h1

def k2_off233 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c116_i32 : BitVec 32 := 116#32
  let v833 : BitVec 32 := Scalar.addi v2 c116_i32
  let v834 : Index := Scalar.indexCast v833
  ![v834.toNat]
def k2_off234 (v835 : BitVec 32) : Fin 2 → Nat :=
  let c0_i32_483 : BitVec 32 := 0#32
  ![v835.toNat, 0]

def k2_chk117 (i : grid2.Coords) (v835 : BitVec 32) : Prop :=
  (∀ (k2_h1 : k2_cond1 i = 1#1), ∀ a, (k2_off234 v835) a + S1x2048.size a ≤ S8192x2048.size a)
theorem k2_off234_inb : ∀ (i : grid2.Coords) (v835 : BitVec 32) (k2_hw117 : k2_chk117 i v835), ∀ (k2_h1 : k2_cond1 i = 1#1), ∀ a, (k2_off234 v835) a + S1x2048.size a ≤ S8192x2048.size a := fun i v835 k2_hw117 k2_h1 => k2_hw117 k2_h1

def k2_off235 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c117_i32 : BitVec 32 := 117#32
  let v840 : BitVec 32 := Scalar.addi v2 c117_i32
  let v841 : Index := Scalar.indexCast v840
  ![v841.toNat]
def k2_off236 (v842 : BitVec 32) : Fin 2 → Nat :=
  let c0_i32_487 : BitVec 32 := 0#32
  ![v842.toNat, 0]

def k2_chk118 (i : grid2.Coords) (v842 : BitVec 32) : Prop :=
  (∀ (k2_h1 : k2_cond1 i = 1#1), ∀ a, (k2_off236 v842) a + S1x2048.size a ≤ S8192x2048.size a)
theorem k2_off236_inb : ∀ (i : grid2.Coords) (v842 : BitVec 32) (k2_hw118 : k2_chk118 i v842), ∀ (k2_h1 : k2_cond1 i = 1#1), ∀ a, (k2_off236 v842) a + S1x2048.size a ≤ S8192x2048.size a := fun i v842 k2_hw118 k2_h1 => k2_hw118 k2_h1

def k2_off237 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c118_i32 : BitVec 32 := 118#32
  let v847 : BitVec 32 := Scalar.addi v2 c118_i32
  let v848 : Index := Scalar.indexCast v847
  ![v848.toNat]
def k2_off238 (v849 : BitVec 32) : Fin 2 → Nat :=
  let c0_i32_491 : BitVec 32 := 0#32
  ![v849.toNat, 0]

def k2_chk119 (i : grid2.Coords) (v849 : BitVec 32) : Prop :=
  (∀ (k2_h1 : k2_cond1 i = 1#1), ∀ a, (k2_off238 v849) a + S1x2048.size a ≤ S8192x2048.size a)
theorem k2_off238_inb : ∀ (i : grid2.Coords) (v849 : BitVec 32) (k2_hw119 : k2_chk119 i v849), ∀ (k2_h1 : k2_cond1 i = 1#1), ∀ a, (k2_off238 v849) a + S1x2048.size a ≤ S8192x2048.size a := fun i v849 k2_hw119 k2_h1 => k2_hw119 k2_h1

def k2_off239 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c119_i32 : BitVec 32 := 119#32
  let v854 : BitVec 32 := Scalar.addi v2 c119_i32
  let v855 : Index := Scalar.indexCast v854
  ![v855.toNat]
def k2_off240 (v856 : BitVec 32) : Fin 2 → Nat :=
  let c0_i32_495 : BitVec 32 := 0#32
  ![v856.toNat, 0]

def k2_chk120 (i : grid2.Coords) (v856 : BitVec 32) : Prop :=
  (∀ (k2_h1 : k2_cond1 i = 1#1), ∀ a, (k2_off240 v856) a + S1x2048.size a ≤ S8192x2048.size a)
theorem k2_off240_inb : ∀ (i : grid2.Coords) (v856 : BitVec 32) (k2_hw120 : k2_chk120 i v856), ∀ (k2_h1 : k2_cond1 i = 1#1), ∀ a, (k2_off240 v856) a + S1x2048.size a ≤ S8192x2048.size a := fun i v856 k2_hw120 k2_h1 => k2_hw120 k2_h1

def k2_off241 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c120_i32 : BitVec 32 := 120#32
  let v861 : BitVec 32 := Scalar.addi v2 c120_i32
  let v862 : Index := Scalar.indexCast v861
  ![v862.toNat]
def k2_off242 (v863 : BitVec 32) : Fin 2 → Nat :=
  let c0_i32_499 : BitVec 32 := 0#32
  ![v863.toNat, 0]

def k2_chk121 (i : grid2.Coords) (v863 : BitVec 32) : Prop :=
  (∀ (k2_h1 : k2_cond1 i = 1#1), ∀ a, (k2_off242 v863) a + S1x2048.size a ≤ S8192x2048.size a)
theorem k2_off242_inb : ∀ (i : grid2.Coords) (v863 : BitVec 32) (k2_hw121 : k2_chk121 i v863), ∀ (k2_h1 : k2_cond1 i = 1#1), ∀ a, (k2_off242 v863) a + S1x2048.size a ≤ S8192x2048.size a := fun i v863 k2_hw121 k2_h1 => k2_hw121 k2_h1

def k2_off243 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c121_i32 : BitVec 32 := 121#32
  let v868 : BitVec 32 := Scalar.addi v2 c121_i32
  let v869 : Index := Scalar.indexCast v868
  ![v869.toNat]
def k2_off244 (v870 : BitVec 32) : Fin 2 → Nat :=
  let c0_i32_503 : BitVec 32 := 0#32
  ![v870.toNat, 0]

def k2_chk122 (i : grid2.Coords) (v870 : BitVec 32) : Prop :=
  (∀ (k2_h1 : k2_cond1 i = 1#1), ∀ a, (k2_off244 v870) a + S1x2048.size a ≤ S8192x2048.size a)
theorem k2_off244_inb : ∀ (i : grid2.Coords) (v870 : BitVec 32) (k2_hw122 : k2_chk122 i v870), ∀ (k2_h1 : k2_cond1 i = 1#1), ∀ a, (k2_off244 v870) a + S1x2048.size a ≤ S8192x2048.size a := fun i v870 k2_hw122 k2_h1 => k2_hw122 k2_h1

def k2_off245 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c122_i32 : BitVec 32 := 122#32
  let v875 : BitVec 32 := Scalar.addi v2 c122_i32
  let v876 : Index := Scalar.indexCast v875
  ![v876.toNat]
def k2_off246 (v877 : BitVec 32) : Fin 2 → Nat :=
  let c0_i32_507 : BitVec 32 := 0#32
  ![v877.toNat, 0]

def k2_chk123 (i : grid2.Coords) (v877 : BitVec 32) : Prop :=
  (∀ (k2_h1 : k2_cond1 i = 1#1), ∀ a, (k2_off246 v877) a + S1x2048.size a ≤ S8192x2048.size a)
theorem k2_off246_inb : ∀ (i : grid2.Coords) (v877 : BitVec 32) (k2_hw123 : k2_chk123 i v877), ∀ (k2_h1 : k2_cond1 i = 1#1), ∀ a, (k2_off246 v877) a + S1x2048.size a ≤ S8192x2048.size a := fun i v877 k2_hw123 k2_h1 => k2_hw123 k2_h1

def k2_off247 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c123_i32 : BitVec 32 := 123#32
  let v882 : BitVec 32 := Scalar.addi v2 c123_i32
  let v883 : Index := Scalar.indexCast v882
  ![v883.toNat]
def k2_off248 (v884 : BitVec 32) : Fin 2 → Nat :=
  let c0_i32_511 : BitVec 32 := 0#32
  ![v884.toNat, 0]

def k2_chk124 (i : grid2.Coords) (v884 : BitVec 32) : Prop :=
  (∀ (k2_h1 : k2_cond1 i = 1#1), ∀ a, (k2_off248 v884) a + S1x2048.size a ≤ S8192x2048.size a)
theorem k2_off248_inb : ∀ (i : grid2.Coords) (v884 : BitVec 32) (k2_hw124 : k2_chk124 i v884), ∀ (k2_h1 : k2_cond1 i = 1#1), ∀ a, (k2_off248 v884) a + S1x2048.size a ≤ S8192x2048.size a := fun i v884 k2_hw124 k2_h1 => k2_hw124 k2_h1

def k2_off249 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c124_i32 : BitVec 32 := 124#32
  let v889 : BitVec 32 := Scalar.addi v2 c124_i32
  let v890 : Index := Scalar.indexCast v889
  ![v890.toNat]
def k2_off250 (v891 : BitVec 32) : Fin 2 → Nat :=
  let c0_i32_515 : BitVec 32 := 0#32
  ![v891.toNat, 0]

def k2_chk125 (i : grid2.Coords) (v891 : BitVec 32) : Prop :=
  (∀ (k2_h1 : k2_cond1 i = 1#1), ∀ a, (k2_off250 v891) a + S1x2048.size a ≤ S8192x2048.size a)
theorem k2_off250_inb : ∀ (i : grid2.Coords) (v891 : BitVec 32) (k2_hw125 : k2_chk125 i v891), ∀ (k2_h1 : k2_cond1 i = 1#1), ∀ a, (k2_off250 v891) a + S1x2048.size a ≤ S8192x2048.size a := fun i v891 k2_hw125 k2_h1 => k2_hw125 k2_h1

def k2_off251 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c125_i32 : BitVec 32 := 125#32
  let v896 : BitVec 32 := Scalar.addi v2 c125_i32
  let v897 : Index := Scalar.indexCast v896
  ![v897.toNat]
def k2_off252 (v898 : BitVec 32) : Fin 2 → Nat :=
  let c0_i32_519 : BitVec 32 := 0#32
  ![v898.toNat, 0]

def k2_chk126 (i : grid2.Coords) (v898 : BitVec 32) : Prop :=
  (∀ (k2_h1 : k2_cond1 i = 1#1), ∀ a, (k2_off252 v898) a + S1x2048.size a ≤ S8192x2048.size a)
theorem k2_off252_inb : ∀ (i : grid2.Coords) (v898 : BitVec 32) (k2_hw126 : k2_chk126 i v898), ∀ (k2_h1 : k2_cond1 i = 1#1), ∀ a, (k2_off252 v898) a + S1x2048.size a ≤ S8192x2048.size a := fun i v898 k2_hw126 k2_h1 => k2_hw126 k2_h1

def k2_off253 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c126_i32 : BitVec 32 := 126#32
  let v903 : BitVec 32 := Scalar.addi v2 c126_i32
  let v904 : Index := Scalar.indexCast v903
  ![v904.toNat]
def k2_off254 (v905 : BitVec 32) : Fin 2 → Nat :=
  let c0_i32_523 : BitVec 32 := 0#32
  ![v905.toNat, 0]

def k2_chk127 (i : grid2.Coords) (v905 : BitVec 32) : Prop :=
  (∀ (k2_h1 : k2_cond1 i = 1#1), ∀ a, (k2_off254 v905) a + S1x2048.size a ≤ S8192x2048.size a)
theorem k2_off254_inb : ∀ (i : grid2.Coords) (v905 : BitVec 32) (k2_hw127 : k2_chk127 i v905), ∀ (k2_h1 : k2_cond1 i = 1#1), ∀ a, (k2_off254 v905) a + S1x2048.size a ≤ S8192x2048.size a := fun i v905 k2_hw127 k2_h1 => k2_hw127 k2_h1

def k2_off255 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c127_i32 : BitVec 32 := 127#32
  let v910 : BitVec 32 := Scalar.addi v2 c127_i32
  let v911 : Index := Scalar.indexCast v910
  ![v911.toNat]
def k2_off256 (v912 : BitVec 32) : Fin 2 → Nat :=
  let c0_i32_527 : BitVec 32 := 0#32
  ![v912.toNat, 0]

def k2_chk128 (i : grid2.Coords) (v912 : BitVec 32) : Prop :=
  (∀ (k2_h1 : k2_cond1 i = 1#1), ∀ a, (k2_off256 v912) a + S1x2048.size a ≤ S8192x2048.size a)
theorem k2_off256_inb : ∀ (i : grid2.Coords) (v912 : BitVec 32) (k2_hw128 : k2_chk128 i v912), ∀ (k2_h1 : k2_cond1 i = 1#1), ∀ a, (k2_off256 v912) a + S1x2048.size a ≤ S8192x2048.size a := fun i v912 k2_hw128 k2_h1 => k2_hw128 k2_h1

def k2_off257 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c128_i32 : BitVec 32 := 128#32
  let v917 : BitVec 32 := Scalar.addi v2 c128_i32
  let v918 : Index := Scalar.indexCast v917
  ![v918.toNat]
def k2_off258 (v919 : BitVec 32) : Fin 2 → Nat :=
  let c0_i32_531 : BitVec 32 := 0#32
  ![v919.toNat, 0]

def k2_chk129 (i : grid2.Coords) (v919 : BitVec 32) : Prop :=
  (∀ (k2_h1 : k2_cond1 i = 1#1), ∀ a, (k2_off258 v919) a + S1x2048.size a ≤ S8192x2048.size a)
theorem k2_off258_inb : ∀ (i : grid2.Coords) (v919 : BitVec 32) (k2_hw129 : k2_chk129 i v919), ∀ (k2_h1 : k2_cond1 i = 1#1), ∀ a, (k2_off258 v919) a + S1x2048.size a ≤ S8192x2048.size a := fun i v919 k2_hw129 k2_h1 => k2_hw129 k2_h1

def k2_off259 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c129_i32 : BitVec 32 := 129#32
  let v924 : BitVec 32 := Scalar.addi v2 c129_i32
  let v925 : Index := Scalar.indexCast v924
  ![v925.toNat]
def k2_off260 (v926 : BitVec 32) : Fin 2 → Nat :=
  let c0_i32_535 : BitVec 32 := 0#32
  ![v926.toNat, 0]

def k2_chk130 (i : grid2.Coords) (v926 : BitVec 32) : Prop :=
  (∀ (k2_h1 : k2_cond1 i = 1#1), ∀ a, (k2_off260 v926) a + S1x2048.size a ≤ S8192x2048.size a)
theorem k2_off260_inb : ∀ (i : grid2.Coords) (v926 : BitVec 32) (k2_hw130 : k2_chk130 i v926), ∀ (k2_h1 : k2_cond1 i = 1#1), ∀ a, (k2_off260 v926) a + S1x2048.size a ≤ S8192x2048.size a := fun i v926 k2_hw130 k2_h1 => k2_hw130 k2_h1

def k2_off261 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c130_i32 : BitVec 32 := 130#32
  let v931 : BitVec 32 := Scalar.addi v2 c130_i32
  let v932 : Index := Scalar.indexCast v931
  ![v932.toNat]
def k2_off262 (v933 : BitVec 32) : Fin 2 → Nat :=
  let c0_i32_539 : BitVec 32 := 0#32
  ![v933.toNat, 0]

def k2_chk131 (i : grid2.Coords) (v933 : BitVec 32) : Prop :=
  (∀ (k2_h1 : k2_cond1 i = 1#1), ∀ a, (k2_off262 v933) a + S1x2048.size a ≤ S8192x2048.size a)
theorem k2_off262_inb : ∀ (i : grid2.Coords) (v933 : BitVec 32) (k2_hw131 : k2_chk131 i v933), ∀ (k2_h1 : k2_cond1 i = 1#1), ∀ a, (k2_off262 v933) a + S1x2048.size a ≤ S8192x2048.size a := fun i v933 k2_hw131 k2_h1 => k2_hw131 k2_h1

def k2_off263 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c131_i32 : BitVec 32 := 131#32
  let v938 : BitVec 32 := Scalar.addi v2 c131_i32
  let v939 : Index := Scalar.indexCast v938
  ![v939.toNat]
def k2_off264 (v940 : BitVec 32) : Fin 2 → Nat :=
  let c0_i32_543 : BitVec 32 := 0#32
  ![v940.toNat, 0]

def k2_chk132 (i : grid2.Coords) (v940 : BitVec 32) : Prop :=
  (∀ (k2_h1 : k2_cond1 i = 1#1), ∀ a, (k2_off264 v940) a + S1x2048.size a ≤ S8192x2048.size a)
theorem k2_off264_inb : ∀ (i : grid2.Coords) (v940 : BitVec 32) (k2_hw132 : k2_chk132 i v940), ∀ (k2_h1 : k2_cond1 i = 1#1), ∀ a, (k2_off264 v940) a + S1x2048.size a ≤ S8192x2048.size a := fun i v940 k2_hw132 k2_h1 => k2_hw132 k2_h1

def k2_off265 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c132_i32 : BitVec 32 := 132#32
  let v945 : BitVec 32 := Scalar.addi v2 c132_i32
  let v946 : Index := Scalar.indexCast v945
  ![v946.toNat]
def k2_off266 (v947 : BitVec 32) : Fin 2 → Nat :=
  let c0_i32_547 : BitVec 32 := 0#32
  ![v947.toNat, 0]

def k2_chk133 (i : grid2.Coords) (v947 : BitVec 32) : Prop :=
  (∀ (k2_h1 : k2_cond1 i = 1#1), ∀ a, (k2_off266 v947) a + S1x2048.size a ≤ S8192x2048.size a)
theorem k2_off266_inb : ∀ (i : grid2.Coords) (v947 : BitVec 32) (k2_hw133 : k2_chk133 i v947), ∀ (k2_h1 : k2_cond1 i = 1#1), ∀ a, (k2_off266 v947) a + S1x2048.size a ≤ S8192x2048.size a := fun i v947 k2_hw133 k2_h1 => k2_hw133 k2_h1

def k2_off267 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c133_i32 : BitVec 32 := 133#32
  let v952 : BitVec 32 := Scalar.addi v2 c133_i32
  let v953 : Index := Scalar.indexCast v952
  ![v953.toNat]
def k2_off268 (v954 : BitVec 32) : Fin 2 → Nat :=
  let c0_i32_551 : BitVec 32 := 0#32
  ![v954.toNat, 0]

def k2_chk134 (i : grid2.Coords) (v954 : BitVec 32) : Prop :=
  (∀ (k2_h1 : k2_cond1 i = 1#1), ∀ a, (k2_off268 v954) a + S1x2048.size a ≤ S8192x2048.size a)
theorem k2_off268_inb : ∀ (i : grid2.Coords) (v954 : BitVec 32) (k2_hw134 : k2_chk134 i v954), ∀ (k2_h1 : k2_cond1 i = 1#1), ∀ a, (k2_off268 v954) a + S1x2048.size a ≤ S8192x2048.size a := fun i v954 k2_hw134 k2_h1 => k2_hw134 k2_h1

def k2_off269 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c134_i32 : BitVec 32 := 134#32
  let v959 : BitVec 32 := Scalar.addi v2 c134_i32
  let v960 : Index := Scalar.indexCast v959
  ![v960.toNat]
def k2_off270 (v961 : BitVec 32) : Fin 2 → Nat :=
  let c0_i32_555 : BitVec 32 := 0#32
  ![v961.toNat, 0]

def k2_chk135 (i : grid2.Coords) (v961 : BitVec 32) : Prop :=
  (∀ (k2_h1 : k2_cond1 i = 1#1), ∀ a, (k2_off270 v961) a + S1x2048.size a ≤ S8192x2048.size a)
theorem k2_off270_inb : ∀ (i : grid2.Coords) (v961 : BitVec 32) (k2_hw135 : k2_chk135 i v961), ∀ (k2_h1 : k2_cond1 i = 1#1), ∀ a, (k2_off270 v961) a + S1x2048.size a ≤ S8192x2048.size a := fun i v961 k2_hw135 k2_h1 => k2_hw135 k2_h1

def k2_off271 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c135_i32 : BitVec 32 := 135#32
  let v966 : BitVec 32 := Scalar.addi v2 c135_i32
  let v967 : Index := Scalar.indexCast v966
  ![v967.toNat]
def k2_off272 (v968 : BitVec 32) : Fin 2 → Nat :=
  let c0_i32_559 : BitVec 32 := 0#32
  ![v968.toNat, 0]

def k2_chk136 (i : grid2.Coords) (v968 : BitVec 32) : Prop :=
  (∀ (k2_h1 : k2_cond1 i = 1#1), ∀ a, (k2_off272 v968) a + S1x2048.size a ≤ S8192x2048.size a)
theorem k2_off272_inb : ∀ (i : grid2.Coords) (v968 : BitVec 32) (k2_hw136 : k2_chk136 i v968), ∀ (k2_h1 : k2_cond1 i = 1#1), ∀ a, (k2_off272 v968) a + S1x2048.size a ≤ S8192x2048.size a := fun i v968 k2_hw136 k2_h1 => k2_hw136 k2_h1

def k2_off273 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c136_i32 : BitVec 32 := 136#32
  let v973 : BitVec 32 := Scalar.addi v2 c136_i32
  let v974 : Index := Scalar.indexCast v973
  ![v974.toNat]
def k2_off274 (v975 : BitVec 32) : Fin 2 → Nat :=
  let c0_i32_563 : BitVec 32 := 0#32
  ![v975.toNat, 0]

def k2_chk137 (i : grid2.Coords) (v975 : BitVec 32) : Prop :=
  (∀ (k2_h1 : k2_cond1 i = 1#1), ∀ a, (k2_off274 v975) a + S1x2048.size a ≤ S8192x2048.size a)
theorem k2_off274_inb : ∀ (i : grid2.Coords) (v975 : BitVec 32) (k2_hw137 : k2_chk137 i v975), ∀ (k2_h1 : k2_cond1 i = 1#1), ∀ a, (k2_off274 v975) a + S1x2048.size a ≤ S8192x2048.size a := fun i v975 k2_hw137 k2_h1 => k2_hw137 k2_h1

def k2_off275 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c137_i32 : BitVec 32 := 137#32
  let v980 : BitVec 32 := Scalar.addi v2 c137_i32
  let v981 : Index := Scalar.indexCast v980
  ![v981.toNat]
def k2_off276 (v982 : BitVec 32) : Fin 2 → Nat :=
  let c0_i32_567 : BitVec 32 := 0#32
  ![v982.toNat, 0]

def k2_chk138 (i : grid2.Coords) (v982 : BitVec 32) : Prop :=
  (∀ (k2_h1 : k2_cond1 i = 1#1), ∀ a, (k2_off276 v982) a + S1x2048.size a ≤ S8192x2048.size a)
theorem k2_off276_inb : ∀ (i : grid2.Coords) (v982 : BitVec 32) (k2_hw138 : k2_chk138 i v982), ∀ (k2_h1 : k2_cond1 i = 1#1), ∀ a, (k2_off276 v982) a + S1x2048.size a ≤ S8192x2048.size a := fun i v982 k2_hw138 k2_h1 => k2_hw138 k2_h1

def k2_off277 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c138_i32 : BitVec 32 := 138#32
  let v987 : BitVec 32 := Scalar.addi v2 c138_i32
  let v988 : Index := Scalar.indexCast v987
  ![v988.toNat]
def k2_off278 (v989 : BitVec 32) : Fin 2 → Nat :=
  let c0_i32_571 : BitVec 32 := 0#32
  ![v989.toNat, 0]

def k2_chk139 (i : grid2.Coords) (v989 : BitVec 32) : Prop :=
  (∀ (k2_h1 : k2_cond1 i = 1#1), ∀ a, (k2_off278 v989) a + S1x2048.size a ≤ S8192x2048.size a)
theorem k2_off278_inb : ∀ (i : grid2.Coords) (v989 : BitVec 32) (k2_hw139 : k2_chk139 i v989), ∀ (k2_h1 : k2_cond1 i = 1#1), ∀ a, (k2_off278 v989) a + S1x2048.size a ≤ S8192x2048.size a := fun i v989 k2_hw139 k2_h1 => k2_hw139 k2_h1

def k2_off279 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c139_i32 : BitVec 32 := 139#32
  let v994 : BitVec 32 := Scalar.addi v2 c139_i32
  let v995 : Index := Scalar.indexCast v994
  ![v995.toNat]
def k2_off280 (v996 : BitVec 32) : Fin 2 → Nat :=
  let c0_i32_575 : BitVec 32 := 0#32
  ![v996.toNat, 0]

def k2_chk140 (i : grid2.Coords) (v996 : BitVec 32) : Prop :=
  (∀ (k2_h1 : k2_cond1 i = 1#1), ∀ a, (k2_off280 v996) a + S1x2048.size a ≤ S8192x2048.size a)
theorem k2_off280_inb : ∀ (i : grid2.Coords) (v996 : BitVec 32) (k2_hw140 : k2_chk140 i v996), ∀ (k2_h1 : k2_cond1 i = 1#1), ∀ a, (k2_off280 v996) a + S1x2048.size a ≤ S8192x2048.size a := fun i v996 k2_hw140 k2_h1 => k2_hw140 k2_h1

def k2_off281 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c140_i32 : BitVec 32 := 140#32
  let v1001 : BitVec 32 := Scalar.addi v2 c140_i32
  let v1002 : Index := Scalar.indexCast v1001
  ![v1002.toNat]
def k2_off282 (v1003 : BitVec 32) : Fin 2 → Nat :=
  let c0_i32_579 : BitVec 32 := 0#32
  ![v1003.toNat, 0]

def k2_chk141 (i : grid2.Coords) (v1003 : BitVec 32) : Prop :=
  (∀ (k2_h1 : k2_cond1 i = 1#1), ∀ a, (k2_off282 v1003) a + S1x2048.size a ≤ S8192x2048.size a)
theorem k2_off282_inb : ∀ (i : grid2.Coords) (v1003 : BitVec 32) (k2_hw141 : k2_chk141 i v1003), ∀ (k2_h1 : k2_cond1 i = 1#1), ∀ a, (k2_off282 v1003) a + S1x2048.size a ≤ S8192x2048.size a := fun i v1003 k2_hw141 k2_h1 => k2_hw141 k2_h1

def k2_off283 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c141_i32 : BitVec 32 := 141#32
  let v1008 : BitVec 32 := Scalar.addi v2 c141_i32
  let v1009 : Index := Scalar.indexCast v1008
  ![v1009.toNat]
def k2_off284 (v1010 : BitVec 32) : Fin 2 → Nat :=
  let c0_i32_583 : BitVec 32 := 0#32
  ![v1010.toNat, 0]

def k2_chk142 (i : grid2.Coords) (v1010 : BitVec 32) : Prop :=
  (∀ (k2_h1 : k2_cond1 i = 1#1), ∀ a, (k2_off284 v1010) a + S1x2048.size a ≤ S8192x2048.size a)
theorem k2_off284_inb : ∀ (i : grid2.Coords) (v1010 : BitVec 32) (k2_hw142 : k2_chk142 i v1010), ∀ (k2_h1 : k2_cond1 i = 1#1), ∀ a, (k2_off284 v1010) a + S1x2048.size a ≤ S8192x2048.size a := fun i v1010 k2_hw142 k2_h1 => k2_hw142 k2_h1

def k2_off285 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c142_i32 : BitVec 32 := 142#32
  let v1015 : BitVec 32 := Scalar.addi v2 c142_i32
  let v1016 : Index := Scalar.indexCast v1015
  ![v1016.toNat]
def k2_off286 (v1017 : BitVec 32) : Fin 2 → Nat :=
  let c0_i32_587 : BitVec 32 := 0#32
  ![v1017.toNat, 0]

def k2_chk143 (i : grid2.Coords) (v1017 : BitVec 32) : Prop :=
  (∀ (k2_h1 : k2_cond1 i = 1#1), ∀ a, (k2_off286 v1017) a + S1x2048.size a ≤ S8192x2048.size a)
theorem k2_off286_inb : ∀ (i : grid2.Coords) (v1017 : BitVec 32) (k2_hw143 : k2_chk143 i v1017), ∀ (k2_h1 : k2_cond1 i = 1#1), ∀ a, (k2_off286 v1017) a + S1x2048.size a ≤ S8192x2048.size a := fun i v1017 k2_hw143 k2_h1 => k2_hw143 k2_h1

def k2_off287 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c143_i32 : BitVec 32 := 143#32
  let v1022 : BitVec 32 := Scalar.addi v2 c143_i32
  let v1023 : Index := Scalar.indexCast v1022
  ![v1023.toNat]
def k2_off288 (v1024 : BitVec 32) : Fin 2 → Nat :=
  let c0_i32_591 : BitVec 32 := 0#32
  ![v1024.toNat, 0]

def k2_chk144 (i : grid2.Coords) (v1024 : BitVec 32) : Prop :=
  (∀ (k2_h1 : k2_cond1 i = 1#1), ∀ a, (k2_off288 v1024) a + S1x2048.size a ≤ S8192x2048.size a)
theorem k2_off288_inb : ∀ (i : grid2.Coords) (v1024 : BitVec 32) (k2_hw144 : k2_chk144 i v1024), ∀ (k2_h1 : k2_cond1 i = 1#1), ∀ a, (k2_off288 v1024) a + S1x2048.size a ≤ S8192x2048.size a := fun i v1024 k2_hw144 k2_h1 => k2_hw144 k2_h1

def k2_off289 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c144_i32 : BitVec 32 := 144#32
  let v1029 : BitVec 32 := Scalar.addi v2 c144_i32
  let v1030 : Index := Scalar.indexCast v1029
  ![v1030.toNat]
def k2_off290 (v1031 : BitVec 32) : Fin 2 → Nat :=
  let c0_i32_595 : BitVec 32 := 0#32
  ![v1031.toNat, 0]

def k2_chk145 (i : grid2.Coords) (v1031 : BitVec 32) : Prop :=
  (∀ (k2_h1 : k2_cond1 i = 1#1), ∀ a, (k2_off290 v1031) a + S1x2048.size a ≤ S8192x2048.size a)
theorem k2_off290_inb : ∀ (i : grid2.Coords) (v1031 : BitVec 32) (k2_hw145 : k2_chk145 i v1031), ∀ (k2_h1 : k2_cond1 i = 1#1), ∀ a, (k2_off290 v1031) a + S1x2048.size a ≤ S8192x2048.size a := fun i v1031 k2_hw145 k2_h1 => k2_hw145 k2_h1

def k2_off291 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c145_i32 : BitVec 32 := 145#32
  let v1036 : BitVec 32 := Scalar.addi v2 c145_i32
  let v1037 : Index := Scalar.indexCast v1036
  ![v1037.toNat]
def k2_off292 (v1038 : BitVec 32) : Fin 2 → Nat :=
  let c0_i32_599 : BitVec 32 := 0#32
  ![v1038.toNat, 0]

def k2_chk146 (i : grid2.Coords) (v1038 : BitVec 32) : Prop :=
  (∀ (k2_h1 : k2_cond1 i = 1#1), ∀ a, (k2_off292 v1038) a + S1x2048.size a ≤ S8192x2048.size a)
theorem k2_off292_inb : ∀ (i : grid2.Coords) (v1038 : BitVec 32) (k2_hw146 : k2_chk146 i v1038), ∀ (k2_h1 : k2_cond1 i = 1#1), ∀ a, (k2_off292 v1038) a + S1x2048.size a ≤ S8192x2048.size a := fun i v1038 k2_hw146 k2_h1 => k2_hw146 k2_h1

def k2_off293 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c146_i32 : BitVec 32 := 146#32
  let v1043 : BitVec 32 := Scalar.addi v2 c146_i32
  let v1044 : Index := Scalar.indexCast v1043
  ![v1044.toNat]
def k2_off294 (v1045 : BitVec 32) : Fin 2 → Nat :=
  let c0_i32_603 : BitVec 32 := 0#32
  ![v1045.toNat, 0]

def k2_chk147 (i : grid2.Coords) (v1045 : BitVec 32) : Prop :=
  (∀ (k2_h1 : k2_cond1 i = 1#1), ∀ a, (k2_off294 v1045) a + S1x2048.size a ≤ S8192x2048.size a)
theorem k2_off294_inb : ∀ (i : grid2.Coords) (v1045 : BitVec 32) (k2_hw147 : k2_chk147 i v1045), ∀ (k2_h1 : k2_cond1 i = 1#1), ∀ a, (k2_off294 v1045) a + S1x2048.size a ≤ S8192x2048.size a := fun i v1045 k2_hw147 k2_h1 => k2_hw147 k2_h1

def k2_off295 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c147_i32 : BitVec 32 := 147#32
  let v1050 : BitVec 32 := Scalar.addi v2 c147_i32
  let v1051 : Index := Scalar.indexCast v1050
  ![v1051.toNat]
def k2_off296 (v1052 : BitVec 32) : Fin 2 → Nat :=
  let c0_i32_607 : BitVec 32 := 0#32
  ![v1052.toNat, 0]

def k2_chk148 (i : grid2.Coords) (v1052 : BitVec 32) : Prop :=
  (∀ (k2_h1 : k2_cond1 i = 1#1), ∀ a, (k2_off296 v1052) a + S1x2048.size a ≤ S8192x2048.size a)
theorem k2_off296_inb : ∀ (i : grid2.Coords) (v1052 : BitVec 32) (k2_hw148 : k2_chk148 i v1052), ∀ (k2_h1 : k2_cond1 i = 1#1), ∀ a, (k2_off296 v1052) a + S1x2048.size a ≤ S8192x2048.size a := fun i v1052 k2_hw148 k2_h1 => k2_hw148 k2_h1

def k2_off297 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c148_i32 : BitVec 32 := 148#32
  let v1057 : BitVec 32 := Scalar.addi v2 c148_i32
  let v1058 : Index := Scalar.indexCast v1057
  ![v1058.toNat]
def k2_off298 (v1059 : BitVec 32) : Fin 2 → Nat :=
  let c0_i32_611 : BitVec 32 := 0#32
  ![v1059.toNat, 0]

def k2_chk149 (i : grid2.Coords) (v1059 : BitVec 32) : Prop :=
  (∀ (k2_h1 : k2_cond1 i = 1#1), ∀ a, (k2_off298 v1059) a + S1x2048.size a ≤ S8192x2048.size a)
theorem k2_off298_inb : ∀ (i : grid2.Coords) (v1059 : BitVec 32) (k2_hw149 : k2_chk149 i v1059), ∀ (k2_h1 : k2_cond1 i = 1#1), ∀ a, (k2_off298 v1059) a + S1x2048.size a ≤ S8192x2048.size a := fun i v1059 k2_hw149 k2_h1 => k2_hw149 k2_h1

def k2_off299 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c149_i32 : BitVec 32 := 149#32
  let v1064 : BitVec 32 := Scalar.addi v2 c149_i32
  let v1065 : Index := Scalar.indexCast v1064
  ![v1065.toNat]
def k2_off300 (v1066 : BitVec 32) : Fin 2 → Nat :=
  let c0_i32_615 : BitVec 32 := 0#32
  ![v1066.toNat, 0]

def k2_chk150 (i : grid2.Coords) (v1066 : BitVec 32) : Prop :=
  (∀ (k2_h1 : k2_cond1 i = 1#1), ∀ a, (k2_off300 v1066) a + S1x2048.size a ≤ S8192x2048.size a)
theorem k2_off300_inb : ∀ (i : grid2.Coords) (v1066 : BitVec 32) (k2_hw150 : k2_chk150 i v1066), ∀ (k2_h1 : k2_cond1 i = 1#1), ∀ a, (k2_off300 v1066) a + S1x2048.size a ≤ S8192x2048.size a := fun i v1066 k2_hw150 k2_h1 => k2_hw150 k2_h1

def k2_off301 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c150_i32 : BitVec 32 := 150#32
  let v1071 : BitVec 32 := Scalar.addi v2 c150_i32
  let v1072 : Index := Scalar.indexCast v1071
  ![v1072.toNat]
def k2_off302 (v1073 : BitVec 32) : Fin 2 → Nat :=
  let c0_i32_619 : BitVec 32 := 0#32
  ![v1073.toNat, 0]

def k2_chk151 (i : grid2.Coords) (v1073 : BitVec 32) : Prop :=
  (∀ (k2_h1 : k2_cond1 i = 1#1), ∀ a, (k2_off302 v1073) a + S1x2048.size a ≤ S8192x2048.size a)
theorem k2_off302_inb : ∀ (i : grid2.Coords) (v1073 : BitVec 32) (k2_hw151 : k2_chk151 i v1073), ∀ (k2_h1 : k2_cond1 i = 1#1), ∀ a, (k2_off302 v1073) a + S1x2048.size a ≤ S8192x2048.size a := fun i v1073 k2_hw151 k2_h1 => k2_hw151 k2_h1

def k2_off303 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c151_i32 : BitVec 32 := 151#32
  let v1078 : BitVec 32 := Scalar.addi v2 c151_i32
  let v1079 : Index := Scalar.indexCast v1078
  ![v1079.toNat]
def k2_off304 (v1080 : BitVec 32) : Fin 2 → Nat :=
  let c0_i32_623 : BitVec 32 := 0#32
  ![v1080.toNat, 0]

def k2_chk152 (i : grid2.Coords) (v1080 : BitVec 32) : Prop :=
  (∀ (k2_h1 : k2_cond1 i = 1#1), ∀ a, (k2_off304 v1080) a + S1x2048.size a ≤ S8192x2048.size a)
theorem k2_off304_inb : ∀ (i : grid2.Coords) (v1080 : BitVec 32) (k2_hw152 : k2_chk152 i v1080), ∀ (k2_h1 : k2_cond1 i = 1#1), ∀ a, (k2_off304 v1080) a + S1x2048.size a ≤ S8192x2048.size a := fun i v1080 k2_hw152 k2_h1 => k2_hw152 k2_h1

def k2_off305 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c152_i32 : BitVec 32 := 152#32
  let v1085 : BitVec 32 := Scalar.addi v2 c152_i32
  let v1086 : Index := Scalar.indexCast v1085
  ![v1086.toNat]
def k2_off306 (v1087 : BitVec 32) : Fin 2 → Nat :=
  let c0_i32_627 : BitVec 32 := 0#32
  ![v1087.toNat, 0]

def k2_chk153 (i : grid2.Coords) (v1087 : BitVec 32) : Prop :=
  (∀ (k2_h1 : k2_cond1 i = 1#1), ∀ a, (k2_off306 v1087) a + S1x2048.size a ≤ S8192x2048.size a)
theorem k2_off306_inb : ∀ (i : grid2.Coords) (v1087 : BitVec 32) (k2_hw153 : k2_chk153 i v1087), ∀ (k2_h1 : k2_cond1 i = 1#1), ∀ a, (k2_off306 v1087) a + S1x2048.size a ≤ S8192x2048.size a := fun i v1087 k2_hw153 k2_h1 => k2_hw153 k2_h1

def k2_off307 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c153_i32 : BitVec 32 := 153#32
  let v1092 : BitVec 32 := Scalar.addi v2 c153_i32
  let v1093 : Index := Scalar.indexCast v1092
  ![v1093.toNat]
def k2_off308 (v1094 : BitVec 32) : Fin 2 → Nat :=
  let c0_i32_631 : BitVec 32 := 0#32
  ![v1094.toNat, 0]

def k2_chk154 (i : grid2.Coords) (v1094 : BitVec 32) : Prop :=
  (∀ (k2_h1 : k2_cond1 i = 1#1), ∀ a, (k2_off308 v1094) a + S1x2048.size a ≤ S8192x2048.size a)
theorem k2_off308_inb : ∀ (i : grid2.Coords) (v1094 : BitVec 32) (k2_hw154 : k2_chk154 i v1094), ∀ (k2_h1 : k2_cond1 i = 1#1), ∀ a, (k2_off308 v1094) a + S1x2048.size a ≤ S8192x2048.size a := fun i v1094 k2_hw154 k2_h1 => k2_hw154 k2_h1

def k2_off309 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c154_i32 : BitVec 32 := 154#32
  let v1099 : BitVec 32 := Scalar.addi v2 c154_i32
  let v1100 : Index := Scalar.indexCast v1099
  ![v1100.toNat]
def k2_off310 (v1101 : BitVec 32) : Fin 2 → Nat :=
  let c0_i32_635 : BitVec 32 := 0#32
  ![v1101.toNat, 0]

def k2_chk155 (i : grid2.Coords) (v1101 : BitVec 32) : Prop :=
  (∀ (k2_h1 : k2_cond1 i = 1#1), ∀ a, (k2_off310 v1101) a + S1x2048.size a ≤ S8192x2048.size a)
theorem k2_off310_inb : ∀ (i : grid2.Coords) (v1101 : BitVec 32) (k2_hw155 : k2_chk155 i v1101), ∀ (k2_h1 : k2_cond1 i = 1#1), ∀ a, (k2_off310 v1101) a + S1x2048.size a ≤ S8192x2048.size a := fun i v1101 k2_hw155 k2_h1 => k2_hw155 k2_h1

def k2_off311 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c155_i32 : BitVec 32 := 155#32
  let v1106 : BitVec 32 := Scalar.addi v2 c155_i32
  let v1107 : Index := Scalar.indexCast v1106
  ![v1107.toNat]
def k2_off312 (v1108 : BitVec 32) : Fin 2 → Nat :=
  let c0_i32_639 : BitVec 32 := 0#32
  ![v1108.toNat, 0]

def k2_chk156 (i : grid2.Coords) (v1108 : BitVec 32) : Prop :=
  (∀ (k2_h1 : k2_cond1 i = 1#1), ∀ a, (k2_off312 v1108) a + S1x2048.size a ≤ S8192x2048.size a)
theorem k2_off312_inb : ∀ (i : grid2.Coords) (v1108 : BitVec 32) (k2_hw156 : k2_chk156 i v1108), ∀ (k2_h1 : k2_cond1 i = 1#1), ∀ a, (k2_off312 v1108) a + S1x2048.size a ≤ S8192x2048.size a := fun i v1108 k2_hw156 k2_h1 => k2_hw156 k2_h1

def k2_off313 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c156_i32 : BitVec 32 := 156#32
  let v1113 : BitVec 32 := Scalar.addi v2 c156_i32
  let v1114 : Index := Scalar.indexCast v1113
  ![v1114.toNat]
def k2_off314 (v1115 : BitVec 32) : Fin 2 → Nat :=
  let c0_i32_643 : BitVec 32 := 0#32
  ![v1115.toNat, 0]

def k2_chk157 (i : grid2.Coords) (v1115 : BitVec 32) : Prop :=
  (∀ (k2_h1 : k2_cond1 i = 1#1), ∀ a, (k2_off314 v1115) a + S1x2048.size a ≤ S8192x2048.size a)
theorem k2_off314_inb : ∀ (i : grid2.Coords) (v1115 : BitVec 32) (k2_hw157 : k2_chk157 i v1115), ∀ (k2_h1 : k2_cond1 i = 1#1), ∀ a, (k2_off314 v1115) a + S1x2048.size a ≤ S8192x2048.size a := fun i v1115 k2_hw157 k2_h1 => k2_hw157 k2_h1

def k2_off315 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c157_i32 : BitVec 32 := 157#32
  let v1120 : BitVec 32 := Scalar.addi v2 c157_i32
  let v1121 : Index := Scalar.indexCast v1120
  ![v1121.toNat]
def k2_off316 (v1122 : BitVec 32) : Fin 2 → Nat :=
  let c0_i32_647 : BitVec 32 := 0#32
  ![v1122.toNat, 0]

def k2_chk158 (i : grid2.Coords) (v1122 : BitVec 32) : Prop :=
  (∀ (k2_h1 : k2_cond1 i = 1#1), ∀ a, (k2_off316 v1122) a + S1x2048.size a ≤ S8192x2048.size a)
theorem k2_off316_inb : ∀ (i : grid2.Coords) (v1122 : BitVec 32) (k2_hw158 : k2_chk158 i v1122), ∀ (k2_h1 : k2_cond1 i = 1#1), ∀ a, (k2_off316 v1122) a + S1x2048.size a ≤ S8192x2048.size a := fun i v1122 k2_hw158 k2_h1 => k2_hw158 k2_h1

def k2_off317 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c158_i32 : BitVec 32 := 158#32
  let v1127 : BitVec 32 := Scalar.addi v2 c158_i32
  let v1128 : Index := Scalar.indexCast v1127
  ![v1128.toNat]
def k2_off318 (v1129 : BitVec 32) : Fin 2 → Nat :=
  let c0_i32_651 : BitVec 32 := 0#32
  ![v1129.toNat, 0]

def k2_chk159 (i : grid2.Coords) (v1129 : BitVec 32) : Prop :=
  (∀ (k2_h1 : k2_cond1 i = 1#1), ∀ a, (k2_off318 v1129) a + S1x2048.size a ≤ S8192x2048.size a)
theorem k2_off318_inb : ∀ (i : grid2.Coords) (v1129 : BitVec 32) (k2_hw159 : k2_chk159 i v1129), ∀ (k2_h1 : k2_cond1 i = 1#1), ∀ a, (k2_off318 v1129) a + S1x2048.size a ≤ S8192x2048.size a := fun i v1129 k2_hw159 k2_h1 => k2_hw159 k2_h1

def k2_off319 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c159_i32 : BitVec 32 := 159#32
  let v1134 : BitVec 32 := Scalar.addi v2 c159_i32
  let v1135 : Index := Scalar.indexCast v1134
  ![v1135.toNat]
def k2_off320 (v1136 : BitVec 32) : Fin 2 → Nat :=
  let c0_i32_655 : BitVec 32 := 0#32
  ![v1136.toNat, 0]

def k2_chk160 (i : grid2.Coords) (v1136 : BitVec 32) : Prop :=
  (∀ (k2_h1 : k2_cond1 i = 1#1), ∀ a, (k2_off320 v1136) a + S1x2048.size a ≤ S8192x2048.size a)
theorem k2_off320_inb : ∀ (i : grid2.Coords) (v1136 : BitVec 32) (k2_hw160 : k2_chk160 i v1136), ∀ (k2_h1 : k2_cond1 i = 1#1), ∀ a, (k2_off320 v1136) a + S1x2048.size a ≤ S8192x2048.size a := fun i v1136 k2_hw160 k2_h1 => k2_hw160 k2_h1

def k2_off321 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c160_i32 : BitVec 32 := 160#32
  let v1141 : BitVec 32 := Scalar.addi v2 c160_i32
  let v1142 : Index := Scalar.indexCast v1141
  ![v1142.toNat]
def k2_off322 (v1143 : BitVec 32) : Fin 2 → Nat :=
  let c0_i32_659 : BitVec 32 := 0#32
  ![v1143.toNat, 0]

def k2_chk161 (i : grid2.Coords) (v1143 : BitVec 32) : Prop :=
  (∀ (k2_h1 : k2_cond1 i = 1#1), ∀ a, (k2_off322 v1143) a + S1x2048.size a ≤ S8192x2048.size a)
theorem k2_off322_inb : ∀ (i : grid2.Coords) (v1143 : BitVec 32) (k2_hw161 : k2_chk161 i v1143), ∀ (k2_h1 : k2_cond1 i = 1#1), ∀ a, (k2_off322 v1143) a + S1x2048.size a ≤ S8192x2048.size a := fun i v1143 k2_hw161 k2_h1 => k2_hw161 k2_h1

def k2_off323 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c161_i32 : BitVec 32 := 161#32
  let v1148 : BitVec 32 := Scalar.addi v2 c161_i32
  let v1149 : Index := Scalar.indexCast v1148
  ![v1149.toNat]
def k2_off324 (v1150 : BitVec 32) : Fin 2 → Nat :=
  let c0_i32_663 : BitVec 32 := 0#32
  ![v1150.toNat, 0]

def k2_chk162 (i : grid2.Coords) (v1150 : BitVec 32) : Prop :=
  (∀ (k2_h1 : k2_cond1 i = 1#1), ∀ a, (k2_off324 v1150) a + S1x2048.size a ≤ S8192x2048.size a)
theorem k2_off324_inb : ∀ (i : grid2.Coords) (v1150 : BitVec 32) (k2_hw162 : k2_chk162 i v1150), ∀ (k2_h1 : k2_cond1 i = 1#1), ∀ a, (k2_off324 v1150) a + S1x2048.size a ≤ S8192x2048.size a := fun i v1150 k2_hw162 k2_h1 => k2_hw162 k2_h1

def k2_off325 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c162_i32 : BitVec 32 := 162#32
  let v1155 : BitVec 32 := Scalar.addi v2 c162_i32
  let v1156 : Index := Scalar.indexCast v1155
  ![v1156.toNat]
def k2_off326 (v1157 : BitVec 32) : Fin 2 → Nat :=
  let c0_i32_667 : BitVec 32 := 0#32
  ![v1157.toNat, 0]

def k2_chk163 (i : grid2.Coords) (v1157 : BitVec 32) : Prop :=
  (∀ (k2_h1 : k2_cond1 i = 1#1), ∀ a, (k2_off326 v1157) a + S1x2048.size a ≤ S8192x2048.size a)
theorem k2_off326_inb : ∀ (i : grid2.Coords) (v1157 : BitVec 32) (k2_hw163 : k2_chk163 i v1157), ∀ (k2_h1 : k2_cond1 i = 1#1), ∀ a, (k2_off326 v1157) a + S1x2048.size a ≤ S8192x2048.size a := fun i v1157 k2_hw163 k2_h1 => k2_hw163 k2_h1

def k2_off327 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c163_i32 : BitVec 32 := 163#32
  let v1162 : BitVec 32 := Scalar.addi v2 c163_i32
  let v1163 : Index := Scalar.indexCast v1162
  ![v1163.toNat]
def k2_off328 (v1164 : BitVec 32) : Fin 2 → Nat :=
  let c0_i32_671 : BitVec 32 := 0#32
  ![v1164.toNat, 0]

def k2_chk164 (i : grid2.Coords) (v1164 : BitVec 32) : Prop :=
  (∀ (k2_h1 : k2_cond1 i = 1#1), ∀ a, (k2_off328 v1164) a + S1x2048.size a ≤ S8192x2048.size a)
theorem k2_off328_inb : ∀ (i : grid2.Coords) (v1164 : BitVec 32) (k2_hw164 : k2_chk164 i v1164), ∀ (k2_h1 : k2_cond1 i = 1#1), ∀ a, (k2_off328 v1164) a + S1x2048.size a ≤ S8192x2048.size a := fun i v1164 k2_hw164 k2_h1 => k2_hw164 k2_h1

def k2_off329 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c164_i32 : BitVec 32 := 164#32
  let v1169 : BitVec 32 := Scalar.addi v2 c164_i32
  let v1170 : Index := Scalar.indexCast v1169
  ![v1170.toNat]
def k2_off330 (v1171 : BitVec 32) : Fin 2 → Nat :=
  let c0_i32_675 : BitVec 32 := 0#32
  ![v1171.toNat, 0]

def k2_chk165 (i : grid2.Coords) (v1171 : BitVec 32) : Prop :=
  (∀ (k2_h1 : k2_cond1 i = 1#1), ∀ a, (k2_off330 v1171) a + S1x2048.size a ≤ S8192x2048.size a)
theorem k2_off330_inb : ∀ (i : grid2.Coords) (v1171 : BitVec 32) (k2_hw165 : k2_chk165 i v1171), ∀ (k2_h1 : k2_cond1 i = 1#1), ∀ a, (k2_off330 v1171) a + S1x2048.size a ≤ S8192x2048.size a := fun i v1171 k2_hw165 k2_h1 => k2_hw165 k2_h1

def k2_off331 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c165_i32 : BitVec 32 := 165#32
  let v1176 : BitVec 32 := Scalar.addi v2 c165_i32
  let v1177 : Index := Scalar.indexCast v1176
  ![v1177.toNat]
def k2_off332 (v1178 : BitVec 32) : Fin 2 → Nat :=
  let c0_i32_679 : BitVec 32 := 0#32
  ![v1178.toNat, 0]

def k2_chk166 (i : grid2.Coords) (v1178 : BitVec 32) : Prop :=
  (∀ (k2_h1 : k2_cond1 i = 1#1), ∀ a, (k2_off332 v1178) a + S1x2048.size a ≤ S8192x2048.size a)
theorem k2_off332_inb : ∀ (i : grid2.Coords) (v1178 : BitVec 32) (k2_hw166 : k2_chk166 i v1178), ∀ (k2_h1 : k2_cond1 i = 1#1), ∀ a, (k2_off332 v1178) a + S1x2048.size a ≤ S8192x2048.size a := fun i v1178 k2_hw166 k2_h1 => k2_hw166 k2_h1

def k2_off333 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c166_i32 : BitVec 32 := 166#32
  let v1183 : BitVec 32 := Scalar.addi v2 c166_i32
  let v1184 : Index := Scalar.indexCast v1183
  ![v1184.toNat]
def k2_off334 (v1185 : BitVec 32) : Fin 2 → Nat :=
  let c0_i32_683 : BitVec 32 := 0#32
  ![v1185.toNat, 0]

def k2_chk167 (i : grid2.Coords) (v1185 : BitVec 32) : Prop :=
  (∀ (k2_h1 : k2_cond1 i = 1#1), ∀ a, (k2_off334 v1185) a + S1x2048.size a ≤ S8192x2048.size a)
theorem k2_off334_inb : ∀ (i : grid2.Coords) (v1185 : BitVec 32) (k2_hw167 : k2_chk167 i v1185), ∀ (k2_h1 : k2_cond1 i = 1#1), ∀ a, (k2_off334 v1185) a + S1x2048.size a ≤ S8192x2048.size a := fun i v1185 k2_hw167 k2_h1 => k2_hw167 k2_h1

def k2_off335 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c167_i32 : BitVec 32 := 167#32
  let v1190 : BitVec 32 := Scalar.addi v2 c167_i32
  let v1191 : Index := Scalar.indexCast v1190
  ![v1191.toNat]
def k2_off336 (v1192 : BitVec 32) : Fin 2 → Nat :=
  let c0_i32_687 : BitVec 32 := 0#32
  ![v1192.toNat, 0]

def k2_chk168 (i : grid2.Coords) (v1192 : BitVec 32) : Prop :=
  (∀ (k2_h1 : k2_cond1 i = 1#1), ∀ a, (k2_off336 v1192) a + S1x2048.size a ≤ S8192x2048.size a)
theorem k2_off336_inb : ∀ (i : grid2.Coords) (v1192 : BitVec 32) (k2_hw168 : k2_chk168 i v1192), ∀ (k2_h1 : k2_cond1 i = 1#1), ∀ a, (k2_off336 v1192) a + S1x2048.size a ≤ S8192x2048.size a := fun i v1192 k2_hw168 k2_h1 => k2_hw168 k2_h1

def k2_off337 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c168_i32 : BitVec 32 := 168#32
  let v1197 : BitVec 32 := Scalar.addi v2 c168_i32
  let v1198 : Index := Scalar.indexCast v1197
  ![v1198.toNat]
def k2_off338 (v1199 : BitVec 32) : Fin 2 → Nat :=
  let c0_i32_691 : BitVec 32 := 0#32
  ![v1199.toNat, 0]

def k2_chk169 (i : grid2.Coords) (v1199 : BitVec 32) : Prop :=
  (∀ (k2_h1 : k2_cond1 i = 1#1), ∀ a, (k2_off338 v1199) a + S1x2048.size a ≤ S8192x2048.size a)
theorem k2_off338_inb : ∀ (i : grid2.Coords) (v1199 : BitVec 32) (k2_hw169 : k2_chk169 i v1199), ∀ (k2_h1 : k2_cond1 i = 1#1), ∀ a, (k2_off338 v1199) a + S1x2048.size a ≤ S8192x2048.size a := fun i v1199 k2_hw169 k2_h1 => k2_hw169 k2_h1

def k2_off339 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c169_i32 : BitVec 32 := 169#32
  let v1204 : BitVec 32 := Scalar.addi v2 c169_i32
  let v1205 : Index := Scalar.indexCast v1204
  ![v1205.toNat]
def k2_off340 (v1206 : BitVec 32) : Fin 2 → Nat :=
  let c0_i32_695 : BitVec 32 := 0#32
  ![v1206.toNat, 0]

def k2_chk170 (i : grid2.Coords) (v1206 : BitVec 32) : Prop :=
  (∀ (k2_h1 : k2_cond1 i = 1#1), ∀ a, (k2_off340 v1206) a + S1x2048.size a ≤ S8192x2048.size a)
theorem k2_off340_inb : ∀ (i : grid2.Coords) (v1206 : BitVec 32) (k2_hw170 : k2_chk170 i v1206), ∀ (k2_h1 : k2_cond1 i = 1#1), ∀ a, (k2_off340 v1206) a + S1x2048.size a ≤ S8192x2048.size a := fun i v1206 k2_hw170 k2_h1 => k2_hw170 k2_h1

def k2_off341 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c170_i32 : BitVec 32 := 170#32
  let v1211 : BitVec 32 := Scalar.addi v2 c170_i32
  let v1212 : Index := Scalar.indexCast v1211
  ![v1212.toNat]
def k2_off342 (v1213 : BitVec 32) : Fin 2 → Nat :=
  let c0_i32_699 : BitVec 32 := 0#32
  ![v1213.toNat, 0]

def k2_chk171 (i : grid2.Coords) (v1213 : BitVec 32) : Prop :=
  (∀ (k2_h1 : k2_cond1 i = 1#1), ∀ a, (k2_off342 v1213) a + S1x2048.size a ≤ S8192x2048.size a)
theorem k2_off342_inb : ∀ (i : grid2.Coords) (v1213 : BitVec 32) (k2_hw171 : k2_chk171 i v1213), ∀ (k2_h1 : k2_cond1 i = 1#1), ∀ a, (k2_off342 v1213) a + S1x2048.size a ≤ S8192x2048.size a := fun i v1213 k2_hw171 k2_h1 => k2_hw171 k2_h1

def k2_off343 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c171_i32 : BitVec 32 := 171#32
  let v1218 : BitVec 32 := Scalar.addi v2 c171_i32
  let v1219 : Index := Scalar.indexCast v1218
  ![v1219.toNat]
def k2_off344 (v1220 : BitVec 32) : Fin 2 → Nat :=
  let c0_i32_703 : BitVec 32 := 0#32
  ![v1220.toNat, 0]

def k2_chk172 (i : grid2.Coords) (v1220 : BitVec 32) : Prop :=
  (∀ (k2_h1 : k2_cond1 i = 1#1), ∀ a, (k2_off344 v1220) a + S1x2048.size a ≤ S8192x2048.size a)
theorem k2_off344_inb : ∀ (i : grid2.Coords) (v1220 : BitVec 32) (k2_hw172 : k2_chk172 i v1220), ∀ (k2_h1 : k2_cond1 i = 1#1), ∀ a, (k2_off344 v1220) a + S1x2048.size a ≤ S8192x2048.size a := fun i v1220 k2_hw172 k2_h1 => k2_hw172 k2_h1

def k2_off345 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c172_i32 : BitVec 32 := 172#32
  let v1225 : BitVec 32 := Scalar.addi v2 c172_i32
  let v1226 : Index := Scalar.indexCast v1225
  ![v1226.toNat]
def k2_off346 (v1227 : BitVec 32) : Fin 2 → Nat :=
  let c0_i32_707 : BitVec 32 := 0#32
  ![v1227.toNat, 0]

def k2_chk173 (i : grid2.Coords) (v1227 : BitVec 32) : Prop :=
  (∀ (k2_h1 : k2_cond1 i = 1#1), ∀ a, (k2_off346 v1227) a + S1x2048.size a ≤ S8192x2048.size a)
theorem k2_off346_inb : ∀ (i : grid2.Coords) (v1227 : BitVec 32) (k2_hw173 : k2_chk173 i v1227), ∀ (k2_h1 : k2_cond1 i = 1#1), ∀ a, (k2_off346 v1227) a + S1x2048.size a ≤ S8192x2048.size a := fun i v1227 k2_hw173 k2_h1 => k2_hw173 k2_h1

def k2_off347 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c173_i32 : BitVec 32 := 173#32
  let v1232 : BitVec 32 := Scalar.addi v2 c173_i32
  let v1233 : Index := Scalar.indexCast v1232
  ![v1233.toNat]
def k2_off348 (v1234 : BitVec 32) : Fin 2 → Nat :=
  let c0_i32_711 : BitVec 32 := 0#32
  ![v1234.toNat, 0]

def k2_chk174 (i : grid2.Coords) (v1234 : BitVec 32) : Prop :=
  (∀ (k2_h1 : k2_cond1 i = 1#1), ∀ a, (k2_off348 v1234) a + S1x2048.size a ≤ S8192x2048.size a)
theorem k2_off348_inb : ∀ (i : grid2.Coords) (v1234 : BitVec 32) (k2_hw174 : k2_chk174 i v1234), ∀ (k2_h1 : k2_cond1 i = 1#1), ∀ a, (k2_off348 v1234) a + S1x2048.size a ≤ S8192x2048.size a := fun i v1234 k2_hw174 k2_h1 => k2_hw174 k2_h1

def k2_off349 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c174_i32 : BitVec 32 := 174#32
  let v1239 : BitVec 32 := Scalar.addi v2 c174_i32
  let v1240 : Index := Scalar.indexCast v1239
  ![v1240.toNat]
def k2_off350 (v1241 : BitVec 32) : Fin 2 → Nat :=
  let c0_i32_715 : BitVec 32 := 0#32
  ![v1241.toNat, 0]

def k2_chk175 (i : grid2.Coords) (v1241 : BitVec 32) : Prop :=
  (∀ (k2_h1 : k2_cond1 i = 1#1), ∀ a, (k2_off350 v1241) a + S1x2048.size a ≤ S8192x2048.size a)
theorem k2_off350_inb : ∀ (i : grid2.Coords) (v1241 : BitVec 32) (k2_hw175 : k2_chk175 i v1241), ∀ (k2_h1 : k2_cond1 i = 1#1), ∀ a, (k2_off350 v1241) a + S1x2048.size a ≤ S8192x2048.size a := fun i v1241 k2_hw175 k2_h1 => k2_hw175 k2_h1

def k2_off351 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c175_i32 : BitVec 32 := 175#32
  let v1246 : BitVec 32 := Scalar.addi v2 c175_i32
  let v1247 : Index := Scalar.indexCast v1246
  ![v1247.toNat]
def k2_off352 (v1248 : BitVec 32) : Fin 2 → Nat :=
  let c0_i32_719 : BitVec 32 := 0#32
  ![v1248.toNat, 0]

def k2_chk176 (i : grid2.Coords) (v1248 : BitVec 32) : Prop :=
  (∀ (k2_h1 : k2_cond1 i = 1#1), ∀ a, (k2_off352 v1248) a + S1x2048.size a ≤ S8192x2048.size a)
theorem k2_off352_inb : ∀ (i : grid2.Coords) (v1248 : BitVec 32) (k2_hw176 : k2_chk176 i v1248), ∀ (k2_h1 : k2_cond1 i = 1#1), ∀ a, (k2_off352 v1248) a + S1x2048.size a ≤ S8192x2048.size a := fun i v1248 k2_hw176 k2_h1 => k2_hw176 k2_h1

def k2_off353 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c176_i32 : BitVec 32 := 176#32
  let v1253 : BitVec 32 := Scalar.addi v2 c176_i32
  let v1254 : Index := Scalar.indexCast v1253
  ![v1254.toNat]
def k2_off354 (v1255 : BitVec 32) : Fin 2 → Nat :=
  let c0_i32_723 : BitVec 32 := 0#32
  ![v1255.toNat, 0]

def k2_chk177 (i : grid2.Coords) (v1255 : BitVec 32) : Prop :=
  (∀ (k2_h1 : k2_cond1 i = 1#1), ∀ a, (k2_off354 v1255) a + S1x2048.size a ≤ S8192x2048.size a)
theorem k2_off354_inb : ∀ (i : grid2.Coords) (v1255 : BitVec 32) (k2_hw177 : k2_chk177 i v1255), ∀ (k2_h1 : k2_cond1 i = 1#1), ∀ a, (k2_off354 v1255) a + S1x2048.size a ≤ S8192x2048.size a := fun i v1255 k2_hw177 k2_h1 => k2_hw177 k2_h1

def k2_off355 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c177_i32 : BitVec 32 := 177#32
  let v1260 : BitVec 32 := Scalar.addi v2 c177_i32
  let v1261 : Index := Scalar.indexCast v1260
  ![v1261.toNat]
def k2_off356 (v1262 : BitVec 32) : Fin 2 → Nat :=
  let c0_i32_727 : BitVec 32 := 0#32
  ![v1262.toNat, 0]

def k2_chk178 (i : grid2.Coords) (v1262 : BitVec 32) : Prop :=
  (∀ (k2_h1 : k2_cond1 i = 1#1), ∀ a, (k2_off356 v1262) a + S1x2048.size a ≤ S8192x2048.size a)
theorem k2_off356_inb : ∀ (i : grid2.Coords) (v1262 : BitVec 32) (k2_hw178 : k2_chk178 i v1262), ∀ (k2_h1 : k2_cond1 i = 1#1), ∀ a, (k2_off356 v1262) a + S1x2048.size a ≤ S8192x2048.size a := fun i v1262 k2_hw178 k2_h1 => k2_hw178 k2_h1

def k2_off357 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c178_i32 : BitVec 32 := 178#32
  let v1267 : BitVec 32 := Scalar.addi v2 c178_i32
  let v1268 : Index := Scalar.indexCast v1267
  ![v1268.toNat]
def k2_off358 (v1269 : BitVec 32) : Fin 2 → Nat :=
  let c0_i32_731 : BitVec 32 := 0#32
  ![v1269.toNat, 0]

def k2_chk179 (i : grid2.Coords) (v1269 : BitVec 32) : Prop :=
  (∀ (k2_h1 : k2_cond1 i = 1#1), ∀ a, (k2_off358 v1269) a + S1x2048.size a ≤ S8192x2048.size a)
theorem k2_off358_inb : ∀ (i : grid2.Coords) (v1269 : BitVec 32) (k2_hw179 : k2_chk179 i v1269), ∀ (k2_h1 : k2_cond1 i = 1#1), ∀ a, (k2_off358 v1269) a + S1x2048.size a ≤ S8192x2048.size a := fun i v1269 k2_hw179 k2_h1 => k2_hw179 k2_h1

def k2_off359 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c179_i32 : BitVec 32 := 179#32
  let v1274 : BitVec 32 := Scalar.addi v2 c179_i32
  let v1275 : Index := Scalar.indexCast v1274
  ![v1275.toNat]
def k2_off360 (v1276 : BitVec 32) : Fin 2 → Nat :=
  let c0_i32_735 : BitVec 32 := 0#32
  ![v1276.toNat, 0]

def k2_chk180 (i : grid2.Coords) (v1276 : BitVec 32) : Prop :=
  (∀ (k2_h1 : k2_cond1 i = 1#1), ∀ a, (k2_off360 v1276) a + S1x2048.size a ≤ S8192x2048.size a)
theorem k2_off360_inb : ∀ (i : grid2.Coords) (v1276 : BitVec 32) (k2_hw180 : k2_chk180 i v1276), ∀ (k2_h1 : k2_cond1 i = 1#1), ∀ a, (k2_off360 v1276) a + S1x2048.size a ≤ S8192x2048.size a := fun i v1276 k2_hw180 k2_h1 => k2_hw180 k2_h1

def k2_off361 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c180_i32 : BitVec 32 := 180#32
  let v1281 : BitVec 32 := Scalar.addi v2 c180_i32
  let v1282 : Index := Scalar.indexCast v1281
  ![v1282.toNat]
def k2_off362 (v1283 : BitVec 32) : Fin 2 → Nat :=
  let c0_i32_739 : BitVec 32 := 0#32
  ![v1283.toNat, 0]

def k2_chk181 (i : grid2.Coords) (v1283 : BitVec 32) : Prop :=
  (∀ (k2_h1 : k2_cond1 i = 1#1), ∀ a, (k2_off362 v1283) a + S1x2048.size a ≤ S8192x2048.size a)
theorem k2_off362_inb : ∀ (i : grid2.Coords) (v1283 : BitVec 32) (k2_hw181 : k2_chk181 i v1283), ∀ (k2_h1 : k2_cond1 i = 1#1), ∀ a, (k2_off362 v1283) a + S1x2048.size a ≤ S8192x2048.size a := fun i v1283 k2_hw181 k2_h1 => k2_hw181 k2_h1

def k2_off363 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c181_i32 : BitVec 32 := 181#32
  let v1288 : BitVec 32 := Scalar.addi v2 c181_i32
  let v1289 : Index := Scalar.indexCast v1288
  ![v1289.toNat]
def k2_off364 (v1290 : BitVec 32) : Fin 2 → Nat :=
  let c0_i32_743 : BitVec 32 := 0#32
  ![v1290.toNat, 0]

def k2_chk182 (i : grid2.Coords) (v1290 : BitVec 32) : Prop :=
  (∀ (k2_h1 : k2_cond1 i = 1#1), ∀ a, (k2_off364 v1290) a + S1x2048.size a ≤ S8192x2048.size a)
theorem k2_off364_inb : ∀ (i : grid2.Coords) (v1290 : BitVec 32) (k2_hw182 : k2_chk182 i v1290), ∀ (k2_h1 : k2_cond1 i = 1#1), ∀ a, (k2_off364 v1290) a + S1x2048.size a ≤ S8192x2048.size a := fun i v1290 k2_hw182 k2_h1 => k2_hw182 k2_h1

def k2_off365 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c182_i32 : BitVec 32 := 182#32
  let v1295 : BitVec 32 := Scalar.addi v2 c182_i32
  let v1296 : Index := Scalar.indexCast v1295
  ![v1296.toNat]
def k2_off366 (v1297 : BitVec 32) : Fin 2 → Nat :=
  let c0_i32_747 : BitVec 32 := 0#32
  ![v1297.toNat, 0]

def k2_chk183 (i : grid2.Coords) (v1297 : BitVec 32) : Prop :=
  (∀ (k2_h1 : k2_cond1 i = 1#1), ∀ a, (k2_off366 v1297) a + S1x2048.size a ≤ S8192x2048.size a)
theorem k2_off366_inb : ∀ (i : grid2.Coords) (v1297 : BitVec 32) (k2_hw183 : k2_chk183 i v1297), ∀ (k2_h1 : k2_cond1 i = 1#1), ∀ a, (k2_off366 v1297) a + S1x2048.size a ≤ S8192x2048.size a := fun i v1297 k2_hw183 k2_h1 => k2_hw183 k2_h1

def k2_off367 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c183_i32 : BitVec 32 := 183#32
  let v1302 : BitVec 32 := Scalar.addi v2 c183_i32
  let v1303 : Index := Scalar.indexCast v1302
  ![v1303.toNat]
def k2_off368 (v1304 : BitVec 32) : Fin 2 → Nat :=
  let c0_i32_751 : BitVec 32 := 0#32
  ![v1304.toNat, 0]

def k2_chk184 (i : grid2.Coords) (v1304 : BitVec 32) : Prop :=
  (∀ (k2_h1 : k2_cond1 i = 1#1), ∀ a, (k2_off368 v1304) a + S1x2048.size a ≤ S8192x2048.size a)
theorem k2_off368_inb : ∀ (i : grid2.Coords) (v1304 : BitVec 32) (k2_hw184 : k2_chk184 i v1304), ∀ (k2_h1 : k2_cond1 i = 1#1), ∀ a, (k2_off368 v1304) a + S1x2048.size a ≤ S8192x2048.size a := fun i v1304 k2_hw184 k2_h1 => k2_hw184 k2_h1

def k2_off369 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c184_i32 : BitVec 32 := 184#32
  let v1309 : BitVec 32 := Scalar.addi v2 c184_i32
  let v1310 : Index := Scalar.indexCast v1309
  ![v1310.toNat]
def k2_off370 (v1311 : BitVec 32) : Fin 2 → Nat :=
  let c0_i32_755 : BitVec 32 := 0#32
  ![v1311.toNat, 0]

def k2_chk185 (i : grid2.Coords) (v1311 : BitVec 32) : Prop :=
  (∀ (k2_h1 : k2_cond1 i = 1#1), ∀ a, (k2_off370 v1311) a + S1x2048.size a ≤ S8192x2048.size a)
theorem k2_off370_inb : ∀ (i : grid2.Coords) (v1311 : BitVec 32) (k2_hw185 : k2_chk185 i v1311), ∀ (k2_h1 : k2_cond1 i = 1#1), ∀ a, (k2_off370 v1311) a + S1x2048.size a ≤ S8192x2048.size a := fun i v1311 k2_hw185 k2_h1 => k2_hw185 k2_h1

def k2_off371 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c185_i32 : BitVec 32 := 185#32
  let v1316 : BitVec 32 := Scalar.addi v2 c185_i32
  let v1317 : Index := Scalar.indexCast v1316
  ![v1317.toNat]
def k2_off372 (v1318 : BitVec 32) : Fin 2 → Nat :=
  let c0_i32_759 : BitVec 32 := 0#32
  ![v1318.toNat, 0]

def k2_chk186 (i : grid2.Coords) (v1318 : BitVec 32) : Prop :=
  (∀ (k2_h1 : k2_cond1 i = 1#1), ∀ a, (k2_off372 v1318) a + S1x2048.size a ≤ S8192x2048.size a)
theorem k2_off372_inb : ∀ (i : grid2.Coords) (v1318 : BitVec 32) (k2_hw186 : k2_chk186 i v1318), ∀ (k2_h1 : k2_cond1 i = 1#1), ∀ a, (k2_off372 v1318) a + S1x2048.size a ≤ S8192x2048.size a := fun i v1318 k2_hw186 k2_h1 => k2_hw186 k2_h1

def k2_off373 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c186_i32 : BitVec 32 := 186#32
  let v1323 : BitVec 32 := Scalar.addi v2 c186_i32
  let v1324 : Index := Scalar.indexCast v1323
  ![v1324.toNat]
def k2_off374 (v1325 : BitVec 32) : Fin 2 → Nat :=
  let c0_i32_763 : BitVec 32 := 0#32
  ![v1325.toNat, 0]

def k2_chk187 (i : grid2.Coords) (v1325 : BitVec 32) : Prop :=
  (∀ (k2_h1 : k2_cond1 i = 1#1), ∀ a, (k2_off374 v1325) a + S1x2048.size a ≤ S8192x2048.size a)
theorem k2_off374_inb : ∀ (i : grid2.Coords) (v1325 : BitVec 32) (k2_hw187 : k2_chk187 i v1325), ∀ (k2_h1 : k2_cond1 i = 1#1), ∀ a, (k2_off374 v1325) a + S1x2048.size a ≤ S8192x2048.size a := fun i v1325 k2_hw187 k2_h1 => k2_hw187 k2_h1

def k2_off375 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c187_i32 : BitVec 32 := 187#32
  let v1330 : BitVec 32 := Scalar.addi v2 c187_i32
  let v1331 : Index := Scalar.indexCast v1330
  ![v1331.toNat]
def k2_off376 (v1332 : BitVec 32) : Fin 2 → Nat :=
  let c0_i32_767 : BitVec 32 := 0#32
  ![v1332.toNat, 0]

def k2_chk188 (i : grid2.Coords) (v1332 : BitVec 32) : Prop :=
  (∀ (k2_h1 : k2_cond1 i = 1#1), ∀ a, (k2_off376 v1332) a + S1x2048.size a ≤ S8192x2048.size a)
theorem k2_off376_inb : ∀ (i : grid2.Coords) (v1332 : BitVec 32) (k2_hw188 : k2_chk188 i v1332), ∀ (k2_h1 : k2_cond1 i = 1#1), ∀ a, (k2_off376 v1332) a + S1x2048.size a ≤ S8192x2048.size a := fun i v1332 k2_hw188 k2_h1 => k2_hw188 k2_h1

def k2_off377 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c188_i32 : BitVec 32 := 188#32
  let v1337 : BitVec 32 := Scalar.addi v2 c188_i32
  let v1338 : Index := Scalar.indexCast v1337
  ![v1338.toNat]
def k2_off378 (v1339 : BitVec 32) : Fin 2 → Nat :=
  let c0_i32_771 : BitVec 32 := 0#32
  ![v1339.toNat, 0]

def k2_chk189 (i : grid2.Coords) (v1339 : BitVec 32) : Prop :=
  (∀ (k2_h1 : k2_cond1 i = 1#1), ∀ a, (k2_off378 v1339) a + S1x2048.size a ≤ S8192x2048.size a)
theorem k2_off378_inb : ∀ (i : grid2.Coords) (v1339 : BitVec 32) (k2_hw189 : k2_chk189 i v1339), ∀ (k2_h1 : k2_cond1 i = 1#1), ∀ a, (k2_off378 v1339) a + S1x2048.size a ≤ S8192x2048.size a := fun i v1339 k2_hw189 k2_h1 => k2_hw189 k2_h1

def k2_off379 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c189_i32 : BitVec 32 := 189#32
  let v1344 : BitVec 32 := Scalar.addi v2 c189_i32
  let v1345 : Index := Scalar.indexCast v1344
  ![v1345.toNat]
def k2_off380 (v1346 : BitVec 32) : Fin 2 → Nat :=
  let c0_i32_775 : BitVec 32 := 0#32
  ![v1346.toNat, 0]

def k2_chk190 (i : grid2.Coords) (v1346 : BitVec 32) : Prop :=
  (∀ (k2_h1 : k2_cond1 i = 1#1), ∀ a, (k2_off380 v1346) a + S1x2048.size a ≤ S8192x2048.size a)
theorem k2_off380_inb : ∀ (i : grid2.Coords) (v1346 : BitVec 32) (k2_hw190 : k2_chk190 i v1346), ∀ (k2_h1 : k2_cond1 i = 1#1), ∀ a, (k2_off380 v1346) a + S1x2048.size a ≤ S8192x2048.size a := fun i v1346 k2_hw190 k2_h1 => k2_hw190 k2_h1

def k2_off381 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c190_i32 : BitVec 32 := 190#32
  let v1351 : BitVec 32 := Scalar.addi v2 c190_i32
  let v1352 : Index := Scalar.indexCast v1351
  ![v1352.toNat]
def k2_off382 (v1353 : BitVec 32) : Fin 2 → Nat :=
  let c0_i32_779 : BitVec 32 := 0#32
  ![v1353.toNat, 0]

def k2_chk191 (i : grid2.Coords) (v1353 : BitVec 32) : Prop :=
  (∀ (k2_h1 : k2_cond1 i = 1#1), ∀ a, (k2_off382 v1353) a + S1x2048.size a ≤ S8192x2048.size a)
theorem k2_off382_inb : ∀ (i : grid2.Coords) (v1353 : BitVec 32) (k2_hw191 : k2_chk191 i v1353), ∀ (k2_h1 : k2_cond1 i = 1#1), ∀ a, (k2_off382 v1353) a + S1x2048.size a ≤ S8192x2048.size a := fun i v1353 k2_hw191 k2_h1 => k2_hw191 k2_h1

def k2_off383 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c191_i32 : BitVec 32 := 191#32
  let v1358 : BitVec 32 := Scalar.addi v2 c191_i32
  let v1359 : Index := Scalar.indexCast v1358
  ![v1359.toNat]
def k2_off384 (v1360 : BitVec 32) : Fin 2 → Nat :=
  let c0_i32_783 : BitVec 32 := 0#32
  ![v1360.toNat, 0]

def k2_chk192 (i : grid2.Coords) (v1360 : BitVec 32) : Prop :=
  (∀ (k2_h1 : k2_cond1 i = 1#1), ∀ a, (k2_off384 v1360) a + S1x2048.size a ≤ S8192x2048.size a)
theorem k2_off384_inb : ∀ (i : grid2.Coords) (v1360 : BitVec 32) (k2_hw192 : k2_chk192 i v1360), ∀ (k2_h1 : k2_cond1 i = 1#1), ∀ a, (k2_off384 v1360) a + S1x2048.size a ≤ S8192x2048.size a := fun i v1360 k2_hw192 k2_h1 => k2_hw192 k2_h1

def k2_off385 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c192_i32 : BitVec 32 := 192#32
  let v1365 : BitVec 32 := Scalar.addi v2 c192_i32
  let v1366 : Index := Scalar.indexCast v1365
  ![v1366.toNat]
def k2_off386 (v1367 : BitVec 32) : Fin 2 → Nat :=
  let c0_i32_787 : BitVec 32 := 0#32
  ![v1367.toNat, 0]

def k2_chk193 (i : grid2.Coords) (v1367 : BitVec 32) : Prop :=
  (∀ (k2_h1 : k2_cond1 i = 1#1), ∀ a, (k2_off386 v1367) a + S1x2048.size a ≤ S8192x2048.size a)
theorem k2_off386_inb : ∀ (i : grid2.Coords) (v1367 : BitVec 32) (k2_hw193 : k2_chk193 i v1367), ∀ (k2_h1 : k2_cond1 i = 1#1), ∀ a, (k2_off386 v1367) a + S1x2048.size a ≤ S8192x2048.size a := fun i v1367 k2_hw193 k2_h1 => k2_hw193 k2_h1

def k2_off387 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c193_i32 : BitVec 32 := 193#32
  let v1372 : BitVec 32 := Scalar.addi v2 c193_i32
  let v1373 : Index := Scalar.indexCast v1372
  ![v1373.toNat]
def k2_off388 (v1374 : BitVec 32) : Fin 2 → Nat :=
  let c0_i32_791 : BitVec 32 := 0#32
  ![v1374.toNat, 0]

def k2_chk194 (i : grid2.Coords) (v1374 : BitVec 32) : Prop :=
  (∀ (k2_h1 : k2_cond1 i = 1#1), ∀ a, (k2_off388 v1374) a + S1x2048.size a ≤ S8192x2048.size a)
theorem k2_off388_inb : ∀ (i : grid2.Coords) (v1374 : BitVec 32) (k2_hw194 : k2_chk194 i v1374), ∀ (k2_h1 : k2_cond1 i = 1#1), ∀ a, (k2_off388 v1374) a + S1x2048.size a ≤ S8192x2048.size a := fun i v1374 k2_hw194 k2_h1 => k2_hw194 k2_h1

def k2_off389 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c194_i32 : BitVec 32 := 194#32
  let v1379 : BitVec 32 := Scalar.addi v2 c194_i32
  let v1380 : Index := Scalar.indexCast v1379
  ![v1380.toNat]
def k2_off390 (v1381 : BitVec 32) : Fin 2 → Nat :=
  let c0_i32_795 : BitVec 32 := 0#32
  ![v1381.toNat, 0]

def k2_chk195 (i : grid2.Coords) (v1381 : BitVec 32) : Prop :=
  (∀ (k2_h1 : k2_cond1 i = 1#1), ∀ a, (k2_off390 v1381) a + S1x2048.size a ≤ S8192x2048.size a)
theorem k2_off390_inb : ∀ (i : grid2.Coords) (v1381 : BitVec 32) (k2_hw195 : k2_chk195 i v1381), ∀ (k2_h1 : k2_cond1 i = 1#1), ∀ a, (k2_off390 v1381) a + S1x2048.size a ≤ S8192x2048.size a := fun i v1381 k2_hw195 k2_h1 => k2_hw195 k2_h1

def k2_off391 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c195_i32 : BitVec 32 := 195#32
  let v1386 : BitVec 32 := Scalar.addi v2 c195_i32
  let v1387 : Index := Scalar.indexCast v1386
  ![v1387.toNat]
def k2_off392 (v1388 : BitVec 32) : Fin 2 → Nat :=
  let c0_i32_799 : BitVec 32 := 0#32
  ![v1388.toNat, 0]

def k2_chk196 (i : grid2.Coords) (v1388 : BitVec 32) : Prop :=
  (∀ (k2_h1 : k2_cond1 i = 1#1), ∀ a, (k2_off392 v1388) a + S1x2048.size a ≤ S8192x2048.size a)
theorem k2_off392_inb : ∀ (i : grid2.Coords) (v1388 : BitVec 32) (k2_hw196 : k2_chk196 i v1388), ∀ (k2_h1 : k2_cond1 i = 1#1), ∀ a, (k2_off392 v1388) a + S1x2048.size a ≤ S8192x2048.size a := fun i v1388 k2_hw196 k2_h1 => k2_hw196 k2_h1

def k2_off393 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c196_i32 : BitVec 32 := 196#32
  let v1393 : BitVec 32 := Scalar.addi v2 c196_i32
  let v1394 : Index := Scalar.indexCast v1393
  ![v1394.toNat]
def k2_off394 (v1395 : BitVec 32) : Fin 2 → Nat :=
  let c0_i32_803 : BitVec 32 := 0#32
  ![v1395.toNat, 0]

def k2_chk197 (i : grid2.Coords) (v1395 : BitVec 32) : Prop :=
  (∀ (k2_h1 : k2_cond1 i = 1#1), ∀ a, (k2_off394 v1395) a + S1x2048.size a ≤ S8192x2048.size a)
theorem k2_off394_inb : ∀ (i : grid2.Coords) (v1395 : BitVec 32) (k2_hw197 : k2_chk197 i v1395), ∀ (k2_h1 : k2_cond1 i = 1#1), ∀ a, (k2_off394 v1395) a + S1x2048.size a ≤ S8192x2048.size a := fun i v1395 k2_hw197 k2_h1 => k2_hw197 k2_h1

def k2_off395 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c197_i32 : BitVec 32 := 197#32
  let v1400 : BitVec 32 := Scalar.addi v2 c197_i32
  let v1401 : Index := Scalar.indexCast v1400
  ![v1401.toNat]
def k2_off396 (v1402 : BitVec 32) : Fin 2 → Nat :=
  let c0_i32_807 : BitVec 32 := 0#32
  ![v1402.toNat, 0]

def k2_chk198 (i : grid2.Coords) (v1402 : BitVec 32) : Prop :=
  (∀ (k2_h1 : k2_cond1 i = 1#1), ∀ a, (k2_off396 v1402) a + S1x2048.size a ≤ S8192x2048.size a)
theorem k2_off396_inb : ∀ (i : grid2.Coords) (v1402 : BitVec 32) (k2_hw198 : k2_chk198 i v1402), ∀ (k2_h1 : k2_cond1 i = 1#1), ∀ a, (k2_off396 v1402) a + S1x2048.size a ≤ S8192x2048.size a := fun i v1402 k2_hw198 k2_h1 => k2_hw198 k2_h1

def k2_off397 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c198_i32 : BitVec 32 := 198#32
  let v1407 : BitVec 32 := Scalar.addi v2 c198_i32
  let v1408 : Index := Scalar.indexCast v1407
  ![v1408.toNat]
def k2_off398 (v1409 : BitVec 32) : Fin 2 → Nat :=
  let c0_i32_811 : BitVec 32 := 0#32
  ![v1409.toNat, 0]

def k2_chk199 (i : grid2.Coords) (v1409 : BitVec 32) : Prop :=
  (∀ (k2_h1 : k2_cond1 i = 1#1), ∀ a, (k2_off398 v1409) a + S1x2048.size a ≤ S8192x2048.size a)
theorem k2_off398_inb : ∀ (i : grid2.Coords) (v1409 : BitVec 32) (k2_hw199 : k2_chk199 i v1409), ∀ (k2_h1 : k2_cond1 i = 1#1), ∀ a, (k2_off398 v1409) a + S1x2048.size a ≤ S8192x2048.size a := fun i v1409 k2_hw199 k2_h1 => k2_hw199 k2_h1

def k2_off399 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c199_i32 : BitVec 32 := 199#32
  let v1414 : BitVec 32 := Scalar.addi v2 c199_i32
  let v1415 : Index := Scalar.indexCast v1414
  ![v1415.toNat]
def k2_off400 (v1416 : BitVec 32) : Fin 2 → Nat :=
  let c0_i32_815 : BitVec 32 := 0#32
  ![v1416.toNat, 0]

def k2_chk200 (i : grid2.Coords) (v1416 : BitVec 32) : Prop :=
  (∀ (k2_h1 : k2_cond1 i = 1#1), ∀ a, (k2_off400 v1416) a + S1x2048.size a ≤ S8192x2048.size a)
theorem k2_off400_inb : ∀ (i : grid2.Coords) (v1416 : BitVec 32) (k2_hw200 : k2_chk200 i v1416), ∀ (k2_h1 : k2_cond1 i = 1#1), ∀ a, (k2_off400 v1416) a + S1x2048.size a ≤ S8192x2048.size a := fun i v1416 k2_hw200 k2_h1 => k2_hw200 k2_h1

def k2_off401 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c200_i32 : BitVec 32 := 200#32
  let v1421 : BitVec 32 := Scalar.addi v2 c200_i32
  let v1422 : Index := Scalar.indexCast v1421
  ![v1422.toNat]
def k2_off402 (v1423 : BitVec 32) : Fin 2 → Nat :=
  let c0_i32_819 : BitVec 32 := 0#32
  ![v1423.toNat, 0]

def k2_chk201 (i : grid2.Coords) (v1423 : BitVec 32) : Prop :=
  (∀ (k2_h1 : k2_cond1 i = 1#1), ∀ a, (k2_off402 v1423) a + S1x2048.size a ≤ S8192x2048.size a)
theorem k2_off402_inb : ∀ (i : grid2.Coords) (v1423 : BitVec 32) (k2_hw201 : k2_chk201 i v1423), ∀ (k2_h1 : k2_cond1 i = 1#1), ∀ a, (k2_off402 v1423) a + S1x2048.size a ≤ S8192x2048.size a := fun i v1423 k2_hw201 k2_h1 => k2_hw201 k2_h1

def k2_off403 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c201_i32 : BitVec 32 := 201#32
  let v1428 : BitVec 32 := Scalar.addi v2 c201_i32
  let v1429 : Index := Scalar.indexCast v1428
  ![v1429.toNat]
def k2_off404 (v1430 : BitVec 32) : Fin 2 → Nat :=
  let c0_i32_823 : BitVec 32 := 0#32
  ![v1430.toNat, 0]

def k2_chk202 (i : grid2.Coords) (v1430 : BitVec 32) : Prop :=
  (∀ (k2_h1 : k2_cond1 i = 1#1), ∀ a, (k2_off404 v1430) a + S1x2048.size a ≤ S8192x2048.size a)
theorem k2_off404_inb : ∀ (i : grid2.Coords) (v1430 : BitVec 32) (k2_hw202 : k2_chk202 i v1430), ∀ (k2_h1 : k2_cond1 i = 1#1), ∀ a, (k2_off404 v1430) a + S1x2048.size a ≤ S8192x2048.size a := fun i v1430 k2_hw202 k2_h1 => k2_hw202 k2_h1

def k2_off405 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c202_i32 : BitVec 32 := 202#32
  let v1435 : BitVec 32 := Scalar.addi v2 c202_i32
  let v1436 : Index := Scalar.indexCast v1435
  ![v1436.toNat]
def k2_off406 (v1437 : BitVec 32) : Fin 2 → Nat :=
  let c0_i32_827 : BitVec 32 := 0#32
  ![v1437.toNat, 0]

def k2_chk203 (i : grid2.Coords) (v1437 : BitVec 32) : Prop :=
  (∀ (k2_h1 : k2_cond1 i = 1#1), ∀ a, (k2_off406 v1437) a + S1x2048.size a ≤ S8192x2048.size a)
theorem k2_off406_inb : ∀ (i : grid2.Coords) (v1437 : BitVec 32) (k2_hw203 : k2_chk203 i v1437), ∀ (k2_h1 : k2_cond1 i = 1#1), ∀ a, (k2_off406 v1437) a + S1x2048.size a ≤ S8192x2048.size a := fun i v1437 k2_hw203 k2_h1 => k2_hw203 k2_h1

def k2_off407 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c203_i32 : BitVec 32 := 203#32
  let v1442 : BitVec 32 := Scalar.addi v2 c203_i32
  let v1443 : Index := Scalar.indexCast v1442
  ![v1443.toNat]
def k2_off408 (v1444 : BitVec 32) : Fin 2 → Nat :=
  let c0_i32_831 : BitVec 32 := 0#32
  ![v1444.toNat, 0]

def k2_chk204 (i : grid2.Coords) (v1444 : BitVec 32) : Prop :=
  (∀ (k2_h1 : k2_cond1 i = 1#1), ∀ a, (k2_off408 v1444) a + S1x2048.size a ≤ S8192x2048.size a)
theorem k2_off408_inb : ∀ (i : grid2.Coords) (v1444 : BitVec 32) (k2_hw204 : k2_chk204 i v1444), ∀ (k2_h1 : k2_cond1 i = 1#1), ∀ a, (k2_off408 v1444) a + S1x2048.size a ≤ S8192x2048.size a := fun i v1444 k2_hw204 k2_h1 => k2_hw204 k2_h1

def k2_off409 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c204_i32 : BitVec 32 := 204#32
  let v1449 : BitVec 32 := Scalar.addi v2 c204_i32
  let v1450 : Index := Scalar.indexCast v1449
  ![v1450.toNat]
def k2_off410 (v1451 : BitVec 32) : Fin 2 → Nat :=
  let c0_i32_835 : BitVec 32 := 0#32
  ![v1451.toNat, 0]

def k2_chk205 (i : grid2.Coords) (v1451 : BitVec 32) : Prop :=
  (∀ (k2_h1 : k2_cond1 i = 1#1), ∀ a, (k2_off410 v1451) a + S1x2048.size a ≤ S8192x2048.size a)
theorem k2_off410_inb : ∀ (i : grid2.Coords) (v1451 : BitVec 32) (k2_hw205 : k2_chk205 i v1451), ∀ (k2_h1 : k2_cond1 i = 1#1), ∀ a, (k2_off410 v1451) a + S1x2048.size a ≤ S8192x2048.size a := fun i v1451 k2_hw205 k2_h1 => k2_hw205 k2_h1

def k2_off411 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c205_i32 : BitVec 32 := 205#32
  let v1456 : BitVec 32 := Scalar.addi v2 c205_i32
  let v1457 : Index := Scalar.indexCast v1456
  ![v1457.toNat]
def k2_off412 (v1458 : BitVec 32) : Fin 2 → Nat :=
  let c0_i32_839 : BitVec 32 := 0#32
  ![v1458.toNat, 0]

def k2_chk206 (i : grid2.Coords) (v1458 : BitVec 32) : Prop :=
  (∀ (k2_h1 : k2_cond1 i = 1#1), ∀ a, (k2_off412 v1458) a + S1x2048.size a ≤ S8192x2048.size a)
theorem k2_off412_inb : ∀ (i : grid2.Coords) (v1458 : BitVec 32) (k2_hw206 : k2_chk206 i v1458), ∀ (k2_h1 : k2_cond1 i = 1#1), ∀ a, (k2_off412 v1458) a + S1x2048.size a ≤ S8192x2048.size a := fun i v1458 k2_hw206 k2_h1 => k2_hw206 k2_h1

def k2_off413 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c206_i32 : BitVec 32 := 206#32
  let v1463 : BitVec 32 := Scalar.addi v2 c206_i32
  let v1464 : Index := Scalar.indexCast v1463
  ![v1464.toNat]
def k2_off414 (v1465 : BitVec 32) : Fin 2 → Nat :=
  let c0_i32_843 : BitVec 32 := 0#32
  ![v1465.toNat, 0]

def k2_chk207 (i : grid2.Coords) (v1465 : BitVec 32) : Prop :=
  (∀ (k2_h1 : k2_cond1 i = 1#1), ∀ a, (k2_off414 v1465) a + S1x2048.size a ≤ S8192x2048.size a)
theorem k2_off414_inb : ∀ (i : grid2.Coords) (v1465 : BitVec 32) (k2_hw207 : k2_chk207 i v1465), ∀ (k2_h1 : k2_cond1 i = 1#1), ∀ a, (k2_off414 v1465) a + S1x2048.size a ≤ S8192x2048.size a := fun i v1465 k2_hw207 k2_h1 => k2_hw207 k2_h1

def k2_off415 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c207_i32 : BitVec 32 := 207#32
  let v1470 : BitVec 32 := Scalar.addi v2 c207_i32
  let v1471 : Index := Scalar.indexCast v1470
  ![v1471.toNat]
def k2_off416 (v1472 : BitVec 32) : Fin 2 → Nat :=
  let c0_i32_847 : BitVec 32 := 0#32
  ![v1472.toNat, 0]

def k2_chk208 (i : grid2.Coords) (v1472 : BitVec 32) : Prop :=
  (∀ (k2_h1 : k2_cond1 i = 1#1), ∀ a, (k2_off416 v1472) a + S1x2048.size a ≤ S8192x2048.size a)
theorem k2_off416_inb : ∀ (i : grid2.Coords) (v1472 : BitVec 32) (k2_hw208 : k2_chk208 i v1472), ∀ (k2_h1 : k2_cond1 i = 1#1), ∀ a, (k2_off416 v1472) a + S1x2048.size a ≤ S8192x2048.size a := fun i v1472 k2_hw208 k2_h1 => k2_hw208 k2_h1

def k2_off417 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c208_i32 : BitVec 32 := 208#32
  let v1477 : BitVec 32 := Scalar.addi v2 c208_i32
  let v1478 : Index := Scalar.indexCast v1477
  ![v1478.toNat]
def k2_off418 (v1479 : BitVec 32) : Fin 2 → Nat :=
  let c0_i32_851 : BitVec 32 := 0#32
  ![v1479.toNat, 0]

def k2_chk209 (i : grid2.Coords) (v1479 : BitVec 32) : Prop :=
  (∀ (k2_h1 : k2_cond1 i = 1#1), ∀ a, (k2_off418 v1479) a + S1x2048.size a ≤ S8192x2048.size a)
theorem k2_off418_inb : ∀ (i : grid2.Coords) (v1479 : BitVec 32) (k2_hw209 : k2_chk209 i v1479), ∀ (k2_h1 : k2_cond1 i = 1#1), ∀ a, (k2_off418 v1479) a + S1x2048.size a ≤ S8192x2048.size a := fun i v1479 k2_hw209 k2_h1 => k2_hw209 k2_h1

def k2_off419 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c209_i32 : BitVec 32 := 209#32
  let v1484 : BitVec 32 := Scalar.addi v2 c209_i32
  let v1485 : Index := Scalar.indexCast v1484
  ![v1485.toNat]
def k2_off420 (v1486 : BitVec 32) : Fin 2 → Nat :=
  let c0_i32_855 : BitVec 32 := 0#32
  ![v1486.toNat, 0]

def k2_chk210 (i : grid2.Coords) (v1486 : BitVec 32) : Prop :=
  (∀ (k2_h1 : k2_cond1 i = 1#1), ∀ a, (k2_off420 v1486) a + S1x2048.size a ≤ S8192x2048.size a)
theorem k2_off420_inb : ∀ (i : grid2.Coords) (v1486 : BitVec 32) (k2_hw210 : k2_chk210 i v1486), ∀ (k2_h1 : k2_cond1 i = 1#1), ∀ a, (k2_off420 v1486) a + S1x2048.size a ≤ S8192x2048.size a := fun i v1486 k2_hw210 k2_h1 => k2_hw210 k2_h1

def k2_off421 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c210_i32 : BitVec 32 := 210#32
  let v1491 : BitVec 32 := Scalar.addi v2 c210_i32
  let v1492 : Index := Scalar.indexCast v1491
  ![v1492.toNat]
def k2_off422 (v1493 : BitVec 32) : Fin 2 → Nat :=
  let c0_i32_859 : BitVec 32 := 0#32
  ![v1493.toNat, 0]

def k2_chk211 (i : grid2.Coords) (v1493 : BitVec 32) : Prop :=
  (∀ (k2_h1 : k2_cond1 i = 1#1), ∀ a, (k2_off422 v1493) a + S1x2048.size a ≤ S8192x2048.size a)
theorem k2_off422_inb : ∀ (i : grid2.Coords) (v1493 : BitVec 32) (k2_hw211 : k2_chk211 i v1493), ∀ (k2_h1 : k2_cond1 i = 1#1), ∀ a, (k2_off422 v1493) a + S1x2048.size a ≤ S8192x2048.size a := fun i v1493 k2_hw211 k2_h1 => k2_hw211 k2_h1

def k2_off423 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c211_i32 : BitVec 32 := 211#32
  let v1498 : BitVec 32 := Scalar.addi v2 c211_i32
  let v1499 : Index := Scalar.indexCast v1498
  ![v1499.toNat]
def k2_off424 (v1500 : BitVec 32) : Fin 2 → Nat :=
  let c0_i32_863 : BitVec 32 := 0#32
  ![v1500.toNat, 0]

def k2_chk212 (i : grid2.Coords) (v1500 : BitVec 32) : Prop :=
  (∀ (k2_h1 : k2_cond1 i = 1#1), ∀ a, (k2_off424 v1500) a + S1x2048.size a ≤ S8192x2048.size a)
theorem k2_off424_inb : ∀ (i : grid2.Coords) (v1500 : BitVec 32) (k2_hw212 : k2_chk212 i v1500), ∀ (k2_h1 : k2_cond1 i = 1#1), ∀ a, (k2_off424 v1500) a + S1x2048.size a ≤ S8192x2048.size a := fun i v1500 k2_hw212 k2_h1 => k2_hw212 k2_h1

def k2_off425 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c212_i32 : BitVec 32 := 212#32
  let v1505 : BitVec 32 := Scalar.addi v2 c212_i32
  let v1506 : Index := Scalar.indexCast v1505
  ![v1506.toNat]
def k2_off426 (v1507 : BitVec 32) : Fin 2 → Nat :=
  let c0_i32_867 : BitVec 32 := 0#32
  ![v1507.toNat, 0]

def k2_chk213 (i : grid2.Coords) (v1507 : BitVec 32) : Prop :=
  (∀ (k2_h1 : k2_cond1 i = 1#1), ∀ a, (k2_off426 v1507) a + S1x2048.size a ≤ S8192x2048.size a)
theorem k2_off426_inb : ∀ (i : grid2.Coords) (v1507 : BitVec 32) (k2_hw213 : k2_chk213 i v1507), ∀ (k2_h1 : k2_cond1 i = 1#1), ∀ a, (k2_off426 v1507) a + S1x2048.size a ≤ S8192x2048.size a := fun i v1507 k2_hw213 k2_h1 => k2_hw213 k2_h1

def k2_off427 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c213_i32 : BitVec 32 := 213#32
  let v1512 : BitVec 32 := Scalar.addi v2 c213_i32
  let v1513 : Index := Scalar.indexCast v1512
  ![v1513.toNat]
def k2_off428 (v1514 : BitVec 32) : Fin 2 → Nat :=
  let c0_i32_871 : BitVec 32 := 0#32
  ![v1514.toNat, 0]

def k2_chk214 (i : grid2.Coords) (v1514 : BitVec 32) : Prop :=
  (∀ (k2_h1 : k2_cond1 i = 1#1), ∀ a, (k2_off428 v1514) a + S1x2048.size a ≤ S8192x2048.size a)
theorem k2_off428_inb : ∀ (i : grid2.Coords) (v1514 : BitVec 32) (k2_hw214 : k2_chk214 i v1514), ∀ (k2_h1 : k2_cond1 i = 1#1), ∀ a, (k2_off428 v1514) a + S1x2048.size a ≤ S8192x2048.size a := fun i v1514 k2_hw214 k2_h1 => k2_hw214 k2_h1

def k2_off429 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c214_i32 : BitVec 32 := 214#32
  let v1519 : BitVec 32 := Scalar.addi v2 c214_i32
  let v1520 : Index := Scalar.indexCast v1519
  ![v1520.toNat]
def k2_off430 (v1521 : BitVec 32) : Fin 2 → Nat :=
  let c0_i32_875 : BitVec 32 := 0#32
  ![v1521.toNat, 0]

def k2_chk215 (i : grid2.Coords) (v1521 : BitVec 32) : Prop :=
  (∀ (k2_h1 : k2_cond1 i = 1#1), ∀ a, (k2_off430 v1521) a + S1x2048.size a ≤ S8192x2048.size a)
theorem k2_off430_inb : ∀ (i : grid2.Coords) (v1521 : BitVec 32) (k2_hw215 : k2_chk215 i v1521), ∀ (k2_h1 : k2_cond1 i = 1#1), ∀ a, (k2_off430 v1521) a + S1x2048.size a ≤ S8192x2048.size a := fun i v1521 k2_hw215 k2_h1 => k2_hw215 k2_h1

def k2_off431 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c215_i32 : BitVec 32 := 215#32
  let v1526 : BitVec 32 := Scalar.addi v2 c215_i32
  let v1527 : Index := Scalar.indexCast v1526
  ![v1527.toNat]
def k2_off432 (v1528 : BitVec 32) : Fin 2 → Nat :=
  let c0_i32_879 : BitVec 32 := 0#32
  ![v1528.toNat, 0]

def k2_chk216 (i : grid2.Coords) (v1528 : BitVec 32) : Prop :=
  (∀ (k2_h1 : k2_cond1 i = 1#1), ∀ a, (k2_off432 v1528) a + S1x2048.size a ≤ S8192x2048.size a)
theorem k2_off432_inb : ∀ (i : grid2.Coords) (v1528 : BitVec 32) (k2_hw216 : k2_chk216 i v1528), ∀ (k2_h1 : k2_cond1 i = 1#1), ∀ a, (k2_off432 v1528) a + S1x2048.size a ≤ S8192x2048.size a := fun i v1528 k2_hw216 k2_h1 => k2_hw216 k2_h1

def k2_off433 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c216_i32 : BitVec 32 := 216#32
  let v1533 : BitVec 32 := Scalar.addi v2 c216_i32
  let v1534 : Index := Scalar.indexCast v1533
  ![v1534.toNat]
def k2_off434 (v1535 : BitVec 32) : Fin 2 → Nat :=
  let c0_i32_883 : BitVec 32 := 0#32
  ![v1535.toNat, 0]

def k2_chk217 (i : grid2.Coords) (v1535 : BitVec 32) : Prop :=
  (∀ (k2_h1 : k2_cond1 i = 1#1), ∀ a, (k2_off434 v1535) a + S1x2048.size a ≤ S8192x2048.size a)
theorem k2_off434_inb : ∀ (i : grid2.Coords) (v1535 : BitVec 32) (k2_hw217 : k2_chk217 i v1535), ∀ (k2_h1 : k2_cond1 i = 1#1), ∀ a, (k2_off434 v1535) a + S1x2048.size a ≤ S8192x2048.size a := fun i v1535 k2_hw217 k2_h1 => k2_hw217 k2_h1

def k2_off435 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c217_i32 : BitVec 32 := 217#32
  let v1540 : BitVec 32 := Scalar.addi v2 c217_i32
  let v1541 : Index := Scalar.indexCast v1540
  ![v1541.toNat]
def k2_off436 (v1542 : BitVec 32) : Fin 2 → Nat :=
  let c0_i32_887 : BitVec 32 := 0#32
  ![v1542.toNat, 0]

def k2_chk218 (i : grid2.Coords) (v1542 : BitVec 32) : Prop :=
  (∀ (k2_h1 : k2_cond1 i = 1#1), ∀ a, (k2_off436 v1542) a + S1x2048.size a ≤ S8192x2048.size a)
theorem k2_off436_inb : ∀ (i : grid2.Coords) (v1542 : BitVec 32) (k2_hw218 : k2_chk218 i v1542), ∀ (k2_h1 : k2_cond1 i = 1#1), ∀ a, (k2_off436 v1542) a + S1x2048.size a ≤ S8192x2048.size a := fun i v1542 k2_hw218 k2_h1 => k2_hw218 k2_h1

def k2_off437 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c218_i32 : BitVec 32 := 218#32
  let v1547 : BitVec 32 := Scalar.addi v2 c218_i32
  let v1548 : Index := Scalar.indexCast v1547
  ![v1548.toNat]
def k2_off438 (v1549 : BitVec 32) : Fin 2 → Nat :=
  let c0_i32_891 : BitVec 32 := 0#32
  ![v1549.toNat, 0]

def k2_chk219 (i : grid2.Coords) (v1549 : BitVec 32) : Prop :=
  (∀ (k2_h1 : k2_cond1 i = 1#1), ∀ a, (k2_off438 v1549) a + S1x2048.size a ≤ S8192x2048.size a)
theorem k2_off438_inb : ∀ (i : grid2.Coords) (v1549 : BitVec 32) (k2_hw219 : k2_chk219 i v1549), ∀ (k2_h1 : k2_cond1 i = 1#1), ∀ a, (k2_off438 v1549) a + S1x2048.size a ≤ S8192x2048.size a := fun i v1549 k2_hw219 k2_h1 => k2_hw219 k2_h1

def k2_off439 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c219_i32 : BitVec 32 := 219#32
  let v1554 : BitVec 32 := Scalar.addi v2 c219_i32
  let v1555 : Index := Scalar.indexCast v1554
  ![v1555.toNat]
def k2_off440 (v1556 : BitVec 32) : Fin 2 → Nat :=
  let c0_i32_895 : BitVec 32 := 0#32
  ![v1556.toNat, 0]

def k2_chk220 (i : grid2.Coords) (v1556 : BitVec 32) : Prop :=
  (∀ (k2_h1 : k2_cond1 i = 1#1), ∀ a, (k2_off440 v1556) a + S1x2048.size a ≤ S8192x2048.size a)
theorem k2_off440_inb : ∀ (i : grid2.Coords) (v1556 : BitVec 32) (k2_hw220 : k2_chk220 i v1556), ∀ (k2_h1 : k2_cond1 i = 1#1), ∀ a, (k2_off440 v1556) a + S1x2048.size a ≤ S8192x2048.size a := fun i v1556 k2_hw220 k2_h1 => k2_hw220 k2_h1

def k2_off441 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c220_i32 : BitVec 32 := 220#32
  let v1561 : BitVec 32 := Scalar.addi v2 c220_i32
  let v1562 : Index := Scalar.indexCast v1561
  ![v1562.toNat]
def k2_off442 (v1563 : BitVec 32) : Fin 2 → Nat :=
  let c0_i32_899 : BitVec 32 := 0#32
  ![v1563.toNat, 0]

def k2_chk221 (i : grid2.Coords) (v1563 : BitVec 32) : Prop :=
  (∀ (k2_h1 : k2_cond1 i = 1#1), ∀ a, (k2_off442 v1563) a + S1x2048.size a ≤ S8192x2048.size a)
theorem k2_off442_inb : ∀ (i : grid2.Coords) (v1563 : BitVec 32) (k2_hw221 : k2_chk221 i v1563), ∀ (k2_h1 : k2_cond1 i = 1#1), ∀ a, (k2_off442 v1563) a + S1x2048.size a ≤ S8192x2048.size a := fun i v1563 k2_hw221 k2_h1 => k2_hw221 k2_h1

def k2_off443 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c221_i32 : BitVec 32 := 221#32
  let v1568 : BitVec 32 := Scalar.addi v2 c221_i32
  let v1569 : Index := Scalar.indexCast v1568
  ![v1569.toNat]
def k2_off444 (v1570 : BitVec 32) : Fin 2 → Nat :=
  let c0_i32_903 : BitVec 32 := 0#32
  ![v1570.toNat, 0]

def k2_chk222 (i : grid2.Coords) (v1570 : BitVec 32) : Prop :=
  (∀ (k2_h1 : k2_cond1 i = 1#1), ∀ a, (k2_off444 v1570) a + S1x2048.size a ≤ S8192x2048.size a)
theorem k2_off444_inb : ∀ (i : grid2.Coords) (v1570 : BitVec 32) (k2_hw222 : k2_chk222 i v1570), ∀ (k2_h1 : k2_cond1 i = 1#1), ∀ a, (k2_off444 v1570) a + S1x2048.size a ≤ S8192x2048.size a := fun i v1570 k2_hw222 k2_h1 => k2_hw222 k2_h1

def k2_off445 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c222_i32 : BitVec 32 := 222#32
  let v1575 : BitVec 32 := Scalar.addi v2 c222_i32
  let v1576 : Index := Scalar.indexCast v1575
  ![v1576.toNat]
def k2_off446 (v1577 : BitVec 32) : Fin 2 → Nat :=
  let c0_i32_907 : BitVec 32 := 0#32
  ![v1577.toNat, 0]

def k2_chk223 (i : grid2.Coords) (v1577 : BitVec 32) : Prop :=
  (∀ (k2_h1 : k2_cond1 i = 1#1), ∀ a, (k2_off446 v1577) a + S1x2048.size a ≤ S8192x2048.size a)
theorem k2_off446_inb : ∀ (i : grid2.Coords) (v1577 : BitVec 32) (k2_hw223 : k2_chk223 i v1577), ∀ (k2_h1 : k2_cond1 i = 1#1), ∀ a, (k2_off446 v1577) a + S1x2048.size a ≤ S8192x2048.size a := fun i v1577 k2_hw223 k2_h1 => k2_hw223 k2_h1

def k2_off447 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c223_i32 : BitVec 32 := 223#32
  let v1582 : BitVec 32 := Scalar.addi v2 c223_i32
  let v1583 : Index := Scalar.indexCast v1582
  ![v1583.toNat]
def k2_off448 (v1584 : BitVec 32) : Fin 2 → Nat :=
  let c0_i32_911 : BitVec 32 := 0#32
  ![v1584.toNat, 0]

def k2_chk224 (i : grid2.Coords) (v1584 : BitVec 32) : Prop :=
  (∀ (k2_h1 : k2_cond1 i = 1#1), ∀ a, (k2_off448 v1584) a + S1x2048.size a ≤ S8192x2048.size a)
theorem k2_off448_inb : ∀ (i : grid2.Coords) (v1584 : BitVec 32) (k2_hw224 : k2_chk224 i v1584), ∀ (k2_h1 : k2_cond1 i = 1#1), ∀ a, (k2_off448 v1584) a + S1x2048.size a ≤ S8192x2048.size a := fun i v1584 k2_hw224 k2_h1 => k2_hw224 k2_h1

def k2_off449 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c224_i32 : BitVec 32 := 224#32
  let v1589 : BitVec 32 := Scalar.addi v2 c224_i32
  let v1590 : Index := Scalar.indexCast v1589
  ![v1590.toNat]
def k2_off450 (v1591 : BitVec 32) : Fin 2 → Nat :=
  let c0_i32_915 : BitVec 32 := 0#32
  ![v1591.toNat, 0]

def k2_chk225 (i : grid2.Coords) (v1591 : BitVec 32) : Prop :=
  (∀ (k2_h1 : k2_cond1 i = 1#1), ∀ a, (k2_off450 v1591) a + S1x2048.size a ≤ S8192x2048.size a)
theorem k2_off450_inb : ∀ (i : grid2.Coords) (v1591 : BitVec 32) (k2_hw225 : k2_chk225 i v1591), ∀ (k2_h1 : k2_cond1 i = 1#1), ∀ a, (k2_off450 v1591) a + S1x2048.size a ≤ S8192x2048.size a := fun i v1591 k2_hw225 k2_h1 => k2_hw225 k2_h1

def k2_off451 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c225_i32 : BitVec 32 := 225#32
  let v1596 : BitVec 32 := Scalar.addi v2 c225_i32
  let v1597 : Index := Scalar.indexCast v1596
  ![v1597.toNat]
def k2_off452 (v1598 : BitVec 32) : Fin 2 → Nat :=
  let c0_i32_919 : BitVec 32 := 0#32
  ![v1598.toNat, 0]

def k2_chk226 (i : grid2.Coords) (v1598 : BitVec 32) : Prop :=
  (∀ (k2_h1 : k2_cond1 i = 1#1), ∀ a, (k2_off452 v1598) a + S1x2048.size a ≤ S8192x2048.size a)
theorem k2_off452_inb : ∀ (i : grid2.Coords) (v1598 : BitVec 32) (k2_hw226 : k2_chk226 i v1598), ∀ (k2_h1 : k2_cond1 i = 1#1), ∀ a, (k2_off452 v1598) a + S1x2048.size a ≤ S8192x2048.size a := fun i v1598 k2_hw226 k2_h1 => k2_hw226 k2_h1

def k2_off453 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c226_i32 : BitVec 32 := 226#32
  let v1603 : BitVec 32 := Scalar.addi v2 c226_i32
  let v1604 : Index := Scalar.indexCast v1603
  ![v1604.toNat]
def k2_off454 (v1605 : BitVec 32) : Fin 2 → Nat :=
  let c0_i32_923 : BitVec 32 := 0#32
  ![v1605.toNat, 0]

def k2_chk227 (i : grid2.Coords) (v1605 : BitVec 32) : Prop :=
  (∀ (k2_h1 : k2_cond1 i = 1#1), ∀ a, (k2_off454 v1605) a + S1x2048.size a ≤ S8192x2048.size a)
theorem k2_off454_inb : ∀ (i : grid2.Coords) (v1605 : BitVec 32) (k2_hw227 : k2_chk227 i v1605), ∀ (k2_h1 : k2_cond1 i = 1#1), ∀ a, (k2_off454 v1605) a + S1x2048.size a ≤ S8192x2048.size a := fun i v1605 k2_hw227 k2_h1 => k2_hw227 k2_h1

def k2_off455 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c227_i32 : BitVec 32 := 227#32
  let v1610 : BitVec 32 := Scalar.addi v2 c227_i32
  let v1611 : Index := Scalar.indexCast v1610
  ![v1611.toNat]
def k2_off456 (v1612 : BitVec 32) : Fin 2 → Nat :=
  let c0_i32_927 : BitVec 32 := 0#32
  ![v1612.toNat, 0]

def k2_chk228 (i : grid2.Coords) (v1612 : BitVec 32) : Prop :=
  (∀ (k2_h1 : k2_cond1 i = 1#1), ∀ a, (k2_off456 v1612) a + S1x2048.size a ≤ S8192x2048.size a)
theorem k2_off456_inb : ∀ (i : grid2.Coords) (v1612 : BitVec 32) (k2_hw228 : k2_chk228 i v1612), ∀ (k2_h1 : k2_cond1 i = 1#1), ∀ a, (k2_off456 v1612) a + S1x2048.size a ≤ S8192x2048.size a := fun i v1612 k2_hw228 k2_h1 => k2_hw228 k2_h1

def k2_off457 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c228_i32 : BitVec 32 := 228#32
  let v1617 : BitVec 32 := Scalar.addi v2 c228_i32
  let v1618 : Index := Scalar.indexCast v1617
  ![v1618.toNat]
def k2_off458 (v1619 : BitVec 32) : Fin 2 → Nat :=
  let c0_i32_931 : BitVec 32 := 0#32
  ![v1619.toNat, 0]

def k2_chk229 (i : grid2.Coords) (v1619 : BitVec 32) : Prop :=
  (∀ (k2_h1 : k2_cond1 i = 1#1), ∀ a, (k2_off458 v1619) a + S1x2048.size a ≤ S8192x2048.size a)
theorem k2_off458_inb : ∀ (i : grid2.Coords) (v1619 : BitVec 32) (k2_hw229 : k2_chk229 i v1619), ∀ (k2_h1 : k2_cond1 i = 1#1), ∀ a, (k2_off458 v1619) a + S1x2048.size a ≤ S8192x2048.size a := fun i v1619 k2_hw229 k2_h1 => k2_hw229 k2_h1

def k2_off459 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c229_i32 : BitVec 32 := 229#32
  let v1624 : BitVec 32 := Scalar.addi v2 c229_i32
  let v1625 : Index := Scalar.indexCast v1624
  ![v1625.toNat]
def k2_off460 (v1626 : BitVec 32) : Fin 2 → Nat :=
  let c0_i32_935 : BitVec 32 := 0#32
  ![v1626.toNat, 0]

def k2_chk230 (i : grid2.Coords) (v1626 : BitVec 32) : Prop :=
  (∀ (k2_h1 : k2_cond1 i = 1#1), ∀ a, (k2_off460 v1626) a + S1x2048.size a ≤ S8192x2048.size a)
theorem k2_off460_inb : ∀ (i : grid2.Coords) (v1626 : BitVec 32) (k2_hw230 : k2_chk230 i v1626), ∀ (k2_h1 : k2_cond1 i = 1#1), ∀ a, (k2_off460 v1626) a + S1x2048.size a ≤ S8192x2048.size a := fun i v1626 k2_hw230 k2_h1 => k2_hw230 k2_h1

def k2_off461 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c230_i32 : BitVec 32 := 230#32
  let v1631 : BitVec 32 := Scalar.addi v2 c230_i32
  let v1632 : Index := Scalar.indexCast v1631
  ![v1632.toNat]
def k2_off462 (v1633 : BitVec 32) : Fin 2 → Nat :=
  let c0_i32_939 : BitVec 32 := 0#32
  ![v1633.toNat, 0]

def k2_chk231 (i : grid2.Coords) (v1633 : BitVec 32) : Prop :=
  (∀ (k2_h1 : k2_cond1 i = 1#1), ∀ a, (k2_off462 v1633) a + S1x2048.size a ≤ S8192x2048.size a)
theorem k2_off462_inb : ∀ (i : grid2.Coords) (v1633 : BitVec 32) (k2_hw231 : k2_chk231 i v1633), ∀ (k2_h1 : k2_cond1 i = 1#1), ∀ a, (k2_off462 v1633) a + S1x2048.size a ≤ S8192x2048.size a := fun i v1633 k2_hw231 k2_h1 => k2_hw231 k2_h1

def k2_off463 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c231_i32 : BitVec 32 := 231#32
  let v1638 : BitVec 32 := Scalar.addi v2 c231_i32
  let v1639 : Index := Scalar.indexCast v1638
  ![v1639.toNat]
def k2_off464 (v1640 : BitVec 32) : Fin 2 → Nat :=
  let c0_i32_943 : BitVec 32 := 0#32
  ![v1640.toNat, 0]

def k2_chk232 (i : grid2.Coords) (v1640 : BitVec 32) : Prop :=
  (∀ (k2_h1 : k2_cond1 i = 1#1), ∀ a, (k2_off464 v1640) a + S1x2048.size a ≤ S8192x2048.size a)
theorem k2_off464_inb : ∀ (i : grid2.Coords) (v1640 : BitVec 32) (k2_hw232 : k2_chk232 i v1640), ∀ (k2_h1 : k2_cond1 i = 1#1), ∀ a, (k2_off464 v1640) a + S1x2048.size a ≤ S8192x2048.size a := fun i v1640 k2_hw232 k2_h1 => k2_hw232 k2_h1

def k2_off465 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c232_i32 : BitVec 32 := 232#32
  let v1645 : BitVec 32 := Scalar.addi v2 c232_i32
  let v1646 : Index := Scalar.indexCast v1645
  ![v1646.toNat]
def k2_off466 (v1647 : BitVec 32) : Fin 2 → Nat :=
  let c0_i32_947 : BitVec 32 := 0#32
  ![v1647.toNat, 0]

def k2_chk233 (i : grid2.Coords) (v1647 : BitVec 32) : Prop :=
  (∀ (k2_h1 : k2_cond1 i = 1#1), ∀ a, (k2_off466 v1647) a + S1x2048.size a ≤ S8192x2048.size a)
theorem k2_off466_inb : ∀ (i : grid2.Coords) (v1647 : BitVec 32) (k2_hw233 : k2_chk233 i v1647), ∀ (k2_h1 : k2_cond1 i = 1#1), ∀ a, (k2_off466 v1647) a + S1x2048.size a ≤ S8192x2048.size a := fun i v1647 k2_hw233 k2_h1 => k2_hw233 k2_h1

def k2_off467 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c233_i32 : BitVec 32 := 233#32
  let v1652 : BitVec 32 := Scalar.addi v2 c233_i32
  let v1653 : Index := Scalar.indexCast v1652
  ![v1653.toNat]
def k2_off468 (v1654 : BitVec 32) : Fin 2 → Nat :=
  let c0_i32_951 : BitVec 32 := 0#32
  ![v1654.toNat, 0]

def k2_chk234 (i : grid2.Coords) (v1654 : BitVec 32) : Prop :=
  (∀ (k2_h1 : k2_cond1 i = 1#1), ∀ a, (k2_off468 v1654) a + S1x2048.size a ≤ S8192x2048.size a)
theorem k2_off468_inb : ∀ (i : grid2.Coords) (v1654 : BitVec 32) (k2_hw234 : k2_chk234 i v1654), ∀ (k2_h1 : k2_cond1 i = 1#1), ∀ a, (k2_off468 v1654) a + S1x2048.size a ≤ S8192x2048.size a := fun i v1654 k2_hw234 k2_h1 => k2_hw234 k2_h1

def k2_off469 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c234_i32 : BitVec 32 := 234#32
  let v1659 : BitVec 32 := Scalar.addi v2 c234_i32
  let v1660 : Index := Scalar.indexCast v1659
  ![v1660.toNat]
def k2_off470 (v1661 : BitVec 32) : Fin 2 → Nat :=
  let c0_i32_955 : BitVec 32 := 0#32
  ![v1661.toNat, 0]

def k2_chk235 (i : grid2.Coords) (v1661 : BitVec 32) : Prop :=
  (∀ (k2_h1 : k2_cond1 i = 1#1), ∀ a, (k2_off470 v1661) a + S1x2048.size a ≤ S8192x2048.size a)
theorem k2_off470_inb : ∀ (i : grid2.Coords) (v1661 : BitVec 32) (k2_hw235 : k2_chk235 i v1661), ∀ (k2_h1 : k2_cond1 i = 1#1), ∀ a, (k2_off470 v1661) a + S1x2048.size a ≤ S8192x2048.size a := fun i v1661 k2_hw235 k2_h1 => k2_hw235 k2_h1

def k2_off471 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c235_i32 : BitVec 32 := 235#32
  let v1666 : BitVec 32 := Scalar.addi v2 c235_i32
  let v1667 : Index := Scalar.indexCast v1666
  ![v1667.toNat]
def k2_off472 (v1668 : BitVec 32) : Fin 2 → Nat :=
  let c0_i32_959 : BitVec 32 := 0#32
  ![v1668.toNat, 0]

def k2_chk236 (i : grid2.Coords) (v1668 : BitVec 32) : Prop :=
  (∀ (k2_h1 : k2_cond1 i = 1#1), ∀ a, (k2_off472 v1668) a + S1x2048.size a ≤ S8192x2048.size a)
theorem k2_off472_inb : ∀ (i : grid2.Coords) (v1668 : BitVec 32) (k2_hw236 : k2_chk236 i v1668), ∀ (k2_h1 : k2_cond1 i = 1#1), ∀ a, (k2_off472 v1668) a + S1x2048.size a ≤ S8192x2048.size a := fun i v1668 k2_hw236 k2_h1 => k2_hw236 k2_h1

def k2_off473 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c236_i32 : BitVec 32 := 236#32
  let v1673 : BitVec 32 := Scalar.addi v2 c236_i32
  let v1674 : Index := Scalar.indexCast v1673
  ![v1674.toNat]
def k2_off474 (v1675 : BitVec 32) : Fin 2 → Nat :=
  let c0_i32_963 : BitVec 32 := 0#32
  ![v1675.toNat, 0]

def k2_chk237 (i : grid2.Coords) (v1675 : BitVec 32) : Prop :=
  (∀ (k2_h1 : k2_cond1 i = 1#1), ∀ a, (k2_off474 v1675) a + S1x2048.size a ≤ S8192x2048.size a)
theorem k2_off474_inb : ∀ (i : grid2.Coords) (v1675 : BitVec 32) (k2_hw237 : k2_chk237 i v1675), ∀ (k2_h1 : k2_cond1 i = 1#1), ∀ a, (k2_off474 v1675) a + S1x2048.size a ≤ S8192x2048.size a := fun i v1675 k2_hw237 k2_h1 => k2_hw237 k2_h1

def k2_off475 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c237_i32 : BitVec 32 := 237#32
  let v1680 : BitVec 32 := Scalar.addi v2 c237_i32
  let v1681 : Index := Scalar.indexCast v1680
  ![v1681.toNat]
def k2_off476 (v1682 : BitVec 32) : Fin 2 → Nat :=
  let c0_i32_967 : BitVec 32 := 0#32
  ![v1682.toNat, 0]

def k2_chk238 (i : grid2.Coords) (v1682 : BitVec 32) : Prop :=
  (∀ (k2_h1 : k2_cond1 i = 1#1), ∀ a, (k2_off476 v1682) a + S1x2048.size a ≤ S8192x2048.size a)
theorem k2_off476_inb : ∀ (i : grid2.Coords) (v1682 : BitVec 32) (k2_hw238 : k2_chk238 i v1682), ∀ (k2_h1 : k2_cond1 i = 1#1), ∀ a, (k2_off476 v1682) a + S1x2048.size a ≤ S8192x2048.size a := fun i v1682 k2_hw238 k2_h1 => k2_hw238 k2_h1

def k2_off477 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c238_i32 : BitVec 32 := 238#32
  let v1687 : BitVec 32 := Scalar.addi v2 c238_i32
  let v1688 : Index := Scalar.indexCast v1687
  ![v1688.toNat]
def k2_off478 (v1689 : BitVec 32) : Fin 2 → Nat :=
  let c0_i32_971 : BitVec 32 := 0#32
  ![v1689.toNat, 0]

def k2_chk239 (i : grid2.Coords) (v1689 : BitVec 32) : Prop :=
  (∀ (k2_h1 : k2_cond1 i = 1#1), ∀ a, (k2_off478 v1689) a + S1x2048.size a ≤ S8192x2048.size a)
theorem k2_off478_inb : ∀ (i : grid2.Coords) (v1689 : BitVec 32) (k2_hw239 : k2_chk239 i v1689), ∀ (k2_h1 : k2_cond1 i = 1#1), ∀ a, (k2_off478 v1689) a + S1x2048.size a ≤ S8192x2048.size a := fun i v1689 k2_hw239 k2_h1 => k2_hw239 k2_h1

def k2_off479 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c239_i32 : BitVec 32 := 239#32
  let v1694 : BitVec 32 := Scalar.addi v2 c239_i32
  let v1695 : Index := Scalar.indexCast v1694
  ![v1695.toNat]
def k2_off480 (v1696 : BitVec 32) : Fin 2 → Nat :=
  let c0_i32_975 : BitVec 32 := 0#32
  ![v1696.toNat, 0]

def k2_chk240 (i : grid2.Coords) (v1696 : BitVec 32) : Prop :=
  (∀ (k2_h1 : k2_cond1 i = 1#1), ∀ a, (k2_off480 v1696) a + S1x2048.size a ≤ S8192x2048.size a)
theorem k2_off480_inb : ∀ (i : grid2.Coords) (v1696 : BitVec 32) (k2_hw240 : k2_chk240 i v1696), ∀ (k2_h1 : k2_cond1 i = 1#1), ∀ a, (k2_off480 v1696) a + S1x2048.size a ≤ S8192x2048.size a := fun i v1696 k2_hw240 k2_h1 => k2_hw240 k2_h1

def k2_off481 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c240_i32 : BitVec 32 := 240#32
  let v1701 : BitVec 32 := Scalar.addi v2 c240_i32
  let v1702 : Index := Scalar.indexCast v1701
  ![v1702.toNat]
def k2_off482 (v1703 : BitVec 32) : Fin 2 → Nat :=
  let c0_i32_979 : BitVec 32 := 0#32
  ![v1703.toNat, 0]

def k2_chk241 (i : grid2.Coords) (v1703 : BitVec 32) : Prop :=
  (∀ (k2_h1 : k2_cond1 i = 1#1), ∀ a, (k2_off482 v1703) a + S1x2048.size a ≤ S8192x2048.size a)
theorem k2_off482_inb : ∀ (i : grid2.Coords) (v1703 : BitVec 32) (k2_hw241 : k2_chk241 i v1703), ∀ (k2_h1 : k2_cond1 i = 1#1), ∀ a, (k2_off482 v1703) a + S1x2048.size a ≤ S8192x2048.size a := fun i v1703 k2_hw241 k2_h1 => k2_hw241 k2_h1

def k2_off483 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c241_i32 : BitVec 32 := 241#32
  let v1708 : BitVec 32 := Scalar.addi v2 c241_i32
  let v1709 : Index := Scalar.indexCast v1708
  ![v1709.toNat]
def k2_off484 (v1710 : BitVec 32) : Fin 2 → Nat :=
  let c0_i32_983 : BitVec 32 := 0#32
  ![v1710.toNat, 0]

def k2_chk242 (i : grid2.Coords) (v1710 : BitVec 32) : Prop :=
  (∀ (k2_h1 : k2_cond1 i = 1#1), ∀ a, (k2_off484 v1710) a + S1x2048.size a ≤ S8192x2048.size a)
theorem k2_off484_inb : ∀ (i : grid2.Coords) (v1710 : BitVec 32) (k2_hw242 : k2_chk242 i v1710), ∀ (k2_h1 : k2_cond1 i = 1#1), ∀ a, (k2_off484 v1710) a + S1x2048.size a ≤ S8192x2048.size a := fun i v1710 k2_hw242 k2_h1 => k2_hw242 k2_h1

def k2_off485 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c242_i32 : BitVec 32 := 242#32
  let v1715 : BitVec 32 := Scalar.addi v2 c242_i32
  let v1716 : Index := Scalar.indexCast v1715
  ![v1716.toNat]
def k2_off486 (v1717 : BitVec 32) : Fin 2 → Nat :=
  let c0_i32_987 : BitVec 32 := 0#32
  ![v1717.toNat, 0]

def k2_chk243 (i : grid2.Coords) (v1717 : BitVec 32) : Prop :=
  (∀ (k2_h1 : k2_cond1 i = 1#1), ∀ a, (k2_off486 v1717) a + S1x2048.size a ≤ S8192x2048.size a)
theorem k2_off486_inb : ∀ (i : grid2.Coords) (v1717 : BitVec 32) (k2_hw243 : k2_chk243 i v1717), ∀ (k2_h1 : k2_cond1 i = 1#1), ∀ a, (k2_off486 v1717) a + S1x2048.size a ≤ S8192x2048.size a := fun i v1717 k2_hw243 k2_h1 => k2_hw243 k2_h1

def k2_off487 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c243_i32 : BitVec 32 := 243#32
  let v1722 : BitVec 32 := Scalar.addi v2 c243_i32
  let v1723 : Index := Scalar.indexCast v1722
  ![v1723.toNat]
def k2_off488 (v1724 : BitVec 32) : Fin 2 → Nat :=
  let c0_i32_991 : BitVec 32 := 0#32
  ![v1724.toNat, 0]

def k2_chk244 (i : grid2.Coords) (v1724 : BitVec 32) : Prop :=
  (∀ (k2_h1 : k2_cond1 i = 1#1), ∀ a, (k2_off488 v1724) a + S1x2048.size a ≤ S8192x2048.size a)
theorem k2_off488_inb : ∀ (i : grid2.Coords) (v1724 : BitVec 32) (k2_hw244 : k2_chk244 i v1724), ∀ (k2_h1 : k2_cond1 i = 1#1), ∀ a, (k2_off488 v1724) a + S1x2048.size a ≤ S8192x2048.size a := fun i v1724 k2_hw244 k2_h1 => k2_hw244 k2_h1

def k2_off489 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c244_i32 : BitVec 32 := 244#32
  let v1729 : BitVec 32 := Scalar.addi v2 c244_i32
  let v1730 : Index := Scalar.indexCast v1729
  ![v1730.toNat]
def k2_off490 (v1731 : BitVec 32) : Fin 2 → Nat :=
  let c0_i32_995 : BitVec 32 := 0#32
  ![v1731.toNat, 0]

def k2_chk245 (i : grid2.Coords) (v1731 : BitVec 32) : Prop :=
  (∀ (k2_h1 : k2_cond1 i = 1#1), ∀ a, (k2_off490 v1731) a + S1x2048.size a ≤ S8192x2048.size a)
theorem k2_off490_inb : ∀ (i : grid2.Coords) (v1731 : BitVec 32) (k2_hw245 : k2_chk245 i v1731), ∀ (k2_h1 : k2_cond1 i = 1#1), ∀ a, (k2_off490 v1731) a + S1x2048.size a ≤ S8192x2048.size a := fun i v1731 k2_hw245 k2_h1 => k2_hw245 k2_h1

def k2_off491 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c245_i32 : BitVec 32 := 245#32
  let v1736 : BitVec 32 := Scalar.addi v2 c245_i32
  let v1737 : Index := Scalar.indexCast v1736
  ![v1737.toNat]
def k2_off492 (v1738 : BitVec 32) : Fin 2 → Nat :=
  let c0_i32_999 : BitVec 32 := 0#32
  ![v1738.toNat, 0]

def k2_chk246 (i : grid2.Coords) (v1738 : BitVec 32) : Prop :=
  (∀ (k2_h1 : k2_cond1 i = 1#1), ∀ a, (k2_off492 v1738) a + S1x2048.size a ≤ S8192x2048.size a)
theorem k2_off492_inb : ∀ (i : grid2.Coords) (v1738 : BitVec 32) (k2_hw246 : k2_chk246 i v1738), ∀ (k2_h1 : k2_cond1 i = 1#1), ∀ a, (k2_off492 v1738) a + S1x2048.size a ≤ S8192x2048.size a := fun i v1738 k2_hw246 k2_h1 => k2_hw246 k2_h1

def k2_off493 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c246_i32 : BitVec 32 := 246#32
  let v1743 : BitVec 32 := Scalar.addi v2 c246_i32
  let v1744 : Index := Scalar.indexCast v1743
  ![v1744.toNat]
def k2_off494 (v1745 : BitVec 32) : Fin 2 → Nat :=
  let c0_i32_1003 : BitVec 32 := 0#32
  ![v1745.toNat, 0]

def k2_chk247 (i : grid2.Coords) (v1745 : BitVec 32) : Prop :=
  (∀ (k2_h1 : k2_cond1 i = 1#1), ∀ a, (k2_off494 v1745) a + S1x2048.size a ≤ S8192x2048.size a)
theorem k2_off494_inb : ∀ (i : grid2.Coords) (v1745 : BitVec 32) (k2_hw247 : k2_chk247 i v1745), ∀ (k2_h1 : k2_cond1 i = 1#1), ∀ a, (k2_off494 v1745) a + S1x2048.size a ≤ S8192x2048.size a := fun i v1745 k2_hw247 k2_h1 => k2_hw247 k2_h1

def k2_off495 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c247_i32 : BitVec 32 := 247#32
  let v1750 : BitVec 32 := Scalar.addi v2 c247_i32
  let v1751 : Index := Scalar.indexCast v1750
  ![v1751.toNat]
def k2_off496 (v1752 : BitVec 32) : Fin 2 → Nat :=
  let c0_i32_1007 : BitVec 32 := 0#32
  ![v1752.toNat, 0]

def k2_chk248 (i : grid2.Coords) (v1752 : BitVec 32) : Prop :=
  (∀ (k2_h1 : k2_cond1 i = 1#1), ∀ a, (k2_off496 v1752) a + S1x2048.size a ≤ S8192x2048.size a)
theorem k2_off496_inb : ∀ (i : grid2.Coords) (v1752 : BitVec 32) (k2_hw248 : k2_chk248 i v1752), ∀ (k2_h1 : k2_cond1 i = 1#1), ∀ a, (k2_off496 v1752) a + S1x2048.size a ≤ S8192x2048.size a := fun i v1752 k2_hw248 k2_h1 => k2_hw248 k2_h1

def k2_off497 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c248_i32 : BitVec 32 := 248#32
  let v1757 : BitVec 32 := Scalar.addi v2 c248_i32
  let v1758 : Index := Scalar.indexCast v1757
  ![v1758.toNat]
def k2_off498 (v1759 : BitVec 32) : Fin 2 → Nat :=
  let c0_i32_1011 : BitVec 32 := 0#32
  ![v1759.toNat, 0]

def k2_chk249 (i : grid2.Coords) (v1759 : BitVec 32) : Prop :=
  (∀ (k2_h1 : k2_cond1 i = 1#1), ∀ a, (k2_off498 v1759) a + S1x2048.size a ≤ S8192x2048.size a)
theorem k2_off498_inb : ∀ (i : grid2.Coords) (v1759 : BitVec 32) (k2_hw249 : k2_chk249 i v1759), ∀ (k2_h1 : k2_cond1 i = 1#1), ∀ a, (k2_off498 v1759) a + S1x2048.size a ≤ S8192x2048.size a := fun i v1759 k2_hw249 k2_h1 => k2_hw249 k2_h1

def k2_off499 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c249_i32 : BitVec 32 := 249#32
  let v1764 : BitVec 32 := Scalar.addi v2 c249_i32
  let v1765 : Index := Scalar.indexCast v1764
  ![v1765.toNat]
def k2_off500 (v1766 : BitVec 32) : Fin 2 → Nat :=
  let c0_i32_1015 : BitVec 32 := 0#32
  ![v1766.toNat, 0]

def k2_chk250 (i : grid2.Coords) (v1766 : BitVec 32) : Prop :=
  (∀ (k2_h1 : k2_cond1 i = 1#1), ∀ a, (k2_off500 v1766) a + S1x2048.size a ≤ S8192x2048.size a)
theorem k2_off500_inb : ∀ (i : grid2.Coords) (v1766 : BitVec 32) (k2_hw250 : k2_chk250 i v1766), ∀ (k2_h1 : k2_cond1 i = 1#1), ∀ a, (k2_off500 v1766) a + S1x2048.size a ≤ S8192x2048.size a := fun i v1766 k2_hw250 k2_h1 => k2_hw250 k2_h1

def k2_off501 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c250_i32 : BitVec 32 := 250#32
  let v1771 : BitVec 32 := Scalar.addi v2 c250_i32
  let v1772 : Index := Scalar.indexCast v1771
  ![v1772.toNat]
def k2_off502 (v1773 : BitVec 32) : Fin 2 → Nat :=
  let c0_i32_1019 : BitVec 32 := 0#32
  ![v1773.toNat, 0]

def k2_chk251 (i : grid2.Coords) (v1773 : BitVec 32) : Prop :=
  (∀ (k2_h1 : k2_cond1 i = 1#1), ∀ a, (k2_off502 v1773) a + S1x2048.size a ≤ S8192x2048.size a)
theorem k2_off502_inb : ∀ (i : grid2.Coords) (v1773 : BitVec 32) (k2_hw251 : k2_chk251 i v1773), ∀ (k2_h1 : k2_cond1 i = 1#1), ∀ a, (k2_off502 v1773) a + S1x2048.size a ≤ S8192x2048.size a := fun i v1773 k2_hw251 k2_h1 => k2_hw251 k2_h1

def k2_off503 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c251_i32 : BitVec 32 := 251#32
  let v1778 : BitVec 32 := Scalar.addi v2 c251_i32
  let v1779 : Index := Scalar.indexCast v1778
  ![v1779.toNat]
def k2_off504 (v1780 : BitVec 32) : Fin 2 → Nat :=
  let c0_i32_1023 : BitVec 32 := 0#32
  ![v1780.toNat, 0]

def k2_chk252 (i : grid2.Coords) (v1780 : BitVec 32) : Prop :=
  (∀ (k2_h1 : k2_cond1 i = 1#1), ∀ a, (k2_off504 v1780) a + S1x2048.size a ≤ S8192x2048.size a)
theorem k2_off504_inb : ∀ (i : grid2.Coords) (v1780 : BitVec 32) (k2_hw252 : k2_chk252 i v1780), ∀ (k2_h1 : k2_cond1 i = 1#1), ∀ a, (k2_off504 v1780) a + S1x2048.size a ≤ S8192x2048.size a := fun i v1780 k2_hw252 k2_h1 => k2_hw252 k2_h1

def k2_off505 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c252_i32 : BitVec 32 := 252#32
  let v1785 : BitVec 32 := Scalar.addi v2 c252_i32
  let v1786 : Index := Scalar.indexCast v1785
  ![v1786.toNat]
def k2_off506 (v1787 : BitVec 32) : Fin 2 → Nat :=
  let c0_i32_1027 : BitVec 32 := 0#32
  ![v1787.toNat, 0]

def k2_chk253 (i : grid2.Coords) (v1787 : BitVec 32) : Prop :=
  (∀ (k2_h1 : k2_cond1 i = 1#1), ∀ a, (k2_off506 v1787) a + S1x2048.size a ≤ S8192x2048.size a)
theorem k2_off506_inb : ∀ (i : grid2.Coords) (v1787 : BitVec 32) (k2_hw253 : k2_chk253 i v1787), ∀ (k2_h1 : k2_cond1 i = 1#1), ∀ a, (k2_off506 v1787) a + S1x2048.size a ≤ S8192x2048.size a := fun i v1787 k2_hw253 k2_h1 => k2_hw253 k2_h1

def k2_off507 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c253_i32 : BitVec 32 := 253#32
  let v1792 : BitVec 32 := Scalar.addi v2 c253_i32
  let v1793 : Index := Scalar.indexCast v1792
  ![v1793.toNat]
def k2_off508 (v1794 : BitVec 32) : Fin 2 → Nat :=
  let c0_i32_1031 : BitVec 32 := 0#32
  ![v1794.toNat, 0]

def k2_chk254 (i : grid2.Coords) (v1794 : BitVec 32) : Prop :=
  (∀ (k2_h1 : k2_cond1 i = 1#1), ∀ a, (k2_off508 v1794) a + S1x2048.size a ≤ S8192x2048.size a)
theorem k2_off508_inb : ∀ (i : grid2.Coords) (v1794 : BitVec 32) (k2_hw254 : k2_chk254 i v1794), ∀ (k2_h1 : k2_cond1 i = 1#1), ∀ a, (k2_off508 v1794) a + S1x2048.size a ≤ S8192x2048.size a := fun i v1794 k2_hw254 k2_h1 => k2_hw254 k2_h1

def k2_off509 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c254_i32 : BitVec 32 := 254#32
  let v1799 : BitVec 32 := Scalar.addi v2 c254_i32
  let v1800 : Index := Scalar.indexCast v1799
  ![v1800.toNat]
def k2_off510 (v1801 : BitVec 32) : Fin 2 → Nat :=
  let c0_i32_1035 : BitVec 32 := 0#32
  ![v1801.toNat, 0]

def k2_chk255 (i : grid2.Coords) (v1801 : BitVec 32) : Prop :=
  (∀ (k2_h1 : k2_cond1 i = 1#1), ∀ a, (k2_off510 v1801) a + S1x2048.size a ≤ S8192x2048.size a)
theorem k2_off510_inb : ∀ (i : grid2.Coords) (v1801 : BitVec 32) (k2_hw255 : k2_chk255 i v1801), ∀ (k2_h1 : k2_cond1 i = 1#1), ∀ a, (k2_off510 v1801) a + S1x2048.size a ≤ S8192x2048.size a := fun i v1801 k2_hw255 k2_h1 => k2_hw255 k2_h1

def k2_off511 (i : grid2.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c256_i32 : BitVec 32 := 256#32
  let v2 : BitVec 32 := Scalar.muli v1 c256_i32
  let c255_i32 : BitVec 32 := 255#32
  let v1806 : BitVec 32 := Scalar.addi v2 c255_i32
  let v1807 : Index := Scalar.indexCast v1806
  ![v1807.toNat]
def k2_off512 (v1808 : BitVec 32) : Fin 2 → Nat :=
  let c0_i32_1039 : BitVec 32 := 0#32
  ![v1808.toNat, 0]

def k2_chk256 (i : grid2.Coords) (v1808 : BitVec 32) : Prop :=
  (∀ (k2_h1 : k2_cond1 i = 1#1), ∀ a, (k2_off512 v1808) a + S1x2048.size a ≤ S8192x2048.size a)
theorem k2_off512_inb : ∀ (i : grid2.Coords) (v1808 : BitVec 32) (k2_hw256 : k2_chk256 i v1808), ∀ (k2_h1 : k2_cond1 i = 1#1), ∀ a, (k2_off512 v1808) a + S1x2048.size a ≤ S8192x2048.size a := fun i v1808 k2_hw256 k2_h1 => k2_hw256 k2_h1

def k2_cond2 (i : grid2.Coords) : BitVec 1 :=
  let arg2 : BitVec 32 := BitVec.ofNat 32 (i 2).val
  let c0_i32_10 : BitVec 32 := 0#32
  let v15 : BitVec 1 := Scalar.cmpi .eq arg2 c0_i32_10
  let v16 : BitVec 32 := Scalar.extui v15
  let c0_i32_11 : BitVec 32 := 0#32
  let v17 : BitVec 1 := Scalar.cmpi .ne v16 c0_i32_11
  v17

def k2_cond3 (i : grid2.Coords) : BitVec 1 :=
  let arg2 : BitVec 32 := BitVec.ofNat 32 (i 2).val
  let c0_i32_12 : BitVec 32 := 0#32
  let v18 : BitVec 1 := Scalar.cmpi .ne arg2 c0_i32_12
  let v19 : BitVec 32 := Scalar.extui v18
  let c0_i32_13 : BitVec 32 := 0#32
  let v20 : BitVec 1 := Scalar.cmpi .ne v19 c0_i32_13
  v20

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S1x2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := .none

def k3_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k3_dev2 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v17 : BitVec 32 := Scalar.muli v2 c4_i32_9
  let v18 : BitVec 32 := Scalar.addi c0_i32_10 v17
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_11 : BitVec 32 := 2#32
  let v19 : BitVec 32 := Scalar.muli v9 c2_i32_11
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.muli v8 c1_i32_12
  let v22 : BitVec 32 := Scalar.addi v20 v21
  v22.toNat
-- ==== ReferenceIdeal.lean ====
abbrev S8192x2048 : Shape := ⟨2, ![8192, 2048]⟩
abbrev S8192 : Shape := ⟨1, ![8192]⟩
abbrev S8x2048x4096 : Shape := ⟨3, ![8, 2048, 4096]⟩
abbrev S8x4096x2048 : Shape := ⟨3, ![8, 4096, 2048]⟩
abbrev S_ : Shape := ⟨0, ![]⟩
abbrev S1x2048x4096 : Shape := ⟨3, ![1, 2048, 4096]⟩
abbrev S2048x4096 : Shape := ⟨2, ![2048, 4096]⟩
abbrev S8192x4096 : Shape := ⟨2, ![8192, 4096]⟩
abbrev S8192x1 : Shape := ⟨2, ![8192, 1]⟩
abbrev S1x4096x2048 : Shape := ⟨3, ![1, 4096, 2048]⟩
abbrev S4096x2048 : Shape := ⟨2, ![4096, 2048]⟩

abbrev nBuf : Space → Nat
  | .hbm => 126
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8x2048x4096, .f32⟩
  | .hbm, ⟨3, _⟩ => ⟨S8x4096x2048, .f32⟩
  | .hbm, ⟨4, _⟩ => ⟨S_, .f32⟩
  | .hbm, ⟨5, _⟩ => ⟨S8192x2048, .f32⟩
  | .hbm, ⟨6, _⟩ => ⟨S1x2048x4096, .f32⟩
  | .hbm, ⟨7, _⟩ => ⟨S2048x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S8192x1, .i1⟩
  | .hbm, ⟨16, _⟩ => ⟨S1x4096x2048, .f32⟩
  | .hbm, ⟨17, _⟩ => ⟨S4096x2048, .f32⟩
  | .hbm, ⟨18, _⟩ => ⟨S8192x2048, .f32⟩
  | .hbm, ⟨19, _⟩ => ⟨S8192x2048, .i1⟩
  | .hbm, ⟨20, _⟩ => ⟨S8192x2048, .f32⟩
  | .hbm, ⟨21, _⟩ => ⟨S1x2048x4096, .f32⟩
  | .hbm, ⟨22, _⟩ => ⟨S2048x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S8192x1, .i1⟩
  | .hbm, ⟨31, _⟩ => ⟨S1x4096x2048, .f32⟩
  | .hbm, ⟨32, _⟩ => ⟨S4096x2048, .f32⟩
  | .hbm, ⟨33, _⟩ => ⟨S8192x2048, .f32⟩
  | .hbm, ⟨34, _⟩ => ⟨S8192x2048, .i1⟩
  | .hbm, ⟨35, _⟩ => ⟨S8192x2048, .f32⟩
  | .hbm, ⟨36, _⟩ => ⟨S1x2048x4096, .f32⟩
  | .hbm, ⟨37, _⟩ => ⟨S2048x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S8192x1, .i1⟩
  | .hbm, ⟨46, _⟩ => ⟨S1x4096x2048, .f32⟩
  | .hbm, ⟨47, _⟩ => ⟨S4096x2048, .f32⟩
  | .hbm, ⟨48, _⟩ => ⟨S8192x2048, .f32⟩
  | .hbm, ⟨49, _⟩ => ⟨S8192x2048, .i1⟩
  | .hbm, ⟨50, _⟩ => ⟨S8192x2048, .f32⟩
  | .hbm, ⟨51, _⟩ => ⟨S1x2048x4096, .f32⟩
  | .hbm, ⟨52, _⟩ => ⟨S2048x4096, .f32⟩
  | .hbm, ⟨53, _⟩ => ⟨S8192x4096, .f32⟩
  | .hbm, ⟨54, _⟩ => ⟨S_, .f32⟩
  | .hbm, ⟨55, _⟩ => ⟨S8192x4096, .f32⟩
  | .hbm, ⟨56, _⟩ => ⟨S8192x4096, .f32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S8192x1, .i1⟩
  | .hbm, ⟨61, _⟩ => ⟨S1x4096x2048, .f32⟩
  | .hbm, ⟨62, _⟩ => ⟨S4096x2048, .f32⟩
  | .hbm, ⟨63, _⟩ => ⟨S8192x2048, .f32⟩
  | .hbm, ⟨64, _⟩ => ⟨S8192x2048, .i1⟩
  | .hbm, ⟨65, _⟩ => ⟨S8192x2048, .f32⟩
  | .hbm, ⟨66, _⟩ => ⟨S1x2048x4096, .f32⟩
  | .hbm, ⟨67, _⟩ => ⟨S2048x4096, .f32⟩
  | .hbm, ⟨68, _⟩ => ⟨S8192x4096, .f32⟩
  | .hbm, ⟨69, _⟩ => ⟨S_, .f32⟩
  | .hbm, ⟨70, _⟩ => ⟨S8192x4096, .f32⟩
  | .hbm, ⟨71, _⟩ => ⟨S8192x4096, .f32⟩
  | .hbm, ⟨72, _⟩ => ⟨S_, .i32⟩
  | .hbm, ⟨73, _⟩ => ⟨S8192, .i32⟩
  | .hbm, ⟨74, _⟩ => ⟨S8192, .i1⟩
  | .hbm, ⟨75, _⟩ => ⟨S8192x1, .i1⟩
  | .hbm, ⟨76, _⟩ => ⟨S1x4096x2048, .f32⟩
  | .hbm, ⟨77, _⟩ => ⟨S4096x2048, .f32⟩
  | .hbm, ⟨78, _⟩ => ⟨S8192x2048, .f32⟩
  | .hbm, ⟨79, _⟩ => ⟨S8192x2048, .i1⟩
  | .hbm, ⟨80, _⟩ => ⟨S8192x2048, .f32⟩
  | .hbm, ⟨81, _⟩ => ⟨S1x2048x4096, .f32⟩
  | .hbm, ⟨82, _⟩ => ⟨S2048x4096, .f32⟩
  | .hbm, ⟨83, _⟩ => ⟨S8192x4096, .f32⟩
  | .hbm, ⟨84, _⟩ => ⟨S_, .f32⟩
  | .hbm, ⟨85, _⟩ => ⟨S8192x4096, .f32⟩
  | .hbm, ⟨86, _⟩ => ⟨S8192x4096, .f32⟩
  | .hbm, ⟨87, _⟩ => ⟨S_, .i32⟩
  | .hbm, ⟨88, _⟩ => ⟨S8192, .i32⟩
  | .hbm, ⟨89, _⟩ => ⟨S8192, .i1⟩
  | .hbm, ⟨90, _⟩ => ⟨S8192x1, .i1⟩
  | .hbm, ⟨91, _⟩ => ⟨S1x4096x2048, .f32⟩
  | .hbm, ⟨92, _⟩ => ⟨S4096x2048, .f32⟩
  | .hbm, ⟨93, _⟩ => ⟨S8192x2048, .f32⟩
  | .hbm, ⟨94, _⟩ => ⟨S8192x2048, .i1⟩
  | .hbm, ⟨95, _⟩ => ⟨S8192x2048, .f32⟩
  | .hbm, ⟨96, _⟩ => ⟨S1x2048x4096, .f32⟩
  | .hbm, ⟨97, _⟩ => ⟨S2048x4096, .f32⟩
  | .hbm, ⟨98, _⟩ => ⟨S8192x4096, .f32⟩
  | .hbm, ⟨99, _⟩ => ⟨S_, .f32⟩
  | .hbm, ⟨100, _⟩ => ⟨S8192x4096, .f32⟩
  | .hbm, ⟨101, _⟩ => ⟨S8192x4096, .f32⟩
  | .hbm, ⟨102, _⟩ => ⟨S_, .i32⟩
  | .hbm, ⟨103, _⟩ => ⟨S8192, .i32⟩
  | .hbm, ⟨104, _⟩ => ⟨S8192, .i1⟩
  | .hbm, ⟨105, _⟩ => ⟨S8192x1, .i1⟩
  | .hbm, ⟨106, _⟩ => ⟨S1x4096x2048, .f32⟩
  | .hbm, ⟨107, _⟩ => ⟨S4096x2048, .f32⟩
  | .hbm, ⟨108, _⟩ => ⟨S8192x2048, .f32⟩
  | .hbm, ⟨109, _⟩ => ⟨S8192x2048, .i1⟩
  | .hbm, ⟨110, _⟩ => ⟨S8192x2048, .f32⟩
  | .hbm, ⟨111, _⟩ => ⟨S1x2048x4096, .f32⟩
  | .hbm, ⟨112, _⟩ => ⟨S2048x4096, .f32⟩
  | .hbm, ⟨113, _⟩ => ⟨S8192x4096, .f32⟩
  | .hbm, ⟨114, _⟩ => ⟨S_, .f32⟩
  | .hbm, ⟨115, _⟩ => ⟨S8192x4096, .f32⟩
  | .hbm, ⟨116, _⟩ => ⟨S8192x4096, .f32⟩
  | .hbm, ⟨117, _⟩ => ⟨S_, .i32⟩
  | .hbm, ⟨118, _⟩ => ⟨S8192, .i32⟩
  | .hbm, ⟨119, _⟩ => ⟨S8192, .i1⟩
  | .hbm, ⟨120, _⟩ => ⟨S8192x1, .i1⟩
  | .hbm, ⟨121, _⟩ => ⟨S1x4096x2048, .f32⟩
  | .hbm, ⟨122, _⟩ => ⟨S4096x2048, .f32⟩
  | .hbm, ⟨123, _⟩ => ⟨S8192x2048, .f32⟩
  | .hbm, ⟨124, _⟩ => ⟨S8192x2048, .i1⟩
  | .hbm, ⟨125, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_c_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_c_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Pair.lean ====
/- A protocol between pairs of devices, once for every kernel of this directory.

   `peer` pairs the devices. Each of the semaphores `cells` carries one round and one payment: a semaphore in `cross` is paid by the other device of
   the pair (a signal, or a copy that lands here), the others by the device itself (a copy's source side, a local copy). `pay s c` is what the payment
   on device `c`'s semaphore `s` hands over. `bars` are the barrier semaphores, counted from the launch on; the rest are a kernel's own semaphores,
   which are opened when its region is entered.
   What a device owes is a list of semaphores of its partner, in the order in which it pays them (`owe`). -/
module

public import Idealize.ShloMosaic.Lib.Pipeline.RegionTalk
public import Idealize.ShloMosaic.Lib.Pipeline.Kit
public import Idealize.ShloMosaic.Lib.Rounds
public import Idealize.ShloMosaic.Lib.Batch
public import Idealize.ShloMosaic.Lib.Tactic
public import Idealize.ShloMosaic.Harness.Basic
public import Idealize.ShloMosaic.Lib.Quiescent

@[expose] public section

noncomputable section

namespace Cert.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

/-- The pipelines' rounds, the protocol's rounds, and counters for the transfers a semaphore takes several of. -/
abbrev UU (nD : Nat) (τ : Topo) (sig : RefSig) : Type := UR sig nD τ × (UR sig nD τ × Counters)

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := (Emb.inl : Emb (UR sig nD τ) (UR sig nD τ × Counters)).trans embR

/-- Device `c`'s semaphore `s`. -/
abbrev cell (c : Dev nD) (s : SemLoc sig) : GSem nD τ sig := ((c.tc : Thread nD τ), s)

variable (nD τ sig Val) in
structure Talk where
  peer : Dev nD → Dev nD
  peer_peer : ∀ c, peer (peer c) = c
  cells : Finset (SemLoc sig)
  bars : Finset (SemLoc sig)
  bars_sub : bars ⊆ cells
  cross : SemLoc sig → Bool
  amt : SemLoc sig → ℕ
  amt_pos : ∀ s, 0 < amt s
  lev : SemLoc sig → ℕ
  pay : SemLoc sig → Dev nD → sProp (MT nD τ sig Unit Val ℕ (UU nD τ sig) ℕ)
  stor : ∀ s c, BI.Storable (upEmb : UEmb _ (MT nD τ sig Unit Val ℕ (UU nD τ sig) ℕ)) (pay s c)

variable (T : Talk nD τ sig Val)

/-- The schedule: one round, one payment on each semaphore of `cells`. -/
def rd : Rounds.Schedule (GSem nD τ sig) Unit 𝕄 where
  duties g r := if r = 0 ∧ g.1.2 = .tc ∧ g.2 ∈ T.cells then {()} else ∅
  unitless _ := False
  amount g _ _ := T.amt g.2
  payload g _ _ := T.pay g.2 g.1.1
  amount_pos g _ _ _ := T.amt_pos g.2

instance rd_storable (g : GSem nD τ sig) (r : ℕ) (d : Unit) : BI.Storable (upEmb : UEmb _ 𝕄) ((rd T).payload g r d) := T.stor g.2 g.1.1

section Sched

variable {T} {s : SemLoc sig} (hs : s ∈ T.cells) (c : Dev nD)

include hs in
theorem duties_eq : (rd T).duties (cell c s) 0 = {()} := if_pos ⟨rfl, rfl, hs⟩
include hs in
theorem duties_mem : () ∈ (rd T).duties (cell c s) 0 := by rw [duties_eq hs]; exact Finset.mem_singleton_self _
theorem duties_later (T : Talk nD τ sig Val) (g : GSem nD τ sig) : ∀ r, 1 ≤ r → (rd T).duties g r = ∅ := fun r hr => if_neg fun h => by omega
include hs in
theorem expect_eq : (rd T).expect (cell c s) 0 = T.amt s := by
  unfold Schedule.expect Schedule.amountOf; rw [duties_eq hs, Finset.sum_singleton]; rfl
include hs in
theorem rest_eq : bigSep ((rd T).duties (cell c s) 0 \ ∅) (fun u => (rd T).payload (cell c s) 0 u) = T.pay s c := by
  rw [Finset.sdiff_empty, duties_eq hs, bigSep_singleton]; rfl

end Sched

/-! ## What is owed; levels -/

/-- What device `c` owes its partner's semaphores `l`, to be paid from the head on. -/
def owe : List (SemLoc sig) → Dev nD → CellTallies nD τ sig Unit
  | [], _ => 0
  | s :: l, c => owe l c + tallyAt (cell (T.peer c) s) () (T.amt s)

theorem owe_append (l l' : List (SemLoc sig)) (c : Dev nD) : owe T (l ++ l') c = owe T l' c + owe T l c := by
  induction l with
  | nil => exact (add_zero _).symm
  | cons s l ih => rw [List.cons_append, owe, owe, ih, add_assoc]

theorem owe_pos {l : List (SemLoc sig)} {c : Dev nD} {g : GSem nD τ sig} {u : Unit} (h : 0 < owe T l c g u) : ∃ s ∈ l, g = cell (T.peer c) s := by
  induction l with
  | nil => exact absurd h (Nat.lt_irrefl 0)
  | cons s l ih =>
    rw [owe, Pi.add_apply, Finsupp.add_apply] at h
    rcases Nat.add_pos_iff_pos_or_pos.mp h with h | h
    · obtain ⟨s', hs', e⟩ := ih h; exact ⟨s', List.mem_cons_of_mem _ hs', e⟩
    · rw [tallyAt_apply] at h
      split at h
      · next hg => exact ⟨s, List.mem_cons_self, hg.1⟩
      · exact absurd h (Nat.lt_irrefl 0)

def L (g : GSem nD τ sig) : Finset Unit := if g.1.2 = .tc then {()} else ∅
def lv (g : GSem nD τ sig) (_ : Unit) : ℕ := T.lev g.2

theorem L_of_ne (g : GSem nD τ sig) (h : g.1.2 ≠ .tc) : L g = ∅ := if_neg h
theorem L_tc (c : Dev nD) (s : SemLoc sig) : () ∈ L (cell c s : GSem nD τ sig) := by rw [L, if_pos rfl]; exact Finset.mem_singleton_self _

/-- Waiting on a semaphore below everything still owed. -/
theorem mayWait (c : Dev nD) (s : SemLoc sig) (l : List (SemLoc sig)) (h : ∀ s' ∈ l, T.lev s < T.lev s') :
    (levAts L (lv T) : sProp 𝕄) ⊢ MayWait (c : Thread nD τ) s () (owe T l c) :=
  MayOwe.of_cut (L := L) (lev := lv T) (T.lev s) (fun p hp => by rw [Finset.mem_singleton.mp hp]; exact L_tc c s)
    (fun g u hg => by obtain ⟨s', -, rfl⟩ := owe_pos T hg; exact L_tc _ s')
    (fun p hp => by rw [Finset.mem_singleton.mp hp]; exact le_refl _)
    (fun g u hg => by obtain ⟨s', hs', rfl⟩ := owe_pos T hg; exact h s' hs')

/-- Credits for the semaphores `l`. -/
def creds : List (SemLoc sig) → Dev nD → sProp 𝕄
  | [], _ => iprop(emp)
  | s :: l, c => iprop(cred (tallyAt (cell c s) () (T.amt s)) ∗ creds l c)

theorem owed_at (d c : Dev nD) (s : SemLoc sig) :
    (tallyAt (cell (T.peer d) s) () (T.amt s) : CellTallies nD τ sig Unit) (cell c s) () = if d = T.peer c then T.amt s else 0 := by
  rw [tallyAt_apply]
  by_cases h : d = T.peer c
  · subst h; rw [T.peer_peer, if_pos ⟨rfl, rfl⟩, if_pos rfl]
  · rw [if_neg (fun ⟨h1, _⟩ => h (by
      have : c = T.peer d := congrArg (fun g : GSem nD τ sig => g.1.1) h1
      rw [this, T.peer_peer])), if_neg h]

theorem creds_intro (l : List (SemLoc sig)) (c : Dev nD) : (Pipeline.launchCred (owe T l) c : sProp 𝕄) ⊢ creds T l c := by
  induction l with
  | nil => exact Entails.of_eq (Pipeline.launchCred_zero c)
  | cons s l ih =>
    have e : (owe T (s :: l)) = fun d => owe T l d + (fun d => (tallyAt (cell (T.peer d) s) () (T.amt s) : CellTallies nD τ sig Unit)) d := rfl
    rw [e, Pipeline.launchCred_add]
    have hs : (Pipeline.launchCred (fun d => (tallyAt (cell (T.peer d) s) () (T.amt s) : CellTallies nD τ sig Unit)) c : sProp 𝕄)
        ⊢ cred (tallyAt (cell c s) () (T.amt s)) := by
      refine (Pipeline.launchCred_elim _ c s).trans (Entails.of_eq ?_)
      congr 1
      unfold tallyAt; refine congrArg _ (Finsupp.ext fun u => ?_); cases u
      rw [Pipeline.launchCredit_owing, Finsupp.single_eq_same]
      refine (Finset.sum_congr rfl fun d _ => owed_at T d c s).trans ?_
      rw [Finset.sum_ite_eq' Finset.univ (T.peer c) fun _ => T.amt s, if_pos (Finset.mem_univ _)]
    iintro ⟨H, Hs⟩
    unfold creds
    isplitl [Hs]
    · iapply hs; iexact Hs
    · iapply ih; iexact H

/-! ## The ghost state a device starts with -/

/-- Over a grid, by its columns. -/
theorem sep_columns {I J : Type} [DecidableEq I] [DecidableEq J] (s : Finset I) (t : Finset J) (Φ : I × J → sProp 𝕄) :
    bigSep (s ×ˢ t) Φ = bigSep t fun j => bigSep s fun i => Φ (i, j) := by
  induction t using Finset.induction_on with
  | empty => rw [Finset.product_empty, bigSep_empty, bigSep_empty]
  | insert j t hj ih =>
    have e : s ×ˢ insert j t = s.map ⟨fun i => (i, j), fun _ _ h => congrArg Prod.fst h⟩ ∪ s ×ˢ t := by
      ext ⟨a, b⟩
      rw [Finset.mem_product, Finset.mem_insert, Finset.mem_union, Finset.mem_map, Finset.mem_product]
      constructor
      · rintro ⟨h, h' | h'⟩
        · exact Or.inl ⟨a, h, Prod.ext rfl h'.symm⟩
        · exact Or.inr ⟨h, h'⟩
      · rintro (⟨x, h, h'⟩ | ⟨h, h'⟩)
        · exact ⟨congrArg Prod.fst h' ▸ h, Or.inl (congrArg Prod.snd h').symm⟩
        · exact ⟨h, Or.inr h'⟩
    rw [e, bigSep_union (Finset.disjoint_left.mpr fun x hx hx' => by
        obtain ⟨i, -, rfl⟩ := Finset.mem_map.mp hx
        exact hj (Finset.mem_product.mp hx').2), bigSep_map, ih, bigSep_insert hj]
    rfl

/-- Over a grid, by its rows. -/
theorem sep_rows {I J : Type} [DecidableEq I] [DecidableEq J] (s : Finset I) (t : Finset J) (Φ : I × J → sProp 𝕄) :
    bigSep (s ×ˢ t) Φ = bigSep s fun i => bigSep t fun j => Φ (i, j) := by
  have e : s ×ˢ t = (t ×ˢ s).map (Equiv.prodComm J I).toEmbedding := by
    ext ⟨a, b⟩; simp [and_comm]
  rw [e, bigSep_map, sep_columns]; rfl

def cellEmb : Dev nD × SemLoc sig ↪ GSem nD τ sig :=
  ⟨fun x => cell x.1 x.2, fun _ _ h => Prod.ext (congrArg (fun g : GSem nD τ sig => g.1.1) h) (congrArg (fun g : GSem nD τ sig => g.2) h)⟩

def emb (S : Finset (SemLoc sig)) : Finset (GSem nD τ sig) := ((Finset.univ : Finset (Dev nD)) ×ˢ S).map cellEmb

theorem mem_emb {S : Finset (SemLoc sig)} {s : SemLoc sig} (hs : s ∈ S) (c : Dev nD) : cell c s ∈ (emb S : Finset (GSem nD τ sig)) :=
  Finset.mem_map.mpr ⟨(c, s), Finset.mem_product.mpr ⟨Finset.mem_univ _, hs⟩, rfl⟩

theorem bigSep_emb (S : Finset (SemLoc sig)) (Φ : GSem nD τ sig → sProp 𝕄) :
    bigSep (emb S) Φ = bigSep Finset.univ fun c : Dev nD => bigSep S fun s => Φ (cell c s) := by
  unfold emb; rw [bigSep_map, sep_rows]; rfl

def tokEmb : Dev nD × SemLoc sig ↪ GSem nD τ sig × ℕ × Unit :=
  ⟨fun x => (cell x.1 x.2, 0, ()), fun _ _ h => cellEmb.injective (congrArg (fun t : GSem nD τ sig × ℕ × Unit => t.1) h)⟩

def toks : Finset (GSem nD τ sig × ℕ × Unit) := ((Finset.univ : Finset (Dev nD)) ×ˢ T.cells).map tokEmb

abbrev scs : Finset (SemLoc sig) := T.cells \ T.bars

/-- Whose semaphore `s` it is that device `c` pays. -/
def payee (s : SemLoc sig) (c : Dev nD) : Dev nD := if T.cross s then T.peer c else c

def tok (s : SemLoc sig) (c : Dev nD) : sProp 𝕄 := dutyTok ER (cell (payee T s c) s) 0 ()

/-- The facts every device may consult. -/
def records (κ : GSem nD τ sig → ℕ) : sProp 𝕄 :=
  iprop((bigSep (emb T.cells) fun g => cellInv ER (rd T) (κ g) g) ∗ bigSep (emb T.bars) fun g => reached ER g 0)

instance records_persistent (κ : GSem nD τ sig → ℕ) : BI.Persistent (records T κ) := by unfold records; infer_instance

theorem records_inv (κ : GSem nD τ sig → ℕ) {s : SemLoc sig} (hs : s ∈ T.cells) (c : Dev nD) :
    records T κ ⊢ cellInv ER (rd T) (κ (cell c s)) (cell c s) := by
  unfold records
  iintro ⟨H, -⟩
  iapply (show (bigSep (emb T.cells) fun g => (cellInv ER (rd T) (κ g) g : sProp 𝕄)) ⊢ cellInv ER (rd T) (κ (cell c s)) (cell c s) from bigSep_elim (mem_emb hs c)) $$ H

theorem records_reached (κ : GSem nD τ sig → ℕ) {s : SemLoc sig} (hs : s ∈ T.bars) (c : Dev nD) : records T κ ⊢ reached ER (cell c s) 0 := by
  unfold records
  iintro ⟨-, H⟩
  iapply (show (bigSep (emb T.bars) fun g => (reached ER g 0 : sProp 𝕄)) ⊢ reached ER (cell c s) 0 from bigSep_elim (mem_emb hs c)) $$ H

/-- What stays with device `c`: its positions, its rights to open, the tokens it pays with. -/
def linear (c : Dev nD) : sProp 𝕄 :=
  iprop((bigSep T.bars fun s => atPos ER (cell c s) 0 ∅ 0) ∗ (bigSep (scs T) fun s => openTok ER (cell c s)) ∗ bigSep T.cells fun s => tok T s c)

theorem emb_disjoint : Disjoint (emb T.bars : Finset (GSem nD τ sig)) (emb (scs T)) := by
  rw [Finset.disjoint_left]
  intro g h h'
  obtain ⟨x, hx, rfl⟩ := Finset.mem_map.mp h
  obtain ⟨y, hy, e⟩ := Finset.mem_map.mp h'
  have e2 : y.2 = x.2 := congrArg (fun z : Dev nD × SemLoc sig => z.2) (cellEmb.injective e)
  have h1 := (Finset.mem_product.mp hx).2
  have h2 := (Finset.mem_product.mp hy).2
  rw [e2] at h2
  exact (Finset.mem_sdiff.mp h2).2 h1

theorem emb_union : (emb T.bars ∪ emb (scs T) : Finset (GSem nD τ sig)) = emb T.cells := by
  unfold emb scs
  rw [← Finset.map_union, ← Finset.product_union, Finset.union_sdiff_of_subset T.bars_sub]

def turn : Dev nD ≃ Dev nD := ⟨T.peer, T.peer, T.peer_peer, T.peer_peer⟩

theorem toks_deal : bigSep (toks T) (fun x => (dutyTok ER x.1 x.2.1 x.2.2 : sProp 𝕄)) = bigSep Finset.univ fun c : Dev nD => bigSep T.cells fun s => tok T s c := by
  unfold toks
  rw [bigSep_map, sep_columns, ← sep_rows Finset.univ T.cells (fun x : Dev nD × SemLoc sig => tok T x.2 x.1), sep_columns]
  refine bigSep_congr fun s _ => ?_
  unfold tok payee
  cases h : T.cross s
  · exact bigSep_congr fun c _ => by rw [h]; rfl
  · refine (bigSep_univ_equiv (turn T) (fun c : Dev nD => (dutyTok ER (cell c s) 0 () : sProp 𝕄))).trans ?_
    exact bigSep_congr fun c _ => by rw [h]; rfl

theorem dealt {Φ Ψ : Dev nD → sProp 𝕄} :
    iprop(bigSep Finset.univ Φ ∗ bigSep Finset.univ Ψ) ⊢ bigSep Finset.univ fun c => iprop(Φ c ∗ Ψ c) :=
  Entails.of_eq (bigSep_sep _ _ _).symm

theorem undealt {Φ Ψ : Dev nD → sProp 𝕄} :
    bigSep Finset.univ (fun c => iprop(Φ c ∗ Ψ c)) ⊢ iprop(bigSep Finset.univ Φ ∗ bigSep Finset.univ Ψ) :=
  Entails.of_eq (bigSep_sep _ _ _)

/-- The launch element of the protocol. -/
abbrev seed : UR sig nD τ := launchOf (emb T.bars) (emb (scs T)) (toks T)

/-- The protocol set up on all devices at once. -/
theorem fund : iprop((bigSep Finset.univ fun c : Dev nD => bigSep T.bars fun s => semVal (cell c s) 0) ∗ BI.own (ER (seed T)))
    ⊢ (|={Set.univ}=> ∃ κ, records T κ ∗ bigSep Finset.univ fun c : Dev nD => linear T c : sProp 𝕄) := by
  rw [← bigSep_emb T.bars (fun g => (semVal g 0 : sProp 𝕄))]
  iintro ⟨Hv, Hu⟩
  imod (Rounds.fund_launch ER (rd T) (emb_disjoint T) (fun g _ h => h) (toks T)) $$ [Hv Hu] with ⟨%κ, -, #Hinv, #Hr, Hat, Hopen, Htok⟩
  · isplitl [Hv] <;> iassumption
  imodintro
  iexists κ
  isplitr
  · unfold records
    isplitr
    · rw [← emb_union]; iexact Hinv
    iexact Hr
  unfold linear
  iapply dealt
  isplitl [Hat]; · iapply (Entails.of_eq (bigSep_emb T.bars fun g => (atPos ER g 0 ∅ 0 : sProp 𝕄))) $$ Hat
  iapply dealt
  isplitl [Hopen]; · iapply (Entails.of_eq (bigSep_emb (scs T) fun g => (openTok ER g : sProp 𝕄))) $$ Hopen
  iapply (Entails.of_eq (toks_deal T)) $$ Htok

/-- A resource kept on one device until the global step. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, bigSep_emp_const]
  unfold onDev; rw [if_pos rfl]
  exact BI.equiv_iff.mp sep_emp

/-! ## The steps of a kernel's body -/

theorem open_cell (κ : GSem nD τ sig → ℕ) {s : SemLoc sig} (hs : s ∈ T.cells) (c : Dev nD) :
    iprop(records T κ ∗ openTok ER (cell c s) ∗ semVal (cell c s) 0) ⊢ (|={Set.univ}=> (atPos ER (cell c s) 0 ∅ 0 ∗ reached ER (cell c s) 0) : sProp 𝕄) := by
  iintro ⟨#HR, Ho, Hv⟩
  iapply (Rounds.cell_open ER (rd T) (g := cell c s) (Set.mem_univ (κ (cell c s))))
  isplitr; · iapply (records_inv T κ hs c); iexact HR
  isplitl [Ho] <;> iassumption

theorem close_cell (κ : GSem nD τ sig → ℕ) {s : SemLoc sig} (hs : s ∈ T.cells) (c : Dev nD) :
    iprop(records T κ ∗ atPos ER (cell c s) (0 + 1) ∅ 0) ⊢ (|={Set.univ}=> semVal (cell c s) 0 : sProp 𝕄) := by
  iintro ⟨#HR, Ha⟩
  iapply (Rounds.cell_close ER (rd T) (g := cell c s) (Set.mem_univ (κ (cell c s))) id (R := 0 + 1) (duties_later T _))
  isplitr; · iapply (records_inv T κ hs c); iexact HR
  iexact Ha

section Steps

variable {Λ : Labels} {defs : Defs nD τ sig Val Λ} (𝒱 : Variants) {α : Type}
  (κ : GSem nD τ sig → ℕ) (c : Dev nD) (l : List (SemLoc sig)) {W : Waits sig Unit}

/-- A signal of the partner's barrier semaphore `s`, the head of what is owed. -/
theorem step_signal {s : Sem sig} {n : ℕ} (hs : (.reg s : SemLoc sig) ∈ T.cells) (hn : T.amt (.reg s) = n)
    {d : Dev nD} (hd : d = T.peer c) (hx : T.cross (.reg s) = true) (hr : τ.routes (c : Thread nD τ) (d : Thread nD τ) = true)
    {k : PUnit → Prog (TpuEff nD τ sig Val Λ .tc) α} {Q : α → sProp 𝕄} :
    iprop(records T κ ∗ owes (c : Thread nD τ) (owe T (.reg s :: l) c) W ∗ tok T (.reg s) c ∗ T.pay (.reg s) (T.peer c) ∗ reached ER (cell (T.peer c) (.reg s)) 0)
      ⊢ iprop((owes (c : Thread nD τ) (owe T l c) W -∗ wp frame (wpE defs 𝒱 c none) Set.univ (k ⟨⟩) Q)
          -∗ wp frame (wpE defs 𝒱 c none) Set.univ (.op (.semSignal (Dev.tc d) s n) k) Q) := by
  subst hd
  iintro ⟨#HR, HO, Ht, Hp, #Hr⟩
  iapply (Rounds.wp_signal 𝒱 ER (rd T) (c : Thread nD τ) none (dst := (T.peer c : Thread nD τ)) (sem := s) (r := 0) (d := ()) (κ := κ (cell (T.peer c) (.reg s)))
      (duties_mem hs (T.peer c)) (by exact hn) () (owe T l c) (by subst hn; rfl))
  isplitr; · iapply (records_inv T κ hs (T.peer c)); iexact HR
  isplitl [HO]; · iexact HO
  isplitl [Ht]; · unfold tok payee; rw [if_pos hx]; iexact Ht
  isplitl [Hp]; · iapply (Entails.of_eq (show T.pay (.reg s) (T.peer c) = (rd T).payload (cell (T.peer c) (.reg s)) 0 () from rfl)) $$ Hp
  iexact Hr

/-- A wait on the own semaphore `s` for its one payment. -/
theorem step_wait {w : TpuEff nD τ sig Val Λ .tc PUnit} {s : SemLoc sig} {n : ℕ} (hs : s ∈ T.cells) (hn : T.amt s = n)
    (hw : ∀ K : PUnit → sProp 𝕄, wpE defs 𝒱 (c : Thread nD τ) none Set.univ w K = waitSpec (c : Thread nD τ) Set.univ s n K)
    (hl : ∀ s' ∈ l, T.lev s < T.lev s')
    {k : PUnit → Prog (TpuEff nD τ sig Val Λ .tc) α} {Q : α → sProp 𝕄} :
    iprop(records T κ ∗ levAts L (lv T) ∗ cred (tallyAt (cell c s) () (T.amt s)) ∗ owes (c : Thread nD τ) (owe T l c) W ∗ atPos ER (cell c s) 0 ∅ 0)
      ⊢ iprop(((owes (c : Thread nD τ) (owe T l c) (insert (s, ()) W) ∗ atPos ER (cell c s) (0 + 1) ∅ 0 ∗ T.pay s c) -∗ wp frame (wpE defs 𝒱 c none) Set.univ (k ⟨⟩) Q)
          -∗ wp frame (wpE defs 𝒱 c none) Set.univ (.op w k) Q) := by
  subst hn
  iintro ⟨#HR, #HL, Hc, HO, Ha⟩ Hk
  iapply (Rounds.wp_wait_rest_token 𝒱 ER (rd T) (c : Thread nD τ) none (κ := κ (cell c s)) hw (Set.mem_univ _) () (O := owe T l c) (W := W) (R := 0) (m := 0) (T := ∅)
      ((Nat.zero_add _).trans (expect_eq hs c).symm)) $$ [Hc HO Ha]
  · isplitr; · iapply (records_inv T κ hs c); iexact HR
    isplitl [Hc]; · iexact Hc
    isplitl [HO]; · iexact HO
    isplitr; · iapply (mayWait T c s l hl); iexact HL
    iexact Ha
  iintro ⟨HO, Ha, -, Hp⟩
  iapply Hk
  isplitl [HO]; · iexact HO
  isplitl [Ha]; · iexact Ha
  iapply (Entails.of_eq (rest_eq hs c)) $$ Hp

/-- A copy into the partner's memory, paying the own source semaphore `s₁` and the partner's semaphore `s₂`, the head of what is owed. -/
theorem step_send {sp sp' : Space} {sh : Shape} {e : EltTy} {src : Memref sig .tc sp sh e} {dst : Memref sig .tc sp' sh e}
    {s₁ s₂ : SemLoc sig} {d : Dev nD} (hd : d = T.peer c)
    {hsc : dst.view.ref.isScScratch = false}
    {hsrc : src.view.WordExact} {hdst : dst.view.WordExact} {hsem : DmaTarget.Typed sp s₂ (.remote (Dev.tc d : Thread nD τ) dst s₁ hsc)}
    {k : PUnit → Prog (TpuEff nD τ sig Val Λ .tc) α} {Q : α → sProp 𝕄} {q : PosShare TreeShare}
    {fs : Buf Val (src.view.loc (c : Thread nD τ))} (fd : Buf Val (dst.view.loc (d : Thread nD τ)))
    (h₁ : s₁ ∈ T.cells) (h₂ : s₂ ∈ T.cells) (x₁ : T.cross s₁ = false) (x₂ : T.cross s₂ = true)
    (hN : dst.view.amount s₂ = T.amt s₂) (hN' : T.amt s₁ = T.amt s₂)
    (hp₁ : (src.view.loc (c : Thread nD τ) ↦[src.view.set]{q} fs) ⊢ T.pay s₁ c)
    (hp₂ : (dst.view.loc (d : Thread nD τ) ↦[dst.view.set]{fullShare} (dst.view.write Val fd (src.view.read Val fs) Finset.univ)) ⊢ T.pay s₂ d)
    (hr : τ.routes (c : Thread nD τ) (Dev.tc d : Thread nD τ) = true) :
    iprop(records T κ ∗ (src.view.loc (c : Thread nD τ) ↦[src.view.set]{q} fs) ∗ (dst.view.loc (d : Thread nD τ) ↦[dst.view.set]{fullShare} fd)
        ∗ owes (c : Thread nD τ) (owe T (s₂ :: l) c) W ∗ tok T s₁ c ∗ reached ER (cell c s₁) 0 ∗ tok T s₂ c ∗ reached ER (cell (T.peer c) s₂) 0)
      ⊢ iprop(((cred (tallyAt (cell c s₁) () (T.amt s₁)) ∗ owes (c : Thread nD τ) (owe T l c) W) -∗ wp frame (wpE defs 𝒱 c none) Set.univ (k ⟨⟩) Q)
          -∗ wp frame (wpE defs 𝒱 c none) Set.univ (.op (.enqueueDma src (.remote (Dev.tc d : Thread nD τ) dst s₁ hsc) s₂ hsrc hdst hsem) k) Q) := by
  subst hd
  iintro ⟨#HR, Hs, Hd, HO, Ht₁, #Hr₁, Ht₂, #Hr₂⟩
  rw [hN']
  iapply (Rounds.wp_send_pointsTo 𝒱 ER (rd T) (c : Thread nD τ) none (κ₁ := κ (cell c s₁)) (κ₂ := κ (cell (T.peer c) s₂))
      (r₁ := 0) (r₂ := 0) (d₁ := ()) (d₂ := ()) (fd := fd) (duties_mem h₁ c) (duties_mem h₂ (T.peer c)) () () (T.amt s₂) hN hN' rfl (owe T l c) rfl hp₁ hp₂ hr)
  isplitr; · iapply (records_inv T κ h₁ c); iexact HR
  isplitr; · iapply (records_inv T κ h₂ (T.peer c)); iexact HR
  isplitl [Hs]; · iexact Hs
  isplitl [Hd]; · iexact Hd
  isplitl [HO]; · iexact HO
  isplitl [Ht₁]; · unfold tok payee; rw [x₁]; iexact Ht₁
  isplitr; · iexact Hr₁
  isplitl [Ht₂]; · unfold tok payee; rw [x₂]; iexact Ht₂
  iexact Hr₂

/-- A local copy on the own semaphore `s`. -/
theorem step_copy {sp sp' : Space} {sh : Shape} {e : EltTy} {src : Memref sig .tc sp sh e} {dst : Memref sig .tc sp' sh e} {s : SemLoc sig}
    {hsrc : src.view.WordExact} {hdst : dst.view.WordExact} {hsem : DmaTarget.Typed sp s (DmaTarget.here (nD := nD) (τ := τ) (p := .tc) dst)}
    {k : PUnit → Prog (TpuEff nD τ sig Val Λ .tc) α} {Q : α → sProp 𝕄} {q : PosShare TreeShare}
    {fs : Buf Val (src.view.loc (c : Thread nD τ))} (fd : Buf Val (dst.view.loc (c : Thread nD τ)))
    (h : s ∈ T.cells) (x : T.cross s = false) (hN : dst.view.amount s = T.amt s)
    (hp : iprop((dst.view.loc (c : Thread nD τ) ↦[dst.view.set]{fullShare} (dst.view.write Val fd (src.view.read Val fs) Finset.univ))
              ∗ (src.view.loc (c : Thread nD τ) ↦[src.view.set]{q} fs)) ⊢ T.pay s c) :
    iprop(records T κ ∗ (src.view.loc (c : Thread nD τ) ↦[src.view.set]{q} fs) ∗ (dst.view.loc (c : Thread nD τ) ↦[dst.view.set]{fullShare} fd)
        ∗ tok T s c ∗ reached ER (cell c s) 0)
      ⊢ iprop((cred (tallyAt (cell c s) () (T.amt s)) -∗ wp frame (wpE defs 𝒱 c none) Set.univ (k ⟨⟩) Q)
          -∗ wp frame (wpE defs 𝒱 c none) Set.univ (.op (.enqueueDma src (.here dst) s hsrc hdst hsem) k) Q) := by
  iintro ⟨#HR, Hs, Hd, Ht, #Hr⟩
  iapply (Rounds.wp_copy_pointsTo 𝒱 ER (rd T) (c : Thread nD τ) none (κ := κ (cell c s)) (r := 0) (d := ()) (fd := fd) (duties_mem h c) () (T.amt s) hN rfl hp)
  isplitr; · iapply (records_inv T κ h c); iexact HR
  isplitl [Hs]; · iexact Hs
  isplitl [Hd]; · iexact Hd
  isplitl [Ht]; · unfold tok payee; rw [x]; iexact Ht
  iexact Hr

end Steps

end Cert.Pair

end
-- ==== Proof.Talk.lean ====
/- The protocol of the two exchanges between a device and its partner: the semaphores of both calls, what each payment hands over, what is owed at launch.
   The contents the second exchange sends are a parameter. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Pair

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pair (EP ER UU cell)
open Cert.KernelIdeal.Gen

variable {F : FTy → Type} [FloatOps F]

local notation "𝕄" => MT nD τ sig Unit (Elt F) ℕ (UU nD τ sig) ℕ

abbrev 𝒱₀ : Variants := Variants.none

/-- The partner: the device at the other place of the second mesh axis. -/
def pr (c : Dev nD) : Dev nD := ⟨k0_dev1 c, k0_dev1_lt c⟩
theorem pr_pr : ∀ c, pr (pr c) = c := by decide +kernel
theorem dev2_eq : ∀ c, (⟨k0_dev2 c, k0_dev2_lt c⟩ : Dev nD) = pr c := by decide +kernel
theorem dev1R_eq : ∀ c, (⟨k3_dev1 c, k3_dev1_lt c⟩ : Dev nD) = pr c := by decide +kernel
theorem dev2R_eq : ∀ c, (⟨k3_dev2 c, k3_dev2_lt c⟩ : Dev nD) = pr c := by decide +kernel
theorem dev3_eq : ∀ c, (⟨k0_dev3 c, k0_dev3_lt c⟩ : Dev nD) = pr c := by decide +kernel

abbrev barS : SemLoc sig := .reg barrier0
abbrev locS : SemLoc sig := .dma 0
abbrev sndX : SemLoc sig := .dma 2
abbrev sndA : SemLoc sig := .dma 3
abbrev rcvX : SemLoc sig := .dma 4
abbrev rcvA : SemLoc sig := .dma 5

abbrev barR : SemLoc sig := .reg barrier1
abbrev sndR : SemLoc sig := .dma 23
abbrev rcvR : SemLoc sig := .dma 24

abbrev xM : Memref sig .tc .hbm S4096x2048 .f32 := Memref.whole main_arg0
abbrev aM : Memref sig .tc .hbm S1x4096 .i32 := Memref.whole main_v5
abbrev XM : Memref sig .tc .hbm S2x4096x2048 .f32 := Memref.whole main_v6_0
abbrev AM : Memref sig .tc .hbm S2x1x4096 .i32 := Memref.whole main_v6_1

/-- Device `d`'s row of the gathered tokens, and of the gathered assignments. -/
abbrev xRow (d : Dev nD) : Memref sig .tc .hbm S4096x2048 .f32 :=
  (XM.slice (Rect.unit (s := S2x4096x2048) (k0_off1 d) S1x4096x2048.size (k0_off1_inb d)) (fun _ => rfl)).squeeze S4096x2048 squeezes_S1x4096x2048_S4096x2048
abbrev aRow (d : Dev nD) : Memref sig .tc .hbm S1x4096 .i32 :=
  (AM.slice (Rect.unit (s := S2x1x4096) (k0_off2 d) S1x1x4096.size (k0_off2_inb d)) (fun _ => rfl)).squeeze S1x4096 squeezes_S1x1x4096_S1x4096

/-- What the second exchange sends, and where it lands. -/
abbrev tM : Memref sig .tc .hbm S4096x2048 .f32 := Memref.whole main_v89
abbrev rM : Memref sig .tc .hbm S4096x2048 .f32 := Memref.whole main_v90

abbrev NX : ℕ := xM.view.dmaCredit
abbrev NA : ℕ := aM.view.dmaCredit
theorem NX_pos : 0 < NX := View.dmaCredit_pos _ (by decide)
theorem NA_pos : 0 < NA := View.dmaCredit_pos _ (by decide)

theorem sem40 : ((cc0_scratch0.slice (Rect.unit (s := S2) ![0] S1.size inb_S2_S1_0)).squeeze S_ squeezes_S1_S_).sem = 0 := by decide +kernel
theorem sem50 : ((cc0_scratch1.slice (Rect.unit (s := S2) ![0] S1.size inb_S2_S1_0)).squeeze S_ squeezes_S1_S_).sem = 2 := by decide +kernel
theorem sem51 : ((cc0_scratch1.slice (Rect.unit (s := S2) ![1] S1.size inb_S2_S1_1)).squeeze S_ squeezes_S1_S_).sem = 3 := by decide +kernel
theorem sem60 : ((cc0_scratch2.slice (Rect.unit (s := S2) ![0] S1.size inb_S2_S1_0)).squeeze S_ squeezes_S1_S_).sem = 4 := by decide +kernel
theorem sem61 : ((cc0_scratch2.slice (Rect.unit (s := S2) ![1] S1.size inb_S2_S1_1)).squeeze S_ squeezes_S1_S_).sem = 5 := by decide +kernel

theorem amount_xRow (d : Dev nD) : (xRow d).view.dmaCredit = NX := rfl
theorem amount_aRow (d : Dev nD) : (aRow d).view.dmaCredit = NA := rfl

variable (m : (ℓ : Loc nD τ sig) → Buf (Elt F) ℓ) (th : Dev nD → S4096x2048.Idx → Elt F .f32)

/-- Memref `M`'s elements on device `c`, at a share. -/
abbrev pt {sp : Space} {S : Shape} {e : EltTy} (M : Memref sig .tc sp S e) (q : PosShare TreeShare) (c : Dev nD) (f : Buf (Elt F) (M.view.loc (c : Thread nD τ))) : sProp 𝕄 :=
  M.view.loc (c : Thread nD τ) ↦[M.view.set]{q} f

abbrev qL : PosShare TreeShare := fullShare.left
abbrev qR : PosShare TreeShare := fullShare.right

/-- Device `d`'s row written with its tokens, over the contents on device `c`; the same for the assignments. -/
abbrev wX (d c : Dev nD) : Buf (Elt F) ((xRow d).view.loc (c : Thread nD τ)) :=
  (xRow d).view.write (Elt F) (V1 m c main_v6_0) (xM.view.read (Elt F) (V1 m d main_arg0)) Finset.univ
abbrev wA (d c : Dev nD) : Buf (Elt F) ((aRow d).view.loc (c : Thread nD τ)) :=
  (aRow d).view.write (Elt F) (V1 m c main_v6_1) (aM.view.read (Elt F) (V1 m d main_v5)) Finset.univ

/-- What the first signal to device `c` hands over: its rows in its partner's arrays, and that its partner's landings are open. -/
def give (c : Dev nD) : sProp 𝕄 :=
  iprop((pt (xRow c) fullShare (pr c) (V1 m (pr c) main_v6_0) ∗ pt (aRow c) fullShare (pr c) (V1 m (pr c) main_v6_1))
    ∗ reached ER (cell (pr c) rcvX) 0 ∗ reached ER (cell (pr c) rcvA) 0)

/-- What the second signal to device `c` hands over: its partner's result array, and that its partner's landing is open. -/
def giveR (c : Dev nD) : sProp 𝕄 := iprop((∃ f, pt rM fullShare (pr c) f) ∗ reached ER (cell (pr c) rcvR) 0)

def pay (s : SemLoc sig) (c : Dev nD) : sProp 𝕄 :=
  if s = barS then give m c
  else if s = locS then iprop(pt (xRow c) fullShare c (wX m c c) ∗ pt xM qL c (V1 m c main_arg0))
  else if s = sndX then pt xM qR c (V1 m c main_arg0)
  else if s = sndA then pt aM fullShare c (V1 m c main_v5)
  else if s = rcvX then pt (xRow (pr c)) fullShare c (wX m (pr c) c)
  else if s = rcvA then pt (aRow (pr c)) fullShare c (wA m (pr c) c)
  else if s = barR then giveR c
  else if s = sndR then pt tM fullShare c (th c)
  else if s = rcvR then pt rM fullShare c (th (pr c))
  else iprop(emp)

/-- Which semaphores the partner pays, how much, and their order. -/
abbrev crossS (s : SemLoc sig) : Bool := decide (s = barS ∨ s = rcvX ∨ s = rcvA ∨ s = barR ∨ s = rcvR)
abbrev amtS (s : SemLoc sig) : ℕ := if s = barS ∨ s = barR then 1 else if s = sndA ∨ s = rcvA then NA else NX
abbrev levS (s : SemLoc sig) : ℕ := if s = barS then 1 else if s = rcvX ∨ s = rcvA then 2 else if s = barR then 3 else if s = rcvR then 4 else 0

abbrev talk : Pair.Talk nD τ sig (Elt F) where
  peer := pr
  peer_peer := pr_pr
  cells := {barS, locS, sndX, sndA, rcvX, rcvA, barR, sndR, rcvR}
  bars := {barS, barR}
  bars_sub := by decide
  cross := crossS
  amt := amtS
  amt_pos s := by
    unfold amtS
    split
    · exact Nat.one_pos
    · split
      · exact NA_pos
      · exact NX_pos
  lev := levS
  pay := pay m th
  stor s c := by
    unfold pay give giveR
    (repeat' split) <;> infer_instance

theorem mem_cells {s : SemLoc sig} (h : s ∈ ({barS, locS, sndX, sndA, rcvX, rcvA, barR, sndR, rcvR} : Finset (SemLoc sig))) : s ∈ (talk m th).cells := h
theorem mem_bars {s : SemLoc sig} (h : s ∈ ({barS, barR} : Finset (SemLoc sig))) : s ∈ (talk m th).bars := h

theorem pay_bar (c : Dev nD) : pay m th barS c = give m c := by
  unfold pay; repeat first | rw [if_pos rfl] | rw [if_neg (by decide)]
theorem pay_loc (c : Dev nD) : pay m th locS c = iprop(pt (xRow c) fullShare c (wX m c c) ∗ pt xM qL c (V1 m c main_arg0)) := by
  unfold pay; repeat first | rw [if_pos rfl] | rw [if_neg (by decide)]
theorem pay_sndX (c : Dev nD) : pay m th sndX c = pt xM qR c (V1 m c main_arg0) := by
  unfold pay; repeat first | rw [if_pos rfl] | rw [if_neg (by decide)]
theorem pay_sndA (c : Dev nD) : pay m th sndA c = pt aM fullShare c (V1 m c main_v5) := by
  unfold pay; repeat first | rw [if_pos rfl] | rw [if_neg (by decide)]
theorem pay_rcvX (c : Dev nD) : pay m th rcvX c = pt (xRow (pr c)) fullShare c (wX m (pr c) c) := by
  unfold pay; repeat first | rw [if_pos rfl] | rw [if_neg (by decide)]
theorem pay_rcvA (c : Dev nD) : pay m th rcvA c = pt (aRow (pr c)) fullShare c (wA m (pr c) c) := by
  unfold pay; repeat first | rw [if_pos rfl] | rw [if_neg (by decide)]
theorem pay_barR (c : Dev nD) : pay m th barR c = giveR c := by
  unfold pay; repeat first | rw [if_pos rfl] | rw [if_neg (by decide)]
theorem pay_sndR (c : Dev nD) : pay m th sndR c = pt tM fullShare c (th c) := by
  unfold pay; repeat first | rw [if_pos rfl] | rw [if_neg (by decide)]
theorem pay_rcvR (c : Dev nD) : pay m th rcvR c = pt rM fullShare c (th (pr c)) := by
  unfold pay; repeat first | rw [if_pos rfl] | rw [if_neg (by decide)]

theorem landX (c d : Dev nD) (hd : d = pr c) : pt (xRow c) fullShare d (wX m c d) ⊢ pay m th rcvX d := by
  subst hd
  refine (Entails.of_eq ?_).trans (Entails.of_eq (pay_rcvX m th (pr c)).symm)
  rw [pr_pr]
theorem landA (c d : Dev nD) (hd : d = pr c) : pt (aRow c) fullShare d (wA m c d) ⊢ pay m th rcvA d := by
  subst hd
  refine (Entails.of_eq ?_).trans (Entails.of_eq (pay_rcvA m th (pr c)).symm)
  rw [pr_pr]
theorem landR (c d : Dev nD) (hd : d = pr c) (fd : Buf (Elt F) (rM.view.loc (d : Thread nD τ))) :
    pt rM fullShare d (rM.view.write (Elt F) fd (tM.view.read (Elt F) (th c)) Finset.univ) ⊢ pay m th rcvR d := by
  subst hd
  refine (Entails.of_eq ?_).trans (Entails.of_eq (pay_rcvR m th (pr c)).symm)
  rw [pr_pr]
  congr 1
  show (View.whole main_v90).write (Elt F) fd ((View.whole main_v89).read (Elt F) (th c)) Finset.univ = th c
  rw [View.read_whole]
  exact View.write_whole_univ _ _ _

/-- What a device owes after the first exchange, and at launch. -/
abbrev late : List (SemLoc sig) := [barR, rcvR]
abbrev owedLate : Dev nD → CellTallies nD τ sig Unit := Pair.owe (talk m th) late
abbrev due : Dev nD → CellTallies nD τ sig Unit := Pair.owe (talk m th) [barS, rcvX, rcvA, barR, rcvR]

/-- An own semaphore, opened. -/
def opened (s : SemLoc sig) (c : Dev nD) : sProp 𝕄 := iprop(atPos ER (cell c s) 0 ∅ 0 ∗ reached ER (cell c s) 0)

/-! ## What a device keeps from the launch -/

/-- For the first exchange. -/
def Tk0 (c : Dev nD) : sProp 𝕄 :=
  iprop(∃ κ, Pair.records (talk m th) κ ∗ atPos ER (cell c barS) 0 ∅ 0
    ∗ (openTok ER (cell c locS) ∗ openTok ER (cell c sndX) ∗ openTok ER (cell c sndA) ∗ openTok ER (cell c rcvX) ∗ openTok ER (cell c rcvA))
    ∗ (Pair.tok (talk m th) barS c ∗ Pair.tok (talk m th) locS c ∗ Pair.tok (talk m th) sndX c ∗ Pair.tok (talk m th) sndA c ∗ Pair.tok (talk m th) rcvX c ∗ Pair.tok (talk m th) rcvA c)
    ∗ (cred (tallyAt (cell c barS) () ((talk m th).amt barS)) ∗ cred (tallyAt (cell c rcvX) () ((talk m th).amt rcvX)) ∗ cred (tallyAt (cell c rcvA) () ((talk m th).amt rcvA))))

/-- For the second. -/
def Tk3 (c : Dev nD) : sProp 𝕄 :=
  iprop(∃ κ, Pair.records (talk m th) κ ∗ atPos ER (cell c barR) 0 ∅ 0
    ∗ (openTok ER (cell c sndR) ∗ openTok ER (cell c rcvR))
    ∗ (Pair.tok (talk m th) barR c ∗ Pair.tok (talk m th) sndR c ∗ Pair.tok (talk m th) rcvR c)
    ∗ (cred (tallyAt (cell c barR) () ((talk m th).amt barR)) ∗ cred (tallyAt (cell c rcvR) () ((talk m th).amt rcvR))))

theorem linear_eq (c : Dev nD) : Pair.linear (talk m th) c
    = iprop((atPos ER (cell c barS) 0 ∅ 0 ∗ atPos ER (cell c barR) 0 ∅ 0)
        ∗ (openTok ER (cell c locS) ∗ openTok ER (cell c sndX) ∗ openTok ER (cell c sndA) ∗ openTok ER (cell c rcvX) ∗ openTok ER (cell c rcvA)
          ∗ openTok ER (cell c sndR) ∗ openTok ER (cell c rcvR))
        ∗ (Pair.tok (talk m th) barS c ∗ Pair.tok (talk m th) locS c ∗ Pair.tok (talk m th) sndX c ∗ Pair.tok (talk m th) sndA c ∗ Pair.tok (talk m th) rcvX c ∗ Pair.tok (talk m th) rcvA c
          ∗ Pair.tok (talk m th) barR c ∗ Pair.tok (talk m th) sndR c ∗ Pair.tok (talk m th) rcvR c)) := by
  unfold Pair.linear
  rw [show (talk m th).bars = {barS, barR} from rfl, bigSep_eq_bigSepL_of_eq [barS, barR] (by decide) (by decide),
    show Pair.scs (talk m th) = {locS, sndX, sndA, rcvX, rcvA, sndR, rcvR} from
      (by decide : ({barS, locS, sndX, sndA, rcvX, rcvA, barR, sndR, rcvR} : Finset (SemLoc sig)) \ {barS, barR} = {locS, sndX, sndA, rcvX, rcvA, sndR, rcvR}),
    bigSep_eq_bigSepL_of_eq [locS, sndX, sndA, rcvX, rcvA, sndR, rcvR] (by decide) (by decide),
    show (talk m th).cells = {barS, locS, sndX, sndA, rcvX, rcvA, barR, sndR, rcvR} from rfl,
    bigSep_eq_bigSepL_of_eq [barS, locS, sndX, sndA, rcvX, rcvA, barR, sndR, rcvR] (by decide) (by decide)]
  rfl

theorem kept (κ : GSem nD τ sig → ℕ) (c : Dev nD) :
    iprop(Pair.records (talk m th) κ ∗ Pair.linear (talk m th) c ∗ Pair.creds (talk m th) [barS, rcvX, rcvA, barR, rcvR] c) ⊢ iprop(Tk0 m th c ∗ Tk3 m th c) := by
  rw [linear_eq]
  simp only [Pair.creds]
  unfold Tk0 Tk3
  iintro ⟨#HR, ⟨⟨HaB, HaR⟩, ⟨Ho1, Ho2, Ho3, Ho4, Ho5, Ho6, Ho7⟩, ⟨Ht1, Ht2, Ht3, Ht4, Ht5, Ht6, Ht7⟩⟩, Hc1, Hc2, Hc3, Hc4, Hc5, -⟩
  isplitl [HaB Ho1 Ho2 Ho3 Ho4 Ho5 Ht1 Ht2 Ht3 Ht4 Ht5 Ht6 Hc1 Hc2 Hc3]
  · iexists κ
    isplitr; · iexact HR
    isplitl [HaB]; · iexact HaB
    isplitl [Ho1 Ho2 Ho3 Ho4 Ho5]
    · isplitl [Ho1]; · iexact Ho1
      isplitl [Ho2]; · iexact Ho2
      isplitl [Ho3]; · iexact Ho3
      isplitl [Ho4] <;> iassumption
    isplitl [Ht1 Ht2 Ht3 Ht4 Ht5 Ht6]
    · isplitl [Ht1]; · iexact Ht1
      isplitl [Ht2]; · iexact Ht2
      isplitl [Ht3]; · iexact Ht3
      isplitl [Ht4]; · iexact Ht4
      isplitl [Ht5] <;> iassumption
    isplitl [Hc1]; · iexact Hc1
    isplitl [Hc2] <;> iassumption
  iexists κ
  isplitr; · iexact HR
  isplitl [HaR]; · iexact HaR
  isplitl [Ho6 Ho7]
  · isplitl [Ho6] <;> iassumption
  isplitl [Ht7]
  · iexact Ht7
  isplitl [Hc4] <;> iassumption

/-- A call of no windows. -/
theorem no_windows {M : Type} [URA M] (Φ : Fin 0 → sProp M) : bigSep Finset.univ Φ = (BI.emp : sProp M) :=
  bigSep_univ_eq_bigSepL [] (by decide) (by decide) Φ

end Cert.KernelIdeal.Gather

end
-- ==== Proof.Exchange.lean ====
/- The exchange of the tokens and their assignments: each device signals its partner's barrier semaphore, waits for its own, copies its tokens into its
   row of its own array and of its partner's, its assignments into its row of its partner's, and waits for all of them. Over any float interpretation. -/
module

public import proofs.«01_k».proof.Proof.Talk

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pair (EP ER UU cell)
open Cert.KernelIdeal.Gen

variable {F : FTy → Type} [FloatOps F]

local notation "𝕄" => MT nD τ sig Unit (Elt F) ℕ (UU nD τ sig) ℕ

variable (m : (ℓ : Loc nD τ sig) → Buf (Elt F) ℓ) (th : Dev nD → S4096x2048.Idx → Elt F .f32)

/-! ## The body -/

/-- What the body needs of the protocol. -/
def Xk (c : Dev nD) : sProp 𝕄 :=
  iprop(∃ κ, Pair.records (talk m th) κ ∗ levAts Pair.L (Pair.lv (talk m th)) ∗ atPos ER (cell c barS) 0 ∅ 0
    ∗ (opened locS c ∗ opened sndX c ∗ opened sndA c ∗ opened rcvX c ∗ opened rcvA c)
    ∗ (Pair.tok (talk m th) barS c ∗ Pair.tok (talk m th) locS c ∗ Pair.tok (talk m th) sndX c ∗ Pair.tok (talk m th) sndA c ∗ Pair.tok (talk m th) rcvX c ∗ Pair.tok (talk m th) rcvA c)
    ∗ (cred (tallyAt (cell c barS) () ((talk m th).amt barS)) ∗ cred (tallyAt (cell c rcvX) () ((talk m th).amt rcvX)) ∗ cred (tallyAt (cell c rcvA) () ((talk m th).amt rcvA))))

/-- The rows and the arguments before, and after. -/
def before (c : Dev nD) : sProp 𝕄 :=
  iprop(pt xM fullShare c (V1 m c main_arg0) ∗ pt aM fullShare c (V1 m c main_v5)
    ∗ (pt (xRow c) fullShare c (V1 m c main_v6_0) ∗ pt (xRow (pr c)) fullShare c (V1 m c main_v6_0))
    ∗ pt (aRow (pr c)) fullShare c (V1 m c main_v6_1))
def after (c : Dev nD) : sProp 𝕄 :=
  iprop(pt xM fullShare c (V1 m c main_arg0) ∗ pt aM fullShare c (V1 m c main_v5)
    ∗ (pt (xRow c) fullShare c (wX m c c) ∗ pt (xRow (pr c)) fullShare c (wX m (pr c) c))
    ∗ pt (aRow (pr c)) fullShare c (wA m (pr c) c))

/-- The counters back at zero. -/
def closed (c : Dev nD) : sProp 𝕄 :=
  iprop(semVal (cell c barS) 0 ∗ semVal (cell c locS) 0 ∗ semVal (cell c sndX) 0 ∗ semVal (cell c sndA) 0 ∗ semVal (cell c rcvX) 0 ∗ semVal (cell c rcvA) 0)

theorem run (c : Dev nD) (W : Waits sig Unit) (Kt : PUnit → sProp 𝕄) :
    iprop((Xk m th c ∗ before m c ∗ owes (c : Thread nD τ) (due m th c) W)
        ∗ ((closed c ∗ after m c ∗ ∃ W', owes (c : Thread nD τ) (owedLate m th c) W') -∗ Kt ⟨⟩))
      ⊢ wp frame (wpE (defs₀ (F := F)) 𝒱₀ c none) Set.univ (bodyAt0 t0_0) Kt := by
  unfold bodyAt0
  rw [cc0_body_eq_skeleton]
  unfold cc0_body_skel
  rw [k0_part1_eq_skeleton, k0_part2_eq_skeleton]
  unfold k0_part1_skel k0_part2_skel
  simp only [semSignalWord, semWaitWord, Prog.lift, Prog.bind_op, Prog.bind_ret, Prog.pure_eq_ret, wp_deviceId, sem40, sem50, sem51, sem60, sem61]
  unfold Xk before opened
  iintro ⟨⟨⟨%κ, #HR, #HL, HaB, ⟨⟨HaL, #HrL⟩, ⟨HaSX, #HrSX⟩, ⟨HaSA, #HrSA⟩, ⟨HaRX, #HrRX⟩, ⟨HaRA, #HrRA⟩⟩,
    ⟨HtB, HtL, HtSX, HtSA, HtRX, HtRA⟩, HcB, HcRX, HcRA⟩, ⟨Hx, Ha, ⟨HX, HX'⟩, HA'⟩, HO⟩, Hk⟩
  iapply (Pair.step_signal (talk m th) 𝒱₀ κ c [rcvX, rcvA, barR, rcvR] (s := barrier0) (mem_cells m th (by decide)) (by rfl) (by rfl) (by rfl) (by routes)) $$ [HO HtB HX' HA']
  · isplitr; · iexact HR
    isplitl [HO]; · iexact HO
    isplitl [HtB]; · iexact HtB
    isplitl [HX' HA']
    · iapply (Entails.of_eq (pay_bar m th (pr c)).symm)
      unfold give
      rw [pr_pr]
      isplitl [HX' HA']
      · isplitl [HX'] <;> iassumption
      isplitr; · iexact HrRX
      iexact HrRA
    iapply (Pair.records_reached (talk m th) κ (mem_bars m th (by decide)) (pr c)); iexact HR
  iintro HO
  iapply (Pair.step_wait (talk m th) 𝒱₀ κ c [rcvX, rcvA, barR, rcvR] (s := barS) (mem_cells m th (by decide)) (by rfl) (wpE_semWait_eq 𝒱₀ (c : Thread nD τ) none Set.univ)
    (show ∀ s' ∈ ([rcvX, rcvA, barR, rcvR] : List (SemLoc sig)), levS barS < levS s' from by decide)) $$ [HcB HO HaB]
  · isplitr; · iexact HR
    isplitr; · iexact HL
    isplitl [HcB]; · iexact HcB
    isplitl [HO] <;> iassumption
  iintro ⟨HO, HaB, Hp⟩
  ihave Hp' := (Entails.of_eq (pay_bar m th c)) $$ Hp
  unfold give
  icases Hp' with ⟨⟨HnX, HnA⟩, #HrNX, #HrNA⟩
  ihave Hxs := (pointsTo_share (PosShare.mem_left_op_right fullShare)).1 $$ Hx
  icases Hxs with ⟨HxL, HxR⟩
  iapply (Pair.step_copy (talk m th) 𝒱₀ κ c (src := xM) (dst := xRow c) (s := locS) (q := qL) (fs := V1 m c main_arg0) (V1 m c main_v6_0)
    (mem_cells m th (by decide)) rfl rfl (Entails.of_eq (pay_loc m th c).symm)) $$ [HxL HX HtL]
  · isplitr; · iexact HR
    isplitl [HxL]; · iexact HxL
    isplitl [HX]; · iexact HX
    isplitl [HtL]; · iexact HtL
    iexact HrL
  iintro HcL
  have hR : τ.routes (c : Thread nD τ) (Dev.tc ⟨k0_dev2 c, k0_dev2_lt c⟩ : Thread nD τ) = true := by routes
  have hR' : τ.routes (c : Thread nD τ) (Dev.tc ⟨k0_dev3 c, k0_dev3_lt c⟩ : Thread nD τ) = true := by routes
  rw [← dev2_eq c]
  iapply (Pair.step_send (talk m th) 𝒱₀ κ c [rcvA, barR, rcvR] (src := xM) (dst := xRow c) (s₁ := sndX) (s₂ := rcvX) (d := ⟨k0_dev2 c, k0_dev2_lt c⟩) (dev2_eq c) (q := qR)
    (fs := V1 m c main_arg0) (V1 m ⟨k0_dev2 c, k0_dev2_lt c⟩ main_v6_0)
    (mem_cells m th (by decide)) (mem_cells m th (by decide)) rfl rfl rfl rfl (Entails.of_eq (pay_sndX m th c).symm) (landX m th c _ (dev2_eq c)) hR) $$ [HxR HnX HO HtSX HtRX]
  · isplitr; · iexact HR
    isplitl [HxR]; · iexact HxR
    isplitl [HnX]; · iexact HnX
    isplitl [HO]; · iexact HO
    isplitl [HtSX]; · iexact HtSX
    isplitr; · iexact HrSX
    isplitl [HtRX]; · iexact HtRX
    iexact HrNX
  iintro ⟨HcSX, HO⟩
  rw [(dev2_eq c).trans (dev3_eq c).symm]
  iapply (Pair.step_send (talk m th) 𝒱₀ κ c late (src := aM) (dst := aRow c) (s₁ := sndA) (s₂ := rcvA) (d := ⟨k0_dev3 c, k0_dev3_lt c⟩) (dev3_eq c) (q := fullShare)
    (fs := V1 m c main_v5) (V1 m ⟨k0_dev3 c, k0_dev3_lt c⟩ main_v6_1)
    (mem_cells m th (by decide)) (mem_cells m th (by decide)) rfl rfl rfl rfl (Entails.of_eq (pay_sndA m th c).symm) (landA m th c _ (dev3_eq c)) hR') $$ [Ha HnA HO HtSA HtRA]
  · isplitr; · iexact HR
    isplitl [Ha]; · iexact Ha
    isplitl [HnA]; · iexact HnA
    isplitl [HO]; · iexact HO
    isplitl [HtSA]; · iexact HtSA
    isplitr; · iexact HrSA
    isplitl [HtRA]; · iexact HtRA
    iexact HrNA
  iintro ⟨HcSA, HO⟩
  iapply (Pair.step_wait (talk m th) 𝒱₀ κ c late (s := locS) (mem_cells m th (by decide)) (by rfl) (wpE_waitDma2_eq 𝒱₀ (c : Thread nD τ) none Set.univ)
    (show ∀ s' ∈ late, levS locS < levS s' from by decide)) $$ [HcL HO HaL]
  · isplitr; · iexact HR
    isplitr; · iexact HL
    isplitl [HcL]; · iexact HcL
    isplitl [HO] <;> iassumption
  iintro ⟨HO, HaL, Hp⟩
  ihave HpL := (Entails.of_eq (pay_loc m th c)) $$ Hp
  icases HpL with ⟨HX, HxL⟩
  iapply (Pair.step_wait (talk m th) 𝒱₀ κ c late (s := sndX) (mem_cells m th (by decide)) (by rfl) (wpE_waitDma2_eq 𝒱₀ (c : Thread nD τ) none Set.univ)
    (show ∀ s' ∈ late, levS sndX < levS s' from by decide)) $$ [HcSX HO HaSX]
  · isplitr; · iexact HR
    isplitr; · iexact HL
    isplitl [HcSX]; · iexact HcSX
    isplitl [HO] <;> iassumption
  iintro ⟨HO, HaSX, Hp⟩
  ihave HxR := (Entails.of_eq (pay_sndX m th c)) $$ Hp
  iapply (Pair.step_wait (talk m th) 𝒱₀ κ c late (s := rcvX) (mem_cells m th (by decide)) (by rfl) (wpE_waitDma2_eq 𝒱₀ (c : Thread nD τ) none Set.univ)
    (show ∀ s' ∈ late, levS rcvX < levS s' from by decide)) $$ [HcRX HO HaRX]
  · isplitr; · iexact HR
    isplitr; · iexact HL
    isplitl [HcRX]; · iexact HcRX
    isplitl [HO] <;> iassumption
  iintro ⟨HO, HaRX, Hp⟩
  ihave HX' := (Entails.of_eq (pay_rcvX m th c)) $$ Hp
  iapply (Pair.step_wait (talk m th) 𝒱₀ κ c late (s := sndA) (mem_cells m th (by decide)) (by rfl) (wpE_waitDma2_eq 𝒱₀ (c : Thread nD τ) none Set.univ)
    (show ∀ s' ∈ late, levS sndA < levS s' from by decide)) $$ [HcSA HO HaSA]
  · isplitr; · iexact HR
    isplitr; · iexact HL
    isplitl [HcSA]; · iexact HcSA
    isplitl [HO] <;> iassumption
  iintro ⟨HO, HaSA, Hp⟩
  ihave Ha := (Entails.of_eq (pay_sndA m th c)) $$ Hp
  iapply (Pair.step_wait (talk m th) 𝒱₀ κ c late (s := rcvA) (mem_cells m th (by decide)) (by rfl) (wpE_waitDma2_eq 𝒱₀ (c : Thread nD τ) none Set.univ)
    (show ∀ s' ∈ late, levS rcvA < levS s' from by decide)) $$ [HcRA HO HaRA]
  · isplitr; · iexact HR
    isplitr; · iexact HL
    isplitl [HcRA]; · iexact HcRA
    isplitl [HO] <;> iassumption
  iintro ⟨HO, HaRA, Hp⟩
  ihave HA' := (Entails.of_eq (pay_rcvA m th c)) $$ Hp
  ihave Hx := (pointsTo_share (PosShare.mem_left_op_right fullShare)).2 $$ [HxL HxR]
  · isplitl [HxL] <;> iassumption
  rw [wp_ret]
  imod (Pair.close_cell (talk m th) κ (s := barS) (mem_cells m th (by decide)) c) $$ [HaB] with Hb
  · isplitr; · iexact HR
    iexact HaB
  imod (Pair.close_cell (talk m th) κ (s := locS) (mem_cells m th (by decide)) c) $$ [HaL] with Hl
  · isplitr; · iexact HR
    iexact HaL
  imod (Pair.close_cell (talk m th) κ (s := sndX) (mem_cells m th (by decide)) c) $$ [HaSX] with Hsx
  · isplitr; · iexact HR
    iexact HaSX
  imod (Pair.close_cell (talk m th) κ (s := sndA) (mem_cells m th (by decide)) c) $$ [HaSA] with Hsa
  · isplitr; · iexact HR
    iexact HaSA
  imod (Pair.close_cell (talk m th) κ (s := rcvX) (mem_cells m th (by decide)) c) $$ [HaRX] with Hrx
  · isplitr; · iexact HR
    iexact HaRX
  imod (Pair.close_cell (talk m th) κ (s := rcvA) (mem_cells m th (by decide)) c) $$ [HaRA] with Hra
  · isplitr; · iexact HR
    iexact HaRA
  imodintro
  iapply Hk
  isplitl [Hb Hl Hsx Hsa Hrx Hra]
  · unfold closed
    isplitl [Hb]; · iexact Hb
    isplitl [Hl]; · iexact Hl
    isplitl [Hsx]; · iexact Hsx
    isplitl [Hsa]; · iexact Hsa
    isplitl [Hrx] <;> iassumption
  isplitr [HO]
  · unfold after
    isplitl [Hx]; · iexact Hx
    isplitl [Ha]; · iexact Ha
    isplitl [HX HX']
    · isplitl [HX] <;> iassumption
    iexact HA'
  iexists _; iexact HO

end Cert.KernelIdeal.Gather

end
-- ==== Proof.Region.lean ====
/- A call of `@main` as a step between the states of the run: every unscoped buffer held at a valuation, the generator's register, what the protocol keeps
   for the call, what it keeps for the other calls, and what is owed. The tables a call prefetches may differ from device to device. -/
module

public import proofs.«01_k».proof.Proof.Talk
public import Idealize.ShloMosaic.Lib.Pipeline.RegionArraysT

@[expose] public section

noncomputable section

namespace Cert.KernelIdeal.Region

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Pair (UU)
open Cert.KernelIdeal.Gen

variable {F : FTy → Type} [FloatOps F]

local notation "𝕄" => MT nD τ sig Unit (Elt F) ℕ (UU nD τ sig) ℕ

/-- Every unscoped buffer of a device, at a valuation. -/
abbrev bufs (c : Dev nD) (W : Valuation τ sig (Elt F)) : sProp 𝕄 := StableHlo.held (c.tc : Thread nD τ) (ucRefs τ sig) W

abbrev Tables : Type := Dev nD → (p : Fin 4) → (pcfgs (F := F) p).Adm

variable (a : Tables (F := F))
abbrev Data : Type := (p : Fin 4) → (c : Dev nD) → Dat τ (Elt F) Unit ℕ (UU nD τ sig) ℕ (pinD (pcfgs (F := F)) a c p) c
variable (pdats : Data a) (L : GSem nD τ sig → Finset Unit) (lv : GSem nD τ sig → Unit → ℕ) (p : Fin 4)

/-- The state before and after a call. -/
def state (W : Dev nD → Valuation τ sig (Elt F)) (E R : Dev nD → sProp 𝕄) (O : Dev nD → CellTallies nD τ sig Unit) (c : Dev nD) : sProp 𝕄 :=
  iprop(bufs c (W c) ∗ (∃ r, prngReg c r) ∗ E c ∗ R c ∗ ∃ Wd, owes (c : Thread nD τ) (O c) Wd)

set_option backward.isDefEq.respectTransparency.types false in
/-- A call from what it takes out of the buffers (`In`) and of the protocol (`E`, opened to `Xk`), and what it puts back (`Out`, `E'`). -/
def call {K : Type} [Fintype K] (osem : K → SemLoc sig) (ho : OwnSemFacts (pcfgs (F := F) p).spec osem)
    (kit : PLaunchFacts (nD := nD) (τ := τ) (pcfgs (F := F)) p)
    (W W' : Dev nD → Valuation τ sig (Elt F)) (E E' R Xk In Rest Out : Dev nD → sProp 𝕄) (O O' : Dev nD → CellTallies nD τ sig Unit)
    (hbody : ∀ c, BodyObligationLoose (pdats p c) (defs₀ (F := F)) Variants.none () Set.univ)
    (hwaits : ∀ c, (levAts L lv : sProp 𝕄) ⊢ PerCore.cellsWaits (pinD (pcfgs (F := F)) a) pdats () p c)
    (hO : ∀ c, (pdats p c).owed 0 = O c) (hO' : ∀ c, (pdats p c).owed (Fin.last _) = O' c) (hrec : ∀ c, (pdats p c).recorded 0 = Set.univ)
    (hsplit : ∀ c, bufs c (W c) ⊢ iprop((pdats p c).arrays ((pdats p c).arrAt · 0) ∗ prefHeld (pcfgs (F := F) p).pre c (fun _ => fullShare) (a c p).1 ∗ In c ∗ Rest c))
    (hjoin : ∀ c, iprop((pdats p c).arrays ((pdats p c).arrAt · (pinD (pcfgs (F := F)) a c p).N) ∗ Rest c ∗ Out c) ⊢ bufs c (W' c))
    (hopen : ∀ c, iprop(E c ∗ ownSems0 osem c ∗ levAts L lv) ⊢ (|={Set.univ}=> Xk c : sProp 𝕄))
    (hin : ∀ c, iprop(Xk c ∗ (∃ r, prngReg c r) ∗ In c ∗ prefHeld (pcfgs (F := F) p).pre c (fun _ => fullShare) (a c p).1 ∗ scopedRest (pcfgs (F := F) p).spec c)
      ⊢ (pdats p c).Φ 0)
    (hout : ∀ c, (pdats p c).Φ (Fin.last (pinD (pcfgs (F := F)) a c p).N)
      ⊢ iprop(Out c ∗ (∃ r, prngReg c r) ∗ E' c ∗ ownSems0 osem c ∗ scopedRest (pcfgs (F := F) p).spec c)) :
    PerCore.RegionSeg (pcfgs (F := F)) a pdats () (defs₀ (F := F)) Variants.none L lv p where
  win := kit.to₀.win
  block_pos := kit.to₀.block_pos
  stage_whole := kit.to₀.stage_whole
  K := K
  osem := osem
  ho := ho
  hbody := hbody
  hwaits := hwaits
  pre := state W E R O
  post := state W' E' R O'
  X c := iprop(Xk c ∗ (∃ r, prngReg c r) ∗ In c)
  Y c := iprop(Out c ∗ (∃ r, prngReg c r) ∗ E' c)
  Z c := iprop(Rest c ∗ R c)
  hentry c := by
    unfold state
    iintro ⟨⟨Hb, Hp, HE, HR, HO⟩, Hs, HL⟩
    ihave H := (hsplit c) $$ Hb
    icases H with ⟨Ha, Ht, HI, Hr⟩
    imod (hopen c) $$ [HE Hs HL] with HX
    · isplitl [HE]; · iexact HE
      isplitl [Hs] <;> iassumption
    imodintro
    isplitl [Ha]; · iexact Ha
    isplitl [Ht]; · iexact Ht
    isplitl [HO]
    · unfold Dat.owesAt owesWithin Dat.bound
      rw [hO c, hrec c]
      icases HO with ⟨%Wd, HO⟩; iexists Wd; isplitr; · ipureintro; exact fun _ _ => Or.inl trivial
      iexact HO
    isplitl [HX Hp HI]
    · isplitl [HX]; · iexact HX
      isplitl [Hp] <;> iassumption
    isplitl [Hr] <;> iassumption
  hin c := by
    refine BIBase.Entails.trans ?_ (hin c)
    iintro ⟨⟨HX, Hp, HI⟩, Ht, Hs⟩
    isplitl [HX]; · iexact HX
    isplitl [Hp]; · iexact Hp
    isplitl [HI]; · iexact HI
    isplitl [Ht] <;> iassumption
  hout c := by
    refine (hout c).trans ?_
    iintro ⟨Ho, Hp, HE, Hs, Hr⟩
    isplitl [Ho Hp HE]
    · isplitl [Ho]; · iexact Ho
      isplitl [Hp] <;> iassumption
    isplitl [Hs] <;> iassumption
  hexit c := by
    unfold state
    iintro ⟨Ha, HO, ⟨Ho, Hp, HE⟩, Hr, HR⟩
    imodintro
    isplitl [Ha Hr Ho]
    · iapply (hjoin c)
      isplitl [Ha]; · iexact Ha
      isplitl [Hr] <;> iassumption
    isplitl [Hp]; · iexact Hp
    isplitl [HE]; · iexact HE
    isplitl [HR]; · iexact HR
    unfold Dat.owesAt owesWithin
    rw [hO' c]
    icases HO with ⟨%Wd, -, HO⟩; iexists Wd; iexact HO

end Cert.KernelIdeal.Region

end
-- ==== Proof.ExchangeRegion.lean ====
/- The exchange of the tokens as a step of the run: the gathered arrays split into the rows of the two devices and joined again, and the body's proof data. -/
module

public import proofs.«01_k».proof.Proof.Exchange
public import proofs.«01_k».proof.Proof.Region
public import Idealize.ShloMosaic.Lib.Pipeline.BigSepL

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pair (EP ER UU cell)
open Cert.KernelIdeal.Gen

variable {F : FTy → Type} [FloatOps F]

local notation "𝕄" => MT nD τ sig Unit (Elt F) ℕ (UU nD τ sig) ℕ

variable (m : (ℓ : Loc nD τ sig) → Buf (Elt F) ℓ) (th : Dev nD → S4096x2048.Idx → Elt F .f32)

/-! ## The rows of an array -/

theorem off_x : ∀ c : Dev nD, k0_off1 c = ![k0_off1 c 0, 0, 0] ∧ k0_off1 (pr c) 0 = 1 - k0_off1 c 0 ∧ k0_off1 c 0 ≤ 1 := by decide +kernel
theorem off_a : ∀ c : Dev nD, k0_off2 c = ![k0_off1 c 0, 0, 0] := by decide +kernel

theorem xRow_set (d : Dev nD) : (xRow d).view.set = (Rect.unit (s := S2x4096x2048) (k0_off1 d) S1x4096x2048.size (k0_off1_inb d)).set :=
  (View.set_reshape _ _).trans (View.set_slice_whole _ _)
theorem aRow_set (d : Dev nD) : (aRow d).view.set = (Rect.unit (s := S2x1x4096) (k0_off2 d) S1x1x4096.size (k0_off2_inb d)).set :=
  (View.set_reshape _ _).trans (View.set_slice_whole _ _)

theorem mem_xRow (d : Dev nD) (i : S2x4096x2048.Idx) : i ∈ (xRow d).view.set ↔ (i 0).val = k0_off1 d 0 := by
  rw [xRow_set, Rect.mem_set_unit, Fin.forall_fin_succ, Fin.forall_fin_two, (off_x d).1]
  have h1 := (i 1).isLt
  have h2 := (i 2).isLt
  simp at h1 h2 ⊢
  omega
theorem mem_aRow (d : Dev nD) (i : S2x1x4096.Idx) : i ∈ (aRow d).view.set ↔ (i 0).val = k0_off1 d 0 := by
  rw [aRow_set, Rect.mem_set_unit, Fin.forall_fin_succ, Fin.forall_fin_two, off_a d]
  have h1 := (i 1).isLt
  have h2 := (i 2).isLt
  simp at h1 h2 ⊢
  omega

theorem xRow_disjoint (c : Dev nD) : Disjoint (xRow c).view.set (xRow (pr c)).view.set := by
  rw [Finset.disjoint_left]
  intro i h h'
  rw [mem_xRow] at h h'
  have := off_x c
  omega
theorem xRow_union (c : Dev nD) : (xRow c).view.set ∪ (xRow (pr c)).view.set = Finset.univ := by
  refine Finset.eq_univ_of_forall fun i => ?_
  rw [Finset.mem_union, mem_xRow, mem_xRow]
  have := off_x c
  have h0 : (i 0).val < 2 := (i 0).isLt
  omega
theorem aRow_disjoint (c : Dev nD) : Disjoint (aRow c).view.set (aRow (pr c)).view.set := by
  rw [Finset.disjoint_left]
  intro i h h'
  rw [mem_aRow] at h h'
  have := off_x c
  omega
theorem aRow_union (c : Dev nD) : (aRow c).view.set ∪ (aRow (pr c)).view.set = Finset.univ := by
  refine Finset.eq_univ_of_forall fun i => ?_
  rw [Finset.mem_union, mem_aRow, mem_aRow]
  have := off_x c
  have h0 : (i 0).val < 2 := (i 0).isLt
  omega

/-- What the exchange leaves in the gathered tokens, and in the gathered assignments (whose own row it does not write). -/
def xOut (c : Dev nD) : Buf (Elt F) (XM.view.loc (c : Thread nD τ)) := (xRow (pr c)).view.set.piecewise (wX m (pr c) c) (wX m c c)
def aOut (c : Dev nD) : Buf (Elt F) (AM.view.loc (c : Thread nD τ)) := (aRow (pr c)).view.set.piecewise (wA m (pr c) c) (V1 m c main_v6_1)

theorem XM_set : XM.view.set = Finset.univ := View.set_whole _
theorem AM_set : AM.view.set = Finset.univ := View.set_whole _

/-- The arrays the exchange addresses. -/
def held4 : Finset (DevRef τ sig) :=
  {Proc.devRef .tc main_arg0, Proc.devRef .tc main_v5, Proc.devRef .tc main_v6_0, Proc.devRef .tc main_v6_1}

theorem held4_eq (c : Dev nD) (W : Valuation τ sig (Elt F)) : (StableHlo.held (c : Thread nD τ) held4 W : sProp 𝕄)
    = iprop(pt xM fullShare c (W main_arg0) ∗ pt aM fullShare c (W main_v5) ∗ pt XM fullShare c (W main_v6_0) ∗ pt AM fullShare c (W main_v6_1)) := by
  unfold StableHlo.held pt
  rw [bigSep_eq_bigSepL_of_eq [Proc.devRef .tc main_arg0, Proc.devRef .tc main_v5, Proc.devRef .tc main_v6_0, Proc.devRef .tc main_v6_1] (by decide) (by decide),
    show xM.view.set = Finset.univ from View.set_whole _, show aM.view.set = Finset.univ from View.set_whole _, XM_set, AM_set]
  rfl

/-- What the exchange leaves. -/
abbrev VA (c : Dev nD) : Valuation τ sig (Elt F) :=
  Function.update (Function.update (V1 m c) (Proc.devRef .tc main_v6_0) (xOut m c)) (Proc.devRef .tc main_v6_1) (aOut m c)
theorem VA_x (c : Dev nD) : VA m c main_v6_0 = xOut m c := (Function.update_of_ne (by decide) ..).trans (Function.update_self ..)
theorem VA_a (c : Dev nD) : VA m c main_v6_1 = aOut m c := Function.update_self ..
theorem VA_of (c : Dev nD) (b : DevRef τ sig) (h : b ≠ Proc.devRef .tc main_v6_0) (h' : b ≠ Proc.devRef .tc main_v6_1) : VA m c b = V1 m c b :=
  (Function.update_of_ne h' ..).trans (Function.update_of_ne h ..)

/-- Device `c`'s own row of the assignments, which the exchange does not touch. -/
abbrev aside (c : Dev nD) : sProp 𝕄 := pt (aRow c) fullShare c (V1 m c main_v6_1)

theorem rows_split (c : Dev nD) : (StableHlo.held (c : Thread nD τ) held4 (V1 m c) : sProp 𝕄) ⊢ iprop(before m c ∗ aside m c) := by
  rw [held4_eq]
  unfold before aside pt
  rw [XM_set, AM_set, ← xRow_union c, ← aRow_union c]
  iintro ⟨Hx, Ha, HX, HA⟩
  ihave HX' := (pointsTo_union (xRow_disjoint c)).1 $$ HX
  ihave HA' := (pointsTo_union (aRow_disjoint c)).1 $$ HA
  icases HA' with ⟨HA1, HA2⟩
  isplitr [HA1]
  · isplitl [Hx]; · iexact Hx
    isplitl [Ha]; · iexact Ha
    isplitl [HX']; · iexact HX'
    iexact HA2
  iexact HA1

theorem rows_join (c : Dev nD) : iprop(after m c ∗ aside m c) ⊢ (StableHlo.held (c : Thread nD τ) held4 (VA m c) : sProp 𝕄) := by
  rw [held4_eq, VA_x, VA_a, VA_of m c _ (by decide) (by decide), VA_of m c _ (by decide) (by decide)]
  unfold after aside pt xOut aOut
  iintro ⟨⟨Hx, Ha, HX, HA2⟩, HA1⟩
  ihave HX' := (pointsTo_join (xRow_disjoint c)) $$ HX
  ihave HA' := (pointsTo_join (ℓ := AM.view.loc (c : Thread nD τ)) (aRow_disjoint c)) $$ [HA1 HA2]
  · isplitl [HA1] <;> iassumption
  isplitl [Hx]; · iexact Hx
  isplitl [Ha]; · iexact Ha
  rw [XM_set, AM_set, ← xRow_union c, ← aRow_union c]
  isplitl [HX']; · iexact HX'
  iexact HA'

/-! ## The proof data -/

abbrev osem : Fin 5 → SemLoc sig := fun | 0 => locS | 1 => sndX | 2 => sndA | 3 => rcvX | 4 => rcvA

theorem ownSems_eq (c : Dev nD) : (Pipeline.ownSems0 osem c : sProp 𝕄)
    = iprop(semVal (cell c locS) 0 ∗ semVal (cell c sndX) 0 ∗ semVal (cell c sndA) 0 ∗ semVal (cell c rcvX) 0 ∗ semVal (cell c rcvA) 0) :=
  Pipeline.ownSems0_eq_of_list c osem [0, 1, 2, 3, 4] (by decide) (by decide)

theorem hopen (c : Dev nD) : iprop(Tk0 m th c ∗ Pipeline.ownSems0 osem c ∗ levAts Pair.L (Pair.lv (talk m th))) ⊢ (|={Set.univ}=> Xk m th c : sProp 𝕄) := by
  rw [ownSems_eq]
  unfold Tk0 Xk opened
  iintro ⟨⟨%κ, #HR, HaB, ⟨HoL, HoSX, HoSA, HoRX, HoRA⟩, Ht, HcB, HcRX, HcRA⟩, ⟨HL, HSX, HSA, HRX, HRA⟩, #Hlv⟩
  imod (Pair.open_cell (talk m th) κ (s := locS) (mem_cells m th (by decide)) c) $$ [HoL HL] with Hl
  · isplitr; · iexact HR
    isplitl [HoL] <;> iassumption
  imod (Pair.open_cell (talk m th) κ (s := sndX) (mem_cells m th (by decide)) c) $$ [HoSX HSX] with Hsx
  · isplitr; · iexact HR
    isplitl [HoSX] <;> iassumption
  imod (Pair.open_cell (talk m th) κ (s := sndA) (mem_cells m th (by decide)) c) $$ [HoSA HSA] with Hsa
  · isplitr; · iexact HR
    isplitl [HoSA] <;> iassumption
  imod (Pair.open_cell (talk m th) κ (s := rcvX) (mem_cells m th (by decide)) c) $$ [HoRX HRX] with Hrx
  · isplitr; · iexact HR
    isplitl [HoRX] <;> iassumption
  imod (Pair.open_cell (talk m th) κ (s := rcvA) (mem_cells m th (by decide)) c) $$ [HoRA HRA] with Hra
  · isplitr; · iexact HR
    isplitl [HoRA] <;> iassumption
  imodintro
  iexists κ
  isplitr; · iexact HR
  isplitr; · iexact Hlv
  isplitl [HaB]; · iexact HaB
  isplitl [Hl Hsx Hsa Hrx Hra]
  · isplitl [Hl]; · iexact Hl
    isplitl [Hsx]; · iexact Hsx
    isplitl [Hsa]; · iexact Hsa
    isplitl [Hrx] <;> iassumption
  isplitl [Ht]; · iexact Ht
  isplitl [HcB]; · iexact HcB
  isplitl [HcRX] <;> iassumption

/-- What the invariant carries beside the protocol: the own row of the assignments, the buffers of the other call, the register. -/
def beside (c : Dev nD) : sProp 𝕄 := iprop(aside m c ∗ Pipeline.scopedRest cfg0.spec c ∗ ∃ r, prngReg c r)

def dat0 (c : Dev nD) : Pipeline.Dat τ (Elt F) Unit ℕ (UU nD τ sig) ℕ cfg0 c where
  A w := w.elim0
  after w := w.elim0
  Φ t := if t.val = 0 then iprop((Xk m th c ∗ before m c) ∗ beside m c) else iprop((closed c ∗ after m c) ∗ beside m c)
  q w := w.elim0
  owed t := if t.val = 0 then due m th c else owedLate m th c

theorem owed_first (c : Dev nD) : (dat0 (F := F) m th c).owed (0 : Fin (cfg0.N + 1)) = due m th c := rfl
theorem owed_last (c : Dev nD) : (dat0 (F := F) m th c).owed (Fin.last _) = owedLate m th c := by
  show (if (Fin.last cfg0.N).val = 0 then due m th c else owedLate m th c) = owedLate m th c
  rw [Fin.val_last, if_neg (by rw [show cfg0.N = 1 from N_0]; decide)]

theorem body0 (c : Dev nD) : Pipeline.BodyObligation (dat0 (F := F) m th c) defs₀ 𝒱₀ () Set.univ := fun t => by
  obtain rfl := fin_N0 t
  rw [no_windows, no_windows]
  rw [show (dat0 m th c).Φ t0_0.castSucc = iprop((Xk m th c ∗ before m c) ∗ beside m c) from rfl,
    show (dat0 m th c).Φ t0_0.succ = iprop((closed c ∗ after m c) ∗ beside m c) from rfl]
  unfold Pipeline.Dat.owesAt Pipeline.owesWithin
  rw [show (dat0 (F := F) m th c).owed t0_0.castSucc = due m th c from rfl, show (dat0 (F := F) m th c).owed t0_0.succ = owedLate m th c from rfl]
  iintro ⟨⟨⟨HX, HB⟩, Hs⟩, ⟨%W, -, HO⟩, -⟩
  iapply (run m th c W _)
  isplitl [HX HB HO]
  · isplitl [HX]; · iexact HX
    isplitl [HB] <;> iassumption
  iintro ⟨HC, HA, ⟨%W', HO⟩⟩
  isplitl [HC HA Hs]
  · isplitr [Hs]
    · isplitl [HC] <;> iassumption
    iexact Hs
  isplitl [HO]
  · iexists W'
    isplitr; · ipureintro; exact fun _ _ => Or.inl trivial
    iexact HO
  iempintro

/-- The barrier's counter, back at zero. -/
abbrev Yk (c : Dev nD) : sProp 𝕄 := semVal (cell c barS) 0

theorem hin (c : Dev nD) : iprop(Pipeline.scopedRest (pcfgs (F := F) 0).spec c ∗ (∃ r, prngReg c r)
      ∗ StableHlo.held (c.tc : Thread nD τ) held4 (V1 m c) ∗ Xk m th c) ⊢ (dat0 (F := F) m th c).Φ 0 := by
  rw [show (dat0 (F := F) m th c).Φ 0 = iprop((Xk m th c ∗ before m c) ∗ beside m c) from rfl]
  unfold beside
  iintro ⟨Hs, Hp, Hh, HX⟩
  ihave H := (rows_split m c) $$ Hh
  icases H with ⟨Hb, Ha⟩
  isplitl [HX Hb]
  · isplitl [HX] <;> iassumption
  isplitl [Ha]; · iexact Ha
  isplitl [Hs] <;> iassumption

theorem hout (c : Dev nD) : (dat0 (F := F) m th c).Φ (Fin.last cfg0.N)
    ⊢ iprop(Pipeline.scopedRest (pcfgs (F := F) 0).spec c ∗ (∃ r, prngReg c r)
      ∗ StableHlo.held (c.tc : Thread nD τ) held4 (VA m c) ∗ Pipeline.ownSems0 osem c ∗ Yk c) := by
  rw [show (dat0 (F := F) m th c).Φ (Fin.last _) = iprop((closed c ∗ after m c) ∗ beside m c) from rfl, ownSems_eq]
  unfold beside closed
  iintro ⟨⟨⟨HB, Hs⟩, Ha⟩, Haside, Hr, Hp⟩
  isplitl [Hr]; · iexact Hr
  isplitl [Hp]; · iexact Hp
  isplitl [Ha Haside]
  · iapply (rows_join m c)
    isplitl [Ha] <;> iassumption
  isplitl [Hs] <;> iassumption

theorem own_facts : Pipeline.OwnSemFacts (pcfgs (F := F) 0).spec osem := ⟨by decide, by decide, fun _ w => w.elim0⟩

theorem held4_sub : held4 ⊆ Pipeline.ucRefs τ sig := by decide

theorem rest (c : Dev nD) : (StableHlo.held (c.tc : Thread nD τ) (Pipeline.ucRefs τ sig \ held4) (V1 m c) : sProp 𝕄)
    = StableHlo.held (c.tc : Thread nD τ) (Pipeline.ucRefs τ sig \ held4) (VA m c) :=
  bigSep_congr fun b hb => by
    have h := (Finset.mem_sdiff.mp hb).2
    rw [VA_of m c b (fun e => h (e ▸ by decide)) (fun e => h (e ▸ by decide))]

end Cert.KernelIdeal.Gather

end
-- ==== Proof.Row.lean ====
/- The call that sets a device's own row of the gathered assignments: the gathered array copied, its row overwritten. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Pair
public import Idealize.ShloMosaic.Lib.VecWindow
public import Idealize.ShloMosaic.Lib.Pipeline.Value

@[expose] public section

noncomputable section

namespace Cert.KernelIdeal.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pair (UU)
open Cert.KernelIdeal.Gen

variable {F : FTy → Type} [FloatOps F]

local notation "𝕄" => MT nD τ sig Unit (Elt F) ℕ (UU nD τ sig) ℕ

abbrev whole {sp : Space} {S : Shape} {e : EltTy} (M : Memref sig .tc sp S e) (c : Dev nD) (f : Buf (Elt F) (M.view.loc (c : Thread nD τ))) : sProp 𝕄 :=
  M.view.loc (c : Thread nD τ) ↦{fullShare} f

/-- The gathered assignments `A` with the row of device `c` set to `a`. -/
def setRow {α : Type} (c : Dev nD) (A : S2x1x4096.Idx → α) (a : S1x4096.Idx → α) : S2x1x4096.Idx → α :=
  fun i => if (i 0).val = k1_off1 c 0 then a (fun b : Fin 2 => i b.succ) else A i

theorem off : ∀ c : Dev nD, k1_off1 c = ![k1_off1 c 0, 0, 0] := by decide +kernel

/-- An index of the gathered array, within its row. -/
def inRow (i : S2x1x4096.Idx) : S1x1x4096.Idx := Fin.cons (⟨0, Nat.one_pos⟩ : Fin 1) fun b : Fin 2 => i b.succ

theorem inRow_val (c : Dev nD) (i : S2x1x4096.Idx) (h : (i 0).val = k1_off1 c 0) (a : Fin 3) :
    (i a).val = (![k1_off1 c 0, 0, 0] : Fin 3 → ℕ) a + (inRow i a).val := by
  revert a
  refine Fin.forall_fin_succ.mpr ⟨h, Fin.forall_fin_two.mpr ⟨?_, ?_⟩⟩
  · exact (Nat.zero_add _).symm
  · exact (Nat.zero_add _).symm

theorem outRow (c : Dev nD) (i : S2x1x4096.Idx) (h : ¬ (i 0).val = k1_off1 c 0) :
    (i 0).val < (![k1_off1 c 0, 0, 0] : Fin 3 → ℕ) 0 ∨ (![k1_off1 c 0, 0, 0] : Fin 3 → ℕ) 0 + S1x1x4096.size 0 ≤ (i 0).val := by
  show (i 0).val < k1_off1 c 0 ∨ k1_off1 c 0 + 1 ≤ (i 0).val
  omega

theorem payload_apply (f1 : S1x4096.Idx → Elt F .i32) (j : S1x1x4096.Idx) : k1_pay2 f1 j = f1 (fun b : Fin 2 => j b.succ) := by
  unfold k1_pay2
  rw [shapeCast_self]
  refine shapeCast_apply _ _ j _ ?_
  refine (Shape.rowMajor_val_two (d := ![1, 4096]) _).trans (.trans ?_ (Shape.rowMajor_val_three (d := ![1, 1, 4096]) j).symm)
  have h0 := (j 0).isLt
  have h1 := (j 1).isLt
  show (j 1).val * 4096 + (j 2).val = ((j 0).val * 1 + (j 1).val) * 4096 + (j 2).val
  simp at h0 h1
  omega

theorem stored (c : Dev nD) (v : View sig .tc .vmem S2x1x4096 .i32) (f2 : v.ty.Contents (Elt F)) (f0 : S2x1x4096.Idx → Elt F .i32) (f1 : S1x4096.Idx → Elt F .i32) :
    v.read (Elt F) (v.writes (Elt F) f2 [⟨Rect.unit (s := S2x1x4096) (k1_off1 c) S1x1x4096.size (k1_off1_inb c), k1_pay2 f1⟩,
      ⟨Rect.unit (s := S2x1x4096) ![0, 0, 0] S2x1x4096.size inb_S2x1x4096_S2x1x4096_0_0_0, k1_pay1 f0⟩]) = setRow c f0 f1 := by
  funext i
  by_cases h : (i 0).val = k1_off1 c 0
  · refine (View.read_writes_cons_unit_of_mem v f2 (k1_off1_inb c) (k1_pay2 f1) _ i (inRow i) (off c) (inRow_val c i h)).trans ?_
    refine (payload_apply f1 (inRow i)).trans ?_
    exact (if_pos h).symm
  · refine (View.read_writes_cons_unit_of_not_mem v f2 (k1_off1_inb c) (k1_pay2 f1) _ i (off c) 0 (outRow c i h)).trans ?_
    rw [View.read_writes_full]
    exact (congrFun (shapeCast_self _ _) i).trans (if_neg h).symm

theorem stored_stage (c : Dev nD) (f0 f2 : S2x1x4096.Idx → Elt F .i32) (f1 : S1x4096.Idx → Elt F .i32) :
    (View.whole cc1_stg2_0).writes (Elt F) f2 [⟨Rect.unit (s := S2x1x4096) (k1_off1 c) S1x1x4096.size (k1_off1_inb c), k1_pay2 f1⟩,
      ⟨Rect.unit (s := S2x1x4096) ![0, 0, 0] S2x1x4096.size inb_S2x1x4096_S2x1x4096_0_0_0, k1_pay1 f0⟩] = setRow c f0 f1 :=
  (View.read_whole cc1_stg2_0 _).symm.trans (stored c (View.whole cc1_stg2_0) f2 f0 f1)

theorem run (c : Dev nD) (f0 : S2x1x4096.Idx → Elt F .i32) (f1 : S1x4096.Idx → Elt F .i32) (f2 : S2x1x4096.Idx → Elt F .i32) (Q : PUnit → sProp 𝕄) :
    iprop(whole (stage1_0 0) c f0 ∗ whole (stage1_1 0) c f1 ∗ whole (stage1_2 0) c f2
        ∗ (iprop(whole (stage1_0 0) c f0 ∗ whole (stage1_1 0) c f1 ∗ whole (stage1_2 0) c (setRow c f0 f1)) -∗ Q ⟨⟩))
      ⊢ wp frame (wpE (defs₀ (F := F)) Variants.none c none) Set.univ (cc1_body (stage1_0 0) (hstage1_0 0) (stage1_1 0) (hstage1_1 0) (stage1_2 0) (hstage1_2 0)) Q := by
  iintro ⟨H0, H1, H2, Hk⟩
  rw [cc1_body_eq_skeleton]
  unfold cc1_body_skel
  sl_exec!
  sl_step
  iapply Hk
  isplitl [H0]; · iexact H0
  isplitl [H1]; · iexact H1
  rw [show View.readAt (Elt F) (stage1_1 0).view (Rect.unit (s := S1x4096) ![0, 0] S1x4096.size inb_S1x4096_S1x4096_0_0).toLoadRect f1 = f1 from
      View.readAt_full _ _ _,
    show View.readAt (Elt F) (stage1_0 0).view (Rect.unit (s := S2x1x4096) ![0, 0, 0] S2x1x4096.size inb_S2x1x4096_S2x1x4096_0_0_0).toLoadRect f0 = f0 from
      View.readAt_full _ _ _]
  rw [stored_stage c f0 f2 f1]
  iexact H2

end Cert.KernelIdeal.Row

end
-- ==== Proof.RowRegion.lean ====
/- The call that sets the own row of the gathered assignments: its two operands and its result staged whole, at its one point. -/
module

public import proofs.«01_k».proof.Proof.Talk
public import proofs.«01_k».proof.Proof.Row
public import Idealize.ShloMosaic.Lib.Pipeline.RegionArraysT

@[expose] public section

noncomputable section

namespace Cert.KernelIdeal.Row

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Pair (UU)
open Cert.KernelIdeal.Gen

variable {F : FTy → Type} [FloatOps F]

local notation "𝕄" => MT nD τ sig Unit (Elt F) ℕ (UU nD τ sig) ℕ

variable (W : Dev nD → Valuation τ sig (Elt F)) (O : Dev nD → CellTallies nD τ sig Unit)

/-- The gathered assignments and the device's own, as the call reads them. -/
abbrev gathered (c : Dev nD) : S2x1x4096.Idx → Elt F .i32 := W c main_v6_1
abbrev own (c : Dev nD) : S1x4096.Idx → Elt F .i32 := W c main_v8
abbrev result (c : Dev nD) : S2x1x4096.Idx → Elt F .i32 := setRow c (gathered W c) (own W c)

theorem staged0 (A : S2x1x4096.Idx → Elt F .i32) : ((cfg1.win 0).blk t1_0).view.read (Elt F) A = A :=
  funext fun y => congrArg A (funext fun a => Fin.ext (Window.rect_emb_val_of_index_zero (cfg1.win 0) t1_0 a rfl y))
theorem staged1 (A : S1x4096.Idx → Elt F .i32) : ((cfg1.win 1).blk t1_0).view.read (Elt F) A = A :=
  funext fun y => congrArg A (funext fun a => Fin.ext (Window.rect_emb_val_of_index_zero (cfg1.win 1) t1_0 a rfl y))
theorem staged2 (A : S2x1x4096.Idx → Elt F .i32) : ((cfg1.win 2).blk t1_0).view.read (Elt F) A = A :=
  funext fun y => congrArg A (funext fun a => Fin.ext (Window.rect_emb_val_of_index_zero (cfg1.win 2) t1_0 a rfl y))

def Φ1 (c : Dev nD) : sProp 𝕄 := iprop(scopedRest spec1 c ∗ ∃ r, prngReg c r)

def dat1 (c : Dev nD) : Dat τ (Elt F) Unit ℕ (UU nD τ sig) ℕ cfg1 c where
  A w := W c (arrRef spec1 w)
  after w _ := match w with
    | ⟨0, _⟩ => gathered W c
    | ⟨1, _⟩ => own W c
    | ⟨2, _⟩ => result W c
  Φ _ := Φ1 c
  q _ := fullShare
  owed _ := O c

theorem before0 (c : Dev nD) (d : S2x1x4096.Idx → Elt F .i32) : (dat1 W O c).before 0 t1_0 d = gathered W c := by
  unfold Dat.before; rw [if_pos (by decide)]; exact (show _ = ((cfg1.win 0).blk t1_0).view.read (Elt F) (gathered W c) from rfl).trans (staged0 (F := F) (gathered W c))
theorem before1 (c : Dev nD) (d : S1x4096.Idx → Elt F .i32) : (dat1 W O c).before 1 t1_0 d = own W c := by
  unfold Dat.before; rw [if_pos (by decide)]; exact (show _ = ((cfg1.win 1).blk t1_0).view.read (Elt F) (own W c) from rfl).trans (staged1 (F := F) (own W c))

theorem body1 (c : Dev nD) : BodyObligation (dat1 (F := F) W O c) defs₀ Variants.none () Set.univ := fun t => by
  obtain rfl := fin_N1 t
  rw [bigSep_W1, bigSep_W1]
  simp only [owns_whole_eq]
  rw [show (dat1 W O c).Φ t1_0.castSucc = Φ1 c from rfl, show (dat1 W O c).Φ t1_0.succ = Φ1 c from rfl,
    show (dat1 W O c).owesAt () t1_0.succ = (dat1 W O c).owesAt () t1_0.castSucc from rfl]
  iintro ⟨HΦ, Howes, ⟨%d0, %f0, %hf0, H0⟩, ⟨%d1, %f1, %hf1, H1⟩, ⟨%d2, %f2, -, H2⟩⟩
  rw [before0] at hf0
  rw [before1] at hf1
  subst hf0 hf1
  iapply (run c _ _ f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat1]
  isplitl [H1]; · iexists _; isplitr; swap; (· iexact H1); ipureintro; dsimp only [dat1]
  iexists _; isplitr; swap; (· iexact H2); ipureintro; dsimp only [dat1]

theorem mem_blk (i : S2x1x4096.Idx) : i ∈ ((cfg1.win 2).blk t1_0).view.set := by
  have e : ((cfg1.win 2).blk t1_0).view.emb i = i := funext fun a => Fin.ext (Window.rect_emb_val_of_index_zero (cfg1.win 2) t1_0 a rfl i)
  exact e ▸ ((cfg1.win 2).blk t1_0).view.emb_mem_set i

theorem arrAt_out (c : Dev nD) : (dat1 W O c).arrAt 2 cfg1.N = result W c :=
  (dat1 W O c).arrAt_eq_of_cover 2 (result W c) (fun t _ => by obtain rfl := fin_N1 t; exact (staged2 _).symm)
    (fun (i : S2x1x4096.Idx) => ⟨t1_0, flush1_2 t1_0, mem_blk i⟩)

/-! ## Entry and exit -/

def held3 : Finset (DevRef τ sig) := {Proc.devRef .tc main_v6_1, Proc.devRef .tc main_v8, Proc.devRef .tc main_v9}
theorem held3_sub : held3 ⊆ ucRefs τ sig := by decide

abbrev at_ref (c : Dev nD) (b : Ref sig .tc) (f : Buf (Elt F) ((c : Thread nD τ).loc b)) : sProp 𝕄 := ((c : Thread nD τ).loc b) ↦{fullShare} f

theorem held3_eq (c : Dev nD) (V : Valuation τ sig (Elt F)) : (StableHlo.held (c : Thread nD τ) held3 V : sProp 𝕄)
    = iprop(at_ref c main_v6_1 (V main_v6_1) ∗ at_ref c main_v8 (V main_v8) ∗ at_ref c main_v9 (V main_v9)) := by
  unfold StableHlo.held
  rw [bigSep_eq_bigSepL_of_eq [Proc.devRef .tc main_v6_1, Proc.devRef .tc main_v8, Proc.devRef .tc main_v9] (by decide) (by decide)]
  rfl

theorem arrays_eq (c : Dev nD) (G : (w : Fin cfg1.W) → Buf (Elt F) ((cfg1.win w).arr.view.loc (c.tc : Thread nD τ))) :
    ((dat1 W O c).arrays G : sProp 𝕄) = iprop(at_ref c main_v6_1 (G 0) ∗ at_ref c main_v8 (G 1) ∗ at_ref c main_v9 (G 2)) := by
  unfold Dat.arrays
  rw [bigSep_W1, (arr_whole1 0).set_eq_univ, (arr_whole1 1).set_eq_univ, (arr_whole1 2).set_eq_univ,
    (dat1 W O c).share_full (fun _ => rfl) 0, (dat1 W O c).share_full (fun _ => rfl) 1, (dat1 W O c).share_full (fun _ => rfl) 2]

/-- The buffers after the call. -/
def VB (c : Dev nD) : Valuation τ sig (Elt F) := Function.update (W c) (Proc.devRef .tc main_v9) (result W c)
theorem VB_out (c : Dev nD) : VB W c main_v9 = result W c := Function.update_self ..
theorem VB_of (c : Dev nD) (r : Ref sig .tc) (h : r ≠ main_v9) : VB W c r = W c r :=
  Function.update_of_ne (fun e => h (Proc.devRef_injective _ e)) _ _

abbrev restOf (c : Dev nD) : sProp 𝕄 := StableHlo.held (c.tc : Thread nD τ) (ucRefs τ sig \ held3) (W c)

theorem rest (c : Dev nD) : restOf W c = (StableHlo.held (c.tc : Thread nD τ) (ucRefs τ sig \ held3) (VB W c) : sProp 𝕄) :=
  bigSep_congr fun b hb => by
    have h := (Finset.mem_sdiff.mp hb).2
    rw [show VB W c b = W c b from Function.update_of_ne (fun e : b = Proc.devRef .tc main_v9 => h (e ▸ by decide)) _ _]

theorem split (c : Dev nD) : (StableHlo.held (c.tc : Thread nD τ) (ucRefs τ sig) (W c) : sProp 𝕄)
    ⊢ iprop((dat1 W O c).arrays ((dat1 W O c).arrAt · 0) ∗ restOf W c) := by
  rw [StableHlo.held_sub_split _ held3_sub, held3_eq, arrays_eq]
  iintro ⟨⟨H0, H1, H2⟩, Hr⟩
  isplitl [H0 H1 H2]
  · isplitl [H0]; · iexact H0
    isplitl [H1]; · iexact H1
    iexact H2
  iexact Hr

theorem join (c : Dev nD) : iprop((dat1 W O c).arrays ((dat1 W O c).arrAt · cfg1.N) ∗ restOf W c)
    ⊢ (StableHlo.held (c.tc : Thread nD τ) (ucRefs τ sig) (VB W c) : sProp 𝕄) := by
  rw [StableHlo.held_sub_split _ held3_sub (VB W c), held3_eq, arrays_eq, rest, arrAt_out, VB_out,
    VB_of W c main_v6_1 (by decide), VB_of W c main_v8 (by decide), (dat1 W O c).arrAt_in 0 rfl, (dat1 W O c).arrAt_in 1 rfl]
  iintro ⟨⟨H0, H1, H2⟩, Hr⟩
  isplitr [Hr]
  · isplitl [H0]; · iexact H0
    isplitl [H1]; · iexact H1
    iexact H2
  iexact Hr

end Cert.KernelIdeal.Row

end
-- ==== Proof.Rows.lean ====
/- The rows a grid point fetches, as a program over their number: the 256 copies one after the other, on eight semaphores in turn, then the 256 waits.
   The kernel's text, which spells all of them, is this program. -/
module

public import proofs.«01_k».proof.Proof.Gen.KernelIdeal.Launch
public import proofs.«01_k».proof.Proof.Gen.KernelIdeal.Skeleton
@[expose] public section
noncomputable section
namespace Cert.KernelIdeal.Rows
open Idealize.ShloMosaic Idealize.ShloMosaic.TcCoe
open Idealize.SL Idealize.SL.Sem
open Cert.KernelIdeal.Gen
variable {F : FTy → Type} [FloatOps F]

abbrev B := Prog (TpuEff nD τ sig (Elt F) Λ₀ .tc)

def at_ (i : grid2.Coords) (j : ℕ) : Fin 1 → ℕ :=
  ![(Scalar.indexCast (Scalar.addi (Scalar.muli (Scalar.addi (Scalar.muli (BitVec.ofNat 32 (i 0).val) 5#32) (BitVec.ofNat 32 (i 1).val)) 256#32) (BitVec.ofNat 32 j)) : Index).toNat]

def src (v : BitVec 32) : Fin 2 → ℕ := ![v.toNat, 0]

def Ok (i : grid2.Coords) (v : BitVec 32) : Prop :=
  ∀ (_ : k2_cond1 i = 1#1), ∀ a, (src v) a + S1x2048.size a ≤ S8192x2048.size a
instance Ok.dec : ∀ (i : grid2.Coords) (v : BitVec 32), Decidable (Ok i v) := fun i v => decidable_of_iff' _ (Iff.of_eq (Ok.eq_1 i v))

theorem row_inb (j : ℕ) (h : j < 256) : ∀ a, (![j, 0] : Fin 2 → ℕ) a + S1x2048.size a ≤ S256x2048.size a :=
  Fin.forall_fin_two.mpr ⟨h, le_rfl⟩
theorem sem_inb (j : ℕ) : ∀ a, (![j % 8] : Fin 1 → ℕ) a + S1.size a ≤ S8.size a :=
  fun a => by obtain rfl := Fin.eq_zero a; exact Nat.mod_lt j (by decide)

theorem at_val (i : grid2.Coords) (j : ℕ) (h : j < 256) : at_ i j 0 = ((i 0).val * 5 + (i 1).val) * 256 + j := by
  have h0 : (i 0).val < 4 := (i 0).isLt
  have h1 : (i 1).val < 5 := (i 1).isLt
  show (((BitVec.ofNat 32 (i 0).val * 5#32) + BitVec.ofNat 32 (i 1).val) * 256#32 + BitVec.ofNat 32 j).toNat = _
  simp only [BitVec.toNat_add, BitVec.toNat_mul, BitVec.toNat_ofNat]
  omega
theorem at_inb (i : grid2.Coords) (j : ℕ) (h : j < 256) : ∀ a, at_ i j a + S1.size a ≤ S5120.size a := by
  have h0 : (i 0).val < 4 := (i 0).isLt
  have h1 : (i 1).val < 5 := (i 1).isLt
  intro a
  obtain rfl := Fin.eq_zero a
  rw [at_val i j h]
  show ((i 0).val * 5 + (i 1).val) * 256 + j + 1 ≤ 5120
  omega

section
variable (i : grid2.Coords) (h1 : k2_cond1 i = 1#1) (arg3 : Memref sig .tc .smem S5120 .i32)
  (arg4 : Memref sig .tc .hbm S8192x2048 .f32) (arg8 : Memref sig .tc .vmem S256x2048 .f32) (arg9 : DmaSems sig S8)

def semAt (j : ℕ) : DmaSems sig S_ := (arg9.slice (Rect.unit (s := S8) ![j % 8] S1.size (sem_inb j))).squeeze S_ squeezes_S1_S_
def dstAt (j : ℕ) (h : j < 256) : Memref sig .tc .vmem S1x2048 .f32 := arg8.slice (Rect.unit (s := S256x2048) ![j, 0] S1x2048.size (row_inb j h)) (fun _ => rfl)

def row (j : ℕ) (h : j < 256) (k : PUnit → B (F := F) PUnit) : B (F := F) PUnit :=
  smemLoad arg3 (Rect.unit (s := S5120) (at_ i j) S1.size (at_inb i j h)) numel1_S1 rfl >>= fun v =>
  Prog.lift (TpuEff.assume (Ok i v) (Ok.dec i v)) >>= fun hw =>
  Prog.lift (.enqueueDma (arg4.slice (Rect.unit (s := S8192x2048) (src v) S1x2048.size (hw.down h1)) (fun _ => rfl))
    (.here (dstAt arg8 j h)) (.dma (semAt arg9 j).sem) (View.wordExact_bits rfl) (View.wordExact_bits rfl) ⟨Or.inl rfl, trivial⟩) >>= k

def rows : (n j : ℕ) → (j + n ≤ 256) → (PUnit → B (F := F) PUnit) → B (F := F) PUnit
  | 0, _, _, k => k ⟨⟩
  | n + 1, j, h, k => row i h1 arg3 arg4 arg8 arg9 j (by omega) fun _ => rows n (j + 1) (by omega) k

end

variable  (i : grid2.Coords) (arg3 : Memref sig .tc .smem S5120 .i32) (harg3 : arg3.IsWhole) (arg4 : Memref sig .tc .hbm S8192x2048 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (arg8 : Memref sig .tc .vmem S256x2048 .f32) (harg8 : arg8.IsWhole) (arg9 : DmaSems sig S8) (v2 : BitVec 32) (h1 : k2_cond1 i = 1#1)

def wait (j : ℕ) (k : PUnit → B (F := F) PUnit) : B (F := F) PUnit :=
  Prog.lift (.waitDma2 (semAt arg9 j).sem (arg4.slice (Rect.unit (s := S8192x2048) ![0, 0] S1x2048.size inb_S8192x2048_S1x2048_0_0) (fun _ => rfl))
    (dstAt arg8 0 (by decide)) (View.wordExact_bits rfl) (View.wordExact_bits rfl)) >>= k
def waits : (n j : ℕ) → (PUnit → B (F := F) PUnit) → B (F := F) PUnit
  | 0, _, k => k ⟨⟩
  | n + 1, j, k => wait arg4 arg8 arg9 j fun _ => waits n (j + 1) k

set_option maxRecDepth 1000000 in
set_option maxHeartbeats 0 in
theorem all_rows : (k2_part103 (F := F) i arg3 harg3 arg4 harg4 arg5 harg5 arg6 harg6 arg7 harg7 arg8 harg8 arg9 v2 h1 >>= fun _ =>
    k2_part104 (F := F) i arg3 harg3 arg4 harg4 arg5 harg5 arg6 harg6 arg7 harg7 arg8 harg8 arg9 >>= fun _ => wait arg4 arg8 arg9 255 pure) =
   rows (F := F) i h1 arg3 arg4 arg8 arg9 256 0 (by omega) (fun _ => waits (F := F) arg4 arg8 arg9 256 0 pure) := rfl
end Cert.KernelIdeal.Rows
end
end
-- ==== Proof.RowsRun.lean ====
/- A grid point's rows fetched: the table read, each row's copy started on its semaphore, all of them waited for. The scratch then holds, row by row, the
   rows of the tokens that the table names. -/
module

public import proofs.«01_k».proof.Proof.Rows
public import proofs.«01_k».proof.Proof.Pair
public import Idealize.ShloMosaic.Lib.Ring

@[expose] public section

noncomputable section

namespace Cert.KernelIdeal.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Cert.Pair (EP ER UU)
open Cert.KernelIdeal.Gen

variable {F : FTy → Type} [FloatOps F]

local notation "𝕄" => MT nD τ sig Unit (Elt F) ℕ (UU nD τ sig) ℕ

abbrev Tm : Memref sig .tc .smem S5120 .i32 := Memref.whole main_v68
abbrev Xm : Memref sig .tc .hbm S8192x2048 .f32 := Memref.whole main_v7
abbrev Sm : Memref sig .tc .vmem S256x2048 .f32 := Memref.whole cc2_scratch0
abbrev sems : DmaSems sig S8 := cc2_scratch1

theorem sem_inb' (k : ℕ) (h : k < 8) : ∀ a, (![k] : Fin 1 → ℕ) a + S1.size a ≤ S8.size a := fun a => by obtain rfl := Fin.eq_zero a; exact h
theorem sem_congr {k k' : ℕ} (e : k = k') (h : k < 8) (h' : k' < 8) :
    (sems.slice (Rect.unit (s := S8) ![k] S1.size (sem_inb' k h))).squeeze S_ squeezes_S1_S_
      = (sems.slice (Rect.unit (s := S8) ![k'] S1.size (sem_inb' k' h'))).squeeze S_ squeezes_S1_S_ := by subst e; rfl
theorem semAt_mod (j : ℕ) : semAt sems j = semAt sems (j % 8) :=
  sem_congr (Nat.mod_mod j 8).symm (Nat.mod_lt _ (by decide)) (Nat.mod_lt _ (by decide))

abbrev semOf (j : ℕ) : SemLoc sig := .dma (semAt sems j).sem
theorem semOf_mod (j : ℕ) : semOf j = semOf (j % 8) := congrArg (fun S : DmaSems sig S_ => (.dma S.sem : SemLoc sig)) (semAt_mod j)

/-- The table's word for row `j` of the block of the point `i`. -/
def word (i : grid2.Coords) (tb : S5120.Idx → BitVec 32) (j : ℕ) (h : j < 256) : BitVec 32 :=
  (Tm.access (Rect.unit (s := S5120) (at_ i j) S1.size (at_inb i j h))).read (Elt F) tb (Shape.Idx.first (numel1_S1.symm ▸ Nat.one_pos))

section

variable (c : Dev nD) (i : grid2.Coords) (h1 : k2_cond1 i = 1#1)
  (tb : S5120.Idx → BitVec 32) (htb : ∀ p, (tb p).toNat < 8192) (xs : S8192x2048.Idx → Elt F .f32) (fd : S256x2048.Idx → Elt F .f32)

include htb in
theorem ok_word (j : ℕ) (h : j < 256) : ∀ a, (src (word (F := F) i tb j h)) a + S1x2048.size a ≤ S8192x2048.size a :=
  Fin.forall_fin_two.mpr ⟨htb _, le_rfl⟩

/-- The token row that row `j` is copied from. -/
def srcAt (j : ℕ) (h : j < 256) : Memref sig .tc .hbm S1x2048 .f32 :=
  Xm.slice (Rect.unit (s := S8192x2048) (src (word (F := F) i tb j h)) S1x2048.size (ok_word i tb htb j h)) (fun _ => rfl)

def dst (t : Fin 256) : sProp 𝕄 := (dstAt Sm t.val t.isLt).view.loc (c : Thread nD τ) ↦[(dstAt Sm t.val t.isLt).view.set]{fullShare} fd
def srcP (t : Fin 256) : sProp 𝕄 :=
  (srcAt (F := F) i tb htb t.val t.isLt).view.loc (c : Thread nD τ) ↦[(srcAt (F := F) i tb htb t.val t.isLt).view.set]{shareTok fullShare 256 t} xs

/-- Row `t` landed, and its source back. -/
def D (t : Fin 256) : sProp 𝕄 :=
  iprop(((dstAt Sm t.val t.isLt).view.loc (c : Thread nD τ) ↦[(dstAt Sm t.val t.isLt).view.set]{fullShare}
      ((dstAt Sm t.val t.isLt).view.write (Elt F) fd ((srcAt (F := F) i tb htb t.val t.isLt).view.read (Elt F) xs) Finset.univ))
    ∗ srcP c i tb htb xs t)

theorem pts_storable {ℓ ℓ' : Loc nD τ sig} {S : Finset (Idx ℓ)} {S' : Finset (Idx ℓ')} {q q' : PosShare TreeShare} (f : Buf (Elt F) ℓ) (f' : Buf (Elt F) ℓ') :
    BI.Storable (upEmb : UEmb _ 𝕄) (iprop((ℓ ↦[S]{q} f) ∗ (ℓ' ↦[S']{q'} f')) : sProp 𝕄) := inferInstance

instance D_storable (t : Fin 256) : BI.Storable (upEmb : UEmb _ 𝕄) (D c i tb htb xs fd t) := by
  unfold D srcP
  exact pts_storable _ _

/-- Transfer `k` on semaphore `s` is row `8 k + s`. -/
def at8 (s : Fin 8) (k : Fin 32) : Fin 256 := ⟨8 * k.val + s.val, by omega⟩

/-- How many of the first `j` rows go by semaphore `s`. -/
def cnt (s j : ℕ) : ℕ := (j + 7 - s) / 8

abbrev N : ℕ := (dstAt Sm 0 (by decide)).view.dmaCredit
theorem N_pos : 0 < N := View.dmaCredit_pos _ (by decide)

def batch (s : Fin 8) (k u : ℕ) : sProp 𝕄 :=
  Batch (countersEmb (U := UU nD τ sig)) (c : Thread nD τ) (semOf s.val) () N (fun k : Fin 32 => D c i tb htb xs fd (at8 s k)) k u

abbrev tPts (q : PosShare TreeShare) : sProp 𝕄 := Tm.view.loc (c : Thread nD τ) ↦{q} tb

variable {defs : Defs nD τ sig (Elt F) Λ₀} (𝒱 : Variants)

theorem ret_bind' {E : Type → Type} {α β : Type} (a : α) (k : α → Prog E β) : (Prog.ret a).bind k = k a := rfl

theorem row_eq (j : ℕ) (h : j < 256) (k : PUnit → B (F := F) PUnit) :
    row i h1 Tm Xm Sm sems j h k
      = smemLoadElt Tm (Rect.unit (s := S5120) (at_ i j) S1.size (at_inb i j h)) (View.loads_smem_one rfl numel1_S1) (Shape.Idx.first (numel1_S1.symm ▸ Nat.one_pos))
          fun v => .op (TpuEff.assume (Ok i v) (Ok.dec i v)) fun hw =>
            .op (.enqueueDma (Xm.slice (Rect.unit (s := S8192x2048) (src v) S1x2048.size (hw.down h1)) (fun _ => rfl))
              (.here (dstAt Sm j h)) (.dma (semAt sems j).sem) (View.wordExact_bits rfl) (View.wordExact_bits rfl) ⟨Or.inl rfl, trivial⟩) k := rfl

/-- One row: its word read, its copy started. -/
theorem row_wp (j : ℕ) (h : j < 256) (q : PosShare TreeShare) {k : PUnit → B (F := F) PUnit} {Q : PUnit → sProp 𝕄} :
    iprop(tPts c tb q ∗ dst c fd ⟨j, h⟩ ∗ srcP c i tb htb xs ⟨j, h⟩ ∗ batch c i tb htb xs fd ⟨j % 8, Nat.mod_lt _ (by decide)⟩ (j / 8) 0)
      ⊢ iprop((iprop(tPts c tb q ∗ batch c i tb htb xs fd ⟨j % 8, Nat.mod_lt _ (by decide)⟩ (j / 8 + 1) 0) -∗ wp frame (wpE defs 𝒱 c none) Set.univ (k ⟨⟩) Q)
          -∗ wp frame (wpE defs 𝒱 c none) Set.univ (row i h1 Tm Xm Sm sems j h k) Q) := by
  iintro ⟨Ht, Hd, Hs, HB⟩ Hk
  rw [row_eq]
  iapply (wp_smemLoadElt 𝒱 (c : Thread nD τ) none Set.univ (m := Tm) (r := Rect.unit (s := S5120) (at_ i j) S1.size (at_inb i j h))
    (S := Finset.univ) (q := q) (f := tb) (Finset.subset_univ _)) $$ Ht
  iintro Ht
  iapply (wp_assume 𝒱 (c : Thread nD τ) none Set.univ (fun _ => ok_word (F := F) i tb htb j h))
  have e : at8 ⟨j % 8, Nat.mod_lt _ (by decide)⟩ ⟨j / 8, by omega⟩ = ⟨j, h⟩ := Fin.ext (Nat.div_add_mod j 8)
  unfold batch dst srcP
  rw [← semOf_mod j]
  iapply (wp_dmaBatch (countersEmb (U := UU nD τ sig)) 𝒱 (c : Thread nD τ) none (src := srcAt (F := F) i tb htb j h) (dst := dstAt Sm j h) () N rfl subset_rfl
    (q := shareTok fullShare 256 ⟨j, h⟩) (fs := xs) (fd := fd)
    (D := fun k : Fin 32 => D c i tb htb xs fd (at8 ⟨j % 8, Nat.mod_lt _ (by decide)⟩ k)) (j := j / 8) (u := 0) (by omega) (Nat.zero_le _)
    (by rw [e]; unfold D srcP; exact .rfl)) $$ [Hs Hd HB]
  · isplitl [Hs]; · iexact Hs
    isplitl [Hd]; · iexact Hd
    iexact HB
  iintro HB
  iapply Hk
  isplitl [Ht]; · iexact Ht
  iexact HB

/-- All eight batches with the rows below `j` issued, or waited for. -/
def issuedTo (j : ℕ) : sProp 𝕄 := bigSep Finset.univ fun s : Fin 8 => batch c i tb htb xs fd s (cnt s.val j) 0
def waitedTo (j : ℕ) : sProp 𝕄 := bigSep Finset.univ fun s : Fin 8 => batch c i tb htb xs fd s 32 (cnt s.val j * N)

theorem cnt_at (j : ℕ) : cnt (j % 8) j = j / 8 := by unfold cnt; omega
theorem cnt_at_succ (j : ℕ) : cnt (j % 8) (j + 1) = j / 8 + 1 := by unfold cnt; omega
theorem cnt_off {s j : ℕ} (hs : s < 8) (h : s ≠ j % 8) : cnt s (j + 1) = cnt s j := by unfold cnt; omega

/-- The batch of row `j`'s semaphore, taken out and put back one further. -/
theorem family_step (P : Fin 8 → ℕ → sProp 𝕄) (j : ℕ) :
    bigSep Finset.univ (fun s : Fin 8 => P s (cnt s.val j))
      ⊢ iprop(P ⟨j % 8, Nat.mod_lt _ (by decide)⟩ (j / 8)
          ∗ (P ⟨j % 8, Nat.mod_lt _ (by decide)⟩ (j / 8 + 1) -∗ bigSep Finset.univ (fun s : Fin 8 => P s (cnt s.val (j + 1))))) := by
  rw [bigSep_univ_at (fun s : Fin 8 => P s (cnt s.val j)) ⟨j % 8, Nat.mod_lt _ (by decide)⟩,
    bigSep_univ_at (fun s : Fin 8 => P s (cnt s.val (j + 1))) ⟨j % 8, Nat.mod_lt _ (by decide)⟩,
    bigSep_congr (s := Finset.univ.erase (⟨j % 8, Nat.mod_lt _ (by decide)⟩ : Fin 8)) (Φ := fun s : Fin 8 => P s (cnt s.val (j + 1)))
      (Ψ := fun s : Fin 8 => P s (cnt s.val j)) fun s hs => by
        rw [cnt_off s.isLt fun e => Finset.ne_of_mem_erase hs (Fin.ext e)]]
  show iprop(P _ (cnt (j % 8) j) ∗ _) ⊢ iprop(_ ∗ (_ -∗ P _ (cnt (j % 8) (j + 1)) ∗ _))
  rw [cnt_at, cnt_at_succ]
  iintro ⟨H, Hr⟩
  isplitl [H]; · iexact H
  iintro H
  isplitl [H]; · iexact H
  iexact Hr

/-- The rows from `j` on issued. -/
theorem rows_wp (q : PosShare TreeShare) {k : PUnit → B (F := F) PUnit} {Q : PUnit → sProp 𝕄} :
    ∀ (n j : ℕ) (h : j + n = 256),
    iprop(tPts c tb q ∗ bigSep (pending (n := 256) j) (fun t => iprop(dst c fd t ∗ srcP c i tb htb xs t)) ∗ issuedTo c i tb htb xs fd j)
      ⊢ iprop((iprop(tPts c tb q ∗ issuedTo c i tb htb xs fd 256) -∗ wp frame (wpE defs 𝒱 c none) Set.univ (k ⟨⟩) Q)
          -∗ wp frame (wpE defs 𝒱 c none) Set.univ (rows i h1 Tm Xm Sm sems n j (Nat.le_of_eq h) k) Q)
  | 0, j, h => by
    obtain rfl : j = 256 := h
    unfold rows
    iintro ⟨Ht, -, HI⟩ Hk
    iapply Hk
    isplitl [Ht]; · iexact Ht
    iexact HI
  | n + 1, j, h => by
    have hj : j < 256 := by omega
    unfold rows
    rw [bigSep_pending_step _ j hj]
    iintro ⟨Ht, ⟨⟨Hd, Hs⟩, Hp⟩, HI⟩ Hk
    ihave HI' := (show issuedTo c i tb htb xs fd j ⊢ _ from family_step (fun s k => batch c i tb htb xs fd s k 0) j) $$ HI
    icases HI' with ⟨HB, HI⟩
    iapply (row_wp c i h1 tb htb xs fd 𝒱 j hj q) $$ [Ht Hd Hs HB]
    · isplitl [Ht]; · iexact Ht
      isplitl [Hd]; · iexact Hd
      isplitl [Hs]; · iexact Hs
      iexact HB
    iintro ⟨Ht, HB⟩
    iapply (rows_wp q n (j + 1) (by omega)) $$ [Ht Hp HI HB]
    · isplitl [Ht]; · iexact Ht
      isplitl [Hp]; · iexact Hp
      unfold issuedTo
      iapply HI; iexact HB
    iexact Hk

/-- The waits from `j` on. -/
theorem waits_wp {O : CellTallies nD τ sig Unit} {R : sProp 𝕄} [BI.Persistent R] (hR : ∀ j : ℕ, R ⊢ MayWait (c : Thread nD τ) (semOf j) () O)
    {k : PUnit → B (F := F) PUnit} {Q : PUnit → sProp 𝕄} :
    ∀ (n j : ℕ) (_ : j + n = 256) (W : Waits sig Unit),
    iprop(R ∗ waitedTo c i tb htb xs fd j ∗ owes (c : Thread nD τ) O W)
      ⊢ iprop((iprop(waitedTo c i tb htb xs fd 256 ∗ ∃ W', owes (c : Thread nD τ) O W') -∗ wp frame (wpE defs 𝒱 c none) Set.univ (k ⟨⟩) Q)
          -∗ wp frame (wpE defs 𝒱 c none) Set.univ (waits Xm Sm sems n j k) Q)
  | 0, j, h, W => by
    obtain rfl : j = 256 := h
    unfold waits
    iintro ⟨-, HI, HO⟩ Hk
    iapply Hk
    isplitl [HI]; · iexact HI
    iexists W; iexact HO
  | n + 1, j, h, W => by
    have hj : j < 256 := by omega
    have hw : waits (F := F) Xm Sm sems (n + 1) j k = .op (.waitDma2 (semAt sems j).sem
        (Xm.slice (Rect.unit (s := S8192x2048) ![0, 0] S1x2048.size inb_S8192x2048_S1x2048_0_0) (fun _ => rfl))
        (dstAt Sm 0 (by decide)) (View.wordExact_bits rfl) (View.wordExact_bits rfl)) fun _ => waits Xm Sm sems n (j + 1) k := rfl
    rw [hw]
    iintro ⟨#HR, HI, HO⟩ Hk
    ihave HI' := (show waitedTo c i tb htb xs fd j ⊢ _ from family_step (fun s k => batch c i tb htb xs fd s 32 (k * N)) j) $$ HI
    icases HI' with ⟨HB, HI⟩
    unfold batch
    rw [← semOf_mod j, Nat.add_mul (j / 8) 1 N]
    have hu : j / 8 * N + 1 * N ≤ N * 32 := by
      rw [← Nat.add_mul, Nat.mul_comm N 32]
      exact Nat.mul_le_mul_right _ (by omega)
    have hJ : (dstAt Sm 0 (by decide)).view.dmaCredit = 1 * N := (Nat.one_mul _).symm
    iapply (wp_waitBatchMulO (countersEmb (U := UU nD τ sig)) 𝒱 (c : Thread nD τ) none () (N := N) 1 hJ
      (D := fun k : Fin 32 => D c i tb htb xs fd (at8 ⟨j % 8, Nat.mod_lt _ (by decide)⟩ k)) (j := 32) (u := j / 8 * N) hu
      (O := O) (W := W)) $$ [HB HO]
    · isplitl [HB]; · iexact HB
      isplitl [HO]; · iexact HO
      iapply (hR j); iexact HR
    iintro ⟨HB, HO⟩
    iapply (waits_wp hR n (j + 1) (by omega) (insert ((semOf j), ()) W)) $$ [HI HB HO]
    · isplitr; · iexact HR
      isplitl [HI HB]
      · unfold waitedTo
        iapply HI; iexact HB
      iexact HO
    iexact Hk

/-! ## The scratch, row by row -/

/-- Element `y` of the array's row `r`. -/
def tokIdx (r : ℕ) (h : r < 8192) (y : Fin 2048) : S8192x2048.Idx := Fin.cons (⟨r, h⟩ : Fin 8192) (Fin.cons y fun b : Fin 0 => b.elim0)

/-- What the scratch holds when all rows have landed. -/
def gath (y : S256x2048.Idx) : Elt F .f32 := xs (tokIdx (word (F := F) i tb (y 0).val (y 0).isLt).toNat (htb _) (y 1))

theorem gath_at (t : Fin 256) (y : S256x2048.Idx) (h : (y 0).val = t.val) :
    gath i tb htb xs y = xs (tokIdx (word (F := F) i tb t.val t.isLt).toNat (htb _) (y 1)) := by
  obtain ⟨t, ht⟩ := t
  obtain rfl : (y 0).val = t := h
  rfl

theorem landed (t : Fin 256) (y : S256x2048.Idx) (hy : y ∈ (dstAt Sm t.val t.isLt).view.set) :
    (dstAt Sm t.val t.isLt).view.write (Elt F) fd ((srcAt (F := F) i tb htb t.val t.isLt).view.read (Elt F) xs) Finset.univ y = gath i tb htb xs y := by
  obtain ⟨z, -, rfl⟩ := Finset.mem_map.mp hy
  refine (View.write_emb_of_mem _ _ (Finset.mem_univ z)).trans ?_
  have h0 : (z 0).val = 0 := Nat.lt_one_iff.mp (z 0).isLt
  refine Eq.trans ?_ (gath_at i tb htb xs t _ ?_).symm
  · refine congrArg xs (funext (Fin.forall_fin_two.mpr ⟨Fin.ext ?_, Fin.ext ?_⟩))
    · show (word (F := F) i tb t.val t.isLt).toNat + 1 * (z 0).val = (word (F := F) i tb t.val t.isLt).toNat
      omega
    · show 0 + 1 * (z 1).val = 0 + 1 * (z 1).val
      rfl
  · show t.val + 1 * (z 0).val = t.val
    omega

abbrev rowSet (t : Fin 256) : Finset (Idx (Sm.view.loc (c : Thread nD τ))) := (dstAt Sm t.val t.isLt).view.set

theorem rowSet_eq (t : Fin 256) : rowSet c t = (Rect.unit (s := S256x2048) ![t.val, 0] S1x2048.size (row_inb t.val t.isLt)).set := View.set_slice_whole _ _
theorem rows_disjoint (t t' : Fin 256) (h : t ≠ t') : Disjoint (rowSet c t) (rowSet c t') := by
  rw [rowSet_eq, rowSet_eq]
  exact Ring.lead_disjoint (s := S256x2048) 0 1 (fun t : Fin 256 => ![t.val, 0]) S1x2048.size (fun t => row_inb t.val t.isLt) (fun t => (Nat.one_mul _).symm) rfl t t' h
theorem rows_cover : Finset.univ.biUnion (rowSet c) = Finset.univ := by
  rw [show rowSet c = fun t : Fin 256 => (Rect.unit (s := S256x2048) ![t.val, 0] S1x2048.size (row_inb t.val t.isLt)).set from funext fun t => rowSet_eq c t]
  exact Ring.lead_cover (s := S256x2048) 0 1 (fun t : Fin 256 => ![t.val, 0]) S1x2048.size (fun t => row_inb t.val t.isLt) (fun t => (Nat.one_mul _).symm)
    (fun t => Fin.forall_fin_two.mpr ⟨fun h => absurd rfl h, fun _ => rfl⟩) rfl (Fin.forall_fin_two.mpr ⟨fun h => absurd rfl h, fun _ => rfl⟩) rfl

abbrev sPts (f : S256x2048.Idx → Elt F .f32) : sProp 𝕄 := Sm.view.loc (c : Thread nD τ) ↦{fullShare} f
abbrev xPts : sProp 𝕄 := Xm.view.loc (c : Thread nD τ) ↦{fullShare} xs

theorem dst_split : sPts c fd ⊢ bigSep Finset.univ (dst c fd) :=
  Entails.of_eq (Ring.pointsTo_blocks (rowSet c) (rows_disjoint c) (rows_cover c) fd)

theorem dst_join : bigSep Finset.univ (fun t => dst c (gath i tb htb xs) t) ⊢ sPts c (gath i tb htb xs) :=
  Entails.of_eq (Ring.pointsTo_blocks (rowSet c) (rows_disjoint c) (rows_cover c) (gath i tb htb xs)).symm

/-- What is left of a reader's share of the tokens while its row is being copied. -/
def srcR (t : Fin 256) : sProp 𝕄 :=
  Xm.view.loc (c : Thread nD τ) ↦[Finset.univ \ (srcAt (F := F) i tb htb t.val t.isLt).view.set]{shareTok fullShare 256 t} xs

theorem piece (t : Fin 256) : (Xm.view.loc (c : Thread nD τ) ↦{shareTok fullShare 256 t} xs : sProp 𝕄) ⊣⊢ iprop(srcP c i tb htb xs t ∗ srcR c i tb htb xs t) :=
  pointsTo_split_subset (Finset.subset_univ _)

theorem src_split : xPts c xs ⊢ iprop((Xm.view.loc (c : Thread nD τ) ↦{shareDrop fullShare 256} xs)
    ∗ bigSep Finset.univ (fun t => iprop(srcP c i tb htb xs t ∗ srcR c i tb htb xs t))) :=
  BIBase.Entails.trans (pointsTo_toks_split fullShare 256) (sep_mono_right (bigSep_mono fun t _ => (piece c i tb htb xs t).1))

theorem src_join : iprop((Xm.view.loc (c : Thread nD τ) ↦{shareDrop fullShare 256} xs)
    ∗ bigSep Finset.univ (fun t => iprop(srcP c i tb htb xs t ∗ srcR c i tb htb xs t))) ⊢ xPts c xs :=
  BIBase.Entails.trans (sep_mono_right (bigSep_mono fun t _ => (piece c i tb htb xs t).2)) (pointsTo_toks_join fullShare 256)

/-- The eight batches' deliveries, numbered by row. -/
theorem deliveries (P : Fin 256 → sProp 𝕄) :
    (bigSep Finset.univ fun s : Fin 8 => bigSep Finset.univ fun k : Fin 32 => P (at8 s k)) = bigSep Finset.univ P := by
  have e := bigSep_univ_equiv (finProdFinEquiv (m := 32) (n := 8)) P
  rw [e, ← Finset.univ_product_univ, Pair.sep_columns]
  refine bigSep_congr fun s _ => bigSep_congr fun k _ => congrArg P (Fin.ext ?_)
  show 8 * k.val + s.val = s.val + 8 * k.val
  omega

theorem D_dst (t : Fin 256) : D c i tb htb xs fd t ⊢ iprop(dst c (gath i tb htb xs) t ∗ srcP c i tb htb xs t) := by
  unfold D dst
  iintro ⟨H, Hs⟩
  isplitl [H]
  · iapply (Entails.of_eq (pointsTo_congr fun y hy => landed i tb htb xs fd t y hy)) $$ H
  iexact Hs

abbrev zeros : sProp 𝕄 := bigSep Finset.univ fun s : Fin 8 => semVal ((c : Thread nD τ), semOf s.val) 0

theorem part {I : Type} [Fintype I] (P Q : I → sProp 𝕄) :
    bigSep Finset.univ (fun t => iprop(P t ∗ Q t)) ⊢ iprop(bigSep Finset.univ P ∗ bigSep Finset.univ Q) := Entails.of_eq (bigSep_sep _ _ _)

theorem merge {I : Type} [Fintype I] (P Q : I → sProp 𝕄) :
    iprop(bigSep Finset.univ P ∗ bigSep Finset.univ Q) ⊢ bigSep Finset.univ (fun t => iprop(P t ∗ Q t)) := Entails.of_eq (bigSep_sep _ _ _).symm

theorem none_issued : bigSep Finset.univ (fun s : Fin 8 => batch c i tb htb xs fd s 0 0) ⊢ issuedTo c i tb htb xs fd 0 :=
  Entails.of_eq (bigSep_congr fun s _ => congrArg (fun k => batch c i tb htb xs fd s k 0) (show 0 = cnt s.val 0 from by unfold cnt; omega))
theorem none_waited : issuedTo c i tb htb xs fd 256 ⊢ waitedTo c i tb htb xs fd 0 :=
  Entails.of_eq (bigSep_congr fun s _ => by
    rw [show cnt s.val 0 = 0 from by unfold cnt; omega, show cnt s.val 256 = 32 from by unfold cnt; omega, Nat.zero_mul])

theorem alloc : zeros c ⊢ (|={Set.univ}=> bigSep Finset.univ (fun s : Fin 8 => batch c i tb htb xs fd s 0 0) : sProp 𝕄) :=
  BIBase.Entails.trans (bigSep_mono fun s _ => show _ ⊢ (|={Set.univ}=> batch c i tb htb xs fd s 0 0 : sProp 𝕄) from
    batch_alloc' (countersEmb (U := UU nD τ sig)) (c : Thread nD τ) () N (fun k : Fin 32 => D c i tb htb xs fd (at8 s k))) (bigSep_fupd (E := Set.univ) Finset.univ _)

/-- The whole fetch. -/
theorem fetch {O : CellTallies nD τ sig Unit} {R : sProp 𝕄} [BI.Persistent R] (hR : ∀ j : ℕ, R ⊢ MayWait (c : Thread nD τ) (semOf j) () O)
    (q : PosShare TreeShare) (W : Waits sig Unit) (Q : PUnit → sProp 𝕄) :
    iprop(R ∗ tPts c tb q ∗ xPts c xs ∗ sPts c fd ∗ zeros c ∗ owes (c : Thread nD τ) O W
        ∗ (iprop(tPts c tb q ∗ xPts c xs ∗ sPts c (gath i tb htb xs) ∗ zeros c ∗ ∃ W', owes (c : Thread nD τ) O W') -∗ Q ⟨⟩))
      ⊢ wp frame (wpE defs 𝒱 c none) Set.univ (rows i h1 Tm Xm Sm sems 256 0 (Nat.le_of_eq rfl) (fun _ => waits Xm Sm sems 256 0 pure)) Q := by
  iintro ⟨#HR, Ht, Hx, Hs, Hz, HO, Hk⟩
  imod (alloc c i tb htb xs fd) $$ Hz with HB
  ihave Hd := (dst_split c fd) $$ Hs
  ihave Hx' := (src_split c i tb htb xs) $$ Hx
  icases Hx' with ⟨Hx, Hxs⟩
  ihave Hxs' := (part (srcP c i tb htb xs) (srcR c i tb htb xs)) $$ Hxs
  icases Hxs' with ⟨Hp, Hr⟩
  iapply (rows_wp c i h1 tb htb xs fd 𝒱 q 256 0 rfl) $$ [Ht Hd Hp HB]
  · isplitl [Ht]; · iexact Ht
    isplitl [Hd Hp]
    · rw [pending_zero]
      iapply (merge (dst c fd) (srcP c i tb htb xs))
      isplitl [Hd]; · iexact Hd
      iexact Hp
    iapply (none_issued c i tb htb xs fd) $$ HB
  iintro ⟨Ht, HI⟩
  iapply (waits_wp c i tb htb xs fd 𝒱 hR 256 0 rfl W) $$ [HI HO]
  · isplitr; · iexact HR
    isplitl [HI]
    · iapply (none_waited c i tb htb xs fd) $$ HI
    iexact HO
  iintro ⟨HI, HO⟩
  have hc : waitedTo c i tb htb xs fd 256 ⊢ (|={Set.univ}=> bigSep Finset.univ fun s : Fin 8 =>
      iprop((bigSep Finset.univ fun k : Fin 32 => D c i tb htb xs fd (at8 s k)) ∗ semVal ((c : Thread nD τ), semOf s.val) 0) : sProp 𝕄) := by
    unfold waitedTo batch
    refine BIBase.Entails.trans (bigSep_mono fun s _ => ?_) (bigSep_fupd (E := Set.univ) Finset.univ _)
    rw [show cnt s.val 256 = 32 from by unfold cnt; omega, Nat.mul_comm 32 N]
    exact batch_collect' (countersEmb (U := UU nD τ sig)) (c : Thread nD τ) N_pos
  iapply (fupd_wp Idealize.ShloMosaic.frame _ _ _ _)
  imod hc $$ HI with HI
  ihave HI' := (part _ _) $$ HI
  icases HI' with ⟨HD, Hz⟩
  have hD : (bigSep Finset.univ fun s : Fin 8 => bigSep Finset.univ fun k : Fin 32 => D c i tb htb xs fd (at8 s k))
      ⊢ iprop(bigSep Finset.univ (fun t => dst c (gath i tb htb xs) t) ∗ bigSep Finset.univ (fun t => srcP c i tb htb xs t)) := by
    rw [deliveries (fun t => D c i tb htb xs fd t)]
    exact BIBase.Entails.trans (bigSep_mono fun t _ => D_dst c i tb htb xs fd t) (part _ _)
  ihave HD' := hD $$ HD
  icases HD' with ⟨Hd, Hp⟩
  imodintro
  rw [Prog.pure_eq_ret, wp_ret]
  imodintro
  iapply Hk
  isplitl [Ht]; · iexact Ht
  isplitl [Hx Hp Hr]
  · iapply (src_join c i tb htb xs)
    isplitl [Hx]; · iexact Hx
    iapply (merge (srcP c i tb htb xs) (srcR c i tb htb xs))
    isplitl [Hp]; · iexact Hp
    iexact Hr
  isplitl [Hd]; · iapply (dst_join c i tb htb xs); iexact Hd
  isplitl [Hz]; · iexact Hz
  iexact HO

end

end Cert.KernelIdeal.Rows

end
-- ==== Proof.FfnRun.lean ====
/- One grid point of the grouped feed-forward: at the first feature block its rows are fetched; then the product of the block is stored or added. -/
module

public import proofs.«01_k».proof.Proof.RowsRun
public import Idealize.ShloMosaic.Lib.VecWindow
public import Idealize.ShloMosaic.Lib.Pipeline.Value
public import proofs.«01_k».proof.Proof.Gen.KernelIdeal.Skeleton

@[expose] public section

noncomputable section

namespace Cert.KernelIdeal.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Pair (EP ER UU)
open Cert.KernelIdeal.Gen

variable {F : FTy → Type} [FloatOps F]

local notation "𝕄" => MT nD τ sig Unit (Elt F) ℕ (UU nD τ sig) ℕ

variable (c : Dev nD) {defs : Defs nD τ sig (Elt F) Λ₀} (𝒱 : Variants)

section
variable {S : Shape} {e : EltTy} {cs : CoreSpace}

/-- A memref read whole. -/
theorem load_all {α : Type} (M : Memref sig .tc cs S e) {off : Fin S.rank → ℕ} (inb : ∀ a, off a + S.size a ≤ S.size a) (X : S.Idx → Elt F e)
    {hl : M.view.LoadsAt (Rect.unit off S.size inb).toLoadRect} {k : (S.Idx → Elt F e) → Prog (TpuEff nD τ sig (Elt F) Λ₀ .tc) α} {Q : α → sProp 𝕄} :
    owns (c : Thread nD τ) M fullShare X
      ⊢ iprop((owns (c : Thread nD τ) M fullShare X -∗ wp frame (wpE defs 𝒱 c none) Set.univ (k X) Q)
        -∗ wp frame (wpE defs 𝒱 c none) Set.univ (.op (.load M (Rect.unit off S.size inb).toLoadRect hl) k) Q) := by
  unfold owns
  iintro ⟨%f, %hf, H⟩ Hk
  subst hf
  iapply (wp_load 𝒱 (c : Thread nD τ) none Set.univ (m := M) (r := (Rect.unit off S.size inb).toLoadRect) (f := f) (S := M.view.set) (M.view.setOn_subset_set _)) $$ H
  iintro H
  rw [View.readAt_full]
  iapply Hk
  iexists f
  isplitr
  · ipureintro; rfl
  iexact H

/-- A memref written whole. -/
theorem store_all {α : Type} (M : Memref sig .tc cs S e) {off : Fin S.rank → ℕ} (inb : ∀ a, off a + S.size a ≤ S.size a) (X Y : S.Idx → Elt F e)
    {hx : (M.access (Rect.unit off S.size inb)).Stores Finset.univ} {hm : (Finset.univ : Finset S.Idx) = Finset.univ ∨ ∀ a, (Rect.unit off S.size inb).stride a = 1}
    {k : PUnit → Prog (TpuEff nD τ sig (Elt F) Λ₀ .tc) α} {Q : α → sProp 𝕄} :
    owns (c : Thread nD τ) M fullShare X
      ⊢ iprop((owns (c : Thread nD τ) M fullShare Y -∗ wp frame (wpE defs 𝒱 c none) Set.univ (k ⟨⟩) Q)
        -∗ wp frame (wpE defs 𝒱 c none) Set.univ (.op (.store M (Rect.unit off S.size inb) Y Finset.univ hx hm) k) Q) := by
  unfold owns
  iintro ⟨%f, -, H⟩ Hk
  iapply (wp_store 𝒱 (c : Thread nD τ) none Set.univ (m := M) (r := Rect.unit off S.size inb) (f := f) (S := M.view.set) (M.view.set_slice_subset _)) $$ H
  iintro H
  iapply Hk
  iexists _
  isplitr; swap; (· iexact H)
  ipureintro
  exact View.read_writes_full M.view f inb Y []
end

variable (i : grid2.Coords) (tb : S5120.Idx → BitVec 32) (htb : ∀ p, (tb p).toNat < 8192) (xs : S8192x2048.Idx → Elt F .f32) (fd : S256x2048.Idx → Elt F .f32)
  (arg5 : Memref sig .tc .vmem S1x2048x512 .f32) (harg5 : arg5.IsWhole) (arg6 : Memref sig .tc .vmem S1x512x2048 .f32) (harg6 : arg6.IsWhole)
  (arg7 : Memref sig .tc .vmem S256x2048 .f32) (harg7 : arg7.IsWhole)

theorem rows_then (h1 : k2_cond1 i = 1#1) (v2 : BitVec 32) (K : PUnit → B (F := F) PUnit) :
    (k2_part103 (F := F) i Tm (Memref.isWhole_whole _) Xm (Memref.isWhole_whole _) arg5 harg5 arg6 harg6 arg7 harg7 Sm (Memref.isWhole_whole _) sems v2 h1 >>= fun _ =>
      k2_part104 (F := F) i Tm (Memref.isWhole_whole _) Xm (Memref.isWhole_whole _) arg5 harg5 arg6 harg6 arg7 harg7 Sm (Memref.isWhole_whole _) sems >>= fun _ =>
        wait Xm Sm sems 255 K)
      = rows i h1 Tm Xm Sm sems 256 0 (Nat.le_of_eq rfl) (fun _ => waits Xm Sm sems 256 0 pure) >>= K := by
  rw [← all_rows i Tm (Memref.isWhole_whole _) Xm (Memref.isWhole_whole _) arg5 harg5 arg6 harg6 arg7 harg7 Sm (Memref.isWhole_whole _) sems v2 h1]
  simp only [bind_assoc]
  rfl

/-- The part of a point after the fetch. -/
def fin : B (F := F) PUnit :=
  .op (.load Sm (Rect.unit (s := S256x2048) ![0, 0] S256x2048.size inb_S256x2048_S256x2048_0_0).toLoadRect (View.loadsAt_vmem h_S256x2048)) fun v6 =>
  .op (.load arg5 (Rect.unit (s := S1x2048x512) ![0, 0, 0] S1x2048x512.size inb_S1x2048x512_S1x2048x512_0_0_0).toLoadRect (View.loadsAt_vmem h_S1x2048x512)) fun v7 =>
  .op (.load arg6 (Rect.unit (s := S1x512x2048) ![0, 0, 0] S1x512x2048.size inb_S1x512x2048_S1x512x2048_0_0_0).toLoadRect (View.loadsAt_vmem h_S1x512x2048)) fun v12 =>
  let add : B (F := F) PUnit :=
    if k2_cond3 i = 1#1 then
      .op (.load arg7 (Rect.unit (s := S256x2048) ![0, 0] S256x2048.size inb_S256x2048_S256x2048_0_0).toLoadRect (View.loadsAt_vmem h_S256x2048)) fun v21 =>
      .op (.load arg7 (Rect.unit (s := S256x2048) ![0, 0] S256x2048.size inb_S256x2048_S256x2048_0_0).toLoadRect (View.loadsAt_vmem h_S256x2048)) fun _ =>
      .op (.store arg7 (Rect.unit (s := S256x2048) ![0, 0] S256x2048.size inb_S256x2048_S256x2048_0_0) (k2_pay2 v6 v7 v12 v21) Finset.univ (View.stores_vmem_bits_univ h_S256x2048 rfl) (.inl rfl)) fun _ =>
      .ret ⟨⟩
    else .ret ⟨⟩
  if k2_cond2 i = 1#1 then
    .op (.load arg7 (Rect.unit (s := S256x2048) ![0, 0] S256x2048.size inb_S256x2048_S256x2048_0_0).toLoadRect (View.loadsAt_vmem h_S256x2048)) fun _ =>
    .op (.store arg7 (Rect.unit (s := S256x2048) ![0, 0] S256x2048.size inb_S256x2048_S256x2048_0_0) (k2_pay1 v6 v7 v12) Finset.univ (View.stores_vmem_bits_univ h_S256x2048 rfl) (.inl rfl)) fun _ =>
    add
  else add

theorem body_first (h1 : k2_cond1 i = 1#1) :
    cc2_body (F := F) i Tm (Memref.isWhole_whole _) Xm (Memref.isWhole_whole _) arg5 harg5 arg6 harg6 arg7 harg7 Sm (Memref.isWhole_whole _) sems
      = rows i h1 Tm Xm Sm sems 256 0 (Nat.le_of_eq rfl) (fun _ => waits Xm Sm sems 256 0 pure) >>= fun _ => fin i arg5 arg6 arg7 := by
  rw [← rows_then i arg5 harg5 arg6 harg6 arg7 harg7 h1 (Scalar.muli (Scalar.addi (Scalar.muli (BitVec.ofNat 32 (i 0).val) 5#32) (BitVec.ofNat 32 (i 1).val)) 256#32),
    cc2_body_eq_skeleton]
  unfold cc2_body_skel
  rw [dif_pos h1]
  rfl

theorem body_next (h1 : k2_cond1 i ≠ 1#1) :
    cc2_body (F := F) i Tm (Memref.isWhole_whole _) Xm (Memref.isWhole_whole _) arg5 harg5 arg6 harg6 arg7 harg7 Sm (Memref.isWhole_whole _) sems = fin i arg5 arg6 arg7 := by
  rw [cc2_body_eq_skeleton]
  unfold cc2_body_skel
  rw [dif_neg h1]
  rfl

theorem run_first {O : CellTallies nD τ sig Unit} {R : sProp 𝕄} [BI.Persistent R] (hR : ∀ j : ℕ, R ⊢ MayWait (c : Thread nD τ) (semOf j) () O)
    (q : PosShare TreeShare) (W : Waits sig Unit) (Q : PUnit → sProp 𝕄) (h1 : k2_cond1 i = 1#1) (h2 : k2_cond2 i = 1#1) (h3 : k2_cond3 i ≠ 1#1)
    (w1 : S1x2048x512.Idx → Elt F .f32) (w2 : S1x512x2048.Idx → Elt F .f32) (o : S256x2048.Idx → Elt F .f32) :
    iprop(R ∗ tPts c tb q ∗ xPts c xs ∗ sPts c fd ∗ zeros c ∗ owes (c : Thread nD τ) O W
        ∗ owns (c : Thread nD τ) arg5 fullShare w1 ∗ owns (c : Thread nD τ) arg6 fullShare w2 ∗ owns (c : Thread nD τ) arg7 fullShare o
        ∗ (iprop(tPts c tb q ∗ xPts c xs ∗ sPts c (gath i tb htb xs) ∗ zeros c ∗ (∃ W', owes (c : Thread nD τ) O W')
            ∗ owns (c : Thread nD τ) arg5 fullShare w1 ∗ owns (c : Thread nD τ) arg6 fullShare w2
            ∗ owns (c : Thread nD τ) arg7 fullShare (k2_pay1 (gath i tb htb xs) w1 w2)) -∗ Q ⟨⟩))
      ⊢ wp frame (wpE defs 𝒱 c none) Set.univ (cc2_body i Tm (Memref.isWhole_whole _) Xm (Memref.isWhole_whole _) arg5 harg5 arg6 harg6 arg7 harg7 Sm (Memref.isWhole_whole _) sems) Q := by
  iintro ⟨#HR, Ht, Hx, Hs, Hz, HO, H5, H6, H7, Hk⟩
  rw [body_first.{1} i arg5 harg5 arg6 harg6 arg7 harg7 h1, wp_bind]
  iapply (fetch.{1} c i h1 tb htb xs fd 𝒱 hR q W _)
  isplitr; · iexact HR
  isplitl [Ht]; · iexact Ht
  isplitl [Hx]; · iexact Hx
  isplitl [Hs]; · iexact Hs
  isplitl [Hz]; · iexact Hz
  isplitl [HO]; · iexact HO
  iintro ⟨Ht, Hx, Hs, Hz, HO⟩
  unfold fin
  ihave Hs := (Entails.of_eq (owns_whole (c : Thread nD τ) cc2_scratch0 fullShare (gath i tb htb xs)).symm) $$ Hs
  iapply (load_all c 𝒱 Sm inb_S256x2048_S256x2048_0_0 (gath i tb htb xs)) $$ Hs
  iintro Hs
  iapply (load_all c 𝒱 arg5 inb_S1x2048x512_S1x2048x512_0_0_0 w1) $$ H5
  iintro H5
  iapply (load_all c 𝒱 arg6 inb_S1x512x2048_S1x512x2048_0_0_0 w2) $$ H6
  iintro H6
  dsimp only
  rw [if_pos h2, if_neg h3]
  iapply (load_all c 𝒱 arg7 inb_S256x2048_S256x2048_0_0 o) $$ H7
  iintro H7
  iapply (store_all c 𝒱 arg7 inb_S256x2048_S256x2048_0_0 o (k2_pay1 (gath i tb htb xs) w1 w2)) $$ H7
  iintro H7
  rw [wp_ret]
  imodintro
  iapply Hk
  isplitl [Ht]; · iexact Ht
  isplitl [Hx]; · iexact Hx
  isplitl [Hs]; · iapply (Entails.of_eq (owns_whole (c : Thread nD τ) cc2_scratch0 fullShare (gath i tb htb xs))) $$ Hs
  isplitl [Hz]; · iexact Hz
  isplitl [HO]; · iexact HO
  isplitl [H5]; · iexact H5
  isplitl [H6] <;> iassumption

theorem run_next (Q : PUnit → sProp 𝕄) (h1 : k2_cond1 i ≠ 1#1) (h2 : k2_cond2 i ≠ 1#1) (h3 : k2_cond3 i = 1#1)
    (w1 : S1x2048x512.Idx → Elt F .f32) (w2 : S1x512x2048.Idx → Elt F .f32) (o : S256x2048.Idx → Elt F .f32) :
    iprop(sPts c fd ∗ owns (c : Thread nD τ) arg5 fullShare w1 ∗ owns (c : Thread nD τ) arg6 fullShare w2 ∗ owns (c : Thread nD τ) arg7 fullShare o
        ∗ (iprop(sPts c fd ∗ owns (c : Thread nD τ) arg5 fullShare w1 ∗ owns (c : Thread nD τ) arg6 fullShare w2
            ∗ owns (c : Thread nD τ) arg7 fullShare (k2_pay2 fd w1 w2 o)) -∗ Q ⟨⟩))
      ⊢ wp frame (wpE defs 𝒱 c none) Set.univ (cc2_body i Tm (Memref.isWhole_whole _) Xm (Memref.isWhole_whole _) arg5 harg5 arg6 harg6 arg7 harg7 Sm (Memref.isWhole_whole _) sems) Q := by
  iintro ⟨Hs, H5, H6, H7, Hk⟩
  ihave Hs := (Entails.of_eq (owns_whole (c : Thread nD τ) cc2_scratch0 fullShare fd).symm) $$ Hs
  rw [body_next i arg5 harg5 arg6 harg6 arg7 harg7 h1]
  unfold fin
  iapply (load_all c 𝒱 Sm inb_S256x2048_S256x2048_0_0 fd) $$ Hs
  iintro Hs
  iapply (load_all c 𝒱 arg5 inb_S1x2048x512_S1x2048x512_0_0_0 w1) $$ H5
  iintro H5
  iapply (load_all c 𝒱 arg6 inb_S1x512x2048_S1x512x2048_0_0_0 w2) $$ H6
  iintro H6
  dsimp only
  rw [if_neg h2, if_pos h3]
  iapply (load_all c 𝒱 arg7 inb_S256x2048_S256x2048_0_0 o) $$ H7
  iintro H7
  iapply (load_all c 𝒱 arg7 inb_S256x2048_S256x2048_0_0 o) $$ H7
  iintro H7
  iapply (store_all c 𝒱 arg7 inb_S256x2048_S256x2048_0_0 o (k2_pay2 fd w1 w2 o)) $$ H7
  iintro H7
  rw [wp_ret]
  imodintro
  iapply Hk
  isplitl [Hs]; · iapply (Entails.of_eq (owns_whole (c : Thread nD τ) cc2_scratch0 fullShare fd)) $$ Hs
  isplitl [H5]; · iexact H5
  isplitl [H6] <;> iassumption

end Cert.KernelIdeal.Rows

end
-- ==== Proof.Ffn.lean ====
/- The grouped call over its whole grid: at each block of 256 table entries the rows are fetched at the first of eight points, the scratch keeps them over the
   other seven, and the output block accumulates the eight products. -/
module

public import proofs.«01_k».proof.Proof.Talk
public import proofs.«01_k».proof.Proof.FfnRun
public import Idealize.ShloMosaic.Lib.Pipeline.RegionArraysT

@[expose] public section

noncomputable section

namespace Cert.KernelIdeal.Ffn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Pair (UU)
open Cert.KernelIdeal.Gen Cert.KernelIdeal.Rows

variable {F : FTy → Type} [FloatOps F]

local notation "𝕄" => MT nD τ sig Unit (Elt F) ℕ (UU nD τ sig) ℕ

/-! ## Grid points -/

theorem co0 (t : Fin grid2.N) : (grid2.coords t 0).val = t.val / 40 % 4 := Grid.coords_val t 0 (by decide) rfl
theorem co1 (t : Fin grid2.N) : (grid2.coords t 1).val = t.val / 8 % 5 := Grid.coords_val t 1 (by decide) rfl
theorem co2 (t : Fin grid2.N) : (grid2.coords t 2).val = t.val % 8 := by
  rw [Grid.coords_val t 2 (S := 1) (B := 8) (by decide) rfl, Nat.div_one]

theorem conds : ∀ n : Fin 8,
    (let v : BitVec 32 := Scalar.extui (Scalar.cmpi .eq (BitVec.ofNat 32 n.val) (0#32)); Scalar.cmpi .ne v (0#32) : BitVec 1) = (if n.val = 0 then 1#1 else 0#1)
    ∧ (let v : BitVec 32 := Scalar.extui (Scalar.cmpi .ne (BitVec.ofNat 32 n.val) (0#32)); Scalar.cmpi .ne v (0#32) : BitVec 1) = (if n.val = 0 then 0#1 else 1#1) := by
  decide

theorem cond1 (i : grid2.Coords) : k2_cond1 i = if (i 2).val = 0 then 1#1 else 0#1 := (conds (i 2)).1
theorem cond2 (i : grid2.Coords) : k2_cond2 i = if (i 2).val = 0 then 1#1 else 0#1 := (conds (i 2)).1
theorem cond3 (i : grid2.Coords) : k2_cond3 i = if (i 2).val = 0 then 0#1 else 1#1 := (conds (i 2)).2

theorem not_idle (i : grid2.Coords) : idle2 2 i = false := by
  show (!(k2_cond2 i == 1#1) && !(k2_cond3 i == 1#1)) = false
  rw [cond2, cond3]
  split <;> rfl

/-! ## The rows of a block -/

theorem word_eq (i : grid2.Coords) (tb : S5120.Idx → BitVec 32) (j : ℕ) (h : j < 256)
    (hb : ((i 0).val * 5 + (i 1).val) * 256 + j < 5120) :
    word (F := F) i tb j h = tb (Fin.cons (⟨((i 0).val * 5 + (i 1).val) * 256 + j, hb⟩ : Fin 5120) fun b : Fin 0 => b.elim0) := by
  show tb _ = tb _
  congr 1
  funext a
  obtain rfl := Fin.eq_zero a
  refine Fin.ext ?_
  show at_ i j 0 + 1 * ((Shape.Idx.first (numel1_S1.symm ▸ Nat.one_pos) : S1.Idx) 0).val = _
  rw [at_val i j h, show ((Shape.Idx.first (numel1_S1.symm ▸ Nat.one_pos) : S1.Idx) 0).val = 0 from Nat.lt_one_iff.mp ((Shape.Idx.first (numel1_S1.symm ▸ Nat.one_pos) : S1.Idx) 0).isLt]
  rfl

theorem slot_lt (i : grid2.Coords) (j : ℕ) (h : j < 256) : ((i 0).val * 5 + (i 1).val) * 256 + j < 5120 := by
  have h0 : (i 0).val < 4 := (i 0).isLt
  have h1 : (i 1).val < 5 := (i 1).isLt
  omega

theorem word_congr {i i' : grid2.Coords} (h0 : (i 0).val = (i' 0).val) (h1 : (i 1).val = (i' 1).val) (tb : S5120.Idx → BitVec 32) (j : ℕ) (h : j < 256) :
    word (F := F) i tb j h = word (F := F) i' tb j h := by
  rw [word_eq i tb j h (slot_lt i j h), word_eq i' tb j h (slot_lt i' j h)]
  simp only [h0, h1]

theorem tok_congr (xs : S8192x2048.Idx → Elt F .f32) {r r' : ℕ} (e : r = r') (h : r < 8192) (h' : r' < 8192) (y : Fin 2048) :
    xs (tokIdx r h y) = xs (tokIdx r' h' y) := by subst e; rfl

theorem gath_congr {i i' : grid2.Coords} (h0 : (i 0).val = (i' 0).val) (h1 : (i 1).val = (i' 1).val) (tb : S5120.Idx → BitVec 32) (htb) (xs : S8192x2048.Idx → Elt F .f32) :
    gath i tb htb xs = gath i' tb htb xs := by
  funext y
  unfold gath
  exact tok_congr xs (congrArg BitVec.toNat (word_congr h0 h1 tb _ _)) _ _ _

/-! ## The proof data -/

variable (W : Dev nD → Valuation τ sig (Elt F)) (htb : ∀ c, ∀ p : S5120.Idx, ((W c main_v68 : S5120.Idx → BitVec 32) p).toNat < 8192)

/-- The device's table, prefetched. -/
abbrev tab (c : Dev nD) : (pcfg2 (F := F)).Adm := ⟨fun k => W c (Proc.devRef .tc (pre2.ref k)), trivial⟩

abbrev cfg (c : Dev nD) : Cfg sig Λ₀ := cfg2 (tab W c)

abbrev blk1 (c : Dev nD) (t : Fin grid2.N) : S1x2048x512.Idx → Elt F .f32 := (((cfg W c).win 0).blk t).view.read (Elt F) (W c main_arg2)
abbrev blk2 (c : Dev nD) (t : Fin grid2.N) : S1x512x2048.Idx → Elt F .f32 := (((cfg W c).win 1).blk t).view.read (Elt F) (W c main_arg3)
abbrev rowsAt (c : Dev nD) (t : Fin grid2.N) : S256x2048.Idx → Elt F .f32 := gath (grid2.coords t) (W c main_v68) (htb c) (W c main_v7)

/-- The output block after point `n`. -/
def acc (c : Dev nD) : (n : ℕ) → n < grid2.N → S256x2048.Idx → Elt F .f32
  | 0, h => k2_pay1 (rowsAt W htb c ⟨0, h⟩) (blk1 W c ⟨0, h⟩) (blk2 W c ⟨0, h⟩)
  | n + 1, h =>
    if (n + 1) % 8 = 0 then k2_pay1 (rowsAt W htb c ⟨n + 1, h⟩) (blk1 W c ⟨n + 1, h⟩) (blk2 W c ⟨n + 1, h⟩)
    else k2_pay2 (rowsAt W htb c ⟨n + 1, h⟩) (blk1 W c ⟨n + 1, h⟩) (blk2 W c ⟨n + 1, h⟩) (acc c n (Nat.lt_of_succ_lt h))

theorem acc_first (c : Dev nD) (t : Fin grid2.N) (h : t.val % 8 = 0) :
    acc W htb c t.val t.isLt = k2_pay1 (rowsAt W htb c t) (blk1 W c t) (blk2 W c t) := by
  obtain ⟨n, hn⟩ := t
  cases n with
  | zero => rfl
  | succ n => exact if_pos h

theorem acc_next (c : Dev nD) (t : Fin grid2.N) (h : t.val % 8 ≠ 0) (hp : t.val - 1 < grid2.N) :
    acc W htb c t.val t.isLt = k2_pay2 (rowsAt W htb c t) (blk1 W c t) (blk2 W c t) (acc W htb c (t.val - 1) hp) := by
  obtain ⟨n, hn⟩ := t
  cases n with
  | zero => exact absurd rfl h
  | succ n => exact if_neg h

variable (lv : GSem nD τ sig → Unit → ℕ) (O : Dev nD → CellTallies nD τ sig Unit)

/-- The scratch: past a block's first point it holds the block's rows. -/
def scr (c : Dev nD) (n : ℕ) : sProp 𝕄 :=
  iprop(∃ g, sPts c g ∗ ⌜∀ h : n < grid2.N, n % 8 ≠ 0 → g = rowsAt W htb c ⟨n, h⟩⌝)

abbrev idleBufs (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

def Φ2 (c : Dev nD) (n : ℕ) : sProp 𝕄 :=
  iprop(levAts Pair.L lv ∗ tPts c (W c main_v68) fullShare ∗ xPts c (W c main_v7) ∗ scr W htb c n ∗ zeros c ∗ idleBufs c ∗ ∃ r, prngReg c r)

def dat2 (c : Dev nD) : Dat τ (Elt F) Unit ℕ (UU nD τ sig) ℕ (cfg W c) c where
  A w := W c (arrRef spec2 w)
  after w t := match w with
    | ⟨0, _⟩ => blk1 W c t
    | ⟨1, _⟩ => blk2 W c t
    | ⟨2, _⟩ => acc W htb c t.val t.isLt
  Φ t := Φ2 W htb lv c t.val
  q _ := fullShare
  owed _ := O c

theorem before0 (c : Dev nD) (t : Fin grid2.N) (d : S1x2048x512.Idx → Elt F .f32) : (dat2 W htb lv O c).before 0 t d = blk1 W c t :=
  ((dat2 W htb lv O c).before_in_eq_fetched 0 rfl (fun _ => rfl) (fun _ _ _ => rfl) (fun _ => rfl) t d)
theorem before1 (c : Dev nD) (t : Fin grid2.N) (d : S1x512x2048.Idx → Elt F .f32) : (dat2 W htb lv O c).before 1 t d = blk2 W c t :=
  ((dat2 W htb lv O c).before_in_eq_fetched 1 rfl (fun _ => rfl) (fun _ _ _ => rfl) (fun _ => rfl) t d)

theorem ix_out (c : Dev nD) (t : Fin grid2.N) : ((cfg W c).win 2).index t = ![t.val / 8, 0] := by
  have ht : t.val < 160 := N_2 ▸ t.isLt
  show cc2_transform_3 (grid2.coords t) = _
  have e0 := co0 t; have e1 := co1 t
  have key : ∀ (a : Fin 4) (b : Fin 5), (Scalar.addi (Scalar.muli (BitVec.ofNat 32 a.val) 5#32) (BitVec.ofNat 32 b.val)).toNat = a.val * 5 + b.val := by decide
  unfold cc2_transform_3
  dsimp only
  rw [key (grid2.coords t 0) (grid2.coords t 1), e0, e1]
  congr 1
  omega

theorem flush_iff (c : Dev nD) (t : Fin grid2.N) : ((cfg W c).win 2).flush t = true ↔ t.val % 8 = 7 := by
  have ht : t.val < 160 := N_2 ▸ t.isLt
  rw [Window.flush_out _ rfl]
  constructor
  · rintro (h | ⟨h, hne⟩)
    · have : grid2.N = 160 := N_2
      have : t.val + 1 = grid2.N := h
      omega
    · rw [ix_out, ix_out] at hne
      by_contra h7
      exact hne (by rw [show (t.val + 1) / 8 = t.val / 8 by omega])
  · intro h
    by_cases hl : t.val + 1 = 160
    · exact .inl (hl.trans N_2.symm)
    · refine .inr ⟨(by omega : t.val + 1 < 160).trans_eq N_2.symm, fun e => ?_⟩
      rw [ix_out, ix_out] at e
      have := congrFun e 0
      have : (t.val + 1) / 8 = t.val / 8 := this
      omega

theorem before2 (c : Dev nD) (t : Fin grid2.N) (h : t.val % 8 ≠ 0) (hp : t.val - 1 < grid2.N) (d : S256x2048.Idx → Elt F .f32) :
    (dat2 W htb lv O c).before 2 t d = acc W htb c (t.val - 1) hp :=
  (dat2 W htb lv O c).before_out_kept 2 rfl t (fun e => h (by rw [e])) (by
    rw [← Bool.not_eq_true]
    intro hf
    have := (flush_iff W c _).mp hf
    have : (t.val - 1) % 8 = 7 := this
    omega) not_idle (fun _ _ => rfl) d

theorem phi_start (c : Dev nD) (t : Fin (cfg W c).N) : (dat2 W htb lv O c).Φ t.castSucc = Φ2 W htb lv c t.val := by
  dsimp only [dat2]; exact Dat.Φ_castSucc (fun n _ => Φ2 W htb lv c n) t
theorem phi_end (c : Dev nD) (t : Fin (cfg W c).N) : (dat2 W htb lv O c).Φ t.succ = Φ2 W htb lv c (t.val + 1) := by
  dsimp only [dat2]; rw [Fin.val_succ]

theorem owes_same (c : Dev nD) (t t' : Fin ((cfg W c).N + 1)) : (dat2 W htb lv O c).owesAt () t = (dat2 W htb lv O c).owesAt () t' := by
  unfold Dat.owesAt owesWithin Dat.bound
  dsimp only [dat2]

theorem body2 (hR : ∀ (c : Dev nD) (j : ℕ), (levAts Pair.L lv : sProp 𝕄) ⊢ MayWait (c : Thread nD τ) (semOf j) () (O c)) (c : Dev nD) :
    BodyObligation (dat2 W htb lv O c) (defs₀ (F := F)) Variants.none () Set.univ := fun t => by
  have ht : t.val < 160 := lt_of_lt_of_eq t.isLt N_2
  have e2 := co2 t
  rw [bigSep_W2, bigSep_W2]
  simp only [not_idle]
  rw [phi_start, phi_end, owes_same W htb lv O c t.succ t.castSucc]
  unfold Φ2 scr
  iintro ⟨⟨#HL, Ht, Hx, ⟨%g, Hs, %hg⟩, Hz, Hi, Hp⟩, HO, ⟨%d0, H0⟩, ⟨%d1, H1⟩, ⟨%d2, H2⟩⟩
  rw [before0, before1]
  by_cases h : t.val % 8 = 0
  · unfold Dat.owesAt owesWithin
    icases HO with ⟨%Wd, -, HO⟩
    iapply (run_first c Variants.none (grid2.coords t) (W c main_v68) (htb c) (W c main_v7) g _ _ _ _ _ _ (hR c) fullShare Wd _
      (by rw [cond1, e2, if_pos h]) (by rw [cond2, e2, if_pos h]) (by rw [cond3, e2, if_pos h]; decide) (blk1 W c t) (blk2 W c t) _)
    isplitr; · iexact HL
    isplitl [Ht]; · iexact Ht
    isplitl [Hx]; · iexact Hx
    isplitl [Hs]; · iexact Hs
    isplitl [Hz]; · iexact Hz
    isplitl [HO]; · iexact HO
    isplitl [H0]; · iexact H0
    isplitl [H1]; · iexact H1
    isplitl [H2]; · iexact H2
    iintro ⟨Ht, Hx, Hs, Hz, ⟨%Wd', HO⟩, H0, H1, H2⟩
    isplitl [Ht Hx Hs Hz Hi Hp]
    · isplitr; · iexact HL
      isplitl [Ht]; · iexact Ht
      isplitl [Hx]; · iexact Hx
      isplitl [Hs]
      · iexists _
        isplitl [Hs]; · iexact Hs
        ipureintro
        intro hn h8
        exact gath_congr (by rw [co0, co0]; show _ = (t.val + 1) / 40 % 4; omega) (by rw [co1, co1]; show _ = (t.val + 1) / 8 % 5; omega) _ _ _
      isplitl [Hz]; · iexact Hz
      isplitl [Hi] <;> iassumption
    isplitl [HO]
    · iexists Wd'
      isplitr; · ipureintro; exact fun _ _ => Or.inl trivial
      iexact HO
    isplitl [H0]; · iexact H0
    isplitl [H1]; · iexact H1
    rw [show (dat2 W htb lv O c).after 2 t = acc W htb c t.val t.isLt from rfl, acc_first W htb c t h, not_idle]
    iexact H2
  · have hp : t.val - 1 < grid2.N := lt_of_le_of_lt (Nat.sub_le _ _) t.isLt
    have hgt := hg t.isLt h
    subst hgt
    rw [before2 W htb lv O c t h hp]
    iapply (run_next c Variants.none (grid2.coords t) (rowsAt W htb c t) _ _ _ _ _ _ _
      (by rw [cond1, e2, if_neg h]; decide) (by rw [cond2, e2, if_neg h]; decide) (by rw [cond3, e2, if_neg h]) (blk1 W c t) (blk2 W c t) (acc W htb c (t.val - 1) hp))
    isplitl [Hs]; · iexact Hs
    isplitl [H0]; · iexact H0
    isplitl [H1]; · iexact H1
    isplitl [H2]; · iexact H2
    iintro ⟨Hs, H0, H1, H2⟩
    isplitl [Ht Hx Hs Hz Hi Hp]
    · isplitr; · iexact HL
      isplitl [Ht]; · iexact Ht
      isplitl [Hx]; · iexact Hx
      isplitl [Hs]
      · iexists _
        isplitl [Hs]; · iexact Hs
        ipureintro
        intro hn h8
        exact gath_congr (by rw [co0, co0]; show _ = (t.val + 1) / 40 % 4; omega) (by rw [co1, co1]; show _ = (t.val + 1) / 8 % 5; omega) _ _ _
      isplitl [Hz]; · iexact Hz
      isplitl [Hi] <;> iassumption
    isplitl [HO]; · iexact HO
    isplitl [H0]; · iexact H0
    isplitl [H1]; · iexact H1
    rw [show (dat2 W htb lv O c).after 2 t = acc W htb c t.val t.isLt from rfl, acc_next W htb c t h hp, not_idle]
    iexact H2

/-! ## The result array -/

/-- Row `r` of the result is row `r % 256` of what block `r / 256` has accumulated after its eight points. -/
def out (c : Dev nD) : S5120x2048.Idx → Elt F .f32 := fun i =>
  acc W htb c (8 * ((i 0).val / 256) + 7) (lt_of_lt_of_eq (by have : (i 0).val < 5120 := (i 0).isLt; omega : 8 * ((i 0).val / 256) + 7 < 160) N_2.symm)
    (Fin.cons (⟨(i 0).val % 256, Nat.mod_lt _ (by decide)⟩ : Fin 256) (Fin.cons (i 1) fun b : Fin 0 => b.elim0))

theorem emb_out (c : Dev nD) (t : Fin grid2.N) (y : S256x2048.Idx) (a : Fin 2) :
    ((((cfg W c).win 2).blk t).view.emb y a).val = (![t.val / 8, 0] : Fin 2 → ℕ) a * S256x2048.size a + (y a).val :=
  (Window.rect_emb_val ((cfg W c).win 2) t y a).trans (by rw [ix_out]; rfl)

theorem acc_congr (c : Dev nD) {n n' : ℕ} (e : n = n') (h : n < grid2.N) (h' : n' < grid2.N) {y y' : S256x2048.Idx} (ey : y = y') :
    acc W htb c n h y = acc W htb c n' h' y' := by subst e; subst ey; rfl

theorem emb_out0 (c : Dev nD) (t : Fin grid2.N) (y : S256x2048.Idx) : ((((cfg W c).win 2).blk t).view.emb y (0 : Fin 2)).val = t.val / 8 * 256 + (y 0).val := emb_out W c t y 0
theorem emb_out1 (c : Dev nD) (t : Fin grid2.N) (y : S256x2048.Idx) : ((((cfg W c).win 2).blk t).view.emb y (1 : Fin 2)).val = (y 1).val :=
  (emb_out W c t y 1).trans (by show 0 * 2048 + (y 1).val = _; omega)

abbrev place (i : S5120x2048.Idx) : S256x2048.Idx :=
  Fin.cons (⟨(i 0).val % 256, Nat.mod_lt _ (by decide)⟩ : Fin 256) (Fin.cons (i 1) fun b : Fin 0 => b.elim0)

theorem out_emb (c : Dev nD) (t : Fin grid2.N) (h7 : t.val % 8 = 7) (y : S256x2048.Idx) (i : S5120x2048.Idx)
    (e0 : (i 0).val = t.val / 8 * 256 + (y 0).val) (e1 : (i 1).val = (y 1).val) : acc W htb c t.val t.isLt y = out W htb c i := by
  have y0 : (y 0).val < 256 := (y 0).isLt
  refine acc_congr W htb c (by rw [e0]; omega) t.isLt _ ?_
  funext a
  refine Fin.ext ?_
  match a with
  | ⟨0, _⟩ => show (y 0).val = (i 0).val % 256; rw [e0]; omega
  | ⟨1, _⟩ => exact e1.symm

abbrev pointOf (i : S5120x2048.Idx) : Fin grid2.N :=
  ⟨8 * ((i 0).val / 256) + 7, lt_of_lt_of_eq (by have : (i 0).val < 5120 := (i 0).isLt; omega : 8 * ((i 0).val / 256) + 7 < 160) N_2.symm⟩

theorem emb_place (c : Dev nD) (i : S5120x2048.Idx) : (((cfg W c).win 2).blk (pointOf i)).view.emb (place i) = i := by
  funext a
  refine Fin.ext ((emb_out W c (pointOf i) (place i) a).trans ?_)
  match a with
  | ⟨0, _⟩ => show (8 * ((i 0).val / 256) + 7) / 8 * 256 + (i 0).val % 256 = (i 0).val; omega
  | ⟨1, _⟩ => show 0 * 2048 + (i 1).val = (i 1).val; omega

theorem mem_of_emb {sp : Space} {S : Shape} {e : EltTy} (v : View sig .tc sp S e) (y : S.Idx) {i : v.ty.Idx} (h : v.emb y = i) : i ∈ v.set := h ▸ v.emb_mem_set y

theorem arrAt_out (c : Dev nD) : (dat2 W htb lv O c).arrAt 2 (cfg W c).N = out W htb c :=
  (dat2 W htb lv O c).arrAt_eq_of_cover 2 (out W htb c)
    (fun t hf => funext fun (y : S256x2048.Idx) =>
      out_emb W htb c t ((flush_iff W c t).mp hf) y _ (emb_out0 W c t y) (emb_out1 W c t y))
    (fun (i : S5120x2048.Idx) => ⟨pointOf i, (flush_iff W c _).mpr (by show (8 * ((i 0).val / 256) + 7) % 8 = 7; omega),
      mem_of_emb _ (place i) (emb_place W c i)⟩)

/-! ## Entry and exit -/

/-- The call's own semaphores. -/
abbrev osem : Fin 8 → SemLoc sig := fun | 0 => .dma 15 | 1 => .dma 16 | 2 => .dma 17 | 3 => .dma 18 | 4 => .dma 19 | 5 => .dma 20 | 6 => .dma 21 | 7 => .dma 22

theorem osem_eq : ∀ s : Fin 8, osem s = semOf s.val := by decide +kernel

theorem own_facts : OwnSemFacts (pcfgs (F := F) 2).spec osem :=
  (show OwnSemFacts spec2 osem by decide +kernel)

theorem ownSems_eq (c : Dev nD) : (ownSems0 osem c : sProp 𝕄) = zeros c := by
  unfold ownSems0 zeros
  exact bigSep_congr fun s _ => by rw [osem_eq s]

def held5 : Finset (DevRef τ sig) :=
  {Proc.devRef .tc main_arg2, Proc.devRef .tc main_arg3, Proc.devRef .tc main_v69, Proc.devRef .tc main_v68, Proc.devRef .tc main_v7}
theorem held5_sub : held5 ⊆ ucRefs τ sig := by decide

abbrev at_ref (c : Dev nD) (b : Ref sig .tc) (f : Buf (Elt F) ((c : Thread nD τ).loc b)) : sProp 𝕄 := ((c : Thread nD τ).loc b) ↦{fullShare} f

theorem held5_eq (c : Dev nD) (V : Valuation τ sig (Elt F)) : (StableHlo.held (c : Thread nD τ) held5 V : sProp 𝕄)
    = iprop(at_ref c main_arg2 (V main_arg2) ∗ at_ref c main_arg3 (V main_arg3) ∗ at_ref c main_v69 (V main_v69) ∗ tPts c (V main_v68) fullShare ∗ xPts c (V main_v7)) := by
  unfold StableHlo.held
  rw [bigSep_eq_bigSepL_of_eq [Proc.devRef .tc main_arg2, Proc.devRef .tc main_arg3, Proc.devRef .tc main_v69, Proc.devRef .tc main_v68, Proc.devRef .tc main_v7]
    (by decide) (by decide)]
  rfl

theorem arrays_eq (c : Dev nD) (G : (w : Fin (cfg W c).W) → Buf (Elt F) (((cfg W c).win w).arr.view.loc (c.tc : Thread nD τ))) :
    ((dat2 W htb lv O c).arrays G : sProp 𝕄) = iprop(at_ref c main_arg2 (G 0) ∗ at_ref c main_arg3 (G 1) ∗ at_ref c main_v69 (G 2)) := by
  unfold Dat.arrays
  rw [bigSep_W2, (arr_whole2 0).set_eq_univ, (arr_whole2 1).set_eq_univ, (arr_whole2 2).set_eq_univ,
    (dat2 W htb lv O c).share_full (fun _ => rfl) 0, (dat2 W htb lv O c).share_full (fun _ => rfl) 1, (dat2 W htb lv O c).share_full (fun _ => rfl) 2]

theorem table_eq (c : Dev nD) : (prefHeld pre2 c (fun _ => fullShare) (tab W c).1 : sProp 𝕄) = tPts c (W c main_v68) fullShare := by
  unfold prefHeld
  rw [show (Finset.univ : Finset (Fin pre2.K)) = {0} from rfl, bigSep_singleton]
  rfl

/-- The buffers after the call. -/
def VC (c : Dev nD) : Valuation τ sig (Elt F) := Function.update (W c) (Proc.devRef .tc main_v69) (out W htb c)
theorem VC_out (c : Dev nD) : VC W htb c main_v69 = out W htb c := Function.update_self ..
theorem VC_of (c : Dev nD) (r : Ref sig .tc) (h : r ≠ main_v69) : VC W htb c r = W c r :=
  Function.update_of_ne (fun e => h (Proc.devRef_injective _ e)) _ _

theorem rest (c : Dev nD) : (StableHlo.held (c.tc : Thread nD τ) (ucRefs τ sig \ held5) (W c) : sProp 𝕄)
    = StableHlo.held (c.tc : Thread nD τ) (ucRefs τ sig \ held5) (VC W htb c) :=
  bigSep_congr fun b hb => by
    have h := (Finset.mem_sdiff.mp hb).2
    rw [show VC W htb c b = W c b from Function.update_of_ne (fun e : b = Proc.devRef .tc main_v69 => h (e ▸ by decide)) _ _]

abbrev restOf (c : Dev nD) : sProp 𝕄 := StableHlo.held (c.tc : Thread nD τ) (ucRefs τ sig \ held5) (W c)

theorem split (c : Dev nD) : (StableHlo.held (c.tc : Thread nD τ) (ucRefs τ sig) (W c) : sProp 𝕄)
    ⊢ iprop((dat2 W htb lv O c).arrays ((dat2 W htb lv O c).arrAt · 0) ∗ prefHeld pre2 c (fun _ => fullShare) (tab W c).1 ∗ xPts c (W c main_v7) ∗ restOf W c) := by
  rw [StableHlo.held_sub_split _ held5_sub, held5_eq, arrays_eq, table_eq]
  iintro ⟨⟨H0, H1, H2, Ht, Hx⟩, Hr⟩
  isplitl [H0 H1 H2]
  · isplitl [H0]; · iexact H0
    isplitl [H1]; · iexact H1
    iexact H2
  isplitl [Ht]; · iexact Ht
  isplitl [Hx] <;> iassumption

/-- What the call leaves beside its arrays. -/
abbrev left (c : Dev nD) : sProp 𝕄 := iprop(tPts c (W c main_v68) fullShare ∗ xPts c (W c main_v7))

theorem join (c : Dev nD) : iprop((dat2 W htb lv O c).arrays ((dat2 W htb lv O c).arrAt · (cfg W c).N) ∗ restOf W c ∗ left W c)
    ⊢ (StableHlo.held (c.tc : Thread nD τ) (ucRefs τ sig) (VC W htb c) : sProp 𝕄) := by
  rw [StableHlo.held_sub_split _ held5_sub (VC W htb c), held5_eq, arrays_eq, ← rest, arrAt_out, VC_out,
    VC_of W htb c main_arg2 (by decide), VC_of W htb c main_arg3 (by decide), VC_of W htb c main_v68 (by decide), VC_of W htb c main_v7 (by decide),
    (dat2 W htb lv O c).arrAt_in 0 rfl, (dat2 W htb lv O c).arrAt_in 1 rfl]
  iintro ⟨⟨H0, H1, H2⟩, Hr, Ht, Hx⟩
  isplitr [Hr]
  · isplitl [H0]; · iexact H0
    isplitl [H1]; · iexact H1
    isplitl [H2]; · iexact H2
    isplitl [Ht] <;> iassumption
  iexact Hr

theorem phi_first (c : Dev nD) : (dat2 W htb lv O c).Φ 0 = Φ2 W htb lv c 0 := by dsimp only [dat2]; rfl
theorem phi_last (c : Dev nD) : (dat2 W htb lv O c).Φ (Fin.last (cfg W c).N) = Φ2 W htb lv c (cfg W c).N := by dsimp only [dat2]; rw [Fin.val_last]

theorem hin (c : Dev nD) : iprop((zeros c ∗ levAts Pair.L lv) ∗ (∃ r, prngReg c r) ∗ xPts c (W c main_v7) ∗ prefHeld pre2 c (fun _ => fullShare) (tab W c).1
      ∗ scopedRest spec2 c) ⊢ (dat2 W htb lv O c).Φ 0 := by
  rw [phi_first, table_eq, scopedRest2_eq]
  unfold Φ2 scr
  iintro ⟨⟨Hz, HL⟩, Hp, Hx, Ht, H0, H1, H2, ⟨%g, Hs⟩⟩
  isplitl [HL]; · iexact HL
  isplitl [Ht]; · iexact Ht
  isplitl [Hx]; · iexact Hx
  isplitl [Hs]
  · iexists g
    isplitl [Hs]; · iexact Hs
    ipureintro; intro _ h; exact absurd rfl h
  isplitl [Hz]; · iexact Hz
  isplitr [Hp]
  · isplitl [H0]; · iexact H0
    isplitl [H1] <;> iassumption
  iexact Hp

theorem hout (c : Dev nD) : (dat2 W htb lv O c).Φ (Fin.last (cfg W c).N)
    ⊢ iprop(left W c ∗ (∃ r, prngReg c r) ∗ emp ∗ ownSems0 osem c ∗ scopedRest spec2 c) := by
  rw [phi_last, scopedRest2_eq, ownSems_eq]
  unfold Φ2 scr
  iintro ⟨-, Ht, Hx, ⟨%g, Hs, -⟩, Hz, ⟨H0, H1, H2⟩, Hp⟩
  isplitl [Ht Hx]
  · isplitl [Ht] <;> iassumption
  isplitl [Hp]; · iexact Hp
  isplitr; · iempintro
  isplitl [Hz]; · iexact Hz
  isplitl [H0]; · iexact H0
  isplitl [H1]; · iexact H1
  isplitl [H2]; · iexact H2
  iexists g; iexact Hs

end Cert.KernelIdeal.Ffn

end
-- ==== Proof.Return.lean ====
/- The return exchange: each device signals its partner's barrier semaphore, waits for its own, copies its whole array into its partner's result, and
   waits for the copy to have left and for the partner's copy to have landed. Over any float interpretation: the result on device `c` is what its
   partner's argument held. -/
module

public import proofs.«01_k».proof.Proof.Talk
public import Idealize.ShloMosaic.Lib.Pipeline.BigSepL

@[expose] public section

noncomputable section

namespace Cert.KernelIdeal.Ret

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Pair (EP ER UU cell)
open Cert.KernelIdeal.Gen
open Cert.KernelIdeal.Gather

variable {F : FTy → Type} [FloatOps F]

local notation "𝕄" => MT nD τ sig Unit (Elt F) ℕ (UU nD τ sig) ℕ

variable (m : (ℓ : Loc nD τ sig) → Buf (Elt F) ℓ) (th : Dev nD → S4096x2048.Idx → Elt F .f32)

/-! ## The body -/

/-- What the body needs of the protocol. -/
def Xk (c : Dev nD) : sProp 𝕄 :=
  iprop(∃ κ, Pair.records (talk m th) κ ∗ levAts Pair.L (Pair.lv (talk m th))
    ∗ atPos ER (cell c barR) 0 ∅ 0 ∗ opened sndR c ∗ opened rcvR c
    ∗ (Pair.tok (talk m th) barR c ∗ Pair.tok (talk m th) sndR c ∗ Pair.tok (talk m th) rcvR c)
    ∗ (cred (tallyAt (cell c barR) () ((talk m th).amt barR)) ∗ cred (tallyAt (cell c rcvR) () ((talk m th).amt rcvR))))

def before (c : Dev nD) : sProp 𝕄 := iprop(pt tM fullShare c (th c) ∗ ∃ f, pt rM fullShare c f)
def after (c : Dev nD) : sProp 𝕄 := iprop(pt tM fullShare c (th c) ∗ pt rM fullShare c (th (pr c)))

/-- The counters back at zero. -/
def closed (c : Dev nD) : sProp 𝕄 := iprop(semVal (cell c barR) 0 ∗ semVal (cell c sndR) 0 ∗ semVal (cell c rcvR) 0)

theorem giveR_at (c d : Dev nD) (hd : d = pr c) : pay m th barR c = iprop((∃ f, pt rM fullShare d f) ∗ reached ER (cell (pr c) rcvR) 0) := by
  subst hd; exact pay_barR m th c

theorem run (c : Dev nD) (W : Waits sig Unit) (Kt : PUnit → sProp 𝕄) :
    iprop((Xk m th c ∗ before th c ∗ owes (c : Thread nD τ) (owedLate m th c) W)
        ∗ ((closed c ∗ after th c ∗ ∃ W', owes (c : Thread nD τ) (0 : CellTallies nD τ sig Unit) W') -∗ Kt ⟨⟩))
      ⊢ wp frame (wpE (defs₀ (F := F)) 𝒱₀ c none) Set.univ (bodyAt3 t3_0) Kt := by
  unfold bodyAt3
  rw [cc3_body_eq_skeleton]
  unfold cc3_body_skel
  simp only [semSignalWord, semWaitWord, Prog.lift, Prog.bind_op, Prog.bind_ret, Prog.pure_eq_ret, wp_deviceId]
  unfold Xk before opened
  iintro ⟨⟨⟨%κ, #HR, #HL, HaB, ⟨HaS, #HrS⟩, ⟨HaV, #HrV⟩, ⟨HtB, HtS, HtV⟩, ⟨HcB, HcV⟩⟩, ⟨Ha, ⟨%f, Hr⟩⟩, HO⟩, Hk⟩
  iapply (Pair.step_signal (talk m th) 𝒱₀ κ c [rcvR] (s := barrier1) (mem_cells m th (by decide)) (by rfl) (by rfl) (by rfl) (by routes)) $$ [HO HtB Hr]
  · isplitr; · iexact HR
    isplitl [HO]; · iexact HO
    isplitl [HtB]; · iexact HtB
    isplitl [Hr]
    · iapply (Entails.of_eq (pay_barR m th (pr c)).symm)
      unfold giveR
      rw [pr_pr]
      isplitl [Hr]; · iexists f; iexact Hr
      iexact HrV
    iapply (Pair.records_reached (talk m th) κ (mem_bars m th (by decide)) (pr c)); iexact HR
  iintro HO
  iapply (Pair.step_wait (talk m th) 𝒱₀ κ c [rcvR] (s := barR) (mem_cells m th (by decide)) (by rfl) (wpE_semWait_eq 𝒱₀ (c : Thread nD τ) none Set.univ)
    (show ∀ s' ∈ ([rcvR] : List (SemLoc sig)), levS barR < levS s' from by decide)) $$ [HcB HO HaB]
  · isplitr; · iexact HR
    isplitr; · iexact HL
    isplitl [HcB]; · iexact HcB
    isplitl [HO] <;> iassumption
  iintro ⟨HO, HaB, Hp⟩
  ihave Hp' := (Entails.of_eq (giveR_at m th c ⟨k3_dev2 c, k3_dev2_lt c⟩ (dev2R_eq c))) $$ Hp
  icases Hp' with ⟨⟨%fn, Hn⟩, #HrN⟩
  have hA := landR m th c ⟨k3_dev2 c, k3_dev2_lt c⟩ (dev2R_eq c) fn
  have hR : τ.routes (c : Thread nD τ) (Dev.tc ⟨k3_dev2 c, k3_dev2_lt c⟩ : Thread nD τ) = true := by routes
  iapply (Pair.step_send (talk m th) 𝒱₀ κ c [] (src := tM) (dst := rM) (s₁ := sndR) (s₂ := rcvR) (d := ⟨k3_dev2 c, k3_dev2_lt c⟩) (dev2R_eq c) (q := fullShare)
    (fs := th c) fn
    (mem_cells m th (by decide)) (mem_cells m th (by decide)) rfl rfl rfl rfl (Entails.of_eq (pay_sndR m th c).symm) hA hR) $$ [Ha Hn HO HtS HtV]
  · isplitr; · iexact HR
    isplitl [Ha]; · iexact Ha
    isplitl [Hn]; · iexact Hn
    isplitl [HO]; · iexact HO
    isplitl [HtS]; · iexact HtS
    isplitr; · iexact HrS
    isplitl [HtV]; · iexact HtV
    iexact HrN
  iintro ⟨HcS, HO⟩
  iapply (Pair.step_wait (talk m th) 𝒱₀ κ c [] (s := sndR) (mem_cells m th (by decide)) (by rfl) (wpE_waitDma2_eq 𝒱₀ (c : Thread nD τ) none Set.univ)
    (fun s' h => absurd h (List.not_mem_nil))) $$ [HcS HO HaS]
  · isplitr; · iexact HR
    isplitr; · iexact HL
    isplitl [HcS]; · iexact HcS
    isplitl [HO] <;> iassumption
  iintro ⟨HO, HaS, Hp⟩
  ihave Ha := (Entails.of_eq (pay_sndR m th c)) $$ Hp
  iapply (Pair.step_wait (talk m th) 𝒱₀ κ c [] (s := rcvR) (mem_cells m th (by decide)) (by rfl) (wpE_waitDma2_eq 𝒱₀ (c : Thread nD τ) none Set.univ)
    (fun s' h => absurd h (List.not_mem_nil))) $$ [HcV HO HaV]
  · isplitr; · iexact HR
    isplitr; · iexact HL
    isplitl [HcV]; · iexact HcV
    isplitl [HO] <;> iassumption
  iintro ⟨HO, HaV, Hp⟩
  ihave Hr := (Entails.of_eq (pay_rcvR m th c)) $$ Hp
  rw [wp_ret]
  imod (Pair.close_cell (talk m th) κ (s := barR) (mem_cells m th (by decide)) c) $$ [HaB] with Hb
  · isplitr; · iexact HR
    iexact HaB
  imod (Pair.close_cell (talk m th) κ (s := sndR) (mem_cells m th (by decide)) c) $$ [HaS] with Hs
  · isplitr; · iexact HR
    iexact HaS
  imod (Pair.close_cell (talk m th) κ (s := rcvR) (mem_cells m th (by decide)) c) $$ [HaV] with Hv
  · isplitr; · iexact HR
    iexact HaV
  imodintro
  iapply Hk
  unfold closed after
  isplitl [Hb Hs Hv]
  · isplitl [Hb]; · iexact Hb
    isplitl [Hs] <;> iassumption
  isplitl [Ha Hr]
  · isplitl [Ha] <;> iassumption
  iexists _; iexact HO

/-! ## The region -/

abbrev osem : Fin 2 → SemLoc sig := fun | 0 => sndR | 1 => rcvR

theorem ownSems_eq (c : Dev nD) : (Pipeline.ownSems0 osem c : sProp 𝕄) = iprop(semVal (cell c sndR) 0 ∗ semVal (cell c rcvR) 0) :=
  bigSep_fin_two (fun k : Fin 2 => (semVal ((c : Thread nD τ), osem k) 0 : sProp 𝕄))

theorem own_facts : Pipeline.OwnSemFacts (pcfgs (F := F) 3).spec osem := ⟨by decide, by decide, fun _ w => w.elim0⟩

theorem hopen (c : Dev nD) : iprop(Tk3 m th c ∗ Pipeline.ownSems0 osem c ∗ levAts Pair.L (Pair.lv (talk m th))) ⊢ (|={Set.univ}=> Xk m th c : sProp 𝕄) := by
  rw [ownSems_eq]
  unfold Tk3 Xk opened
  iintro ⟨⟨%κ, #HR, HaB, ⟨HoS, HoV⟩, Ht, Hc⟩, ⟨Hs, Hv⟩, #HL⟩
  imod (Pair.open_cell (talk m th) κ (s := sndR) (mem_cells m th (by decide)) c) $$ [HoS Hs] with HaS
  · isplitr; · iexact HR
    isplitl [HoS] <;> iassumption
  imod (Pair.open_cell (talk m th) κ (s := rcvR) (mem_cells m th (by decide)) c) $$ [HoV Hv] with HaV
  · isplitr; · iexact HR
    isplitl [HoV] <;> iassumption
  imodintro
  iexists κ
  isplitr; · iexact HR
  isplitr; · iexact HL
  isplitl [HaB]; · iexact HaB
  isplitl [HaS]; · iexact HaS
  isplitl [HaV]; · iexact HaV
  isplitl [Ht] <;> iassumption

/-- What the invariant carries beside the protocol. -/
def beside (c : Dev nD) : sProp 𝕄 := iprop(Pipeline.scopedRest cfg3.spec c ∗ ∃ r, prngReg c r)

def dat3 (c : Dev nD) : Pipeline.Dat τ (Elt F) Unit ℕ (UU nD τ sig) ℕ cfg3 c where
  A w := w.elim0
  after w := w.elim0
  Φ t := if t.val = 0 then iprop((Xk m th c ∗ before th c) ∗ beside c) else iprop((closed c ∗ after th c) ∗ beside c)
  q w := w.elim0
  owed t := if t.val = 0 then owedLate m th c else 0

theorem owed_first (c : Dev nD) : (dat3 (F := F) m th c).owed (0 : Fin (cfg3.N + 1)) = owedLate m th c := rfl
theorem owed_last (c : Dev nD) : (dat3 (F := F) m th c).owed (Fin.last _) = 0 := by
  show (if (Fin.last cfg3.N).val = 0 then owedLate m th c else 0) = 0
  rw [Fin.val_last, if_neg (by rw [show cfg3.N = 1 from N_3]; decide)]

theorem body3 (c : Dev nD) : Pipeline.BodyObligation (dat3 (F := F) m th c) defs₀ 𝒱₀ () Set.univ := fun t => by
  obtain rfl := fin_N3 t
  rw [no_windows, no_windows]
  rw [show (dat3 m th c).Φ t3_0.castSucc = iprop((Xk m th c ∗ before th c) ∗ beside c) from rfl,
    show (dat3 m th c).Φ t3_0.succ = iprop((closed c ∗ after th c) ∗ beside c) from rfl]
  unfold Pipeline.Dat.owesAt Pipeline.owesWithin
  rw [show (dat3 (F := F) m th c).owed t3_0.castSucc = owedLate m th c from rfl, show (dat3 (F := F) m th c).owed t3_0.succ = 0 from rfl]
  iintro ⟨⟨⟨HX, HB⟩, Hs⟩, ⟨%W, -, HO⟩, -⟩
  iapply (run m th c W _)
  isplitl [HX HB HO]
  · isplitl [HX]; · iexact HX
    isplitl [HB] <;> iassumption
  iintro ⟨HC, HA, ⟨%W', HO⟩⟩
  isplitl [HC HA Hs]
  · isplitr [Hs]
    · isplitl [HC] <;> iassumption
    iexact Hs
  isplitl [HO]
  · iexists W'
    isplitr; · ipureintro; exact fun _ _ => Or.inl trivial
    iexact HO
  iempintro

/-! ## The buffers -/

def held2 : Finset (DevRef τ sig) := {Proc.devRef .tc main_v89, Proc.devRef .tc main_v90}
theorem held2_sub : held2 ⊆ Pipeline.ucRefs τ sig := by decide

theorem held2_eq (c : Dev nD) (W : Valuation τ sig (Elt F)) : (StableHlo.held (c : Thread nD τ) held2 W : sProp 𝕄)
    = iprop(pt tM fullShare c (W main_v89) ∗ pt rM fullShare c (W main_v90)) := by
  unfold StableHlo.held pt
  rw [bigSep_eq_bigSepL_of_eq [Proc.devRef .tc main_v89, Proc.devRef .tc main_v90] (by decide) (by decide),
    show tM.view.set = Finset.univ from View.set_whole _, show rM.view.set = Finset.univ from View.set_whole _]
  rfl

variable (W : Dev nD → Valuation τ sig (Elt F))

/-- What the exchange leaves of the buffers it is entered with. -/
abbrev VD (c : Dev nD) : Valuation τ sig (Elt F) := Function.update (W c) (Proc.devRef .tc main_v90) (W (pr c) main_v89)
theorem VD_of (c : Dev nD) (b : DevRef τ sig) (h : b ≠ Proc.devRef .tc main_v90) : VD W c b = W c b := Function.update_of_ne h ..

theorem rest (c : Dev nD) : (StableHlo.held (c.tc : Thread nD τ) (Pipeline.ucRefs τ sig \ held2) (W c) : sProp 𝕄)
    = StableHlo.held (c.tc : Thread nD τ) (Pipeline.ucRefs τ sig \ held2) (VD W c) :=
  bigSep_congr fun b hb => by
    have h := (Finset.mem_sdiff.mp hb).2
    rw [VD_of W c b (fun e => h (e ▸ by decide))]

theorem hin (c : Dev nD) : iprop(Pipeline.scopedRest (pcfgs (F := F) 3).spec c ∗ (∃ r, prngReg c r)
      ∗ StableHlo.held (c.tc : Thread nD τ) held2 (W c) ∗ Xk m (fun d => W d main_v89) c) ⊢ (dat3 m (fun d => W d main_v89) c).Φ 0 := by
  rw [show (dat3 m (fun d => W d main_v89) c).Φ 0 = iprop((Xk m (fun d => W d main_v89) c ∗ before (fun d => W d main_v89) c) ∗ beside c) from rfl, held2_eq]
  unfold beside before
  iintro ⟨Hs, Hp, ⟨Ha, Hr⟩, HX⟩
  isplitl [HX Ha Hr]
  · isplitl [HX]; · iexact HX
    isplitl [Ha]; · iexact Ha
    iexists _; iexact Hr
  isplitl [Hs] <;> iassumption

theorem hout (c : Dev nD) : (dat3 m (fun d => W d main_v89) c).Φ (Fin.last cfg3.N)
    ⊢ iprop(Pipeline.scopedRest (pcfgs (F := F) 3).spec c ∗ (∃ r, prngReg c r)
      ∗ StableHlo.held (c.tc : Thread nD τ) held2 (VD W c) ∗ Pipeline.ownSems0 osem c ∗ semVal (cell c barR) 0) := by
  rw [show (dat3 m (fun d => W d main_v89) c).Φ (Fin.last cfg3.N) = iprop((closed c ∗ after (fun d => W d main_v89) c) ∗ beside c) from rfl, ownSems_eq, held2_eq,
    VD_of W c _ (by decide), show VD W c main_v90 = W (pr c) main_v89 from Function.update_self ..]
  unfold beside closed after
  iintro ⟨⟨⟨Hb, Hs⟩, Ha⟩, Hr, Hp⟩
  isplitl [Hr]; · iexact Hr
  isplitl [Hp]; · iexact Hp
  isplitl [Ha]; · iexact Ha
  isplitl [Hs] <;> iassumption

end Cert.KernelIdeal.Ret

end
-- ==== Proof.Launch.lean ====
/- The run of `@main` from the launch: the four calls and the host's stretches between them, as one chain of states.

   Every unscoped buffer is followed as a valuation, from the launch (`V0`) to the end (`VE`). That the words of the token table name rows of the gathered
   tokens is a hypothesis here (`htb`). -/
module

public import proofs.«01_k».proof.Proof.ExchangeRegion
public import proofs.«01_k».proof.Proof.RowRegion
public import proofs.«01_k».proof.Proof.Ffn
public import proofs.«01_k».proof.Proof.Return
public import proofs.«01_k».proof.Proof.Region

@[expose] public section

noncomputable section

namespace Cert.KernelIdeal.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Pair (EP ER UU cell)
open Cert.KernelIdeal.Gen
open Cert.KernelIdeal.Gather (pr barS barR rcvX rcvA rcvR talk due owedLate late Tk0 Tk3 kept levS VA)
open Cert.KernelIdeal.Region (bufs state Tables Data)

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The buffers, from stretch to stretch -/

abbrev Vals : Type := Dev nD → Valuation τ sig (Elt F)

def W2 : Vals (F := F) := fun c => StableHlo.after hostOps1 (VA m c)
def VB : Vals (F := F) := Row.VB (W2 m)
def U0 : Vals (F := F) := fun c => StableHlo.after hostOps2 (VB m c)
def U1 : Vals (F := F) := fun c => StableHlo.after hostOps2_1 (U0 m c)
def U2 : Vals (F := F) := fun c => StableHlo.after hostOps2_2 (U1 m c)
def U3 : Vals (F := F) := fun c => StableHlo.after hostOps2_3 (U2 m c)
def U4 : Vals (F := F) := fun c => StableHlo.after hostOps2_4 (U3 m c)
def U5 : Vals (F := F) := fun c => StableHlo.after hostOps2_5 (U4 m c)
def U6 : Vals (F := F) := fun c => StableHlo.after hostOps2_6 (U5 m c)
def U7 : Vals (F := F) := fun c => StableHlo.after hostOps2_7 (U6 m c)
def U8 : Vals (F := F) := fun c => StableHlo.after hostOps2_8 (U7 m c)
/-- The buffers as the grouped matmul is entered. -/
def W3 : Vals (F := F) := fun c => StableHlo.after hostOps2_9 (U8 m c)

/-- The words of the token table name rows. -/
abbrev TableOk : Prop := ∀ c, ∀ p : S5120.Idx, ((W3 m c main_v68 : S5120.Idx → BitVec 32) p).toNat < 8192

variable (htb : TableOk m)

def VC : Vals (F := F) := Ffn.VC (W3 m) htb
def W4 : Vals (F := F) := fun c => StableHlo.after hostOps3 (VC m htb c)
/-- What the return exchange sends. -/
abbrev th (c : Dev nD) : S4096x2048.Idx → Elt F .f32 := W4 m htb c main_v89
def VD : Vals (F := F) := Ret.VD (W4 m htb)
def VE : Vals (F := F) := fun c => StableHlo.after hostOps4 (VD m htb c)

/-! ## The calls -/

abbrev tabs : Tables (F := F) := fun c => fun
  | 0 => cfg0.toPCfg_adm
  | 1 => cfg1.toPCfg_adm
  | 2 => Ffn.tab (W3 m) c
  | 3 => cfg3.toPCfg_adm

theorem cells_inj : Function.Injective (PerCore.cellOf (nD := nD) (τ := τ) (pinD (pcfgs (F := F)) (tabs m))) :=
  PerCore.cellOf_injective _
    (fun _ => fun
      | 0 => fun w => w.elim0 | 1 => (by decide : SpecSemsDistinct spec1)
      | 2 => (by decide : SpecSemsDistinct spec2) | 3 => fun w => w.elim0)
    (fun _ p p' h => match p, p', h with
      | 0, _, _ => fun w => w.elim0 | 3, _, _ => fun w => w.elim0
      | 1, 0, _ => fun _ w => w.elim0 | 1, 3, _ => fun _ w => w.elim0 | 2, 0, _ => fun _ w => w.elim0 | 2, 3, _ => fun _ w => w.elim0
      | 1, 1, h => absurd rfl h | 2, 2, h => absurd rfl h
      | 1, 2, _ => (by decide : SpecSemsDisjoint spec1 spec2) | 2, 1, _ => (by decide : SpecSemsDisjoint spec2 spec1))

abbrev tk : Pair.Talk nD τ sig (Elt F) := talk m (th m htb)
abbrev lvl : GSem nD τ sig → Unit → ℕ := Pair.lv (tk m htb)
abbrev debt : Dev nD → CellTallies nD τ sig Unit := owedLate m (th m htb)

def pdats : Data (tabs m) := fun
  | 0 => Gather.dat0 m (th m htb)
  | 1 => Row.dat1 (W2 m) (debt m htb)
  | 2 => Ffn.dat2 (W3 m) htb (lvl m htb) (debt m htb)
  | 3 => Ret.dat3 m (th m htb)

/-- A wait on a semaphore of level 0 while the return exchange is still owed. -/
theorem may_late (c : Dev nD) (s : SemLoc sig) (h : levS s = 0) : (levAts Pair.L (lvl m htb) : sProp 𝕄) ⊢ MayWait (c : Thread nD τ) s () (debt m htb c) :=
  Pair.mayWait (tk m htb) c s late fun s' hs' => by
    show levS s < levS s'
    rw [h]
    exact (show ∀ s' ∈ late, 0 < levS s' from by decide) s' hs'

theorem sem_low : ∀ j : Fin 8, levS (Ffn.osem j) = 0 := by decide

theorem row_low (c : Dev nD) (j : ℕ) : (levAts Pair.L (lvl m htb) : sProp 𝕄) ⊢ MayWait (c : Thread nD τ) (Rows.semOf j) () (debt m htb c) := by
  have h := may_late m htb c (Ffn.osem ⟨j % 8, Nat.mod_lt _ (by decide)⟩) (sem_low _)
  rw [Ffn.osem_eq] at h
  rw [Rows.semOf_mod j]
  exact h

theorem stage_low1 : ∀ (w : Fin 3) (s : Fin (spec1 w).nbuf), levS (.dma ((spec1 w).sem s)) = 0 := by decide
theorem stage_low2 : ∀ (w : Fin 3) (s : Fin (spec2 w).nbuf), levS (.dma ((spec2 w).sem s)) = 0 := by decide

/-- Both barriers' counters. -/
abbrev Yk (c : Dev nD) : sProp 𝕄 := Gather.Yk c
abbrev Yr (c : Dev nD) : sProp 𝕄 := semVal (cell c barR) 0
abbrev kept3 (c : Dev nD) : sProp 𝕄 := Tk3 m (th m htb) c
/-- What rides past the two calls that do not talk. -/
abbrev ride (c : Dev nD) : sProp 𝕄 := iprop(Yk c ∗ kept3 m htb c)
abbrev none' (_ : Dev nD) : sProp 𝕄 := iprop(emp)

set_option backward.isDefEq.respectTransparency.types false in
def call0 : PerCore.RegionSeg (pcfgs (F := F)) (tabs m) (pdats m htb) () (defs₀ (F := F)) Variants.none Pair.L (lvl m htb) 0 :=
  Region.call (tabs m) (pdats m htb) Pair.L (lvl m htb) 0 Gather.osem Gather.own_facts launch0
    (V1 m) (VA m) (Tk0 m (th m htb)) Yk (kept3 m htb) (Gather.Xk m (th m htb))
    (fun c => StableHlo.held (c.tc : Thread nD τ) Gather.held4 (V1 m c)) (fun c => StableHlo.held (c.tc : Thread nD τ) (ucRefs τ sig \ Gather.held4) (V1 m c))
    (fun c => StableHlo.held (c.tc : Thread nD τ) Gather.held4 (VA m c))
    (due m (th m htb)) (debt m htb)
    (fun c => (Gather.body0 m (th m htb) c).loose)
    (fun c => PerCore.cellsWaits_intro _ _ _ 0 c fun w => w.elim0)
    (fun c => Gather.owed_first m (th m htb) c) (fun c => Gather.owed_last m (th m htb) c) (fun _ => rfl)
    (fun c => by
      rw [show (pdats m htb 0 c).arrays ((pdats m htb 0 c).arrAt · 0) = (BI.emp : sProp 𝕄) from Gather.no_windows _,
        show prefHeld (pcfgs (F := F) 0).pre c (fun _ => fullShare) (tabs m c 0).1 = (BI.emp : sProp 𝕄) from Gather.no_windows _]
      unfold bufs
      rw [StableHlo.held_sub_split _ Gather.held4_sub]
      iintro ⟨H, Hr⟩
      isplitr; · iempintro
      isplitr; · iempintro
      isplitl [H] <;> iassumption)
    (fun c => by
      unfold bufs
      rw [StableHlo.held_sub_split _ Gather.held4_sub, Gather.rest m c]
      iintro ⟨-, Hr, H⟩
      isplitl [H] <;> iassumption)
    (fun c => Gather.hopen m (th m htb) c)
    (fun c => by
      refine BIBase.Entails.trans ?_ (Gather.hin m (th m htb) c)
      iintro ⟨HX, Hp, HI, -, Hs⟩
      isplitl [Hs]; · iexact Hs
      isplitl [Hp]; · iexact Hp
      isplitl [HI] <;> iassumption)
    (fun c => by
      refine (Gather.hout m (th m htb) c).trans ?_
      iintro ⟨Hs, Hp, Ho, Hm, HY⟩
      isplitl [Ho]; · iexact Ho
      isplitl [Hp]; · iexact Hp
      isplitl [HY]; · iexact HY
      isplitl [Hm] <;> iassumption)

set_option backward.isDefEq.respectTransparency.types false in
def call1 : PerCore.RegionSeg (pcfgs (F := F)) (tabs m) (pdats m htb) () (defs₀ (F := F)) Variants.none Pair.L (lvl m htb) 1 :=
  Region.call (tabs m) (pdats m htb) Pair.L (lvl m htb) 1 (fun k : PEmpty => k.elim) (OwnSemFacts.none spec1) launch1
    (W2 m) (VB m) none' none' (ride m htb) none' none' (Row.restOf (W2 m)) none' (debt m htb) (debt m htb)
    (fun c => (Row.body1 (W2 m) (debt m htb) c).loose)
    (fun c => PerCore.cellsWaits_intro _ _ _ 1 c fun w s _ => may_late m htb c _ (stage_low1 w s))
    (fun _ => rfl) (fun _ => rfl) (fun _ => rfl)
    (fun c => by
      rw [show prefHeld (pcfgs (F := F) 1).pre c (fun _ => fullShare) (tabs m c 1).1 = (BI.emp : sProp 𝕄) from Gather.no_windows _]
      refine (Row.split (W2 m) (debt m htb) c).trans ?_
      iintro ⟨Ha, Hr⟩
      isplitl [Ha]; · iexact Ha
      isplitr; · iempintro
      isplitr; · iempintro
      iexact Hr)
    (fun c => by
      refine BIBase.Entails.trans ?_ (Row.join (W2 m) (debt m htb) c)
      iintro ⟨Ha, Hr, -⟩
      isplitl [Ha]; · iexact Ha
      iexact Hr)
    (fun c => by iintro -; imodintro; iempintro)
    (fun c => by
      show _ ⊢ Row.Φ1 c
      unfold Row.Φ1
      iintro ⟨-, Hp, -, -, Hs⟩
      isplitl [Hs] <;> iassumption)
    (fun c => by
      show Row.Φ1 c ⊢ _
      rw [ownSems0_none]
      unfold Row.Φ1
      iintro ⟨Hs, Hp⟩
      isplitr; · iempintro
      isplitl [Hp]; · iexact Hp
      isplitr; · iempintro
      isplitr; · iempintro
      iexact Hs)

set_option backward.isDefEq.respectTransparency.types false in
def call2 : PerCore.RegionSeg (pcfgs (F := F)) (tabs m) (pdats m htb) () (defs₀ (F := F)) Variants.none Pair.L (lvl m htb) 2 :=
  Region.call (tabs m) (pdats m htb) Pair.L (lvl m htb) 2 Ffn.osem Ffn.own_facts launch2
    (W3 m) (VC m htb) none' none' (ride m htb) (fun c => iprop(Rows.zeros c ∗ levAts Pair.L (lvl m htb)))
    (fun c => Rows.xPts c (W3 m c main_v7)) (Ffn.restOf (W3 m)) (Ffn.left (W3 m)) (debt m htb) (debt m htb)
    (fun c => (Ffn.body2 (W3 m) htb (lvl m htb) (debt m htb) (row_low m htb) c).loose)
    (fun c => PerCore.cellsWaits_intro _ _ _ 2 c fun w s _ => may_late m htb c _ (stage_low2 w s))
    (fun _ => rfl) (fun _ => rfl) (fun _ => rfl)
    (fun c => Ffn.split (W3 m) htb (lvl m htb) (debt m htb) c)
    (fun c => Ffn.join (W3 m) htb (lvl m htb) (debt m htb) c)
    (fun c => by
      rw [Ffn.ownSems_eq]
      iintro ⟨-, Hz, HL⟩
      imodintro
      isplitl [Hz] <;> iassumption)
    (fun c => Ffn.hin (W3 m) htb (lvl m htb) (debt m htb) c)
    (fun c => Ffn.hout (W3 m) htb (lvl m htb) (debt m htb) c)

set_option backward.isDefEq.respectTransparency.types false in
def call3 : PerCore.RegionSeg (pcfgs (F := F)) (tabs m) (pdats m htb) () (defs₀ (F := F)) Variants.none Pair.L (lvl m htb) 3 :=
  Region.call (tabs m) (pdats m htb) Pair.L (lvl m htb) 3 Ret.osem Ret.own_facts launch3
    (W4 m htb) (VD m htb) (kept3 m htb) Yr Yk (Ret.Xk m (th m htb))
    (fun c => StableHlo.held (c.tc : Thread nD τ) Ret.held2 (W4 m htb c)) (fun c => StableHlo.held (c.tc : Thread nD τ) (ucRefs τ sig \ Ret.held2) (W4 m htb c))
    (fun c => StableHlo.held (c.tc : Thread nD τ) Ret.held2 (VD m htb c))
    (debt m htb) (fun _ => 0)
    (fun c => (Ret.body3 m (th m htb) c).loose)
    (fun c => PerCore.cellsWaits_intro _ _ _ 3 c fun w => w.elim0)
    (fun c => Ret.owed_first m (th m htb) c) (fun c => Ret.owed_last m (th m htb) c) (fun _ => rfl)
    (fun c => by
      rw [show (pdats m htb 3 c).arrays ((pdats m htb 3 c).arrAt · 0) = (BI.emp : sProp 𝕄) from Gather.no_windows _,
        show prefHeld (pcfgs (F := F) 3).pre c (fun _ => fullShare) (tabs m c 3).1 = (BI.emp : sProp 𝕄) from Gather.no_windows _]
      unfold bufs
      rw [StableHlo.held_sub_split _ Ret.held2_sub]
      iintro ⟨H, Hr⟩
      isplitr; · iempintro
      isplitr; · iempintro
      isplitl [H] <;> iassumption)
    (fun c => by
      unfold bufs
      rw [StableHlo.held_sub_split _ Ret.held2_sub, Ret.rest (W4 m htb) c]
      iintro ⟨-, Hr, H⟩
      isplitl [H]; · iexact H
      iexact Hr)
    (fun c => Ret.hopen m (th m htb) c)
    (fun c => by
      refine BIBase.Entails.trans ?_ (Ret.hin m (W4 m htb) c)
      iintro ⟨HX, Hp, HI, -, Hs⟩
      isplitl [Hs]; · iexact Hs
      isplitl [Hp]; · iexact Hp
      isplitl [HI] <;> iassumption)
    (fun c => by
      refine (Ret.hout m (W4 m htb) c).trans ?_
      iintro ⟨Hs, Hp, Ho, Hm, HY⟩
      isplitl [Ho]; · iexact Ho
      isplitl [Hp]; · iexact Hp
      isplitl [HY]; · iexact HY
      isplitl [Hm] <;> iassumption)

/-! ## The chain -/

/-- The host's operations, from a valuation, with what rides past them. -/
abbrev host (ops : List (HloOp τ sig (Elt F))) (hs : ops.Forall fun op => op.bufs ⊆ StableHlo.tcRefs τ sig) (hf : ops.Forall fun op => op.fresh = ∅)
    (V : Vals (F := F)) (R : Dev nD → sProp 𝕄) :
    HostSeg (Ix := Unit) (Name := ℕ) (U := UU nD τ sig) (Lvl := ℕ) (pcfgs (F := F)) (defs₀ (F := F)) Variants.none Pair.L (lvl m htb) :=
  HostSeg.ofOps _ _ _ _ _ (ucRefs τ sig) ops (fun op h => sub_ucRefs op ((List.forall_iff_forall_mem.mp hs) op h))
    (fun op h => (List.forall_iff_forall_mem.mp hf) op h) V R

/-- What rides past the host's operations: before the first exchange, between the calls, after the last. -/
abbrev beside (E R : Dev nD → sProp 𝕄) (O : Dev nD → CellTallies nD τ sig Unit) (c : Dev nD) : sProp 𝕄 :=
  iprop((∃ r, prngReg c r) ∗ E c ∗ R c ∗ ∃ Wd, owes (c : Thread nD τ) (O c) Wd)
abbrev first : Dev nD → sProp 𝕄 := beside (Tk0 m (th m htb)) (kept3 m htb) (due m (th m htb))
abbrev mid : Dev nD → sProp 𝕄 := beside none' (ride m htb) (debt m htb)
abbrev last : Dev nD → sProp 𝕄 := beside Yr Yk (fun _ => 0)

abbrev segs (c : Dev nD) : List (PerCore.Seg (pcfgs (F := F)) (tabs m) (pdats m htb) () (defs₀ (F := F)) Variants.none Pair.L (lvl m htb)) :=
  [ .host (host m htb (hostOps0 c) (hostOps0_sub c) (hostOps0_fresh c) (V0 m) (first m htb)),
    .region (call0 m htb),
    .host (host m htb hostOps1 hostOps1_sub hostOps1_fresh (VA m) (mid m htb)),
    .region (call1 m htb),
    .host (host m htb hostOps2 hostOps2_sub hostOps2_fresh (VB m) (mid m htb)),
    .host (host m htb hostOps2_1 hostOps2_1_sub hostOps2_1_fresh (U0 m) (mid m htb)),
    .host (host m htb hostOps2_2 hostOps2_2_sub hostOps2_2_fresh (U1 m) (mid m htb)),
    .host (host m htb hostOps2_3 hostOps2_3_sub hostOps2_3_fresh (U2 m) (mid m htb)),
    .host (host m htb hostOps2_4 hostOps2_4_sub hostOps2_4_fresh (U3 m) (mid m htb)),
    .host (host m htb hostOps2_5 hostOps2_5_sub hostOps2_5_fresh (U4 m) (mid m htb)),
    .host (host m htb hostOps2_6 hostOps2_6_sub hostOps2_6_fresh (U5 m) (mid m htb)),
    .host (host m htb hostOps2_7 hostOps2_7_sub hostOps2_7_fresh (U6 m) (mid m htb)),
    .host (host m htb hostOps2_8 hostOps2_8_sub hostOps2_8_fresh (U7 m) (mid m htb)),
    .host (host m htb hostOps2_9 hostOps2_9_sub hostOps2_9_fresh (U8 m) (mid m htb)),
    .region (call2 m htb),
    .host (host m htb hostOps3 hostOps3_sub hostOps3_fresh (VC m htb) (mid m htb)),
    .region (call3 m htb),
    .host (host m htb hostOps4 hostOps4_sub hostOps4_fresh (VD m htb) last) ]

theorem progs (c : Dev nD) : (segs m htb c).map PerCore.Seg.prog =
    [StableHlo.seq (hostOps0 c), Prog.lift (.customCall (entry 0) ()), StableHlo.seq hostOps1, Prog.lift (.customCall (entry 1) ()),
      StableHlo.seq hostOps2, StableHlo.seq hostOps2_1, StableHlo.seq hostOps2_2, StableHlo.seq hostOps2_3, StableHlo.seq hostOps2_4,
      StableHlo.seq hostOps2_5, StableHlo.seq hostOps2_6, StableHlo.seq hostOps2_7, StableHlo.seq hostOps2_8, StableHlo.seq hostOps2_9,
      Prog.lift (.customCall (entry 2) ()), StableHlo.seq hostOps3, Prog.lift (.customCall (entry 3) ()), StableHlo.seq hostOps4] := rfl

abbrev T₀ (c : Dev nD) : sProp 𝕄 := iprop(bufs c (V0 m c) ∗ first m htb c)
abbrev Tₙ (c : Dev nD) : sProp 𝕄 := iprop(bufs c (VE m htb c) ∗ Yr c ∗ Yk c)

theorem to_mid (c : Dev nD) (V : Valuation τ sig (Elt F)) : iprop(bufs c V ∗ beside Yk (kept3 m htb) (debt m htb) c) ⊢ iprop(bufs c V ∗ mid m htb c) := by
  iintro ⟨Hb, Hp, HY, HK, HO⟩
  isplitl [Hb]; · iexact Hb
  isplitl [Hp]; · iexact Hp
  isplitr; · iempintro
  isplitr [HO]
  · isplitl [HY] <;> iassumption
  iexact HO

theorem of_mid (c : Dev nD) (V : Valuation τ sig (Elt F)) : iprop(bufs c V ∗ mid m htb c) ⊢ iprop(bufs c V ∗ beside (kept3 m htb) Yk (debt m htb) c) := by
  iintro ⟨Hb, Hp, -, ⟨HY, HK⟩, HO⟩
  isplitl [Hb]; · iexact Hb
  isplitl [Hp]; · iexact Hp
  isplitl [HK]; · iexact HK
  isplitl [HY] <;> iassumption

theorem to_end (c : Dev nD) (V : Valuation τ sig (Elt F)) :
    iprop(bufs c V ∗ last c) ⊢ iprop((bufs c V ∗ Yr c ∗ Yk c) ∗ ∃ Wd, owes (c : Thread nD τ) (0 : CellTallies nD τ sig Unit) Wd) := by
  iintro ⟨Hb, -, HR, HY, HO⟩
  isplitr [HO]
  · isplitl [Hb]; · iexact Hb
    isplitl [HR] <;> iassumption
  iexact HO

theorem chains (c : Dev nD) : PerCore.Seg.ChainsAt c (T₀ m htb) (segs m htb c)
    (fun c => iprop(Tₙ m htb c ∗ ∃ Wd, owes (c : Thread nD τ) (0 : CellTallies nD τ sig Unit) Wd)) :=
  ⟨.rfl, .rfl, to_mid m htb c (VA m c), .rfl, .rfl, .rfl, .rfl, .rfl, .rfl, .rfl, .rfl, .rfl, .rfl, .rfl, .rfl, .rfl,
    of_mid m htb c (W4 m htb c), .rfl, to_end c (VE m htb c)⟩

/-! ## The launch -/

/-- The launch element: the pipelines', and the protocol's. -/
def u₀ : UU nD τ sig :=
  (initOf (PerCore.cells (pinD (pcfgs (F := F)) (tabs m)) (cells_inj m)) (PerCore.launchToks (pinD (pcfgs (F := F)) (tabs m)) (cells_inj m)), (Pair.seed (tk m htb), 1))

def G : Dev nD → sProp 𝕄 := Pair.onDev 0 (BI.own (ER (Pair.seed (tk m htb))))

theorem unscopedSems0_eq (c : Dev nD) : (unscopedSems0 c : sProp 𝕄) = bigSep (tk m htb).bars fun s => semVal (cell c s) 0 := by
  unfold unscopedSems0
  rw [show (Finset.univ.filter fun sm : SemLoc sig => ¬ sm.isScoped .tc) = (tk m htb).bars from (by decide : _ = ({barS, barR} : Finset (SemLoc sig)))]

theorem unscoped_eq : ∀ sm : SemLoc sig, sm.isScoped .tc = false → sm = barS ∨ sm = barR := by decide

theorem init :
    iprop((bigSep Finset.univ fun c : Dev nD => iprop(unscopedBufs c (fun b => m ((c : Thread nD τ).loc b)) ∗ unscopedSems0 c
          ∗ owes (c : Thread nD τ) (due m (th m htb) c) ∅ ∗ launchCred (due m (th m htb)) c ∗ prngReg c (ρ c) ∗ G m htb c)) ∗ levAts Pair.L (lvl m htb))
      ⊢ (|={Set.univ}=> bigSep Finset.univ (T₀ m htb) : sProp 𝕄) := by
  have hcore (c : Dev nD) : iprop(unscopedBufs c (fun b => m ((c : Thread nD τ).loc b)) ∗ unscopedSems0 c
        ∗ owes (c : Thread nD τ) (due m (th m htb) c) ∅ ∗ launchCred (due m (th m htb)) c ∗ prngReg c (ρ c) ∗ G m htb c)
      ⊢ (iprop((bufs c (V0 m c) ∗ (∃ r, prngReg c r)
            ∗ Pair.creds (tk m htb) [barS, rcvX, rcvA, barR, rcvR] c ∗ ∃ W, owes (c : Thread nD τ) (due m (th m htb) c) W)
          ∗ ((bigSep (tk m htb).bars fun s => semVal (cell c s) 0) ∗ G m htb c)) : sProp 𝕄) := by
    rw [show unscopedBufs c (fun b => m ((c : Thread nD τ).loc b)) = bufs c (V0 m c) from unscopedBufs_held c (V0 m c), unscopedSems0_eq m htb c]
    iintro ⟨Hh, Hus, HO, Hcr, Hp, HG⟩
    isplitl [Hh HO Hcr Hp]
    · isplitl [Hh]; · iexact Hh
      isplitl [Hp]; · iexists (ρ c); iexact Hp
      isplitl [Hcr]; · iapply (Pair.creds_intro (tk m htb) [barS, rcvX, rcvA, barR, rcvR] c) $$ Hcr
      iexists ∅; iexact HO
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (due m (th m htb) c) ∅ ∗ launchCred (due m (th m htb)) c ∗ prngReg c (ρ c) ∗ G m htb c)) ⊢ _ from
    bigSep_mono fun c _ => hcore c) $$ H
  ihave H2 := Pair.undealt $$ H'; icases H2 with ⟨HB, H3⟩
  ihave H4 := Pair.undealt $$ H3; icases H4 with ⟨Hv, HG⟩
  ihave Hu := (show bigSep Finset.univ (G m htb) ⊢ BI.own (ER (Pair.seed (tk m htb))) from
    Entails.of_eq (Pair.bigSep_onDev 0 (BI.own (ER (Pair.seed (tk m htb)))))) $$ HG
  imod (Pair.fund (tk m htb)) $$ [Hv Hu] with ⟨%κ, #HR, Hl⟩
  · isplitl [Hv] <;> iassumption
  imodintro
  iapply (bigSep_with_persistent (R := Pair.records (tk m htb) κ)
    (Φ := fun c => iprop(Pair.linear (tk m htb) c ∗ (bufs c (V0 m c) ∗ (∃ r, prngReg c r)
      ∗ Pair.creds (tk m htb) [barS, rcvX, rcvA, barR, rcvR] c ∗ ∃ W, owes (c : Thread nD τ) (due m (th m htb) c) W))) fun c _ => ?_)
  · iintro ⟨#HR, Hl, Hh, Hp, Hc, HO⟩
    ihave HK := (kept m (th m htb) κ c) $$ [Hl Hc]
    · isplitr; · iexact HR
      isplitl [Hl] <;> iassumption
    icases HK with ⟨H0, H3⟩
    isplitl [Hh]; · iexact Hh
    isplitl [Hp]; · iexact Hp
    isplitl [H0]; · iexact H0
    isplitl [H3] <;> iassumption
  isplitr; · iexact HR
  iapply Pair.dealt
  isplitl [Hl] <;> iassumption

set_option backward.isDefEq.respectTransparency.types false in
/-- From any memory with all counters at zero `@main` terminates, with every unscoped buffer at `VE` and every counter at zero. -/
theorem run_main : θ_run (defs (F := F)) (onTc (τ := τ) (main (F := F))) ⟨m, fun _ => 0, ρ⟩
    (fun r => (∀ c : Dev nD, ∀ b ∈ ucRefs τ sig, r.2.mem ((c : Thread nD τ).1, b) = VE m htb c b) ∧ r.2.sem = fun _ => 0) :=
  PerCore.θ_run_regions_kit_sems (pcfgs (F := F)) (tabs m) (pdats m htb) () (cells_inj m) EP defs₀ Variants.none Pair.L (lvl m htb) m ρ main (segs m htb)
    (fun c Q => by rw [main_chain, PerCore.Seg.run_eq_chain, progs])
    (fun c => by simp only [PerCore.Seg.pipes_host, PerCore.Seg.pipes_region, PerCore.Seg.pipes_nil]; decide)
    (O₀ := due m (th m htb)) (hL := Pair.L_of_ne) (G := G m htb) (u₀ := u₀ m htb)
    (hu₀ := by
      unfold u₀ G
      iintro Hu
      ihave H := (ownU_pair _ _) $$ Hu
      icases H with ⟨HP, HX⟩
      imodintro
      isplitl [HP]; · iexact HP
      rw [Pair.bigSep_onDev]; iexact HX)
    (T₀ := T₀ m htb) (Tₙ := Tₙ m htb) (hch := chains m htb) (hinit := init m ρ htb)
    (QY := fun c s => (∀ b ∈ ucRefs τ sig, s.mem ((c : Thread nD τ).1, b) = VE m htb c b) ∧ s.sem (cell c barR) = 0 ∧ s.sem (cell c barS) = 0)
    (hfin := fun c s' => by
      dsimp only [Tₙ]
      unfold bufs StableHlo.held
      iintro ⟨⟨Hh, Hr, Hb⟩, HSI⟩
      icombine HSI Hr gives %hr
      icombine HSI Hb gives %hb
      ihave H := (pointsTo_read_all (ucRefs τ sig) (fun b => ((c : Thread nD τ).1, b)) (VE m htb c) s') $$ [Hh HSI]
      · isplitl [Hh] <;> iassumption
      icases H with ⟨%h, HSI⟩
      imodintro
      isplitr
      · ipureintro
        exact ⟨h, by simpa using hr, by simpa using hb⟩
      iexact HSI)
    (hQ := fun s h hs => ⟨fun c => (h c).1,
      sem_eq_zero hs fun c sm hsm => by
        rcases unscoped_eq sm hsm with rfl | rfl
        · exact (h c).2.2
        · exact (h c).2.1⟩)

end Cert.KernelIdeal.Launch

end
-- ==== Proof.Slots.lean ====
/- The grouping of the rows by expert, as the host's word operations compute it.

   Rows `r` carry a group `L r`, at most 4, where 4 is "no group of this device". A sort by group gives an order `σ` of the rows. The rows of group `e` start
   at position `below e`, so the row at position `k` has rank `k - below (L (σ k))` in its group, and it is given slot `1280 * group + rank` of the table when its
   group is below 4 and its rank below 1280. -/
module

public import proofs.«01_k».proof.Proof.Gen.KernelIdeal.Regions
public import Idealize.ShloMosaic.Lib.Routing.OpsOrder
public import Idealize.ShloMosaic.Lib.Routing.OpsOne
public import Idealize.ShloMosaic.Lib.Routing.OpsSearch

@[expose] public section

noncomputable section

namespace Cert.Slots

open Idealize.ShloMosaic Idealize.ShloMosaic.ValueIdx Idealize.ShloMosaic.Routing

/-! ## Groups in sorted order -/

section counting
variable {n : ℕ} (L : Fin n → ℕ)

/-- How many rows are of a smaller group. -/
def below (e : ℕ) : ℕ := (Finset.univ.filter fun r => L r < e).card
/-- How many rows are of the group. -/
def among (e : ℕ) : ℕ := (Finset.univ.filter fun r => L r = e).card

theorem below_zero : below L 0 = 0 := by simp [below]

theorem below_succ (e : ℕ) : below L (e + 1) = below L e + among L e := by
  unfold below among
  rw [← Finset.card_union_of_disjoint (Finset.disjoint_filter.2 fun r _ h h' => by omega)]
  refine congrArg Finset.card (Finset.ext fun r => ?_)
  simp only [Finset.mem_union, Finset.mem_filter, Finset.mem_univ, true_and]
  omega

theorem sum_among (e : ℕ) : ((List.range e).map (among L)).sum = below L e := by
  induction e with
  | zero => simp [below_zero]
  | succ e ih => rw [List.range_succ, List.map_append, List.sum_append, ih, below_succ]; simp

theorem below_le (e : ℕ) : below L e ≤ n := (Finset.card_le_univ _).trans (by simp)
theorem among_le (e : ℕ) : among L e ≤ n := (Finset.card_le_univ _).trans (by simp)

variable {L} {σ : Fin n → Fin n} (hσ : Function.Bijective σ) (hm : ∀ i j, i < j → L (σ i) ≤ L (σ j))
include hσ hm

theorem below_eq (e : ℕ) : below L e = (Finset.univ.filter fun k => L (σ k) < e).card := by
  unfold below
  refine Eq.trans ?_ (Finset.card_image_of_injective (Finset.univ.filter fun k => L (σ k) < e) hσ.injective)
  refine congrArg Finset.card (Finset.ext fun r => ?_)
  obtain ⟨k, rfl⟩ := hσ.surjective r
  simp only [Finset.mem_image, Finset.mem_filter, Finset.mem_univ, true_and]
  exact ⟨fun h => ⟨k, h, rfl⟩, fun ⟨k', h, e'⟩ => by rw [← e']; exact h⟩

/-- The rows of smaller groups lie before position `k`. -/
theorem below_le_pos (k : Fin n) : below L (L (σ k)) ≤ k.val := by
  rw [below_eq hσ hm]
  have h : (Finset.univ.filter fun j => L (σ j) < L (σ k)) ⊆ Finset.Iio k := fun j hj => by
    have hj' := (Finset.mem_filter.1 hj).2
    rw [Finset.mem_Iio]
    by_contra hk
    rcases lt_or_eq_of_le (not_lt.1 hk) with h1 | h1
    · have := hm _ _ h1; omega
    · rw [h1] at hj'; omega
  exact (Finset.card_le_card h).trans (by rw [Fin.card_Iio])

/-- Position `k` lies before the end of its row's group. -/
theorem pos_lt (k : Fin n) : k.val < below L (L (σ k)) + among L (L (σ k)) := by
  rw [← below_succ, below_eq hσ hm]
  have h : Finset.Iic k ⊆ (Finset.univ.filter fun j => L (σ j) < L (σ k) + 1) := fun j hj => by
    rw [Finset.mem_Iic] at hj
    refine Finset.mem_filter.2 ⟨Finset.mem_univ _, ?_⟩
    rcases lt_or_eq_of_le hj with h1 | h1
    · have := hm _ _ h1; omega
    · rw [h1]; omega
  have := Finset.card_le_card h
  rw [Fin.card_Iic] at this
  omega

end counting

/-- The slot of the row at position `k`. -/
def slot {n : ℕ} (L : Fin n → ℕ) (σ : Fin n → Fin n) (k : Fin n) : ℕ :=
  if L (σ k) < 4 ∧ k.val - below L (L (σ k)) < 1280 then 1280 * L (σ k) + (k.val - below L (L (σ k))) else 5120

theorem slot_inj {n : ℕ} {L : Fin n → ℕ} {σ : Fin n → Fin n} (hσ : Function.Bijective σ) (hm : ∀ i j, i < j → L (σ i) ≤ L (σ j))
    {k k' : Fin n} (h : slot L σ k = slot L σ k') (hk : slot L σ k < 5120) : k = k' := by
  have h1 := below_le_pos hσ hm k
  have h2 := below_le_pos hσ hm k'
  rw [h] at hk
  unfold slot at h hk
  by_cases c' : L (σ k') < 4 ∧ k'.val - below L (L (σ k')) < 1280
  · by_cases c : L (σ k) < 4 ∧ k.val - below L (L (σ k)) < 1280
    · rw [if_pos c, if_pos c'] at h
      have e : L (σ k) = L (σ k') := by omega
      rw [e] at h h1
      exact Fin.ext (by omega)
    · rw [if_neg c, if_pos c'] at h
      omega
  · rw [if_neg c'] at hk
    omega

theorem slot_group {n : ℕ} {L : Fin n → ℕ} {σ : Fin n → Fin n} {k : Fin n} (hk : slot L σ k < 5120) : L (σ k) = slot L σ k / 1280 := by
  unfold slot at hk ⊢
  split at hk
  · rename_i h; rw [if_pos h]; omega
  · omega

/-- A group of at most 1280 rows has a slot for each. -/
theorem slot_lt {n : ℕ} {L : Fin n → ℕ} {σ : Fin n → Fin n} (hσ : Function.Bijective σ) (hm : ∀ i j, i < j → L (σ i) ≤ L (σ j))
    {k : Fin n} (h4 : L (σ k) < 4) (hc : among L (L (σ k)) ≤ 1280) : slot L σ k < 5120 := by
  have h1 := below_le_pos hσ hm k
  have h2 := pos_lt hσ hm k
  unfold slot
  rw [if_pos ⟨h4, by omega⟩]
  omega

/-! ## Where a scatter's updates land -/

theorem start_col {N M : ℕ} (d : ScatterDims (shape1 N) (shape2 M 1) (shape1 M)) (hsd : d.scatterDimsToOperandDims = [0]) (hivd : d.indexVectorDim = 1)
    (idx : IVec (shape2 M 1) 32) (i : Fin M) : d.start (ix1 i) idx 0 = (idx (ix2 i (0 : Fin 1))).toInt := by
  have hmem : (0 : Fin 1) ∈ d.scatterDimsToOperandDims := by rw [hsd]; exact List.mem_singleton.2 rfl
  have hsi : d.siIdx (ix1 i) ⟨d.scatterDimsToOperandDims.idxOf 0, List.idxOf_lt_length_iff.2 hmem⟩ = ix2 i (0 : Fin 1) := by
    funext b
    match b with
    | ⟨0, _⟩ =>
      refine Fin.ext ?_
      unfold ScatterDims.siIdx
      rw [dif_neg (by rw [hivd]; exact Nat.zero_ne_one)]
      unfold ScatterDims.siCoord
      exact congrArg (fun X : Fin 1 => (ix1 i X).val) (Subsingleton.elim _ 0)
    | ⟨1, _⟩ => exact Subsingleton.elim (α := Fin 1) _ _
  unfold ScatterDims.start
  rw [dif_pos hmem, hsi]

theorem lands_col1 {N M : ℕ} (d : ScatterDims (shape1 N) (shape2 M 1) (shape1 M)) (hiw : d.insertedWindowDims = [0]) (hsd : d.scatterDimsToOperandDims = [0])
    (hivd : d.indexVectorDim = 1) (idx : IVec (shape2 M 1) 32) (i : Fin M) (x : Fin N) :
    d.resultIdx? (ix1 i) idx = some (ix1 x) ↔ (idx (ix2 i (0 : Fin 1))).toInt = (x.val : ℤ) := by
  have hwin : d.window (ix1 i) 0 = 0 := by
    unfold ScatterDims.window
    rw [dif_neg fun h => (of_decide_eq_true (List.mem_filter.1 h).2) (by rw [hiw]; exact List.mem_singleton.2 rfl)]
  rw [resultIdx?_ix1, start_col d hsd hivd, hwin]
  simp

/-- Updates of one, added at the words of a column: how many name the place. -/
theorem scatter_among {N M : ℕ} (d : ScatterDims (shape1 N) (shape2 M 1) (shape1 M)) (hiw : d.insertedWindowDims = [0]) (hsd : d.scatterDimsToOperandDims = [0])
    (hivd : d.indexVectorDim = 1) (x0 : IVec (shape1 N) 32) (hx0 : ∀ i, x0 i = 0#32) (idx : IVec (shape2 M 1) 32) (upd : IVec (shape1 M) 32)
    (hupd : ∀ i, upd i = 1#32) (L : Fin M → ℕ) (hL : ∀ i, (idx (ix2 i (0 : Fin 1))).toInt = (L i : ℤ)) (x : Fin N) :
    Host.scatter d IntOp.addi x0 idx upd (ix1 x) = BitVec.ofNat 32 (among L x.val) := by
  rw [scatter_at]
  have key : ∀ (l : List (Fin (shape1 M).numel)) (a : ℕ),
      l.foldl (fun a n => if d.resultIdx? ((shape1 M).rowMajor.symm n) idx = some (ix1 x) then IntOp.addi a (upd ((shape1 M).rowMajor.symm n)) else a) (BitVec.ofNat 32 a)
        = BitVec.ofNat 32 (a + l.countP fun n => L (n.cast (numel1 M)) = x.val) := by
    intro l
    induction l with
    | nil => intro a; simp
    | cons n l ih =>
      intro a
      rw [List.foldl_cons, List.countP_cons, symm1]
      have hiff : d.resultIdx? (ix1 (n.cast (numel1 M))) idx = some (ix1 x) ↔ L (n.cast (numel1 M)) = x.val := by
        rw [lands_col1 d hiw hsd hivd, hL]; omega
      by_cases h : L (n.cast (numel1 M)) = x.val
      · rw [if_pos (hiff.2 h), hupd]
        have e : IntOp.addi (BitVec.ofNat 32 a) 1#32 = BitVec.ofNat 32 (a + 1) := (BitVec.ofNat_add a 1).symm
        rw [e, ih]
        simp [h]; congr 1; omega
      · rw [if_neg fun e => h (hiff.1 e), ih]
        simp [h]
  have h0 := key (List.finRange _) 0
  rw [hx0]
  refine h0.trans (congrArg (BitVec.ofNat 32) ?_)
  rw [Nat.zero_add]
  unfold among
  have hN : ∀ (K : ℕ) (hK : K = M), ((List.finRange K).countP fun n => decide (L (n.cast hK) = x.val)) = (Finset.univ.filter fun r => L r = x.val).card := by
    intro K hK
    subst hK
    rw [List.countP_eq_length_filter, Finset.card_def, Finset.filter_val]
    rfl
  exact hN _ (numel1 M)

/-! ## The words -/

open Cert.KernelIdeal hiding ix2
open Cert.KernelIdeal.Facts₀

/-- A word at every row. -/
abbrev all (w : BitVec 32) : IVec S8192 32 := broadcastInDim S8192 ![] bcast_S_S8192 (constantI S_ 32 w)
/-- A column of positions, those below 0 counted from the end. -/
abbrev wrap (n : BitVec 32) (v : IVec S8192 32) : IVec S8192x1 32 :=
  broadcastInDim S8192x1 ![0] bcast_S8192_S8192x1_0 (select (cmpi .slt v (all 0#32)) (addi v (all n)) v)

/-- The row at each position of the order by group. -/
abbrev order (g : IVec S8192 32) : IVec S8192 32 := (Host.sort2 S8192 0 comparator_i32_i32_d0 g (iotaInDim S8192 32 0)).2
/-- The group at each position. -/
abbrev sorted (g : IVec S8192 32) : IVec S8192 32 := Host.gather gather_S8192_S8192x1_S8192_n_0_n_n_0_1_1 g (wrap 8192#32 (order g))
/-- The number of rows of each group. -/
abbrev sizes (g : IVec S8192 32) : IVec S5 32 :=
  Host.scatter scatter_S5_S8192x1_S8192_n_0_0_1 IntOp.addi (broadcastInDim S5 ![] bcast_S_S5 (constantI S_ 32 0#32)) (wrap 5#32 (maxsi (all 0#32) g)) (all 1#32)
/-- The position at which each group starts. -/
abbrev starts (g : IVec S8192 32) : IVec S5 32 :=
  subi (Host.reduceWindow IntOp.addi ![5] ![1] ![4] ![0] (sizes g) (broadcastInDim S_ ![] bcast_S_S_ (constantI S_ 32 0#32)) reduceWindows_S5_S5_w5s1p4_0 h_S_) (sizes g)
/-- The rank in its group of the row at each position. -/
abbrev rank (g : IVec S8192 32) : IVec S8192 32 :=
  subi (iotaInDim S8192 32 0) (Host.gather gather_S5_S8192x1_S8192_n_0_n_n_0_1_1 (starts g) (wrap 5#32 (sorted g)))
/-- The slot of the row at each position. -/
abbrev slots (g : IVec S8192 32) : IVec S8192 32 :=
  select (andi (cmpi .slt (sorted g) (all 4#32)) (cmpi .slt (rank g) (all 1280#32))) (addi (muli (sorted g) (all 1280#32)) (rank g)) (all 5120#32)
/-- The row in each slot, 8192 in an empty one. -/
abbrev table (g : IVec S8192 32) : IVec S5120 32 :=
  extractStridedSlice S5120 ![0] (Host.scatter scatter_S5121_S8192x1_S8192_n_0_0_1 (fun _ b => b) (broadcastInDim S5121 ![] bcast_S_S5121 (constantI S_ 32 8192#32))
    (wrap 5121#32 (slots g)) (order g)) slices_S5121_S5120_0

theorem all_at (w : BitVec 32) (i : S8192.Idx) : all w i = w := bc0 _ _ _

theorem wrap_at (n : BitVec 32) (v : IVec S8192 32) (p : Fin 8192) (h : (v (ix1 p)).toNat < 2 ^ 31) : wrap n v (ix2 p (0 : Fin 1)) = v (ix1 p) := by
  refine (bcCol bcast_S8192_S8192x1_0 _ p).trans ?_
  show Scalar.select (IntOp.cmpi .slt (v (ix1 p)) (all 0#32 (ix1 p))) (IntOp.addi (v (ix1 p)) (all n (ix1 p))) (v (ix1 p)) = _
  rw [all_at]
  exact wrap_of_lt _ _ h

/-- The order, as a map of the positions. -/
def perm (g : IVec S8192 32) : Fin 8192 → Fin 8192 :=
  sortedFrom fun k k' => comparator_i32_i32_d0 (g (Shape.Idx.ofFin k), iotaInDim S8192 32 0 (Shape.Idx.ofFin k)) (g (Shape.Idx.ofFin k'), iotaInDim S8192 32 0 (Shape.Idx.ofFin k')) == 1#1

theorem perm_bijective (g : IVec S8192 32) : Function.Bijective (perm g) := ⟨sortedFrom_injective _, sortedFrom_surjective _⟩

theorem order_at (g : IVec S8192 32) (k : Fin 8192) : order g (ix1 k) = BitVec.ofNat 32 (perm g k).val := by
  show (Host.sort2 S8192 0 comparator_i32_i32_d0 g (iotaInDim S8192 32 0)).2 (ix1 k) = _
  unfold Host.sort2 perm
  simp [iotaInDim]

theorem order_lt (g : IVec S8192 32) (i : S8192.Idx) : (order g i).toNat < 8192 := by
  obtain ⟨k, rfl⟩ : ∃ k : Fin 8192, i = ix1 k := ⟨i 0, eq_ix1 i⟩
  have := (perm g k).isLt
  rw [order_at, BitVec.toNat_ofNat]
  omega

/-- The words of the table are at most 8192. -/
theorem table_le (g : IVec S8192 32) (i : S5120.Idx) : (table g i).toNat ≤ 8192 := by
  show (Host.scatter scatter_S5121_S8192x1_S8192_n_0_0_1 (fun _ b => b) (broadcastInDim S5121 ![] bcast_S_S5121 (constantI S_ 32 8192#32)) (wrap 5121#32 (slots g)) (order g) _).toNat ≤ 8192
  refine scatter_forall scatter_S5121_S8192x1_S8192_n_0_0_1 (fun _ b => b) (fun w : BitVec 32 => w.toNat ≤ 8192) (fun _ _ _ h => h) _ _ _ (fun i => ?_) (fun j => (order_lt g j).le) _
  rw [bc0]
  decide

section groups
variable (g : IVec S8192 32) (L : Fin 8192 → ℕ) (hg : ∀ r, g (ix1 r) = BitVec.ofNat 32 (L r)) (hL : ∀ r, L r ≤ 4)
include hg hL

theorem perm_mono (i j : Fin 8192) (hij : i < j) : L (perm g i) ≤ L (perm g j) := by
  have hB : ∀ a b : Fin 8192, (comparator_i32_i32_d0 (g (Shape.Idx.ofFin a), iotaInDim S8192 32 0 (Shape.Idx.ofFin a))
      (g (Shape.Idx.ofFin b), iotaInDim S8192 32 0 (Shape.Idx.ofFin b)) == 1#1) = decide (L a < L b) := fun a b => by
    have h1 := hL a
    have h2 := hL b
    rw [Bool.eq_iff_iff, beq_iff_eq, decide_eq_true_iff, ofFin_eq_ix1, ofFin_eq_ix1, hg, hg]
    exact StableHlo.Predicate.slt_ofNat_iff _ _ (by omega) (by omega)
  have h := sortedFrom_noInversion (fun a b : Fin 8192 => decide (L a < L b)) (fun a b => decide (L a < L b)) (fun a b h => by simp at h ⊢; omega) (fun a b h => h)
    (fun a b c h h' => by simp at h h' ⊢; omega) i j hij
  have e : perm g = sortedFrom fun a b : Fin 8192 => decide (L a < L b) := by
    unfold perm; exact congrArg sortedFrom (funext fun a => funext fun b => hB a b)
  rw [e]
  simpa using h

theorem sorted_at (k : Fin 8192) : sorted g (ix1 k) = BitVec.ofNat 32 (L (perm g k)) := by
  have hk := (perm g k).isLt
  rw [← hg]
  refine gather_take1 gather_S8192_S8192x1_S8192_n_0_n_n_0_1_1 rfl rfl rfl rfl g _ k (perm g k) ?_ (by decide)
  rw [wrap_at _ _ _ (by have := order_lt g (ix1 k); omega), order_at]

theorem sizes_at (e : Fin 5) : sizes g (ix1 e) = BitVec.ofNat 32 (among L e.val) := by
  refine scatter_among scatter_S5_S8192x1_S8192_n_0_0_1 rfl rfl rfl _ (fun i => bc0 _ _ _) _ _ (fun i => bc0 _ _ _) L (fun r => ?_) e
  have h := hL r
  have e : maxsi (all 0#32) g (ix1 r) = BitVec.ofNat 32 (L r) := by
    show IntOp.maxsi (all 0#32 (ix1 r)) (g (ix1 r)) = _
    rw [all_at, hg]
    have : ∀ n : Fin 5, IntOp.maxsi 0#32 (BitVec.ofNat 32 n.val) = BitVec.ofNat 32 n.val := by decide
    exact this ⟨L r, by omega⟩
  rw [wrap_at _ _ _ (by rw [e, BitVec.toNat_ofNat]; omega), e, StableHlo.Predicate.toInt_ofNat_small _ (by omega)]

theorem starts_at (e : Fin 5) : starts g (ix1 e) = BitVec.ofNat 32 (below L e.val) := by
  show IntOp.subi (Host.reduceWindow IntOp.addi ![5] ![1] ![4] ![0] (sizes g) (broadcastInDim S_ ![] bcast_S_S_ (constantI S_ 32 0#32)) reduceWindows_S5_S5_w5s1p4_0 h_S_ (ix1 e)) (sizes g (ix1 e)) = _
  rw [cumsum1 (N := 5) (Nm1 := 4) rfl (sizes g) (among L) (sizes_at g L hg hL) _ (bc0 _ _ _) _ _ e, sizes_at g L hg hL, sum_among, below_succ, BitVec.ofNat_add]
  exact BitVec.add_sub_cancel _ _

theorem rank_at (k : Fin 8192) : rank g (ix1 k) = BitVec.ofNat 32 (k.val - below L (L (perm g k))) := by
  have hk := hL (perm g k)
  have hb := below_le_pos (perm_bijective g) (perm_mono g L hg hL) k
  have hlt := k.isLt
  show IntOp.subi (iotaInDim S8192 32 0 (ix1 k)) (Host.gather gather_S5_S8192x1_S8192_n_0_n_n_0_1_1 (starts g) (wrap 5#32 (sorted g)) (ix1 k)) = _
  rw [gather_take1 gather_S5_S8192x1_S8192_n_0_n_n_0_1_1 rfl rfl rfl rfl (starts g) _ k (⟨L (perm g k), by omega⟩ : Fin 5)
    (by rw [wrap_at _ _ _ (by rw [sorted_at g L hg hL, BitVec.toNat_ofNat]; omega), sorted_at g L hg hL]) (by decide), starts_at g L hg hL]
  show BitVec.ofNat 32 k.val - BitVec.ofNat 32 (below L (L (perm g k))) = _
  apply BitVec.eq_of_toNat_eq
  simp only [BitVec.toNat_sub, BitVec.toNat_ofNat]
  omega

theorem slots_at (k : Fin 8192) : slots g (ix1 k) = BitVec.ofNat 32 (slot L (perm g) k) := by
  have hk := hL (perm g k)
  have hlt := k.isLt
  show Scalar.select (IntOp.andi (IntOp.cmpi .slt (sorted g (ix1 k)) (all 4#32 (ix1 k))) (IntOp.cmpi .slt (rank g (ix1 k)) (all 1280#32 (ix1 k))))
    (IntOp.addi (IntOp.muli (sorted g (ix1 k)) (all 1280#32 (ix1 k))) (rank g (ix1 k))) (all 5120#32 (ix1 k)) = _
  rw [sorted_at g L hg hL, rank_at g L hg hL, all_at, all_at, all_at]
  have h1 : IntOp.cmpi .slt (BitVec.ofNat 32 (L (perm g k))) 4#32 = 1#1 ↔ L (perm g k) < 4 := StableHlo.Predicate.slt_ofNat_iff _ 4 (by omega) (by omega)
  have h2 : IntOp.cmpi .slt (BitVec.ofNat 32 (k.val - below L (L (perm g k)))) 1280#32 = 1#1 ↔ k.val - below L (L (perm g k)) < 1280 :=
    StableHlo.Predicate.slt_ofNat_iff _ 1280 (by omega) (by omega)
  have hand : ∀ a b : BitVec 1, IntOp.andi a b = 1#1 ↔ a = 1#1 ∧ b = 1#1 := by decide
  unfold slot
  by_cases h : L (perm g k) < 4 ∧ k.val - below L (L (perm g k)) < 1280
  · rw [if_pos h, Nat.mul_comm, BitVec.ofNat_add, BitVec.ofNat_mul]
    exact if_pos ((hand _ _).2 ⟨h1.2 h.1, h2.2 h.2⟩)
  · rw [if_neg h]
    exact if_neg fun e => h ⟨h1.1 ((hand _ _).1 e).1, h2.1 ((hand _ _).1 e).2⟩

theorem slot_le (k : Fin 8192) : slot L (perm g) k ≤ 5120 := by
  unfold slot
  split <;> omega

theorem lands_slot (k : Fin 8192) (x : Fin 5121) :
    scatter_S5121_S8192x1_S8192_n_0_0_1.resultIdx? (ix1 k) (wrap 5121#32 (slots g)) = some (ix1 x) ↔ slot L (perm g) k = x.val := by
  have hs := slot_le g L hg hL k
  rw [lands_col1 _ rfl rfl rfl, wrap_at _ _ _ (by rw [slots_at g L hg hL, BitVec.toNat_ofNat]; omega), slots_at g L hg hL,
    StableHlo.Predicate.toInt_ofNat_small _ (by omega)]
  omega

/-- A slot that a position is given holds its row. -/
theorem table_hit (k : Fin 8192) (i : Fin 5120) (h : slot L (perm g) k = i.val) : table g (ix1 i) = BitVec.ofNat 32 (perm g k).val := by
  have hi := i.isLt
  refine (slice1 0 _ slices_S5121_S5120_0 i (by omega)).trans ?_
  refine scatter_set_hit _ _ _ _ _ _ (fun q hq => ?_) (ix1 k) ((lands_slot g L hg hL k _).2 (by show _ = 0 + i.val; omega))
  obtain ⟨k', rfl⟩ : ∃ k' : Fin 8192, q = ix1 k' := ⟨q 0, eq_ix1 q⟩
  have e := (lands_slot g L hg hL k' _).1 hq
  have e' : slot L (perm g) k' = i.val := e.trans (by show 0 + i.val = _; omega)
  rw [order_at, slot_inj (perm_bijective g) (perm_mono g L hg hL) (e'.trans h.symm) (by omega)]

/-- A slot that no position is given holds 8192. -/
theorem table_miss (i : Fin 5120) (h : ∀ k, slot L (perm g) k ≠ i.val) : table g (ix1 i) = 8192#32 := by
  have hi := i.isLt
  refine (slice1 0 _ slices_S5121_S5120_0 i (by omega)).trans ((scatter_set_miss _ _ _ _ _ fun q hq => ?_).trans (bc0 _ _ _))
  obtain ⟨k', rfl⟩ : ∃ k' : Fin 8192, q = ix1 k' := ⟨q 0, eq_ix1 q⟩
  exact h k' (((lands_slot g L hg hL k' _).1 hq).trans (by show 0 + i.val = _; omega))

/-- The row in slot `i`, if any, is of the slot's group. -/
theorem table_group (i : Fin 5120) (r : Fin 8192) (h : table g (ix1 i) = BitVec.ofNat 32 r.val) : L r = i.val / 1280 := by
  have hr := r.isLt
  have hi := i.isLt
  by_cases hex : ∃ k, slot L (perm g) k = i.val
  · obtain ⟨k, hk⟩ := hex
    have hp := (perm g k).isLt
    have e := congrArg BitVec.toNat ((table_hit g L hg hL k i hk).symm.trans h)
    rw [BitVec.toNat_ofNat, BitVec.toNat_ofNat] at e
    have e' : perm g k = r := Fin.ext (by omega)
    rw [← e', slot_group (L := L) (σ := perm g) (k := k) (by omega), hk]
  · have e := congrArg BitVec.toNat ((table_miss g L hg hL i fun k hk => hex ⟨k, hk⟩).symm.trans h)
    rw [BitVec.toNat_ofNat, BitVec.toNat_ofNat] at e
    omega

/-- A row of a group of at most 1280 has a slot. -/
theorem table_has (r : Fin 8192) (h4 : L r < 4) (hc : among L (L r) ≤ 1280) : ∃ i : Fin 5120, table g (ix1 i) = BitVec.ofNat 32 r.val := by
  obtain ⟨k, rfl⟩ := (perm_bijective g).surjective r
  exact ⟨⟨_, slot_lt (perm_bijective g) (perm_mono g L hg hL) h4 hc⟩, table_hit g L hg hL k _ rfl⟩

end groups

end Cert.Slots

end
-- ==== Proof.Reads.lean ====
/- What the host's stretches hold, as functions of what the calls before them left. -/
module

public import proofs.«01_k».proof.Proof.Launch
public import proofs.«01_k».proof.Proof.Slots
import Idealize.ShloMosaic.Lib.StableHlo.RunRead

@[expose] public section

noncomputable section

namespace Cert.KernelIdeal.Launch

open Idealize.ShloMosaic Idealize.ShloMosaic.TcCoe
open Cert.KernelIdeal.Gen
open Cert.KernelIdeal.Gather (VA VA_x VA_a VA_of)

variable {F : FTy → Type} [FloatOps F]

/-! ## Each stretch alone -/

section stretches
variable (V : Valuation τ sig (Elt F))

theorem at_order : StableHlo.after hostOps2_2 V main_v20 = Slots.order (V main_v19) := by
  after_results <;> rfl
theorem at_sorted : StableHlo.after hostOps2_3 V main_v27 = Host.gather gather_S8192_S8192x1_S8192_n_0_n_n_0_1_1 (V main_v19) (Slots.wrap 8192#32 (V main_v20)) := by
  after_results <;> rfl
theorem at_five : StableHlo.after hostOps2_3 V main_v28 = broadcastInDim S5 ![] bcast_S_S5 (constantI S_ 32 0#32) := by
  after_results <;> rfl
theorem at_zero : StableHlo.after hostOps2_3 V main_c_8 = constantI S_ 32 0#32 := by
  after_results <;> rfl
theorem at_max : StableHlo.after hostOps2_4 V main_v29 = maxsi (broadcastInDim S8192 ![] bcast_S_S8192 (V main_c_8)) (V main_v19) := by
  after_results <;> rfl
theorem at_sizes : StableHlo.after hostOps2_5 V main_v37
    = Host.scatter scatter_S5_S8192x1_S8192_n_0_0_1 IntOp.addi (V main_v28) (Slots.wrap 5#32 (V main_v29)) (Slots.all 1#32) := by
  after_results <;> rfl
theorem at_cum : StableHlo.after hostOps2_6 V main_v38
    = Host.reduceWindow IntOp.addi ![5] ![1] ![4] ![0] (V main_v37) (broadcastInDim S_ ![] bcast_S_S_ (constantI S_ 32 0#32)) reduceWindows_S5_S5_w5s1p4_0 h_S_ := by
  after_results <;> rfl
theorem at_starts : StableHlo.after hostOps2_7 V main_v39 = subi (V main_v38) (V main_v37) := by
  after_results <;> rfl
theorem at_rank : StableHlo.after hostOps2_7 V main_v48 = subi (iotaInDim S8192 32 0)
    (Host.gather gather_S5_S8192x1_S8192_n_0_n_n_0_1_1 (subi (V main_v38) (V main_v37)) (Slots.wrap 5#32 (V main_v27))) := by
  after_results <;> rfl
theorem at_fit : StableHlo.after hostOps2_7 V main_v53 = andi (cmpi .slt (V main_v27) (Slots.all 4#32)) (cmpi .slt (subi (iotaInDim S8192 32 0)
    (Host.gather gather_S5_S8192x1_S8192_n_0_n_n_0_1_1 (subi (V main_v38) (V main_v37)) (Slots.wrap 5#32 (V main_v27)))) (Slots.all 1280#32)) := by
  after_results <;> rfl
theorem at_place : StableHlo.after hostOps2_7 V main_v56 = addi (muli (V main_v27) (Slots.all 1280#32)) (subi (iotaInDim S8192 32 0)
    (Host.gather gather_S5_S8192x1_S8192_n_0_n_n_0_1_1 (subi (V main_v38) (V main_v37)) (Slots.wrap 5#32 (V main_v27)))) := by
  after_results <;> rfl
theorem at_beyond : StableHlo.after hostOps2_7 V main_c_17 = constantI S_ 32 5120#32 := by
  after_results <;> rfl
theorem at_slots : StableHlo.after hostOps2_8 V main_v57 = select (V main_v53) (V main_v56) (broadcastInDim S8192 ![] bcast_S_S8192 (V main_c_17)) := by
  after_results <;> rfl
theorem at_table : StableHlo.after hostOps2_9 V main_v66 = extractStridedSlice S5120 ![0]
    (Host.scatter scatter_S5121_S8192x1_S8192_n_0_0_1 (fun _ b => b) (broadcastInDim S5121 ![] bcast_S_S5121 (constantI S_ 32 8192#32))
      (Slots.wrap 5121#32 (V main_v57)) (V main_v20)) slices_S5121_S5120_0 := by
  after_results <;> rfl
theorem at_tokens : StableHlo.after hostOps2_9 V main_v68 = minsi (StableHlo.after hostOps2_9 V main_v66) (broadcastInDim S5120 ![] bcast_S_S5120 (constantI S_ 32 8191#32)) := by
  rw [at_table]
  after_results <;> rfl
end stretches

variable (m : (ℓ : Loc nD τ sig) → Buf (Elt F) ℓ)

/-! ## The stretches' buffers, kept by the later ones -/

theorem U2_of (c : Dev nD) (r : Ref sig .tc) (h : r ∉ hostOps2_2_W) : U2 m c r = U1 m c r := StableHlo.after_of_writes_sub hostOps2_2 _ hostOps2_2_writes h
theorem U3_of (c : Dev nD) (r : Ref sig .tc) (h : r ∉ hostOps2_3_W) : U3 m c r = U2 m c r := StableHlo.after_of_writes_sub hostOps2_3 _ hostOps2_3_writes h
theorem U4_of (c : Dev nD) (r : Ref sig .tc) (h : r ∉ hostOps2_4_W) : U4 m c r = U3 m c r := StableHlo.after_of_writes_sub hostOps2_4 _ hostOps2_4_writes h
theorem U5_of (c : Dev nD) (r : Ref sig .tc) (h : r ∉ hostOps2_5_W) : U5 m c r = U4 m c r := StableHlo.after_of_writes_sub hostOps2_5 _ hostOps2_5_writes h
theorem U6_of (c : Dev nD) (r : Ref sig .tc) (h : r ∉ hostOps2_6_W) : U6 m c r = U5 m c r := StableHlo.after_of_writes_sub hostOps2_6 _ hostOps2_6_writes h
theorem U7_of (c : Dev nD) (r : Ref sig .tc) (h : r ∉ hostOps2_7_W) : U7 m c r = U6 m c r := StableHlo.after_of_writes_sub hostOps2_7 _ hostOps2_7_writes h
theorem U8_of (c : Dev nD) (r : Ref sig .tc) (h : r ∉ hostOps2_8_W) : U8 m c r = U7 m c r := StableHlo.after_of_writes_sub hostOps2_8 _ hostOps2_8_writes h
theorem W3_of (c : Dev nD) (r : Ref sig .tc) (h : r ∉ hostOps2_9_W) : W3 m c r = U8 m c r := StableHlo.after_of_writes_sub hostOps2_9 _ hostOps2_9_writes h

/-! ## The table -/

/-- The group of each row. -/
abbrev grp (c : Dev nD) : IVec S8192 32 := U1 m c main_v19

theorem U2_order (c : Dev nD) : U2 m c main_v20 = Slots.order (grp m c) := at_order _
theorem U3_sorted (c : Dev nD) : U3 m c main_v27 = Slots.sorted (grp m c) := by
  refine (at_sorted _).trans ?_
  rw [U2_of m c main_v19 (by decide), U2_order]
theorem U5_sizes (c : Dev nD) : U5 m c main_v37 = Slots.sizes (grp m c) := by
  refine (at_sizes _).trans ?_
  have e28 : U4 m c main_v28 = broadcastInDim S5 ![] bcast_S_S5 (constantI S_ 32 0#32) := (U4_of m c main_v28 (by decide)).trans (at_five _)
  have e29 : U4 m c main_v29 = maxsi (Slots.all 0#32) (grp m c) := by
    refine (at_max _).trans ?_
    rw [show U3 m c main_c_8 = _ from at_zero _, U3_of m c main_v19 (by decide), U2_of m c main_v19 (by decide)]
  rw [e28, e29]
theorem U6_sizes (c : Dev nD) : U6 m c main_v37 = Slots.sizes (grp m c) := (U6_of m c main_v37 (by decide)).trans (U5_sizes m c)
theorem U6_starts (c : Dev nD) : subi (U6 m c main_v38) (U6 m c main_v37) = Slots.starts (grp m c) := by
  have e : U6 m c main_v38 = _ := at_cum _
  rw [e, U6_sizes, U5_sizes]
theorem U6_sorted (c : Dev nD) : U6 m c main_v27 = Slots.sorted (grp m c) :=
  (U6_of m c main_v27 (by decide)).trans ((U5_of m c main_v27 (by decide)).trans ((U4_of m c main_v27 (by decide)).trans (U3_sorted m c)))
theorem U8_slots (c : Dev nD) : U8 m c main_v57 = Slots.slots (grp m c) := by
  refine (at_slots _).trans ?_
  have e1 : U7 m c main_v53 = _ := at_fit _
  have e2 : U7 m c main_v56 = _ := at_place _
  have e3 : U7 m c main_c_17 = _ := at_beyond _
  rw [e1, e2, e3, U6_starts, U6_sorted]
theorem U8_order (c : Dev nD) : U8 m c main_v20 = Slots.order (grp m c) :=
  (U8_of m c main_v20 (by decide)).trans ((U7_of m c main_v20 (by decide)).trans ((U6_of m c main_v20 (by decide)).trans ((U5_of m c main_v20 (by decide)).trans
    ((U4_of m c main_v20 (by decide)).trans ((U3_of m c main_v20 (by decide)).trans (U2_order m c))))))
theorem W3_table (c : Dev nD) : W3 m c main_v66 = Slots.table (grp m c) := by
  refine (at_table _).trans ?_
  rw [U8_slots, U8_order]
theorem W3_tokens (c : Dev nD) : W3 m c main_v68 = minsi (Slots.table (grp m c)) (broadcastInDim S5120 ![] bcast_S_S5120 (constantI S_ 32 8191#32)) :=
  (at_tokens _).trans (congrArg (fun z => minsi z _) (W3_table m c))

/-- A row's word stays, an empty slot's names the last row. -/
theorem least {w : BitVec 32} (h : w.toNat ≤ 8192) : (IntOp.minsi w 8191#32).toNat = min w.toNat 8191 := by
  have e : w.slt 8191#32 = decide (w.toNat < 8191) := by
    simp only [BitVec.slt, BitVec.toInt_eq_toNat_cond, BitVec.toNat_ofNat]
    refine decide_eq_decide.mpr ?_
    rw [if_pos (by omega), if_pos (by omega)]
    omega
  unfold IntOp.minsi
  rw [e]
  by_cases h8 : w.toNat < 8191
  · rw [if_pos (by simpa using h8)]; omega
  · rw [if_neg (by simpa using h8)]; simp only [BitVec.toNat_ofNat]; omega

theorem tokens_at (c : Dev nD) (p : S5120.Idx) : ((W3 m c main_v68 : S5120.Idx → BitVec 32) p).toNat = min (Slots.table (grp m c) p).toNat 8191 := by
  rw [W3_tokens]
  show (IntOp.minsi (Slots.table (grp m c) p) (broadcastInDim S5120 ![] bcast_S_S5120 (constantI S_ 32 8191#32) p)).toNat = _
  rw [Routing.bc0]
  exact least (Slots.table_le _ p)

theorem tableOk : TableOk m := fun c p => by
  rw [tokens_at]
  omega

/-! ## The other stretches -/

section stretches
variable (V : Valuation τ sig (Elt F))

theorem at_coord (m : (ℓ : Loc nD τ sig) → Buf (Elt F) ℓ) (c : Dev nD) : V1 m c main_v4 = remui (divui (constantI S_ 32 (Dev.word c)) (constantI S_ 32 2#32)) (constantI S_ 32 2#32) := by
  after_results <;> rfl
theorem at_word (m : (ℓ : Loc nD τ sig) → Buf (Elt F) ℓ) (c : Dev nD) : V1 m c main_v5 = shapeCast S1x4096 (m ((c : Thread nD τ).loc main_arg1)) shapeCasts_S4096_S1x4096 := by
  after_results <;> rfl
theorem at_rows : StableHlo.after hostOps1 V main_v7 = shapeCast S8192x2048 (V main_v6_0) shapeCasts_S2x4096x2048_S8192x2048 := by
  after_results <;> rfl
theorem at_own : StableHlo.after hostOps1 V main_v8 = shapeCast S1x4096 (V main_arg1) shapeCasts_S4096_S1x4096 := by
  after_results <;> rfl
theorem at_local : StableHlo.after hostOps2 V main_v13
    = subi (shapeCast S8192 (V main_v9) shapeCasts_S2x1x4096_S8192) (broadcastInDim S8192 ![] bcast_S_S8192 (muli (V main_v4) (constantI S_ 32 4#32))) := by
  after_results <;> rfl
theorem at_in : StableHlo.after hostOps2 V main_v18 = andi
    (cmpi .sge (subi (shapeCast S8192 (V main_v9) shapeCasts_S2x1x4096_S8192) (broadcastInDim S8192 ![] bcast_S_S8192 (muli (V main_v4) (constantI S_ 32 4#32)))) (Slots.all 0#32))
    (cmpi .slt (subi (shapeCast S8192 (V main_v9) shapeCasts_S2x1x4096_S8192) (broadcastInDim S8192 ![] bcast_S_S8192 (muli (V main_v4) (constantI S_ 32 4#32)))) (Slots.all 4#32)) := by
  after_results <;> rfl
theorem at_four : StableHlo.after hostOps2 V main_c_4 = constantI S_ 32 4#32 := by
  after_results <;> rfl
theorem at_group : StableHlo.after hostOps2_1 V main_v19 = select (V main_v18) (V main_v13) (broadcastInDim S8192 ![] bcast_S_S8192 (V main_c_4)) := by
  after_results <;> rfl
/-- Rows below 0 counted from the end of the 8193. -/
abbrev column (v : IVec S5120 32) : IVec S5120x1 32 := broadcastInDim S5120x1 ![0] bcast_S5120_S5120x1_0
  (select (cmpi .slt v (broadcastInDim S5120 ![] bcast_S_S5120 (constantI S_ 32 0#32))) (addi v (broadcastInDim S5120 ![] bcast_S_S5120 (constantI S_ 32 8193#32))) v)
/-- The rows of the slots, each at its place; the empty ones fall on a row that is cut off. -/
abbrev placed (v : IVec S5120 32) (o : S5120x2048.Idx → Elt F .f32) : S8192x2048.Idx → Elt F .f32 :=
  extractStridedSlice S8192x2048 ![0, 0] (Host.scatter scatter_S8193x2048_S5120x1_S5120x2048_1_0_0_1 (fun _ b => b)
    (broadcastInDim S8193x2048 ![] bcast_S_S8193x2048 (constant S_ .f32 0x00000000#32 : S_.Idx → Elt F .f32)) (column v) o) slices_S8193x2048_S8192x2048_0_0
theorem at_placed : StableHlo.after hostOps3 V main_v78 = placed (V main_v66) (V main_v69) := by
  after_results <;> rfl
/-- A start of rows, those below 0 counted from the end of the 8192. -/
abbrev begin_ (y : IVec S_ 32) : IVec S_ 32 := select (cmpi .slt (muli y (constantI S_ 32 4096#32)) (constantI S_ 32 0#32))
  (addi (muli y (constantI S_ 32 4096#32)) (constantI S_ 32 8192#32)) (muli y (constantI S_ 32 4096#32))
/-- The 4096 rows that start at a word. -/
abbrev rowsFrom (y : IVec S_ 32) (x : S8192x2048.Idx → Elt F .f32) : S4096x2048.Idx → Elt F .f32 :=
  Host.dynamicSlice S4096x2048 x (fun k => ((![begin_ y, constantI S_ 32 0#32] : Fin 2 → IVec S_ 32) k (Shape.Idx.first h_S_)).toInt) sliceFits_S8192x2048_S4096x2048
theorem at_mine : StableHlo.after hostOps3 V main_v83 = rowsFrom (V main_v4) (placed (V main_v66) (V main_v69)) := by
  after_reads_simp
  refine congrArg (fun f => Host.dynamicSlice S4096x2048 (placed (V main_v66) (V main_v69)) f sliceFits_S8192x2048_S4096x2048) (funext (Fin.forall_fin_two.mpr ⟨?_, ?_⟩))
  · show BitVec.toInt ((StableHlo.upto hostOps3 V 20 main_v82 : IVec S_ 32) (Shape.Idx.first h_S_)) = _
    after_reads_simp
    rfl
  · show BitVec.toInt ((StableHlo.upto hostOps3 V 20 main_c_27 : IVec S_ 32) (Shape.Idx.first h_S_)) = _
    after_reads_simp
    rfl
theorem at_theirs : StableHlo.after hostOps3 V main_v89 = rowsFrom (subi (constantI S_ 32 1#32) (V main_v4)) (placed (V main_v66) (V main_v69)) := by
  after_reads_simp
  refine congrArg (fun f => Host.dynamicSlice S4096x2048 (placed (V main_v66) (V main_v69)) f sliceFits_S8192x2048_S4096x2048) (funext (Fin.forall_fin_two.mpr ⟨?_, ?_⟩))
  · show BitVec.toInt ((StableHlo.upto hostOps3 V 31 main_v88 : IVec S_ 32) (Shape.Idx.first h_S_)) = _
    after_reads_simp
    rfl
  · show BitVec.toInt ((StableHlo.upto hostOps3 V 31 main_c_32 : IVec S_ 32) (Shape.Idx.first h_S_)) = _
    after_reads_simp
    rfl
theorem at_sum : StableHlo.after hostOps4 V main_v91 = addf (V main_v83) (V main_v90) := by
  after_results <;> rfl
end stretches

end Cert.KernelIdeal.Launch

end
-- ==== Proof.Kept.lean ====
/- What the run leaves as it was. -/
module

public import proofs.«01_k».proof.Proof.Reads

@[expose] public section

noncomputable section

namespace Cert.KernelIdeal.Launch

open Idealize.ShloMosaic Idealize.ShloMosaic.TcCoe Idealize.SL.Sem
open Cert.KernelIdeal.Gen
open Cert.KernelIdeal.Gather (VA VA_of pr)

variable {F : FTy → Type} [FloatOps F]
variable (m : (ℓ : Loc nD τ sig) → Buf (Elt F) ℓ)

/-- A buffer that nothing between the row and the grouped matmul writes. -/
theorem W3_late (c : Dev nD) (r : Ref sig .tc)
    (h2 : r ∉ hostOps2_W ++ hostOps2_1_W ++ hostOps2_2_W ++ hostOps2_3_W ++ hostOps2_4_W ++ hostOps2_5_W ++ hostOps2_6_W ++ hostOps2_7_W ++ hostOps2_8_W ++ hostOps2_9_W) :
    W3 m c r = VB m c r := by
  simp only [List.mem_append, not_or] at h2
  obtain ⟨⟨⟨⟨⟨⟨⟨⟨⟨a0, a1⟩, a2⟩, a3⟩, a4⟩, a5⟩, a6⟩, a7⟩, a8⟩, a9⟩ := h2
  rw [W3_of m c r a9, U8_of m c r a8, U7_of m c r a7, U6_of m c r a6, U5_of m c r a5, U4_of m c r a4, U3_of m c r a3, U2_of m c r a2]
  exact (StableHlo.after_of_writes_sub hostOps2_1 _ hostOps2_1_writes a1).trans (StableHlo.after_of_writes_sub hostOps2 _ hostOps2_writes a0)

/-- A buffer that nothing before the grouped matmul writes. -/
theorem W3_kept (c : Dev nD) (r : Ref sig .tc) (h0 : r ∉ hostOps0_W) (h6 : r ≠ main_v6_0 ∧ r ≠ main_v6_1) (h1 : r ∉ hostOps1_W) (h9 : r ≠ main_v9)
    (h2 : r ∉ hostOps2_W ++ hostOps2_1_W ++ hostOps2_2_W ++ hostOps2_3_W ++ hostOps2_4_W ++ hostOps2_5_W ++ hostOps2_6_W ++ hostOps2_7_W ++ hostOps2_8_W ++ hostOps2_9_W) :
    W3 m c r = m ((c : Thread nD τ).loc r) :=
  (W3_late m c r h2).trans ((Row.VB_of (W2 m) c r h9).trans ((StableHlo.after_of_writes_sub hostOps1 _ hostOps1_writes h1).trans
    ((VA_of m c r (fun e => h6.1 (Proc.devRef_injective _ e)) (fun e => h6.2 (Proc.devRef_injective _ e))).trans (V1_of m c r h0))))

/-- A buffer that neither the grouped matmul nor anything after it writes. -/
theorem VE_kept (c : Dev nD) (r : Ref sig .tc) (h : r ≠ main_v69) (h3 : r ∉ hostOps3_W) (h9 : r ≠ main_v90) (h4 : r ∉ hostOps4_W) :
    VE m (tableOk m) c r = W3 m c r :=
  (StableHlo.after_of_writes_sub hostOps4 _ hostOps4_writes h4).trans ((Ret.VD_of (W4 m (tableOk m)) c r (fun e => h9 (Proc.devRef_injective _ e))).trans
    ((StableHlo.after_of_writes_sub hostOps3 _ hostOps3_writes h3).trans (Ffn.VC_of (W3 m) (tableOk m) c r h)))

theorem VE_args (c : Dev nD) : VE m (tableOk m) c main_arg0 = m ((c : Thread nD τ).loc main_arg0) ∧ VE m (tableOk m) c main_arg1 = m ((c : Thread nD τ).loc main_arg1)
    ∧ VE m (tableOk m) c main_arg2 = m ((c : Thread nD τ).loc main_arg2) ∧ VE m (tableOk m) c main_arg3 = m ((c : Thread nD τ).loc main_arg3) := by
  refine ⟨?_, ?_, ?_, ?_⟩ <;>
    exact (VE_kept m c _ (by decide) (by decide) (by decide) (by decide)).trans (W3_kept m c _ (by decide) (by decide) (by decide) (by decide) (by decide))

theorem mem_uc (r : Ref sig .tc) (h : ¬ (Proc.devRef .tc r : DevRef τ sig).isScoped := by decide) : (Proc.devRef .tc r : DevRef τ sig) ∈ Pipeline.ucRefs τ sig :=
  Finset.mem_filter.mpr ⟨StableHlo.devRef_mem_tcRefs r, h⟩

theorem run_args (ρ : Dev nD → PrngReg) : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1 c _ (mem_uc main_arg0)).trans (VE_args m c).1, (h.1 c _ (mem_uc main_arg1)).trans (VE_args m c).2.1,
      (h.1 c _ (mem_uc main_arg2)).trans (VE_args m c).2.2.1, (h.1 c _ (mem_uc main_arg3)).trans (VE_args m c).2.2.2⟩, h.2⟩) (run_main m ρ (tableOk m))

theorem VD_recv (W : Vals (F := F)) (c : Dev nD) : Ret.VD W c main_v90 = W (pr c) main_v89 := Function.update_self ..

/-- What a device returns is what it kept for itself and what came from its peer. -/
theorem VE_sum (c : Dev nD) :
    VE m (tableOk m) c main_v91 = addf (W4 m (tableOk m) c main_v83) (W4 m (tableOk m) (pr c) main_v89) := by
  have e : VE m (tableOk m) c main_v91 = _ := at_sum (VD m (tableOk m) c)
  have e1 : VD m (tableOk m) c main_v83 = W4 m (tableOk m) c main_v83 := Ret.VD_of (W4 m (tableOk m)) c _ (by decide)
  have e2 : VD m (tableOk m) c main_v90 = W4 m (tableOk m) (pr c) main_v89 := VD_recv (W4 m (tableOk m)) c
  rw [e, e1, e2]

end Cert.KernelIdeal.Launch

end
-- ==== Proof.Same.lean ====
/- The program as printed and its ideal reading, at the bits, are one program: what is proved of the one's run holds of the other's. -/
module

public import proofs.«01_k».proof.Defs
public import proofs.«01_k».proof.Proof.Gen.Kernel
public import proofs.«01_k».proof.Proof.Gen.KernelIdeal

@[expose] public section

set_option maxHeartbeats 40000000

noncomputable section

namespace Cert.Proof

open Idealize.ShloMosaic Idealize.ShloMosaic.TcCoe Idealize.SL.Sem

theorem same_cfgs : Cert.Kernel.pcfgs (F := Bits) = Cert.KernelIdeal.pcfgs (F := Bits) := rfl

theorem same_bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, _ => rfl
  | 1, _ => rfl
  | 3, _ => rfl
  | 2, _ =>
    dsimp only
    rfl

/-! The host program, in its three stretches. The labels' type names the configurations: with those made the same first, what is left is the
same operation by operation. -/

theorem same_part0 (d : Dev Cert.Kernel.nD) : HEq (Cert.Kernel.main_part0 (F := Bits) d) (Cert.KernelIdeal.main_part0 (F := Bits) d) := by
  unfold Cert.Kernel.main_part0 Cert.KernelIdeal.main_part0 Cert.Kernel.fn_where.body Cert.KernelIdeal.fn_where.body Cert.Kernel.fn_argsort.body
    Cert.KernelIdeal.fn_argsort.body Cert.Kernel.fn_clip.body Cert.KernelIdeal.fn_clip.body Cert.Kernel.fn_cumsum.body Cert.KernelIdeal.fn_cumsum.body
    Cert.Kernel.fn_cumsum_0.body Cert.KernelIdeal.fn_cumsum_0.body
  rw [same_cfgs]
  exact HEq.rfl
theorem same_part1 (d : Dev Cert.Kernel.nD) : HEq (Cert.Kernel.main_part1 (F := Bits) d) (Cert.KernelIdeal.main_part1 (F := Bits) d) := by
  unfold Cert.Kernel.main_part1 Cert.KernelIdeal.main_part1 Cert.Kernel.fn_where.body Cert.KernelIdeal.fn_where.body
  rw [same_cfgs]
  exact HEq.rfl
theorem same_part2 (d : Dev Cert.Kernel.nD) : HEq (Cert.Kernel.main_part2 (F := Bits) d) (Cert.KernelIdeal.main_part2 (F := Bits) d) := by
  unfold Cert.Kernel.main_part2 Cert.KernelIdeal.main_part2
  rw [same_cfgs]
  exact HEq.rfl

/-- Programs of three stretches over equal configurations and bodies, stretch by stretch the same, run the same. -/
theorem run_congr {nD : ℕ} {τ : Topo} {sig : RefSig} {Val : EltTy → Type} {Λ : Labels} {p p' : Fin 4 → Pipeline.PCfg sig Λ Val} (hp : p = p')
    {b b' : Defs nD τ sig Val Λ} (hb : b = b')
    {x y z : Dev nD → Prog (TpuEff nD τ sig Val (Pipeline.Sig Λ (Fin 4) fun i => (p i).Adm) .tc) PUnit}
    {x' y' z' : Dev nD → Prog (TpuEff nD τ sig Val (Pipeline.Sig Λ (Fin 4) fun i => (p' i).Adm) .tc) PUnit}
    (hx : ∀ d, HEq (x d) (x' d)) (hy : ∀ d, HEq (y d) (y' d)) (hz : ∀ d, HEq (z d) (z' d)) (s : MemSt nD τ sig Val) (Q : PUnit × MemSt nD τ sig Val → Prop)
    (h : θ_run (Pipeline.defs p' b') (onTc (τ := τ) fun d => do x' d; y' d; z' d) s Q) :
    θ_run (Pipeline.defs p b) (onTc (τ := τ) fun d => do x d; y d; z d) s Q := by
  subst hp hb
  obtain rfl : x = x' := funext fun d => eq_of_heq (hx d)
  obtain rfl : y = y' := funext fun d => eq_of_heq (hy d)
  obtain rfl : z = z' := funext fun d => eq_of_heq (hz d)
  exact h

theorem same_run (s : MemSt Cert.KernelIdeal.nD Cert.KernelIdeal.τ Cert.KernelIdeal.sig (Elt Bits)) (Q : PUnit × MemSt Cert.KernelIdeal.nD Cert.KernelIdeal.τ Cert.KernelIdeal.sig (Elt Bits) → Prop)
    (h : θ_run Cert.KernelIdeal.defs (onTc (τ := Cert.KernelIdeal.τ) (Cert.KernelIdeal.main (F := Bits))) s Q) :
    θ_run Cert.Kernel.defs (onTc (τ := Cert.Kernel.τ) (Cert.Kernel.main (F := Bits))) s Q := by
  unfold Cert.Kernel.defs Cert.Kernel.main
  exact run_congr same_cfgs same_bodies same_part0 same_part1 same_part2 s Q h

end Cert.Proof

end
-- ==== Proof.Frames.lean ====
/- The frames: the run leaves the arguments and the counters as they were. -/
module

public import proofs.«01_k».proof.Proof.Kept
public import proofs.«01_k».proof.Proof.Same
public import proofs.«01_k».proof.Proof.Gen.ReferenceIdeal.Run
public import Idealize.ShloMosaic.Lib.Claim

@[expose] public section

noncomputable section

namespace Cert.Proof

open Idealize.ShloMosaic Idealize.ShloMosaic.TcCoe Idealize.SL.Sem

set_option maxHeartbeats 40000000 in
theorem frame_kernel : Cert.quiescent_Kernel := fun m ρ _ => same_run _ _ (Cert.KernelIdeal.Launch.run_args (F := Bits) m ρ)

theorem frame_ideal : Cert.quiescent_KernelIdeal := fun m ρ _ => Cert.KernelIdeal.Launch.run_args (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.FfnValue.lean ====
/- The grouped matmul's result at the ideal values: every slot holds its token's two products, through its own expert. -/
module

public import proofs.«01_k».proof.Proof.Ffn
public import Idealize.ShloMosaic.Lib.MatmulPlain
public import Idealize.ShloMosaic.Lib.StackMember
public import Idealize.ShloMosaic.Lib.KernelVsHost
public import Idealize.ShloMosaic.Lib.Pointwise.Sums
public import Idealize.ShloMosaic.Lib.Pipeline.Value
public import Idealize.ShloMosaic.Lib.Layout

@[expose] public section

noncomputable section

namespace Cert.FfnValue

open Idealize.ShloMosaic hiding ix1 ix2 ix3
open Idealize.ShloMosaic.TcCoe Idealize.ShloMosaic.ValueIdx Idealize.ShloMosaic.Pipeline
open Cert.KernelIdeal hiding ix2
open Cert.KernelIdeal.Gen Cert.KernelIdeal.Ffn

/-- One token through one expert, at one column. -/
def ffn (x : Fin 2048 → Ideal .f32) (w1 : Fin 2048 → Fin 4096 → Ideal .f32) (w2 : Fin 4096 → Fin 2048 → Ideal .f32) (j : Fin 2048) : Ideal .f32 :=
  ∑ f : Fin 4096, max (∑ k : Fin 2048, x k * w1 k f) 0 * w2 f j

theorem dot1_plain : dot_S256x2048_S2048x512_S256x512_1_0_0_1_n_n = DotDims.plain 256 2048 512 := rfl
theorem dot2_plain : dot_S256x512_S512x2048_S256x2048_1_0_0_1_n_n = DotDims.plain 256 512 2048 := rfl

/-- A block without its unit axis. -/
theorem flat {α : Type} {a b : ℕ} (w : (⟨3, ![1, a, b]⟩ : Shape).Idx → α) (h : (⟨3, ![1, a, b]⟩ : Shape).ShapeCasts ⟨2, ![a, b]⟩) (k : Fin a) (f : Fin b) :
    shapeCast (⟨2, ![a, b]⟩ : Shape) w h (ix2 k f) = w (ix3 (0 : Fin 1) k f) := by
  refine shapeCast_apply w h _ _ ?_
  refine (Shape.rowMajor_val_three (d := ![1, a, b]) _).trans (.trans ?_ (Shape.rowMajor_val_two (d := ![a, b]) _).symm)
  show (0 * a + k.val) * b + f.val = k.val * b + f.val
  rw [Nat.zero_mul, Nat.zero_add]

/-- What one point adds. -/
theorem pay_at (x : Vec Ideal S256x2048 .f32) (w1 : Vec Ideal S1x2048x512 .f32) (w2 : Vec Ideal S1x512x2048 .f32) (r : Fin 256) (j : Fin 2048) :
    k2_pay1 x w1 w2 (ix2 r j)
      = ∑ f : Fin 512, max (∑ k : Fin 2048, x (ix2 r k) * w1 (ix3 (0 : Fin 1) k f)) 0 * w2 (ix3 (0 : Fin 1) f j) := by
  unfold k2_pay1
  rw [matmul_zero_eq_dotGeneral, matmul_zero_eq_dotGeneral, dot1_plain, dot2_plain, StackMember.dotGeneral_plain_apply]
  refine Finset.sum_congr rfl fun f _ => ?_
  rw [flat]
  refine congrArg (· * _) ?_
  show max (Host.dotGeneral (DotDims.plain 256 2048 512) none x _ (ix2 r f)) (Ideal.ofBits .f32 0#32) = _
  rw [StackMember.dotGeneral_plain_apply, Ideal.ofBits_zero_f32]
  refine congrArg (max · 0) (Finset.sum_congr rfl fun k _ => ?_)
  rw [flat]

theorem pay2_at (x : Vec Ideal S256x2048 .f32) (w1 : Vec Ideal S1x2048x512 .f32) (w2 : Vec Ideal S1x512x2048 .f32) (o : Vec Ideal S256x2048 .f32) (i : S256x2048.Idx) :
    k2_pay2 x w1 w2 o i = o i + k2_pay1 x w1 w2 i := by
  unfold k2_pay2
  show shapeCast S256x2048 o shapeCasts_S256x2048_S256x2048 i + _ = _
  rw [shapeCast_apply o _ i i rfl]

variable (W : Dev nD → Valuation τ sig (Elt Ideal)) (htb : ∀ c, ∀ p : S5120.Idx, ((W c main_v68 : S5120.Idx → BitVec 32) p).toNat < 8192)

/-! ## The blocks of a point -/

theorem ix_w1 (c : Dev nD) (t : Fin grid2.N) : ((cfg W c).win 0).index t = ![t.val / 40 % 4, 0, t.val % 8] := by
  show cc2_transform_1 (grid2.coords t) = _
  have key : ∀ n, n < 8 → (BitVec.ofNat 32 n).toNat = n := by decide
  unfold cc2_transform_1
  dsimp only
  rw [co0 t, co2 t, key (t.val / 40 % 4) (by omega), key (t.val % 8) (by omega)]
  rfl
theorem ix_w2 (c : Dev nD) (t : Fin grid2.N) : ((cfg W c).win 1).index t = ![t.val / 40 % 4, t.val % 8, 0] := by
  show cc2_transform_2 (grid2.coords t) = _
  have key : ∀ n, n < 8 → (BitVec.ofNat 32 n).toNat = n := by decide
  unfold cc2_transform_2
  dsimp only
  rw [co0 t, co2 t, key (t.val / 40 % 4) (by omega), key (t.val % 8) (by omega)]
  rfl

abbrev cut (s : ℕ) (f : Fin 512) (h : s < 8) : Fin 4096 := ⟨s * 512 + f.val, by omega⟩

theorem blk1_at (c : Dev nD) (t : Fin grid2.N) (k : Fin 2048) (f : Fin 512) :
    blk1 W c t (ix3 (0 : Fin 1) k f) = (W c main_arg2 : S4x2048x4096.Idx → Ideal .f32) (ix3 (⟨t.val / 40 % 4, by omega⟩ : Fin 4) k (cut (t.val % 8) f (by omega))) := by
  refine congrArg (W c main_arg2 : S4x2048x4096.Idx → Ideal .f32) (funext fun a => Fin.ext ?_)
  refine (Window.rect_emb_val ((cfg W c).win 0) t _ a).trans ?_
  rw [ix_w1]
  match a with
  | ⟨0, _⟩ => show t.val / 40 % 4 * 1 + 0 = t.val / 40 % 4; omega
  | ⟨1, _⟩ => show 0 * 2048 + k.val = k.val; omega
  | ⟨2, _⟩ => show t.val % 8 * 512 + f.val = t.val % 8 * 512 + f.val; rfl
theorem blk2_at (c : Dev nD) (t : Fin grid2.N) (f : Fin 512) (j : Fin 2048) :
    blk2 W c t (ix3 (0 : Fin 1) f j) = (W c main_arg3 : S4x4096x2048.Idx → Ideal .f32) (ix3 (⟨t.val / 40 % 4, by omega⟩ : Fin 4) (cut (t.val % 8) f (by omega)) j) := by
  refine congrArg (W c main_arg3 : S4x4096x2048.Idx → Ideal .f32) (funext fun a => Fin.ext ?_)
  refine (Window.rect_emb_val ((cfg W c).win 1) t _ a).trans ?_
  rw [ix_w2]
  match a with
  | ⟨0, _⟩ => show t.val / 40 % 4 * 1 + 0 = t.val / 40 % 4; omega
  | ⟨1, _⟩ => show t.val % 8 * 512 + f.val = t.val % 8 * 512 + f.val; rfl
  | ⟨2, _⟩ => show 0 * 2048 + j.val = j.val; omega

/-- The token in a slot. -/
abbrev tok (c : Dev nD) (r : Fin 5120) : Fin 8192 := ⟨((W c main_v68 : S5120.Idx → BitVec 32) (ix1 r)).toNat, htb c (ix1 r)⟩

theorem rows_at (c : Dev nD) (r : Fin 5120) (t : Fin grid2.N) (ht : t.val / 8 = r.val / 256) (k : Fin 2048) :
    rowsAt W htb c t (ix2 (⟨r.val % 256, Nat.mod_lt _ (by decide)⟩ : Fin 256) k) = (W c main_v7 : S8192x2048.Idx → Ideal .f32) (ix2 (tok W htb c r) k) := by
  have hr := r.isLt
  have e0 := co0 t
  have e1 := co1 t
  have hb : ((grid2.coords t 0).val * 5 + (grid2.coords t 1).val) * 256 + r.val % 256 < 5120 := by omega
  have hw : Rows.word (F := Ideal) (grid2.coords t) (W c main_v68) (r.val % 256) (Nat.mod_lt _ (by decide)) = (W c main_v68 : S5120.Idx → BitVec 32) (ix1 r) := by
    rw [word_eq _ _ _ _ hb]
    refine congrArg (W c main_v68 : S5120.Idx → BitVec 32) (funext fun a => ?_)
    obtain rfl := Fin.eq_zero a
    refine Fin.ext ?_
    show ((grid2.coords t 0).val * 5 + (grid2.coords t 1).val) * 256 + r.val % 256 = r.val
    omega
  refine (Ffn.tok_congr (F := Ideal) (W c main_v7) (congrArg BitVec.toNat hw) _ (htb c (ix1 r)) k).trans ?_
  refine congrArg (W c main_v7 : S8192x2048.Idx → Ideal .f32) (funext fun a => ?_)
  match a with
  | ⟨0, _⟩ => rfl
  | ⟨1, _⟩ => rfl

/-! ## The accumulation -/

theorem pt_lt (q : ℕ) (hq : q < 20) (s : ℕ) (hs : s < 8) : 8 * q + s < grid2.N := lt_of_lt_of_eq (by omega : 8 * q + s < 160) N_2.symm

/-- What point `s` of a block adds. -/
abbrev part (c : Dev nD) (q : ℕ) (hq : q < 20) (s : Fin 8) : S256x2048.Idx → Ideal .f32 :=
  k2_pay1 (rowsAt W htb c ⟨8 * q + s.val, pt_lt q hq s.val s.isLt⟩) (blk1 W c ⟨8 * q + s.val, pt_lt q hq s.val s.isLt⟩) (blk2 W c ⟨8 * q + s.val, pt_lt q hq s.val s.isLt⟩)

theorem acc_sum (c : Dev nD) (q : ℕ) (hq : q < 20) (y : S256x2048.Idx) : ∀ (s : ℕ) (hs : s < 8),
    acc W htb c (8 * q + s) (pt_lt q hq s hs) y = ∑ u : Fin (s + 1), part W htb c q hq (u.castLE hs) y
  | 0, hs => by
    rw [Fin.sum_univ_one]
    exact congrFun (acc_first W htb c ⟨8 * q + 0, pt_lt q hq 0 hs⟩ (by show (8 * q + 0) % 8 = 0; omega)) y
  | s + 1, hs => by
    rw [Fin.sum_univ_castSucc]
    refine (congrFun (acc_next W htb c ⟨8 * q + (s + 1), pt_lt q hq (s + 1) hs⟩ (by show (8 * q + (s + 1)) % 8 ≠ 0; omega) (pt_lt q hq s (by omega))) y).trans ?_
    rw [pay2_at]
    exact congrArg (· + _) (acc_sum c q hq y s (by omega))

/-- Every slot's row. -/
theorem out_at (c : Dev nD) (r : Fin 5120) (j : Fin 2048) :
    Ffn.out W htb c (ix2 r j) = ffn (fun k => (W c main_v7 : S8192x2048.Idx → Ideal .f32) (ix2 (tok W htb c r) k))
      (fun k f => (W c main_arg2 : S4x2048x4096.Idx → Ideal .f32) (ix3 (⟨r.val / 1280, by omega⟩ : Fin 4) k f))
      (fun f j => (W c main_arg3 : S4x4096x2048.Idx → Ideal .f32) (ix3 (⟨r.val / 1280, by omega⟩ : Fin 4) f j)) j := by
  have hr := r.isLt
  have hq : r.val / 256 < 20 := by omega
  refine (acc_sum W htb c (r.val / 256) hq (place (ix2 r j)) 7 (by decide)).trans ?_
  unfold ffn
  refine Eq.trans ?_ (Fin.sum_univ_tiles 8 512 (by decide) _).symm
  refine Finset.sum_congr rfl fun s _ => ?_
  have hp : place (ix2 r j) = ix2 (⟨r.val % 256, Nat.mod_lt _ (by decide)⟩ : Fin 256) j := by
    funext a
    match a with
    | ⟨0, _⟩ => rfl
    | ⟨1, _⟩ => rfl
  rw [hp]
  refine (pay_at _ _ _ _ _).trans (Finset.sum_congr rfl fun f _ => ?_)
  have hs := s.isLt
  have e40 : (8 * (r.val / 256) + s.val) / 40 % 4 = r.val / 1280 := by omega
  have e8 : (8 * (r.val / 256) + s.val) % 8 = s.val := by omega
  rw [blk2_at]
  refine congrArg₂ (fun a b => max a 0 * b) (Finset.sum_congr rfl fun k _ => ?_) ?_
  · rw [rows_at W htb c r _ (by show (8 * (r.val / 256) + s.val) / 8 = r.val / 256; omega) k, blk1_at]
    refine congrArg (fun z : Ideal .f32 => (_ : Ideal .f32) * z) (congrArg (W c main_arg2 : S4x2048x4096.Idx → Ideal .f32) ?_)
    refine congrArg₂ (fun a b => ix3 a k b) (Fin.ext e40) (Fin.ext ?_)
    show (8 * (r.val / 256) + s.val) % 8 * 512 + f.val = s.val * 512 + f.val
    rw [e8]
  · refine congrArg (W c main_arg3 : S4x4096x2048.Idx → Ideal .f32) (congrArg₂ (fun a b => ix3 a b j) (Fin.ext e40) (Fin.ext ?_))
    show (8 * (r.val / 256) + s.val) % 8 * 512 + f.val = s.val * 512 + f.val
    rw [e8]

end Cert.FfnValue

end
-- ==== Proof.Gathered.lean ====
/- What every device holds after the exchange and the row: the whole array of tokens and the whole array of experts. -/
module

public import proofs.«01_k».proof.Proof.Reads
public import proofs.«01_k».proof.Proof.FfnValue

@[expose] public section

noncomputable section

namespace Cert.KernelIdeal.Gather

open Idealize.ShloMosaic hiding ix1 ix2 ix3
open Idealize.ShloMosaic.TcCoe Idealize.ShloMosaic.ValueIdx
open Cert.KernelIdeal hiding ix2
open Cert.KernelIdeal.Gen Cert.KernelIdeal.Launch

variable {F : FTy → Type} [FloatOps F] (m : (ℓ : Loc nD τ sig) → Buf (Elt F) ℓ)

/-- An index of the gathered tokens, within its row. -/
def inX (i : S2x4096x2048.Idx) : S4096x2048.Idx := fun b : Fin 2 => i b.succ
def inA (i : S2x1x4096.Idx) : S1x4096.Idx := fun b : Fin 2 => i b.succ

theorem cast_x (i : S2x4096x2048.Idx) : Shape.reshapeEquiv (s := S1x4096x2048) (s' := S4096x2048) squeezes_S1x4096x2048_S4096x2048.numel_eq (inX i)
    = (Fin.cons (⟨0, Nat.one_pos⟩ : Fin 1) (inX i) : S1x4096x2048.Idx) :=
  Shape.reshapeEquiv_eq_of_rowMajor _ ((Shape.rowMajor_val_three (d := ![1, 4096, 2048]) _).trans (.trans (by
    show (0 * 4096 + (i 1).val) * 2048 + (i 2).val = (i 1).val * 2048 + (i 2).val
    omega) (Shape.rowMajor_val_two (d := ![4096, 2048]) _).symm))
theorem cast_a (i : S2x1x4096.Idx) : Shape.reshapeEquiv (s := S1x1x4096) (s' := S1x4096) squeezes_S1x1x4096_S1x4096.numel_eq (inA i)
    = (Fin.cons (⟨0, Nat.one_pos⟩ : Fin 1) (inA i) : S1x1x4096.Idx) :=
  Shape.reshapeEquiv_eq_of_rowMajor _ ((Shape.rowMajor_val_three (d := ![1, 1, 4096]) _).trans (.trans (by
    show (0 * 1 + (i 1).val) * 4096 + (i 2).val = (i 1).val * 4096 + (i 2).val
    omega) (Shape.rowMajor_val_two (d := ![1, 4096]) _).symm))

theorem emb_xRow (d : Dev nD) (i : S2x4096x2048.Idx) (h : (i 0).val = k0_off1 d 0) : (xRow d).view.emb (inX i) = i := by
  show (Rect.unit (s := S2x4096x2048) (k0_off1 d) S1x4096x2048.size (k0_off1_inb d)).emb (Shape.reshapeEquiv _ (inX i)) = i
  rw [cast_x]
  refine funext (Fin.forall_fin_succ.mpr ⟨Fin.ext ?_, fun b => Fin.ext ?_⟩)
  · show k0_off1 d 0 + 1 * 0 = (i 0).val
    omega
  · show k0_off1 d b.succ + 1 * (i b.succ).val = (i b.succ).val
    rw [(off_x d).1, show (![k0_off1 d 0, 0, 0] : Fin 3 → ℕ) b.succ = 0 from by fin_cases b <;> rfl]
    omega
theorem emb_aRow (d : Dev nD) (i : S2x1x4096.Idx) (h : (i 0).val = k0_off1 d 0) : (aRow d).view.emb (inA i) = i := by
  show (Rect.unit (s := S2x1x4096) (k0_off2 d) S1x1x4096.size (k0_off2_inb d)).emb (Shape.reshapeEquiv _ (inA i)) = i
  rw [cast_a]
  have e := off_a d
  refine funext (Fin.forall_fin_succ.mpr ⟨Fin.ext ?_, fun b => Fin.ext ?_⟩)
  · show k0_off2 d 0 + 1 * 0 = (i 0).val
    rw [e]
    show k0_off1 d 0 + 1 * 0 = (i 0).val
    omega
  · show k0_off2 d b.succ + 1 * (i b.succ).val = (i b.succ).val
    rw [e, show (![k0_off1 d 0, 0, 0] : Fin 3 → ℕ) b.succ = 0 from by fin_cases b <;> rfl]
    omega

theorem wX_apply (d c : Dev nD) (i : S2x4096x2048.Idx) (h : (i 0).val = k0_off1 d 0) : wX m d c i = V1 m d main_arg0 (inX i) :=
  (congrArg (wX m d c) (emb_xRow d i h).symm).trans (View.write_emb_of_mem _ _ (Finset.mem_univ _))
theorem wA_apply (d c : Dev nD) (i : S2x1x4096.Idx) (h : (i 0).val = k0_off1 d 0) : wA m d c i = V1 m d main_v5 (inA i) :=
  (congrArg (wA m d c) (emb_aRow d i h).symm).trans (View.write_emb_of_mem _ _ (Finset.mem_univ _))

theorem row_mesh : ∀ d : Dev nD, k0_off1 d 0 = Layout.meshLin [2, 2, 2] d.val [1] ∧ k1_off1 d 0 = k0_off1 d 0 := by decide +kernel

/-- The device, of `c` and its partner, whose row `r` is. -/
theorem row_of (c : Dev nD) (r : ℕ) (h : r < 2) : r = k0_off1 c 0 ∨ r = k0_off1 (pr c) 0 := by
  have := off_x c
  omega

theorem xOut_apply (c : Dev nD) (i : S2x4096x2048.Idx) : ∃ d : Dev nD, (i 0).val = Layout.meshLin [2, 2, 2] d.val [1]
    ∧ xOut m c i = m ((d : Thread nD τ).loc main_arg0) (inX i) := by
  unfold xOut
  by_cases h : (i 0).val = k0_off1 (pr c) 0
  · refine ⟨pr c, h.trans (row_mesh _).1, (Finset.piecewise_eq_of_mem _ _ _ ((mem_xRow _ i).mpr h)).trans ((wX_apply m (pr c) c i h).trans ?_)⟩
    rw [V1_of m (pr c) main_arg0 (by decide)]
  · have h' := (row_of c _ (i 0).isLt).resolve_right h
    refine ⟨c, h'.trans (row_mesh _).1, (Finset.piecewise_eq_of_notMem _ _ _ (fun hm => h ((mem_xRow _ i).mp hm))).trans ((wX_apply m c c i h').trans ?_)⟩
    rw [V1_of m c main_arg0 (by decide)]

theorem aOut_apply (c : Dev nD) (i : S2x1x4096.Idx) : ∃ d : Dev nD, (i 0).val = Layout.meshLin [2, 2, 2] d.val [1]
    ∧ VB m c main_v9 i = shapeCast S1x4096 (m ((d : Thread nD τ).loc main_arg1)) shapeCasts_S4096_S1x4096 (inA i) := by
  rw [show VB m c main_v9 = _ from Row.VB_out (W2 m) c]
  unfold Row.result Row.setRow
  by_cases h : (i 0).val = k1_off1 c 0
  · refine ⟨c, h.trans ((row_mesh c).2.trans (row_mesh c).1), (if_pos h).trans ?_⟩
    have e : W2 m c main_v8 = shapeCast S1x4096 (m ((c : Thread nD τ).loc main_arg1)) shapeCasts_S4096_S1x4096 := by
      refine (at_own _).trans ?_
      rw [VA_of m c main_arg1 (by decide) (by decide), V1_of m c main_arg1 (by decide)]
    exact congrFun e _
  · have h' := (row_of c _ (i 0).isLt).resolve_left (fun e => h (e.trans (row_mesh c).2.symm))
    refine ⟨pr c, h'.trans (row_mesh _).1, (if_neg h).trans ?_⟩
    have e : W2 m c main_v6_1 = aOut m c := (StableHlo.after_of_writes_sub hostOps1 _ hostOps1_writes (by decide)).trans (VA_a m c)
    refine (congrFun e i).trans ?_
    unfold aOut
    refine (Finset.piecewise_eq_of_mem _ _ _ ((mem_aRow _ i).mpr h')).trans ((wA_apply m (pr c) c i h').trans ?_)
    exact congrFun (at_word m (pr c)) _

theorem shape_x : S8192x2048.ShapeCasts S2x4096x2048 := shapeCasts_S2x4096x2048_S8192x2048.symm
theorem shape_a : S8192.ShapeCasts S2x1x4096 := shapeCasts_S2x1x4096_S8192.symm

/-- Device `d`'s tokens are the half of the whole that its row holds. -/
theorem half_x {α : Type} (X : S8192x2048.Idx → α) (d : Fin 8) (i : S2x4096x2048.Idx) (h : (i 0).val = Layout.meshLin [2, 2, 2] d.val [1]) :
    (Layout.blockN ⟨2, ![4096, 2048]⟩ ⟨2, ![8192, 2048]⟩ (Layout.meshBlock [2, 2, 2] ![[1], []] d) X) (inX i)
      = shapeCast S2x4096x2048 X shape_x i := by
  rw [Layout.blockN_apply]
  have hT : Layout.TilesN ⟨2, ![4096, 2048]⟩ ⟨2, ![8192, 2048]⟩ (fun b : Fin 2 => Layout.cutSize [2, 2, 2] ((![[1], []] : Fin 2 → List Nat) b)) := by decide
  have h0 : (hT.idx (Layout.meshBlock [2, 2, 2] ![[1], []] d) (inX i) 0).val = Layout.meshLin [2, 2, 2] d.val [1] * 4096 + (i 1).val := rfl
  have h1 : (hT.idx (Layout.meshBlock [2, 2, 2] ![[1], []] d) (inX i) 1).val = 0 * 2048 + (i 2).val := rfl
  refine (shapeCast_apply X _ i _ ?_).symm
  refine (Shape.rowMajor_val_two (d := ![8192, 2048]) _).trans (.trans ?_ (Shape.rowMajor_val_three (d := ![2, 4096, 2048]) i).symm)
  show _ * 2048 + _ = ((i 0).val * 4096 + (i 1).val) * 2048 + (i 2).val
  rw [h0, h1, h]
  omega

theorem half_a {α : Type} (A : S8192.Idx → α) (d : Fin 8) (i : S2x1x4096.Idx) (h : (i 0).val = Layout.meshLin [2, 2, 2] d.val [1]) :
    shapeCast S1x4096 (Layout.blockN ⟨1, ![4096]⟩ ⟨1, ![8192]⟩ (Layout.meshBlock [2, 2, 2] ![[1]] d) A)
        shapeCasts_S4096_S1x4096 (inA i)
      = shapeCast S2x1x4096 A shape_a i := by
  have hT : Layout.TilesN ⟨1, ![4096]⟩ ⟨1, ![8192]⟩ (fun b : Fin 1 => Layout.cutSize [2, 2, 2] ((![[1]] : Fin 1 → List Nat) b)) := by decide
  have hi : (i 1).val = 0 := by have := (i 1).isLt; simp at this; omega
  refine (shapeCast_apply _ _ (inA i) (Fin.cons (i 2) (fun b => b.elim0) : S4096.Idx) ?_).trans ?_
  · refine (Shape.rowMajor_val_one (d := ![4096]) _).trans (.trans ?_ (Shape.rowMajor_val_two (d := ![1, 4096]) _).symm)
    show (i 2).val = (i 1).val * 4096 + (i 2).val
    omega
  rw [Layout.blockN_apply]
  have h0 : (hT.idx (Layout.meshBlock [2, 2, 2] ![[1]] d) (Fin.cons (i 2) (fun b => b.elim0) : S4096.Idx) 0).val = Layout.meshLin [2, 2, 2] d.val [1] * 4096 + (i 2).val := rfl
  refine (shapeCast_apply A _ i _ ?_).symm
  refine (Shape.rowMajor_val_one (d := ![8192]) _).trans (.trans ?_ (Shape.rowMajor_val_three (d := ![2, 1, 4096]) i).symm)
  show _ = ((i 0).val * 1 + (i 1).val) * 4096 + (i 2).val
  rw [h0, h, hi]
  omega

/-! ## The arrays -/

/-- A device's block of an array. -/
abbrev IsX (X : S8192x2048.Idx → Elt F .f32) : Prop := ∀ c : Dev nD, m ((c.tc : Thread nD τ).loc main_arg0) = Layout.blockN ⟨2, ![4096, 2048]⟩ ⟨2, ![8192, 2048]⟩ (Layout.meshBlock [2, 2, 2] ![[1], []] c) X
abbrev IsA (A : S8192.Idx → BitVec 32) : Prop := ∀ c : Dev nD, m ((c.tc : Thread nD τ).loc main_arg1) = Layout.blockN ⟨1, ![4096]⟩ ⟨1, ![8192]⟩ (Layout.meshBlock [2, 2, 2] ![[1]] c) A

theorem tokens_whole (X : S8192x2048.Idx → Elt F .f32) (hX : IsX m X) (c : Dev nD) : W3 m c main_v7 = X := by
  have e0 : W3 m c main_v7 = W2 m c main_v7 := by
    rw [W3_of m c main_v7 (by decide), U8_of m c main_v7 (by decide), U7_of m c main_v7 (by decide), U6_of m c main_v7 (by decide), U5_of m c main_v7 (by decide),
      U4_of m c main_v7 (by decide), U3_of m c main_v7 (by decide), U2_of m c main_v7 (by decide)]
    exact (StableHlo.after_of_writes_sub hostOps2_1 _ hostOps2_1_writes (by decide)).trans ((StableHlo.after_of_writes_sub hostOps2 _ hostOps2_writes (by decide)).trans
      (Row.VB_of (W2 m) c main_v7 (by decide)))
  have e1 : xOut m c = shapeCast S2x4096x2048 X shape_x := by
    funext i
    obtain ⟨d, hd, e⟩ := xOut_apply m c i
    exact e.trans ((congrFun (hX d) _).trans (half_x X d i hd))
  rw [e0]
  refine (at_rows _).trans ?_
  rw [VA_x, e1]
  exact shapeCast_shapeCast ..

theorem experts_whole (A : S8192.Idx → BitVec 32) (hA : IsA m A) (c : Dev nD) : shapeCast S8192 (VB m c main_v9) shapeCasts_S2x1x4096_S8192 = A := by
  have e1 : VB m c main_v9 = shapeCast S2x1x4096 A shape_a := by
    funext i
    obtain ⟨d, hd, e⟩ := aOut_apply m c i
    refine e.trans (.trans ?_ (half_a A d i hd))
    rw [hA d]
  rw [e1]
  exact shapeCast_shapeCast ..

end Cert.KernelIdeal.Gather

end
-- ==== Proof.Routed.lean ====
/- The routing on a device, read at a row: its local expert, whether a slot holds it, and what comes back to it. -/
module

public import proofs.«01_k».proof.Proof.Gathered

@[expose] public section

noncomputable section

namespace Cert.Routed

open Idealize.ShloMosaic hiding ix1 ix2 ix3
open Idealize.ShloMosaic.TcCoe Idealize.ShloMosaic.ValueIdx Idealize.ShloMosaic.Routing
open Cert.KernelIdeal hiding ix2
open Cert.KernelIdeal.Gen Cert.KernelIdeal.Launch

/-! ## The local expert -/

/-- An expert's place among the four of half `y`, 4 if it is of the other half or no expert. -/
def place (y : ℕ) (a : BitVec 32) : ℕ := if (a - BitVec.ofNat 32 (4 * y)).toNat < 4 then (a - BitVec.ofNat 32 (4 * y)).toNat else 4

theorem place_le (y : ℕ) (a : BitVec 32) : place y a ≤ 4 := by
  unfold place
  split <;> omega

theorem sub_val (y : ℕ) (hy : y < 2) (a : BitVec 32) : (a - BitVec.ofNat 32 (4 * y)).toNat = (2 ^ 32 - 4 * y + a.toNat) % 2 ^ 32 := by
  rw [BitVec.toNat_sub, BitVec.toNat_ofNat, Nat.mod_eq_of_lt (by omega : 4 * y < 2 ^ 32)]

theorem place_lt {y : ℕ} (hy : y < 2) {a : BitVec 32} (h : place y a < 4) : a.toNat = 4 * y + place y a := by
  have ha := a.isLt
  unfold place at h ⊢
  rw [sub_val y hy] at h ⊢
  split at h
  · rename_i h4; rw [if_pos h4]; omega
  · omega

theorem place_of {y : ℕ} (hy : y < 2) {a : BitVec 32} {l : ℕ} (hl : l < 4) (h : a.toNat = 4 * y + l) : place y a = l := by
  have ha := a.isLt
  unfold place
  rw [sub_val y hy, if_pos (by omega)]
  omega

theorem in_four (d : BitVec 32) : IntOp.andi (IntOp.cmpi .sge d 0#32) (IntOp.cmpi .slt d 4#32) = 1#1 ↔ d.toNat < 4 := by
  have hd := d.isLt
  have hand : ∀ a b : BitVec 1, IntOp.andi a b = 1#1 ↔ a = 1#1 ∧ b = 1#1 := by decide
  have hb : ∀ p : Bool, BitVec.ofBool p = 1#1 ↔ p = true := by decide
  rw [hand]
  unfold IntOp.cmpi
  rw [hb, hb]
  simp only [BitVec.slt, BitVec.sle, BitVec.toInt_eq_toNat_cond, BitVec.toNat_ofNat, decide_eq_true_eq]
  norm_num
  omega

/-- The half a device is of. -/
abbrev half (c : Dev nD) : ℕ := k0_off1 c 0
theorem half_lt (c : Dev nD) : half c < 2 := by
  have h : ∀ c : Dev nD, half c < 2 := by decide
  exact h c
theorem word_half : ∀ c : Dev nD, IntOp.remui .vector (IntOp.divui .vector (Dev.word c) 2#32) 2#32 = BitVec.ofNat 32 (half c) := by decide +kernel

variable {F : FTy → Type} [FloatOps F] (m : (ℓ : Loc nD τ sig) → Buf (Elt F) ℓ)

theorem coord_at (c : Dev nD) (i : S_.Idx) : (V1 m c main_v4 : IVec S_ 32) i = BitVec.ofNat 32 (half c) := (congrFun (at_coord m c) i).trans (word_half c)

theorem VB_coord (c : Dev nD) : VB m c main_v4 = V1 m c main_v4 :=
  (Row.VB_of (W2 m) c main_v4 (by decide)).trans ((StableHlo.after_of_writes_sub hostOps1 _ hostOps1_writes (by decide)).trans
    (Gather.VA_of m c main_v4 (fun e => absurd (Proc.devRef_injective _ e) (by decide)) (fun e => absurd (Proc.devRef_injective _ e) (by decide))))

/-- The groups of the rows. -/
theorem grp_at (A : S8192.Idx → BitVec 32) (hA : Gather.IsA m A) (c : Dev nD) (r : Fin 8192) :
    grp m c (ix1 r) = BitVec.ofNat 32 (place (half c) (A (ix1 r))) := by
  have e : grp m c = _ := at_group (U0 m c)
  have e1 : U0 m c main_v18 = _ := at_in (VB m c)
  have e2 : U0 m c main_v13 = _ := at_local (VB m c)
  have e3 : U0 m c main_c_4 = _ := at_four (VB m c)
  rw [e, e1, e2, e3, Gather.experts_whole m A hA c, VB_coord]
  show Scalar.select (IntOp.andi (IntOp.cmpi .sge (IntOp.subi (A (ix1 r)) (broadcastInDim S8192 ![] bcast_S_S8192 (muli (V1 m c main_v4) (constantI S_ 32 4#32)) (ix1 r))) (Slots.all 0#32 (ix1 r)))
      (IntOp.cmpi .slt (IntOp.subi (A (ix1 r)) (broadcastInDim S8192 ![] bcast_S_S8192 (muli (V1 m c main_v4) (constantI S_ 32 4#32)) (ix1 r))) (Slots.all 4#32 (ix1 r))))
    (IntOp.subi (A (ix1 r)) (broadcastInDim S8192 ![] bcast_S_S8192 (muli (V1 m c main_v4) (constantI S_ 32 4#32)) (ix1 r))) (broadcastInDim S8192 ![] bcast_S_S8192 (constantI S_ 32 4#32) (ix1 r)) = _
  have hd : IntOp.subi (A (ix1 r)) (broadcastInDim S8192 ![] bcast_S_S8192 (muli (V1 m c main_v4) (constantI S_ 32 4#32)) (ix1 r)) = A (ix1 r) - BitVec.ofNat 32 (4 * half c) := by
    refine congrArg (A (ix1 r) - ·) ?_
    show IntOp.muli ((V1 m c main_v4 : IVec S_ 32) _) 4#32 = _
    rw [coord_at, Nat.mul_comm, BitVec.ofNat_mul]
    rfl
  rw [hd, Slots.all_at, Slots.all_at]
  unfold place
  by_cases h : (A (ix1 r) - BitVec.ofNat 32 (4 * half c)).toNat < 4
  · rw [if_pos h, BitVec.ofNat_toNat, BitVec.setWidth_eq]
    exact if_pos ((in_four _).2 h)
  · rw [if_neg h]
    exact if_neg fun e => h ((in_four _).1 e)

/-! ## The slots' rows, back at their places -/

theorem column_at (T : IVec S5120 32) (i : Fin 5120) (h : (T (ix1 i)).toNat ≤ 8192) : column T (ix2 i (0 : Fin 1)) = T (ix1 i) := by
  refine (bcCol bcast_S5120_S5120x1_0 _ i).trans ?_
  show Scalar.select (IntOp.cmpi .slt (T (ix1 i)) (broadcastInDim S5120 ![] bcast_S_S5120 (constantI S_ 32 0#32) (ix1 i))) _ (T (ix1 i)) = _
  rw [bc0]
  exact wrap_of_lt _ _ (by omega)

theorem lands_row (T : IVec S5120 32) (hT : ∀ p, (T p).toNat ≤ 8192) (i : Fin 5120) (j' : Fin 2048) (r : Fin 8193) (j : Fin 2048) :
    scatter_S8193x2048_S5120x1_S5120x2048_1_0_0_1.resultIdx? (ix2 i j') (column T) = some (ix2 r j) ↔ (T (ix1 i)).toNat = r.val ∧ j' = j := by
  rw [resultIdx?_ix2]
  have h0 : scatter_S8193x2048_S5120x1_S5120x2048_1_0_0_1.start (ix2 i j') (column T) 0 = (column T (ix2 i (0 : Fin 1))).toInt := by
    unfold ScatterDims.start
    rw [dif_pos (by decide)]
    congr 2
    funext b
    match b with
    | ⟨0, _⟩ => rfl
    | ⟨1, _⟩ => exact Subsingleton.elim (α := Fin 1) _ _
  have h1 : scatter_S8193x2048_S5120x1_S5120x2048_1_0_0_1.start (ix2 i j') (column T) 1 = 0 := rfl
  have w0 : scatter_S8193x2048_S5120x1_S5120x2048_1_0_0_1.window (ix2 i j') 0 = 0 := rfl
  have w1 : scatter_S8193x2048_S5120x1_S5120x2048_1_0_0_1.window (ix2 i j') 1 = j'.val := rfl
  have hT' := hT (ix1 i)
  rw [h0, h1, w0, w1, column_at T i hT', StableHlo.Predicate.toInt_eq_toNat_of_lt (by omega), Fin.ext_iff]
  omega

theorem placed_cut (T : IVec S5120 32) (o : S5120x2048.Idx → Elt F .f32) (r : Fin 8192) (j : Fin 2048) :
    placed T o (ix2 r j) = Host.scatter scatter_S8193x2048_S5120x1_S5120x2048_1_0_0_1 (fun _ b => b)
      (broadcastInDim S8193x2048 ![] bcast_S_S8193x2048 (constant S_ .f32 0x00000000#32 : S_.Idx → Elt F .f32)) (column T) o (ix2 (⟨r.val, by omega⟩ : Fin 8193) j) := by
  unfold placed
  generalize Host.scatter scatter_S8193x2048_S5120x1_S5120x2048_1_0_0_1 _ _ _ _ = x
  refine congrArg x (funext fun a => Fin.ext ?_)
  match a with
  | ⟨0, _⟩ => exact Nat.zero_add _
  | ⟨1, _⟩ => exact Nat.zero_add _

/-- A row that a slot holds, where every such slot has the same value. -/
theorem placed_hit (T : IVec S5120 32) (hT : ∀ p, (T p).toNat ≤ 8192) (o : S5120x2048.Idx → Elt F .f32) (r : Fin 8192) (j : Fin 2048) (v : Elt F .f32)
    (hv : ∀ i : Fin 5120, T (ix1 i) = BitVec.ofNat 32 r.val → o (ix2 i j) = v) (i0 : Fin 5120) (h0 : T (ix1 i0) = BitVec.ofNat 32 r.val) : placed T o (ix2 r j) = v := by
  have hr := r.isLt
  rw [placed_cut]
  refine scatter_set_hit _ _ _ _ _ _ (fun q hq => ?_) (ix2 i0 j) ((lands_row T hT i0 j _ j).2 ⟨?_, rfl⟩)
  · obtain ⟨i, j', rfl⟩ : ∃ (i : Fin 5120) (j' : Fin 2048), q = ix2 i j' := ⟨q 0, q 1, ValueIdx.eq_ix2 q⟩
    obtain ⟨e, rfl⟩ := (lands_row T hT i j' _ j).1 hq
    refine hv i (BitVec.eq_of_toNat_eq ?_)
    rw [BitVec.toNat_ofNat]
    exact e.trans (Nat.mod_eq_of_lt (by omega)).symm
  · rw [h0, BitVec.toNat_ofNat]
    exact Nat.mod_eq_of_lt (by omega)

/-- A row that no slot holds. -/
theorem placed_miss (T : IVec S5120 32) (hT : ∀ p, (T p).toNat ≤ 8192) (o : S5120x2048.Idx → Elt F .f32) (r : Fin 8192) (j : Fin 2048)
    (h : ∀ i : Fin 5120, T (ix1 i) ≠ BitVec.ofNat 32 r.val) : placed T o (ix2 r j) = FloatOps.ofBits .f32 0x00000000#32 := by
  have hr := r.isLt
  rw [placed_cut]
  refine (scatter_set_miss _ _ _ _ _ fun q hq => ?_).trans (bc0 _ _ _)
  obtain ⟨i, j', rfl⟩ : ∃ (i : Fin 5120) (j' : Fin 2048), q = ix2 i j' := ⟨q 0, q 1, ValueIdx.eq_ix2 q⟩
  refine h i (BitVec.eq_of_toNat_eq ?_)
  rw [BitVec.toNat_ofNat]
  exact ((lands_row T hT i j' _ j).1 hq).1.trans (Nat.mod_eq_of_lt (by omega)).symm

/-- The half of the rows that starts at a word. -/
theorem rowsFrom_at (y : IVec S_ 32) (b : ℕ) (hb : b < 2) (hy : ∀ i, y i = BitVec.ofNat 32 b) (x : S8192x2048.Idx → Elt F .f32) (r : Fin 4096) (j : Fin 2048) :
    rowsFrom y x (ix2 r j) = x (ix2 (⟨b * 4096 + r.val, by omega⟩ : Fin 8192) j) := by
  refine congrArg x (funext fun a => Fin.ext ?_)
  have hw : (begin_ y (Shape.Idx.first h_S_)).toInt = (b * 4096 : ℕ) := by
    show (Scalar.select (IntOp.cmpi .slt (IntOp.muli (y _) 4096#32) 0#32) (IntOp.addi (IntOp.muli (y _) 4096#32) 8192#32) (IntOp.muli (y _) 4096#32)).toInt = _
    rw [hy]
    have : ∀ b : Fin 2, (Scalar.select (IntOp.cmpi .slt (IntOp.muli (BitVec.ofNat 32 b.val) 4096#32) 0#32) (IntOp.addi (IntOp.muli (BitVec.ofNat 32 b.val) 4096#32) 8192#32)
      (IntOp.muli (BitVec.ofNat 32 b.val) 4096#32)).toInt = (b.val * 4096 : ℕ) := by decide
    exact this ⟨b, hb⟩
  match a with
  | ⟨0, _⟩ =>
    show (min (max (begin_ y (Shape.Idx.first h_S_)).toInt 0) ((8192 - 4096 : ℕ) : ℤ)).toNat + r.val = b * 4096 + r.val
    rw [hw]
    omega
  | ⟨1, _⟩ =>
    show (min (max ((0#32 : BitVec 32)).toInt 0) ((2048 - 2048 : ℕ) : ℤ)).toNat + j.val = j.val
    simp

end Cert.Routed

end
-- ==== Proof.Few.lean ====
/- The precondition, counted: of each device's tokens at most 640 are of any one expert, so at most 1280 of all of them. -/
module

public import proofs.«01_k».proof.Pre_few_KernelIdeal
public import proofs.«01_k».proof.Proof.Routed
public import Idealize.ShloMosaic.Lib.StableHlo.Predicate

@[expose] public section

noncomputable section

namespace Cert.Few

open Idealize.ShloMosaic hiding ix1 ix2 ix3
open Idealize.ShloMosaic.ValueIdx

theorem ofFin_eq {n : ℕ} (p : Fin n) : (Shape.Idx.ofFin p : (⟨1, ![n]⟩ : Shape).Idx) = ix1 p := by
  funext a
  obtain rfl := Fin.eq_zero a
  rfl

/-- How many of a device's tokens are of expert `e`. -/
def here (A : (⟨1, ![4096]⟩ : Shape).Idx → BitVec 32) (e : Fin 8) : ℕ := (Finset.univ.filter fun q : Fin 4096 => A (ix1 q) = BitVec.ofNat 32 e.val).card

theorem here_le [Cert.Pre_few_KernelIdeal.Facts] {F : FTy → Type} [FloatOps F] (x : FVec F ⟨2, ![4096, 2048]⟩ .f32) (A : IVec ⟨1, ![4096]⟩ 32) (w1 : FVec F ⟨3, ![4, 2048, 4096]⟩ .f32)
    (w2 : FVec F ⟨3, ![4, 4096, 2048]⟩ .f32) (h : Cert.Pre_few_KernelIdeal.fn x A w1 w2 = fun _ => 1#1) (e : Fin 8) : here A e ≤ 640 := by
  have h1 := congrFun h (Shape.Idx.ofFin e)
  unfold Cert.Pre_few_KernelIdeal.fn at h1
  dsimp only at h1
  have hc := StableHlo.Predicate.toNat_reduce_count_cols (n := 8) (m := 4096) (by decide)
    (cmpi .eq (broadcastInDim Cert.Pre_few_KernelIdeal.S8x4096 ![0, 1] Cert.Pre_few_KernelIdeal.Facts.bcast_S1x4096_S8x4096_0_1
        (broadcastInDim Cert.Pre_few_KernelIdeal.S1x4096 ![1] Cert.Pre_few_KernelIdeal.Facts.bcast_S4096_S1x4096_1 A))
      (broadcastInDim Cert.Pre_few_KernelIdeal.S8x4096 ![0, 1] Cert.Pre_few_KernelIdeal.Facts.bcast_S8x1_S8x4096_0_1
        (broadcastInDim Cert.Pre_few_KernelIdeal.S8x1 ![0] Cert.Pre_few_KernelIdeal.Facts.bcast_S8_S8x1_0 (iotaInDim Cert.Pre_few_KernelIdeal.S8 32 0))))
    Cert.Pre_few_KernelIdeal.Facts.natLt_1_32 Cert.Pre_few_KernelIdeal.Facts.reducesTo_S8x4096_S8_d1 Cert.Pre_few_KernelIdeal.Facts.h_S_ (Shape.Idx.ofFin e)
  have hs : here A e = _ := Eq.trans (congrArg Finset.card (Finset.filter_congr fun q _ => by
    show A (ix1 q) = BitVec.ofNat 32 e.val ↔ IntOp.cmpi .eq _ _ = 1#1
    rw [StableHlo.Predicate.cmpi_eq_iff]
    refine Iff.of_eq (congrArg₂ (· = ·) ?_ ?_)
    · exact ((StableHlo.Predicate.bcast_cols _ _ A e q).trans (congrArg A (ofFin_eq q))).symm
    · exact (StableHlo.Predicate.bcast_rows _ _ (iotaInDim Cert.Pre_few_KernelIdeal.S8 32 0) e q).symm)) hc.symm
  have hlt : here A e ≤ 4096 := (Finset.card_filter_le _ _).trans_eq (by rw [Finset.card_univ, Fintype.card_fin])
  rw [hs] at hlt ⊢
  refine (StableHlo.Predicate.sle_iff_toNat (b := 640#32) (by omega) (by decide)).1 ?_
  exact h1

/-- A half of the whole's indices. -/
abbrev at_ (y : Fin 2) (q : Fin 4096) : Fin 8192 := ⟨y.val * 4096 + q.val, by omega⟩

/-- The count over the whole, from those over the two halves. -/
theorem whole_le (p : Fin 8192 → Prop) [DecidablePred p] (b : ℕ) (h : ∀ y : Fin 2, (Finset.univ.filter fun q : Fin 4096 => p (at_ y q)).card ≤ b) :
    (Finset.univ.filter p).card ≤ b + b := by
  have hsub : Finset.univ.filter p ⊆ ((Finset.univ.filter fun q : Fin 4096 => p (at_ 0 q)).image (at_ 0)) ∪ ((Finset.univ.filter fun q : Fin 4096 => p (at_ 1 q)).image (at_ 1)) := by
    intro r hr
    have hp := (Finset.mem_filter.1 hr).2
    have hr' := r.isLt
    by_cases h0 : r.val < 4096
    · refine Finset.mem_union_left _ (Finset.mem_image.2 ⟨⟨r.val, h0⟩, ?_, ?_⟩)
      · refine Finset.mem_filter.2 ⟨Finset.mem_univ _, ?_⟩
        convert hp using 1
        exact Fin.ext (by show 0 * 4096 + r.val = r.val; omega)
      · exact Fin.ext (by show 0 * 4096 + r.val = r.val; omega)
    · refine Finset.mem_union_right _ (Finset.mem_image.2 ⟨⟨r.val - 4096, by omega⟩, ?_, ?_⟩)
      · refine Finset.mem_filter.2 ⟨Finset.mem_univ _, ?_⟩
        convert hp using 1
        exact Fin.ext (by show 1 * 4096 + (r.val - 4096) = r.val; omega)
      · exact Fin.ext (by show 1 * 4096 + (r.val - 4096) = r.val; omega)
  exact (Finset.card_le_card hsub).trans ((Finset.card_union_le _ _).trans (Nat.add_le_add (Finset.card_image_le.trans (h 0)) (Finset.card_image_le.trans (h 1))))

end Cert.Few

end
-- ==== Proof.Want.lean ====
/- What the reference holds at an element: the token's two products through its own expert, and zero for a token of no expert. -/
module

public import proofs.«01_k».proof.Proof.FfnValue
public import proofs.«01_k».proof.Proof.Gen.ReferenceIdeal.Run
public import Idealize.ShloMosaic.Lib.Routing.Ops
public import Idealize.ShloMosaic.Lib.StableHlo.Predicate

@[expose] public section

noncomputable section

namespace Cert.Want

open Idealize.ShloMosaic hiding ix1 ix2 ix3
open Idealize.ShloMosaic.TcCoe Idealize.ShloMosaic.ValueIdx Idealize.ShloMosaic.Routing
open Cert.ReferenceIdeal Cert.ReferenceIdeal.Gen Cert.ReferenceIdeal.Facts Cert.FfnValue

variable (X : S8192x2048.Idx → Ideal .f32) (A : S8192.Idx → BitVec 32) (w1 : S8x2048x4096.Idx → Ideal .f32) (w2 : S8x4096x2048.Idx → Ideal .f32)

/-- Row `r` through expert `e`. -/
def through (e : Fin 8) (r : Fin 8192) (j : Fin 2048) : Ideal .f32 :=
  ffn (fun k => X (ix2 r k)) (fun k f => w1 (ix3 e k f)) (fun f j => w2 (ix3 e f j)) j

def want (r : Fin 8192) (j : Fin 2048) : Ideal .f32 := if h : (A (ix1 r)).toNat < 8 then through X w1 w2 ⟨(A (ix1 r)).toNat, h⟩ r j else 0

theorem dot1_plain : dot_S8192x2048_S2048x4096_S8192x4096_1_0_0_1_n_n = DotDims.plain 8192 2048 4096 := rfl
theorem dot2_plain : dot_S8192x4096_S4096x2048_S8192x2048_1_0_0_1_n_n = DotDims.plain 8192 4096 2048 := rfl

theorem cut3 {α : Type} {n a b : ℕ} (e : ℕ) (he : e < n) (w : (⟨3, ![n, a, b]⟩ : Shape).Idx → α) (hs : (⟨3, ![n, a, b]⟩ : Shape).Slices ![e, 0, 0] ⟨3, ![1, a, b]⟩)
    (h : (⟨3, ![1, a, b]⟩ : Shape).ShapeCasts ⟨2, ![a, b]⟩) (k : Fin a) (f : Fin b) :
    shapeCast (⟨2, ![a, b]⟩ : Shape) (extractStridedSlice ⟨3, ![1, a, b]⟩ ![e, 0, 0] w hs) h (ix2 k f) = w (ix3 (⟨e, he⟩ : Fin n) k f) := by
  rw [flat]
  refine congrArg w (funext fun i => Fin.ext ?_)
  match i with
  | ⟨0, _⟩ => exact Nat.add_zero _
  | ⟨1, _⟩ => exact Nat.zero_add _
  | ⟨2, _⟩ => exact Nat.zero_add _

/-- One expert's products over all the tokens. -/
theorem products_at (e : ℕ) (he : e < 8) (h1 : S8x2048x4096.Slices ![e, 0, 0] S1x2048x4096) (h2 : S8x4096x2048.Slices ![e, 0, 0] S1x4096x2048) (r : Fin 8192) (j : Fin 2048) :
    Host.dotGeneral dot_S8192x4096_S4096x2048_S8192x2048_1_0_0_1_n_n none (maximumf (Host.dotGeneral dot_S8192x2048_S2048x4096_S8192x4096_1_0_0_1_n_n none X
        (shapeCast S2048x4096 (extractStridedSlice S1x2048x4096 ![e, 0, 0] w1 h1) shapeCasts_S1x2048x4096_S2048x4096)) (broadcastInDim S8192x4096 ![] bcast_S_S8192x4096 (constant S_ .f32 0x00000000#32)))
      (shapeCast S4096x2048 (extractStridedSlice S1x4096x2048 ![e, 0, 0] w2 h2) shapeCasts_S1x4096x2048_S4096x2048) (ix2 r j) = through X w1 w2 ⟨e, he⟩ r j := by
  unfold through ffn
  rw [dot1_plain, dot2_plain, StackMember.dotGeneral_plain_apply]
  refine Finset.sum_congr rfl fun f _ => ?_
  rw [cut3 e he]
  refine congrArg (· * _) ?_
  show max (Host.dotGeneral (DotDims.plain 8192 2048 4096) none X _ (ix2 r f)) (broadcastInDim S8192x4096 ![] bcast_S_S8192x4096 (constant (F := Ideal) S_ .f32 0x00000000#32) (ix2 r f)) = _
  rw [StackMember.dotGeneral_plain_apply, bc0]
  refine congrArg₂ max (Finset.sum_congr rfl fun k _ => ?_) Ideal.ofBits_zero_f32
  rw [cut3 e he]

/-- One of the reference's eight choices: right if what it falls back to is. -/
theorem choice (e : ℕ) (he : e < 8) (h1 : S8x2048x4096.Slices ![e, 0, 0] S1x2048x4096) (h2 : S8x4096x2048.Slices ![e, 0, 0] S1x4096x2048)
    (rest : S8192x2048.Idx → Ideal .f32) (r : Fin 8192) (j : Fin 2048) (hr : A (ix1 r) ≠ BitVec.ofNat 32 e → rest (ix2 r j) = want X A w1 w2 r j) :
    (select (broadcastInDim S8192x2048 ![0, 1] bcast_S8192x1_S8192x2048_0_1 (broadcastInDim S8192x1 ![0] bcast_S8192_S8192x1_0 (cmpi .eq A (broadcastInDim S8192 ![] bcast_S_S8192 (constantI S_ 32 (BitVec.ofNat 32 e))))))
      (Host.dotGeneral dot_S8192x4096_S4096x2048_S8192x2048_1_0_0_1_n_n none (maximumf (Host.dotGeneral dot_S8192x2048_S2048x4096_S8192x4096_1_0_0_1_n_n none X
        (shapeCast S2048x4096 (extractStridedSlice S1x2048x4096 ![e, 0, 0] w1 h1) shapeCasts_S1x2048x4096_S2048x4096)) (broadcastInDim S8192x4096 ![] bcast_S_S8192x4096 (constant S_ .f32 0x00000000#32)))
      (shapeCast S4096x2048 (extractStridedSlice S1x4096x2048 ![e, 0, 0] w2 h2) shapeCasts_S1x4096x2048_S4096x2048)) rest : S8192x2048.Idx → Ideal .f32) (ix2 r j) = want X A w1 w2 r j := by
  have hm : broadcastInDim S8192x2048 ![0, 1] bcast_S8192x1_S8192x2048_0_1 (broadcastInDim S8192x1 ![0] bcast_S8192_S8192x1_0
      (cmpi .eq A (broadcastInDim S8192 ![] bcast_S_S8192 (constantI S_ 32 (BitVec.ofNat 32 e))))) (ix2 r j) = IntOp.cmpi .eq (A (ix1 r)) (BitVec.ofNat 32 e) := by
    have hij : (ix2 r j : S8192x2048.Idx) = StableHlo.Predicate.ij r j := by
      funext a
      match a with
      | ⟨0, _⟩ => rfl
      | ⟨1, _⟩ => rfl
    have hof : (Shape.Idx.ofFin r : S8192.Idx) = ix1 r := by
      funext a
      obtain rfl := Fin.eq_zero a
      rfl
    rw [hij]
    refine (StableHlo.Predicate.bcast_rows _ _ _ r j).trans ?_
    rw [hof]
    exact congrArg (IntOp.cmpi .eq (A (ix1 r))) (bc0 _ _ _)
  show Scalar.select _ _ _ = _
  rw [hm]
  by_cases h : A (ix1 r) = BitVec.ofNat 32 e
  · refine (if_pos (StableHlo.Predicate.cmpi_eq_iff.2 h)).trans ((products_at X w1 w2 e he h1 h2 r j).trans ?_)
    have hv : (A (ix1 r)).toNat = e := by
      rw [h, BitVec.toNat_ofNat]
      omega
    unfold want
    rw [dif_pos (by omega)]
    exact congrArg (through X w1 w2 · r j) (Fin.ext hv.symm)
  · exact (if_neg fun h' => h (StableHlo.Predicate.cmpi_eq_iff.1 h')).trans (hr h)

theorem res_at (m : (ℓ : Loc nD τ sig) → Buf (Elt Ideal) ℓ) (c : Dev nD) (r : Fin 8192) (j : Fin 2048) :
    (Cert.ReferenceIdeal.Value.res_main_v96 m c : S8192x2048.Idx → Ideal .f32) (ix2 r j)
      = want (m ((c.tc : Thread nD τ).loc main_arg0)) (m ((c.tc : Thread nD τ).loc main_arg1)) (m ((c.tc : Thread nD τ).loc main_arg2)) (m ((c.tc : Thread nD τ).loc main_arg3)) r j := by
  unfold Cert.ReferenceIdeal.Value.res_main_v96
  refine choice _ _ _ _ 7 (by decide) _ _ _ r j fun h7 => choice _ _ _ _ 6 (by decide) _ _ _ r j fun h6 => choice _ _ _ _ 5 (by decide) _ _ _ r j fun h5 =>
    choice _ _ _ _ 4 (by decide) _ _ _ r j fun h4 => choice _ _ _ _ 3 (by decide) _ _ _ r j fun h3 => choice _ _ _ _ 2 (by decide) _ _ _ r j fun h2 =>
    choice _ _ _ _ 1 (by decide) _ _ _ r j fun h1 => choice _ _ _ _ 0 (by decide) _ _ _ r j fun h0 => ?_
  refine (bc0 _ _ _).trans (Ideal.ofBits_zero_f32.trans ?_)
  unfold want
  symm
  refine dif_neg fun h => ?_
  generalize (m ((c.tc : Thread nD τ).loc main_arg1) : S8192.Idx → BitVec 32) (ix1 r) = a at *
  have hk : ∀ k : ℕ, k < 8 → a ≠ BitVec.ofNat 32 k → a.toNat ≠ k := fun k hk8 hne e =>
    hne (BitVec.eq_of_toNat_eq (by rw [BitVec.toNat_ofNat]; omega))
  have := hk 0 (by decide) h0
  have := hk 1 (by decide) h1
  have := hk 2 (by decide) h2
  have := hk 3 (by decide) h3
  have := hk 4 (by decide) h4
  have := hk 5 (by decide) h5
  have := hk 6 (by decide) h6
  have := hk 7 (by decide) h7
  omega

end Cert.Want

end
-- ==== Proof.Value.lean ====
/- The run's result at the ideal values: every device ends holding its half of the rows, each row its token's products through its own expert. -/
module

public import proofs.«01_k».proof.Defs
public import proofs.«01_k».proof.Proof.Kept
public import proofs.«01_k».proof.Proof.Few
public import proofs.«01_k».proof.Proof.Want
public import proofs.«01_k».proof.Proof.Gen.ReferenceIdeal.Run
public import Idealize.ShloMosaic.Lib.Claim

@[expose] public section

noncomputable section

namespace Cert.Value

open Idealize.ShloMosaic hiding ix1 ix2 ix3
open Idealize.ShloMosaic.TcCoe Idealize.ShloMosaic.ValueIdx Idealize.SL.Sem
open Cert.KernelIdeal hiding ix2
open Cert.KernelIdeal.Gen Cert.KernelIdeal.Launch Cert.KernelIdeal.Gather Cert.Routed Cert.Want

variable (m : (ℓ : Loc nD τ sig) → Buf (Elt Ideal) ℓ)
  (X : S8192x2048.Idx → Ideal .f32) (A : S8192.Idx → BitVec 32) (w1 : (⟨3, ![8, 2048, 4096]⟩ : Shape).Idx → Ideal .f32) (w2 : (⟨3, ![8, 4096, 2048]⟩ : Shape).Idx → Ideal .f32)

/-- The argument arrays, cut over the devices, and the precondition of every device's part. -/
structure Given : Prop where
  x : IsX m X
  a : IsA m A
  one : ∀ c : Dev nD, m ((c.tc : Thread nD τ).loc main_arg2) = Layout.blockN ⟨3, ![4, 2048, 4096]⟩ ⟨3, ![8, 2048, 4096]⟩ (Layout.meshBlock [2, 2, 2] ![[1], [], []] c) w1
  two : ∀ c : Dev nD, m ((c.tc : Thread nD τ).loc main_arg3) = Layout.blockN ⟨3, ![4, 4096, 2048]⟩ ⟨3, ![8, 4096, 2048]⟩ (Layout.meshBlock [2, 2, 2] ![[1], [], []] c) w2
  few : ∀ (c : Dev nD) (e : Fin 8), Few.here (m ((c.tc : Thread nD τ).loc main_arg1)) e ≤ 640

variable {m X A w1 w2} (G : Given m X A w1 w2)
include G

theorem half_mesh (c : Dev nD) : Layout.meshLin [2, 2, 2] c.val [1] = half c := (row_mesh c).1.symm

theorem one_at (c : Dev nD) (e : Fin 4) (k : Fin 2048) (f : Fin 4096) :
    (m ((c.tc : Thread nD τ).loc main_arg2) : S4x2048x4096.Idx → Ideal .f32) (ix3 e k f) = w1 (ix3 (⟨4 * half c + e.val, by have := half_lt c; omega⟩ : Fin 8) k f) := by
  rw [G.one c, Layout.blockN_apply]
  refine congrArg w1 (funext fun a => Fin.ext ?_)
  match a with
  | ⟨0, _⟩ =>
    show Layout.meshLin [2, 2, 2] c.val [1] * 4 + e.val = 4 * half c + e.val
    rw [half_mesh G, Nat.mul_comm]
  | ⟨1, _⟩ => show 0 * 2048 + k.val = k.val; omega
  | ⟨2, _⟩ => show 0 * 4096 + f.val = f.val; omega
theorem two_at (c : Dev nD) (e : Fin 4) (f : Fin 4096) (j : Fin 2048) :
    (m ((c.tc : Thread nD τ).loc main_arg3) : S4x4096x2048.Idx → Ideal .f32) (ix3 e f j) = w2 (ix3 (⟨4 * half c + e.val, by have := half_lt c; omega⟩ : Fin 8) f j) := by
  rw [G.two c, Layout.blockN_apply]
  refine congrArg w2 (funext fun a => Fin.ext ?_)
  match a with
  | ⟨0, _⟩ =>
    show Layout.meshLin [2, 2, 2] c.val [1] * 4 + e.val = 4 * half c + e.val
    rw [half_mesh G, Nat.mul_comm]
  | ⟨1, _⟩ => show 0 * 4096 + f.val = f.val; omega
  | ⟨2, _⟩ => show 0 * 2048 + j.val = j.val; omega
theorem experts_at (c : Dev nD) (q : Fin 4096) :
    (m ((c.tc : Thread nD τ).loc main_arg1) : S4096.Idx → BitVec 32) (ix1 q) = A (ix1 (⟨half c * 4096 + q.val, by have := half_lt c; omega⟩ : Fin 8192)) := by
  rw [G.a c, Layout.blockN_apply]
  refine congrArg A (funext fun a => Fin.ext ?_)
  obtain rfl := Fin.eq_zero a
  show Layout.meshLin [2, 2, 2] c.val [1] * 4096 + q.val = half c * 4096 + q.val
  rw [half_mesh G]

/-! ## The slots suffice -/

omit G in
theorem dev_of : ∀ y : Fin 2, half (⟨2 * y.val, by show 2 * y.val < 8; omega⟩ : Dev nD) = y.val := by decide

theorem expert_le (e : Fin 8) : (Finset.univ.filter fun r : Fin 8192 => A (ix1 r) = BitVec.ofNat 32 e.val).card ≤ 640 + 640 := by
  refine Few.whole_le _ 640 fun y => ?_
  refine le_trans (le_of_eq (congrArg Finset.card (Finset.filter_congr fun q _ => ?_))) (G.few ⟨2 * y.val, by show 2 * y.val < 8; omega⟩ e)
  rw [experts_at G]
  refine Iff.of_eq (congrArg (fun r => A (ix1 r) = BitVec.ofNat 32 e.val) (Fin.ext ?_))
  show y.val * 4096 + q.val = half _ * 4096 + q.val
  rw [dev_of]

/-- The group of a row on a device. -/
abbrev grpOf (A : S8192.Idx → BitVec 32) (c : Dev nD) (r : Fin 8192) : ℕ := place (half c) (A (ix1 r))

omit G in
theorem own_expert (c : Dev nD) (r : Fin 8192) (h : grpOf A c r < 4) : (A (ix1 r)).toNat = 4 * half c + grpOf A c r := place_lt (half_lt c) h

theorem group_le (c : Dev nD) (r : Fin 8192) (h : grpOf A c r < 4) : Slots.among (grpOf A c) (grpOf A c r) ≤ 1280 := by
  have hc := half_lt c
  refine le_trans (Finset.card_le_card fun r' hr' => ?_) (expert_le G ⟨4 * half c + grpOf A c r, by omega⟩)
  have e : grpOf A c r' = grpOf A c r := (Finset.mem_filter.1 hr').2
  refine Finset.mem_filter.2 ⟨Finset.mem_univ _, BitVec.eq_of_toNat_eq ?_⟩
  have := own_expert c r' (e ▸ h)
  rw [BitVec.toNat_ofNat]
  show (A (ix1 r')).toNat = (4 * half c + grpOf A c r) % 2 ^ 32
  omega

/-! ## The rows back at their places -/

omit G in
variable (m) in
/-- The rows as a device's slots give them back. -/
abbrev back (c : Dev nD) : S8192x2048.Idx → Ideal .f32 := placed (Slots.table (grp m c)) (Ffn.out (W3 m) (tableOk m) c)

theorem slot_at (c : Dev nD) (i : Fin 5120) (r : Fin 8192) (h : grpOf A c r < 4) (hi : Slots.table (grp m c) (ix1 i) = BitVec.ofNat 32 r.val) (j : Fin 2048) :
    Ffn.out (W3 m) (tableOk m) c (ix2 i j) = through X w1 w2 ⟨4 * half c + grpOf A c r, by have := half_lt c; omega⟩ r j := by
  have hr := r.isLt
  have hL : grpOf A c r = i.val / 1280 := Slots.table_group (grp m c) (grpOf A c) (grp_at m A G.a c) (fun _ => place_le _ _) i r hi
  have hm : min (BitVec.ofNat 32 r.val).toNat 8191 = r.val := by
    rw [BitVec.toNat_ofNat]
    omega
  have ht : FfnValue.tok (W3 m) (tableOk m) c i = r := by
    have h0 := tokens_at m c (ix1 i)
    rw [hi, hm] at h0
    refine Fin.ext ?_
    unfold FfnValue.tok
    dsimp only
    rw [h0]
  rw [FfnValue.out_at, ht, tokens_whole m X G.x c, W3_kept m c main_arg2 (by decide) (by decide) (by decide) (by decide) (by decide),
    W3_kept m c main_arg3 (by decide) (by decide) (by decide) (by decide) (by decide)]
  unfold through
  refine congrArg₂ (fun a b => FfnValue.ffn _ a b j) (funext fun k => funext fun f => ?_) (funext fun f => funext fun j' => ?_)
  · refine (one_at G c _ k f).trans (congrArg (fun e => w1 (ix3 e k f)) (Fin.ext ?_))
    show 4 * half c + i.val / 1280 = 4 * half c + grpOf A c r
    rw [hL]
  · refine (two_at G c _ f j').trans (congrArg (fun e => w2 (ix3 e f j')) (Fin.ext ?_))
    show 4 * half c + i.val / 1280 = 4 * half c + grpOf A c r
    rw [hL]

theorem back_own (c : Dev nD) (r : Fin 8192) (h : grpOf A c r < 4) (j : Fin 2048) :
    back m c (ix2 r j) = through X w1 w2 ⟨4 * half c + grpOf A c r, by have := half_lt c; omega⟩ r j := by
  obtain ⟨i, hi⟩ := Slots.table_has (grp m c) (grpOf A c) (grp_at m A G.a c) (fun _ => place_le _ _) r h (group_le G c r h)
  exact placed_hit _ (Slots.table_le _) _ r j _ (fun i hi => slot_at G c i r h hi j) i hi

theorem back_other (c : Dev nD) (r : Fin 8192) (h : ¬ grpOf A c r < 4) (j : Fin 2048) : back m c (ix2 r j) = 0 := by
  refine (placed_miss _ (Slots.table_le _) _ r j fun i hi => h ?_).trans Ideal.ofBits_zero_f32
  have := Slots.table_group (grp m c) (grpOf A c) (grp_at m A G.a c) (fun _ => place_le _ _) i r hi
  omega

/-- A row is one device's of a pair, or neither's. -/
theorem back_sum (c : Dev nD) (r : Fin 8192) (j : Fin 2048) : back m c (ix2 r j) + back m (pr c) (ix2 r j) = want X A w1 w2 r j := by
  have hc := half_lt c
  have hp : half (pr c) = 1 - half c := (off_x c).2.1
  have hp' := half_lt (pr c)
  unfold want
  by_cases h : grpOf A c r < 4
  · have e := own_expert c r h
    have h' : ¬ grpOf A (pr c) r < 4 := fun h' => by
      have := own_expert (pr c) r h'
      omega
    rw [back_own G c r h, back_other G (pr c) r h', add_zero, dif_pos (by omega)]
    exact congrArg (through X w1 w2 · r j) (Fin.ext e.symm)
  · by_cases h' : grpOf A (pr c) r < 4
    · have e := own_expert (pr c) r h'
      rw [back_other G c r h, back_own G (pr c) r h', zero_add, dif_pos (by omega)]
      exact congrArg (through X w1 w2 · r j) (Fin.ext e.symm)
    · rw [back_other G c r h, back_other G (pr c) r h', zero_add, dif_neg]
      intro ha
      by_cases hq : (A (ix1 r)).toNat / 4 = half c
      · exact h ((place_of hc (Nat.mod_lt _ (by decide)) (by omega : (A (ix1 r)).toNat = 4 * half c + (A (ix1 r)).toNat % 4)).trans_lt (Nat.mod_lt _ (by decide)))
      · exact h' ((place_of hp' (Nat.mod_lt _ (by decide)) (by omega : (A (ix1 r)).toNat = 4 * half (pr c) + (A (ix1 r)).toNat % 4)).trans_lt (Nat.mod_lt _ (by decide)))

/-! ## The result -/

omit G in
theorem VC_coord (c : Dev nD) (i : S_.Idx) : (VC m (tableOk m) c main_v4 : IVec S_ 32) i = BitVec.ofNat 32 (half c) := by
  have e : VC m (tableOk m) c main_v4 = V1 m c main_v4 :=
    (Ffn.VC_of (W3 m) (tableOk m) c main_v4 (by decide)).trans ((W3_late m c main_v4 (by decide)).trans (VB_coord m c))
  rw [e]
  exact coord_at m c i

omit G in
theorem VC_placed (c : Dev nD) : placed (VC m (tableOk m) c main_v66) (VC m (tableOk m) c main_v69) = back m c := by
  rw [show VC m (tableOk m) c main_v66 = _ from (Ffn.VC_of (W3 m) (tableOk m) c main_v66 (by decide)).trans (W3_table m c),
    show VC m (tableOk m) c main_v69 = _ from Ffn.VC_out (W3 m) (tableOk m) c]

omit G in
theorem mine_at (c : Dev nD) (t : Fin 4096) (j : Fin 2048) :
    (W4 m (tableOk m) c main_v83 : S4096x2048.Idx → Ideal .f32) (ix2 t j) = back m c (ix2 (⟨half c * 4096 + t.val, by have := half_lt c; omega⟩ : Fin 8192) j) := by
  have e : W4 m (tableOk m) c main_v83 = _ := at_mine (VC m (tableOk m) c)
  rw [e, VC_placed]
  exact rowsFrom_at _ (half c) (half_lt c) (VC_coord c) _ t j

omit G in
theorem theirs_at (c : Dev nD) (t : Fin 4096) (j : Fin 2048) :
    (W4 m (tableOk m) c main_v89 : S4096x2048.Idx → Ideal .f32) (ix2 t j) = back m c (ix2 (⟨(1 - half c) * 4096 + t.val, by omega⟩ : Fin 8192) j) := by
  have e : W4 m (tableOk m) c main_v89 = _ := at_theirs (VC m (tableOk m) c)
  rw [e, VC_placed]
  refine rowsFrom_at _ (1 - half c) (by omega) (fun i => ?_) _ t j
  show IntOp.subi 1#32 ((VC m (tableOk m) c main_v4 : IVec S_ 32) i) = _
  rw [VC_coord]
  have : ∀ b : Fin 2, IntOp.subi 1#32 (BitVec.ofNat 32 b.val) = BitVec.ofNat 32 (1 - b.val) := by decide
  exact this ⟨half c, half_lt c⟩

omit G in
/-- A sum's entry. -/
theorem sum_at (x y : FVec Ideal S4096x2048 .f32) (i : S4096x2048.Idx) : addf x y i = x i + y i := rfl

theorem result_at (c : Dev nD) (t : Fin 4096) (j : Fin 2048) :
    (VE m (tableOk m) c main_v91 : S4096x2048.Idx → Ideal .f32) (ix2 t j) = want X A w1 w2 (⟨half c * 4096 + t.val, by have := half_lt c; omega⟩ : Fin 8192) j := by
  have hc := half_lt c
  have hp : half (pr c) = 1 - half c := (off_x c).2.1
  have hr : (⟨(1 - half (pr c)) * 4096 + t.val, by omega⟩ : Fin 8192) = ⟨half c * 4096 + t.val, by omega⟩ :=
    Fin.ext (by
      show (1 - half (pr c)) * 4096 + t.val = half c * 4096 + t.val
      rw [hp, Nat.sub_sub_self (by omega)])
  rw [VE_sum, ← back_sum G]
  refine (sum_at _ _ _).trans ?_
  rw [mine_at, theirs_at, hr]

/-- Every device's result is its half of the whole. -/
theorem result_half (c : Dev nD) (v : S8192x2048.Idx → Ideal .f32) (hv : ∀ (r : Fin 8192) (j : Fin 2048), v (ix2 r j) = want X A w1 w2 r j) :
    VE m (tableOk m) c main_v91 = Layout.blockN ⟨2, ![4096, 2048]⟩ ⟨2, ![8192, 2048]⟩ (Layout.meshBlock [2, 2, 2] ![[1], []] c) v := by
  funext i
  obtain ⟨t, j, rfl⟩ : ∃ (t : Fin 4096) (j : Fin 2048), i = ix2 t j := ⟨i 0, i 1, ValueIdx.eq_ix2 i⟩
  refine (result_at G c t j).trans ?_
  rw [Layout.blockN_apply, ← hv]
  refine congrArg v (funext fun a => Fin.ext ?_)
  match a with
  | ⟨0, _⟩ =>
    show half c * 4096 + t.val = Layout.meshLin [2, 2, 2] c.val [1] * 4096 + t.val
    rw [half_mesh G]
  | ⟨1, _⟩ => show j.val = 0 * 2048 + j.val; omega

omit G
theorem algebraic [Cert.Pre_few_KernelIdeal.Facts] : Cert.algebraic_KernelIdeal_ReferenceIdeal_pre_few_KernelIdeal := fun m g m' g' hf h =>
  have G : Given m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (h c).1, fun c => (h c).2.1, fun c => (h c).2.2.1, fun c => (h c).2.2.2, fun c e => Few.here_le _ _ _ _ (hf c) e⟩
  ⟨Cert.ReferenceIdeal.Value.res_main_v96 m' 0,
    (θ_run Cert.KernelIdeal.defs _ _).mono (fun r hr c =>
      ⟨(hr.1 c _ (mem_uc main_v91)).trans (result_half G c _ (fun r j => res_at m' 0 r j)),
        (hr.1 c _ (mem_uc main_arg0)).trans (VE_args m c).1, (hr.1 c _ (mem_uc main_arg1)).trans (VE_args m c).2.1,
        (hr.1 c _ (mem_uc main_arg2)).trans (VE_args m c).2.2.1, (hr.1 c _ (mem_uc main_arg3)).trans (VE_args m c).2.2.2⟩) (run_main m g (tableOk m)),
    (θ_run Cert.ReferenceIdeal.defs _ _).mono (fun _ hr => hr 0) (Cert.ReferenceIdeal.Value.run (F := Ideal) m' g')⟩

end Cert.Value

end
-- ==== Proof.lean ====
/- The claims of the whole layer, from its run (Proof/Launch.lean), the frames (Proof/Frames.lean) and the result's value (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_few_KernelIdeal
public import proofs.«01_k».proof.Proof.Gen.Pre_few_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_few_KernelIdeal.Gen.facts, Cert.Pre_few_ReferenceIdeal.Gen.facts,
  frame_kernel, frame_ideal, fun m ρ _ => frame_ideal m ρ trivial, frame_reference, fun m ρ _ => frame_reference m ρ trivial, trivial,
  haveI := Cert.Pre_few_KernelIdeal.Gen.facts; Cert.Value.algebraic⟩

end Cert.Proof

end
